-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_OMla (m : (ℓ : Loc Cert.OMla.nD Cert.OMla.τ Cert.OMla.sig) → Buf (Elt Bits) ℓ) : Prop :=
  True

def Pre_OMlaIdeal (m : (ℓ : Loc Cert.OMlaIdeal.nD Cert.OMlaIdeal.τ Cert.OMlaIdeal.sig) → Buf (Elt Ideal) ℓ) : Prop :=
  True

def Pre_OMlaReferenceIdeal (m : (ℓ : Loc Cert.OMlaReferenceIdeal.nD Cert.OMlaReferenceIdeal.τ Cert.OMlaReferenceIdeal.sig) → Buf (Elt Ideal) ℓ) : Prop :=
  True

def Pre_OFox (m : (ℓ : Loc Cert.OFox.nD Cert.OFox.τ Cert.OFox.sig) → Buf (Elt Bits) ℓ) : Prop :=
  True

def Pre_OFoxIdeal (m : (ℓ : Loc Cert.OFoxIdeal.nD Cert.OFoxIdeal.τ Cert.OFoxIdeal.sig) → Buf (Elt Ideal) ℓ) : Prop :=
  True

def Pre_OFoxReferenceIdeal (m : (ℓ : Loc Cert.OFoxReferenceIdeal.nD Cert.OFoxReferenceIdeal.τ Cert.OFoxReferenceIdeal.sig) → Buf (Elt Ideal) ℓ) : Prop :=
  True

def Pre_Fk (m : (ℓ : Loc Cert.Fk.nD Cert.Fk.τ Cert.Fk.sig) → Buf (Elt Bits) ℓ) : Prop :=
  True

def Pre_FkIdeal (m : (ℓ : Loc Cert.FkIdeal.nD Cert.FkIdeal.τ Cert.FkIdeal.sig) → Buf (Elt Ideal) ℓ) : Prop :=
  True

def Pre_FkReferenceIdeal (m : (ℓ : Loc Cert.FkReferenceIdeal.nD Cert.FkReferenceIdeal.τ Cert.FkReferenceIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatReferenceIdeal (m : (ℓ : Loc Cert.LatReferenceIdeal.nD Cert.LatReferenceIdeal.τ Cert.LatReferenceIdeal.sig) → Buf (Elt Ideal) ℓ) : Prop :=
  True

def Pre_OMlaDx (m : (ℓ : Loc Cert.OMlaDx.nD Cert.OMlaDx.τ Cert.OMlaDx.sig) → Buf (Elt Bits) ℓ) : Prop :=
  True

def Pre_OMlaDxIdeal (m : (ℓ : Loc Cert.OMlaDxIdeal.nD Cert.OMlaDxIdeal.τ Cert.OMlaDxIdeal.sig) → Buf (Elt Ideal) ℓ) : Prop :=
  True

def Pre_OMlaDxReferenceIdeal (m : (ℓ : Loc Cert.OMlaDxReferenceIdeal.nD Cert.OMlaDxReferenceIdeal.τ Cert.OMlaDxReferenceIdeal.sig) → Buf (Elt Ideal) ℓ) : Prop :=
  True

def Pre_OFoxDx (m : (ℓ : Loc Cert.OFoxDx.nD Cert.OFoxDx.τ Cert.OFoxDx.sig) → Buf (Elt Bits) ℓ) : Prop :=
  True

def Pre_OFoxDxIdeal (m : (ℓ : Loc Cert.OFoxDxIdeal.nD Cert.OFoxDxIdeal.τ Cert.OFoxDxIdeal.sig) → Buf (Elt Ideal) ℓ) : Prop :=
  True

def Pre_OFoxDxReferenceIdeal (m : (ℓ : Loc Cert.OFoxDxReferenceIdeal.nD Cert.OFoxDxReferenceIdeal.τ Cert.OFoxDxReferenceIdeal.sig) → Buf (Elt Ideal) ℓ) : Prop :=
  True

def Pre_OMlaDw (m : (ℓ : Loc Cert.OMlaDw.nD Cert.OMlaDw.τ Cert.OMlaDw.sig) → Buf (Elt Bits) ℓ) : Prop :=
  True

def Pre_OMlaDwIdeal (m : (ℓ : Loc Cert.OMlaDwIdeal.nD Cert.OMlaDwIdeal.τ Cert.OMlaDwIdeal.sig) → Buf (Elt Ideal) ℓ) : Prop :=
  True

def Pre_OMlaDwReferenceIdeal (m : (ℓ : Loc Cert.OMlaDwReferenceIdeal.nD Cert.OMlaDwReferenceIdeal.τ Cert.OMlaDwReferenceIdeal.sig) → Buf (Elt Ideal) ℓ) : Prop :=
  True

def Pre_OFoxDw (m : (ℓ : Loc Cert.OFoxDw.nD Cert.OFoxDw.τ Cert.OFoxDw.sig) → Buf (Elt Bits) ℓ) : Prop :=
  True

def Pre_OFoxDwIdeal (m : (ℓ : Loc Cert.OFoxDwIdeal.nD Cert.OFoxDwIdeal.τ Cert.OFoxDwIdeal.sig) → Buf (Elt Ideal) ℓ) : Prop :=
  True

def Pre_OFoxDwReferenceIdeal (m : (ℓ : Loc Cert.OFoxDwReferenceIdeal.nD Cert.OFoxDwReferenceIdeal.τ Cert.OFoxDwReferenceIdeal.sig) → Buf (Elt Ideal) ℓ) : Prop :=
  True

def Pre_QUpDx (m : (ℓ : Loc Cert.QUpDx.nD Cert.QUpDx.τ Cert.QUpDx.sig) → Buf (Elt Bits) ℓ) : Prop :=
  True

def Pre_QUpDxIdeal (m : (ℓ : Loc Cert.QUpDxIdeal.nD Cert.QUpDxIdeal.τ Cert.QUpDxIdeal.sig) → Buf (Elt Ideal) ℓ) : Prop :=
  True

def Pre_QUpDxReferenceIdeal (m : (ℓ : Loc Cert.QUpDxReferenceIdeal.nD Cert.QUpDxReferenceIdeal.τ Cert.QUpDxReferenceIdeal.sig) → Buf (Elt Ideal) ℓ) : Prop :=
  True

def Pre_QUpDw (m : (ℓ : Loc Cert.QUpDw.nD Cert.QUpDw.τ Cert.QUpDw.sig) → Buf (Elt Bits) ℓ) : Prop :=
  True

def Pre_QUpDwIdeal (m : (ℓ : Loc Cert.QUpDwIdeal.nD Cert.QUpDwIdeal.τ Cert.QUpDwIdeal.sig) → Buf (Elt Ideal) ℓ) : Prop :=
  True

def Pre_QUpDwReferenceIdeal (m : (ℓ : Loc Cert.QUpDwReferenceIdeal.nD Cert.QUpDwReferenceIdeal.τ Cert.QUpDwReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3))
      ∧ r.2.sem = fun _ => 0)

def quiescent_OMla [hOMla : Cert.OMla.Facts] : Prop :=
  ∀ (m : (ℓ : Loc Cert.OMla.nD Cert.OMla.τ Cert.OMla.sig) → Buf (Elt Bits) ℓ) (g : Dev Cert.OMla.nD → PrngReg), Pre_OMla m →
    θ_run (Cert.OMla.defs (F := Bits)) (onTc (τ := Cert.OMla.τ) (Cert.OMla.main (F := Bits))) ⟨m, fun _ => 0, g⟩ (fun r => (∀ c : Dev Cert.OMla.nD,
      r.2.mem ((c.tc : Thread Cert.OMla.nD Cert.OMla.τ).loc Cert.OMla.main_arg0) = m ((c.tc : Thread Cert.OMla.nD Cert.OMla.τ).loc Cert.OMla.main_arg0)
      ∧ r.2.mem ((c.tc : Thread Cert.OMla.nD Cert.OMla.τ).loc Cert.OMla.main_arg1) = m ((c.tc : Thread Cert.OMla.nD Cert.OMla.τ).loc Cert.OMla.main_arg1))
      ∧ r.2.sem = fun _ => 0)

def quiescent_OMlaIdeal [hOMlaIdeal : Cert.OMlaIdeal.Facts] : Prop :=
  ∀ (m : (ℓ : Loc Cert.OMlaIdeal.nD Cert.OMlaIdeal.τ Cert.OMlaIdeal.sig) → Buf (Elt Ideal) ℓ) (g : Dev Cert.OMlaIdeal.nD → PrngReg), Pre_OMlaIdeal m →
    θ_run (Cert.OMlaIdeal.defs (F := Ideal)) (onTc (τ := Cert.OMlaIdeal.τ) (Cert.OMlaIdeal.main (F := Ideal))) ⟨m, fun _ => 0, g⟩ (fun r => (∀ c : Dev Cert.OMlaIdeal.nD,
      r.2.mem ((c.tc : Thread Cert.OMlaIdeal.nD Cert.OMlaIdeal.τ).loc Cert.OMlaIdeal.main_arg0) = m ((c.tc : Thread Cert.OMlaIdeal.nD Cert.OMlaIdeal.τ).loc Cert.OMlaIdeal.main_arg0)
      ∧ r.2.mem ((c.tc : Thread Cert.OMlaIdeal.nD Cert.OMlaIdeal.τ).loc Cert.OMlaIdeal.main_arg1) = m ((c.tc : Thread Cert.OMlaIdeal.nD Cert.OMlaIdeal.τ).loc Cert.OMlaIdeal.main_arg1))
      ∧ r.2.sem = fun _ => 0)

def quiescent_OMlaReferenceIdeal [hOMlaReferenceIdeal : Cert.OMlaReferenceIdeal.Facts] : Prop :=
  ∀ (m : (ℓ : Loc Cert.OMlaReferenceIdeal.nD Cert.OMlaReferenceIdeal.τ Cert.OMlaReferenceIdeal.sig) → Buf (Elt Ideal) ℓ) (g : Dev Cert.OMlaReferenceIdeal.nD → PrngReg), Pre_OMlaReferenceIdeal m →
    θ_run (Cert.OMlaReferenceIdeal.defs (F := Ideal)) (onTc (τ := Cert.OMlaReferenceIdeal.τ) (Cert.OMlaReferenceIdeal.main (F := Ideal))) ⟨m, fun _ => 0, g⟩ (fun r => (∀ c : Dev Cert.OMlaReferenceIdeal.nD,
      r.2.mem ((c.tc : Thread Cert.OMlaReferenceIdeal.nD Cert.OMlaReferenceIdeal.τ).loc Cert.OMlaReferenceIdeal.main_arg0) = m ((c.tc : Thread Cert.OMlaReferenceIdeal.nD Cert.OMlaReferenceIdeal.τ).loc Cert.OMlaReferenceIdeal.main_arg0)
      ∧ r.2.mem ((c.tc : Thread Cert.OMlaReferenceIdeal.nD Cert.OMlaReferenceIdeal.τ).loc Cert.OMlaReferenceIdeal.main_arg1) = m ((c.tc : Thread Cert.OMlaReferenceIdeal.nD Cert.OMlaReferenceIdeal.τ).loc Cert.OMlaReferenceIdeal.main_arg1))
      ∧ r.2.sem = fun _ => 0)

def quiescent_OFox [hOFox : Cert.OFox.Facts] : Prop :=
  ∀ (m : (ℓ : Loc Cert.OFox.nD Cert.OFox.τ Cert.OFox.sig) → Buf (Elt Bits) ℓ) (g : Dev Cert.OFox.nD → PrngReg), Pre_OFox m →
    θ_run (Cert.OFox.defs (F := Bits)) (onTc (τ := Cert.OFox.τ) (Cert.OFox.main (F := Bits))) ⟨m, fun _ => 0, g⟩ (fun r => (∀ c : Dev Cert.OFox.nD,
      r.2.mem ((c.tc : Thread Cert.OFox.nD Cert.OFox.τ).loc Cert.OFox.main_arg0) = m ((c.tc : Thread Cert.OFox.nD Cert.OFox.τ).loc Cert.OFox.main_arg0)
      ∧ r.2.mem ((c.tc : Thread Cert.OFox.nD Cert.OFox.τ).loc Cert.OFox.main_arg1) = m ((c.tc : Thread Cert.OFox.nD Cert.OFox.τ).loc Cert.OFox.main_arg1))
      ∧ r.2.sem = fun _ => 0)

def quiescent_OFoxIdeal [hOFoxIdeal : Cert.OFoxIdeal.Facts] : Prop :=
  ∀ (m : (ℓ : Loc Cert.OFoxIdeal.nD Cert.OFoxIdeal.τ Cert.OFoxIdeal.sig) → Buf (Elt Ideal) ℓ) (g : Dev Cert.OFoxIdeal.nD → PrngReg), Pre_OFoxIdeal m →
    θ_run (Cert.OFoxIdeal.defs (F := Ideal)) (onTc (τ := Cert.OFoxIdeal.τ) (Cert.OFoxIdeal.main (F := Ideal))) ⟨m, fun _ => 0, g⟩ (fun r => (∀ c : Dev Cert.OFoxIdeal.nD,
      r.2.mem ((c.tc : Thread Cert.OFoxIdeal.nD Cert.OFoxIdeal.τ).loc Cert.OFoxIdeal.main_arg0) = m ((c.tc : Thread Cert.OFoxIdeal.nD Cert.OFoxIdeal.τ).loc Cert.OFoxIdeal.main_arg0)
      ∧ r.2.mem ((c.tc : Thread Cert.OFoxIdeal.nD Cert.OFoxIdeal.τ).loc Cert.OFoxIdeal.main_arg1) = m ((c.tc : Thread Cert.OFoxIdeal.nD Cert.OFoxIdeal.τ).loc Cert.OFoxIdeal.main_arg1))
      ∧ r.2.sem = fun _ => 0)

def quiescent_OFoxReferenceIdeal [hOFoxReferenceIdeal : Cert.OFoxReferenceIdeal.Facts] : Prop :=
  ∀ (m : (ℓ : Loc Cert.OFoxReferenceIdeal.nD Cert.OFoxReferenceIdeal.τ Cert.OFoxReferenceIdeal.sig) → Buf (Elt Ideal) ℓ) (g : Dev Cert.OFoxReferenceIdeal.nD → PrngReg), Pre_OFoxReferenceIdeal m →
    θ_run (Cert.OFoxReferenceIdeal.defs (F := Ideal)) (onTc (τ := Cert.OFoxReferenceIdeal.τ) (Cert.OFoxReferenceIdeal.main (F := Ideal))) ⟨m, fun _ => 0, g⟩ (fun r => (∀ c : Dev Cert.OFoxReferenceIdeal.nD,
      r.2.mem ((c.tc : Thread Cert.OFoxReferenceIdeal.nD Cert.OFoxReferenceIdeal.τ).loc Cert.OFoxReferenceIdeal.main_arg0) = m ((c.tc : Thread Cert.OFoxReferenceIdeal.nD Cert.OFoxReferenceIdeal.τ).loc Cert.OFoxReferenceIdeal.main_arg0)
      ∧ r.2.mem ((c.tc : Thread Cert.OFoxReferenceIdeal.nD Cert.OFoxReferenceIdeal.τ).loc Cert.OFoxReferenceIdeal.main_arg1) = m ((c.tc : Thread Cert.OFoxReferenceIdeal.nD Cert.OFoxReferenceIdeal.τ).loc Cert.OFoxReferenceIdeal.main_arg1))
      ∧ r.2.sem = fun _ => 0)

def quiescent_Fk [hFk : Cert.Fk.Facts] : Prop :=
  ∀ (m : (ℓ : Loc Cert.Fk.nD Cert.Fk.τ Cert.Fk.sig) → Buf (Elt Bits) ℓ) (g : Dev Cert.Fk.nD → PrngReg), Pre_Fk m →
    θ_run (Cert.Fk.defs (F := Bits)) (onTc (τ := Cert.Fk.τ) (Cert.Fk.main (F := Bits))) ⟨m, fun _ => 0, g⟩ (fun r => (∀ c : Dev Cert.Fk.nD,
      r.2.mem ((c.tc : Thread Cert.Fk.nD Cert.Fk.τ).loc Cert.Fk.main_arg0) = m ((c.tc : Thread Cert.Fk.nD Cert.Fk.τ).loc Cert.Fk.main_arg0)
      ∧ r.2.mem ((c.tc : Thread Cert.Fk.nD Cert.Fk.τ).loc Cert.Fk.main_arg1) = m ((c.tc : Thread Cert.Fk.nD Cert.Fk.τ).loc Cert.Fk.main_arg1))
      ∧ r.2.sem = fun _ => 0)

def quiescent_FkIdeal [hFkIdeal : Cert.FkIdeal.Facts] : Prop :=
  ∀ (m : (ℓ : Loc Cert.FkIdeal.nD Cert.FkIdeal.τ Cert.FkIdeal.sig) → Buf (Elt Ideal) ℓ) (g : Dev Cert.FkIdeal.nD → PrngReg), Pre_FkIdeal m →
    θ_run (Cert.FkIdeal.defs (F := Ideal)) (onTc (τ := Cert.FkIdeal.τ) (Cert.FkIdeal.main (F := Ideal))) ⟨m, fun _ => 0, g⟩ (fun r => (∀ c : Dev Cert.FkIdeal.nD,
      r.2.mem ((c.tc : Thread Cert.FkIdeal.nD Cert.FkIdeal.τ).loc Cert.FkIdeal.main_arg0) = m ((c.tc : Thread Cert.FkIdeal.nD Cert.FkIdeal.τ).loc Cert.FkIdeal.main_arg0)
      ∧ r.2.mem ((c.tc : Thread Cert.FkIdeal.nD Cert.FkIdeal.τ).loc Cert.FkIdeal.main_arg1) = m ((c.tc : Thread Cert.FkIdeal.nD Cert.FkIdeal.τ).loc Cert.FkIdeal.main_arg1))
      ∧ r.2.sem = fun _ => 0)

def quiescent_FkReferenceIdeal [hFkReferenceIdeal : Cert.FkReferenceIdeal.Facts] : Prop :=
  ∀ (m : (ℓ : Loc Cert.FkReferenceIdeal.nD Cert.FkReferenceIdeal.τ Cert.FkReferenceIdeal.sig) → Buf (Elt Ideal) ℓ) (g : Dev Cert.FkReferenceIdeal.nD → PrngReg), Pre_FkReferenceIdeal m →
    θ_run (Cert.FkReferenceIdeal.defs (F := Ideal)) (onTc (τ := Cert.FkReferenceIdeal.τ) (Cert.FkReferenceIdeal.main (F := Ideal))) ⟨m, fun _ => 0, g⟩ (fun r => (∀ c : Dev Cert.FkReferenceIdeal.nD,
      r.2.mem ((c.tc : Thread Cert.FkReferenceIdeal.nD Cert.FkReferenceIdeal.τ).loc Cert.FkReferenceIdeal.main_arg0) = m ((c.tc : Thread Cert.FkReferenceIdeal.nD Cert.FkReferenceIdeal.τ).loc Cert.FkReferenceIdeal.main_arg0)
      ∧ r.2.mem ((c.tc : Thread Cert.FkReferenceIdeal.nD Cert.FkReferenceIdeal.τ).loc Cert.FkReferenceIdeal.main_arg1) = m ((c.tc : Thread Cert.FkReferenceIdeal.nD Cert.FkReferenceIdeal.τ).loc Cert.FkReferenceIdeal.main_arg1))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1))
      ∧ r.2.sem = fun _ => 0)

def quiescent_LatReferenceIdeal [hLatReferenceIdeal : Cert.LatReferenceIdeal.Facts] : Prop :=
  ∀ (m : (ℓ : Loc Cert.LatReferenceIdeal.nD Cert.LatReferenceIdeal.τ Cert.LatReferenceIdeal.sig) → Buf (Elt Ideal) ℓ) (g : Dev Cert.LatReferenceIdeal.nD → PrngReg), Pre_LatReferenceIdeal m →
    θ_run (Cert.LatReferenceIdeal.defs (F := Ideal)) (onTc (τ := Cert.LatReferenceIdeal.τ) (Cert.LatReferenceIdeal.main (F := Ideal))) ⟨m, fun _ => 0, g⟩ (fun r => (∀ c : Dev Cert.LatReferenceIdeal.nD,
      r.2.mem ((c.tc : Thread Cert.LatReferenceIdeal.nD Cert.LatReferenceIdeal.τ).loc Cert.LatReferenceIdeal.main_arg0) = m ((c.tc : Thread Cert.LatReferenceIdeal.nD Cert.LatReferenceIdeal.τ).loc Cert.LatReferenceIdeal.main_arg0)
      ∧ r.2.mem ((c.tc : Thread Cert.LatReferenceIdeal.nD Cert.LatReferenceIdeal.τ).loc Cert.LatReferenceIdeal.main_arg1) = m ((c.tc : Thread Cert.LatReferenceIdeal.nD Cert.LatReferenceIdeal.τ).loc Cert.LatReferenceIdeal.main_arg1))
      ∧ r.2.sem = fun _ => 0)

def quiescent_OMlaDx [hOMlaDx : Cert.OMlaDx.Facts] : Prop :=
  ∀ (m : (ℓ : Loc Cert.OMlaDx.nD Cert.OMlaDx.τ Cert.OMlaDx.sig) → Buf (Elt Bits) ℓ) (g : Dev Cert.OMlaDx.nD → PrngReg), Pre_OMlaDx m →
    θ_run (Cert.OMlaDx.defs (F := Bits)) (onTc (τ := Cert.OMlaDx.τ) (Cert.OMlaDx.main (F := Bits))) ⟨m, fun _ => 0, g⟩ (fun r => (∀ c : Dev Cert.OMlaDx.nD,
      r.2.mem ((c.tc : Thread Cert.OMlaDx.nD Cert.OMlaDx.τ).loc Cert.OMlaDx.main_arg0) = m ((c.tc : Thread Cert.OMlaDx.nD Cert.OMlaDx.τ).loc Cert.OMlaDx.main_arg0)
      ∧ r.2.mem ((c.tc : Thread Cert.OMlaDx.nD Cert.OMlaDx.τ).loc Cert.OMlaDx.main_arg1) = m ((c.tc : Thread Cert.OMlaDx.nD Cert.OMlaDx.τ).loc Cert.OMlaDx.main_arg1))
      ∧ r.2.sem = fun _ => 0)

def quiescent_OMlaDxIdeal [hOMlaDxIdeal : Cert.OMlaDxIdeal.Facts] : Prop :=
  ∀ (m : (ℓ : Loc Cert.OMlaDxIdeal.nD Cert.OMlaDxIdeal.τ Cert.OMlaDxIdeal.sig) → Buf (Elt Ideal) ℓ) (g : Dev Cert.OMlaDxIdeal.nD → PrngReg), Pre_OMlaDxIdeal m →
    θ_run (Cert.OMlaDxIdeal.defs (F := Ideal)) (onTc (τ := Cert.OMlaDxIdeal.τ) (Cert.OMlaDxIdeal.main (F := Ideal))) ⟨m, fun _ => 0, g⟩ (fun r => (∀ c : Dev Cert.OMlaDxIdeal.nD,
      r.2.mem ((c.tc : Thread Cert.OMlaDxIdeal.nD Cert.OMlaDxIdeal.τ).loc Cert.OMlaDxIdeal.main_arg0) = m ((c.tc : Thread Cert.OMlaDxIdeal.nD Cert.OMlaDxIdeal.τ).loc Cert.OMlaDxIdeal.main_arg0)
      ∧ r.2.mem ((c.tc : Thread Cert.OMlaDxIdeal.nD Cert.OMlaDxIdeal.τ).loc Cert.OMlaDxIdeal.main_arg1) = m ((c.tc : Thread Cert.OMlaDxIdeal.nD Cert.OMlaDxIdeal.τ).loc Cert.OMlaDxIdeal.main_arg1))
      ∧ r.2.sem = fun _ => 0)

def quiescent_OMlaDxReferenceIdeal [hOMlaDxReferenceIdeal : Cert.OMlaDxReferenceIdeal.Facts] : Prop :=
  ∀ (m : (ℓ : Loc Cert.OMlaDxReferenceIdeal.nD Cert.OMlaDxReferenceIdeal.τ Cert.OMlaDxReferenceIdeal.sig) → Buf (Elt Ideal) ℓ) (g : Dev Cert.OMlaDxReferenceIdeal.nD → PrngReg), Pre_OMlaDxReferenceIdeal m →
    θ_run (Cert.OMlaDxReferenceIdeal.defs (F := Ideal)) (onTc (τ := Cert.OMlaDxReferenceIdeal.τ) (Cert.OMlaDxReferenceIdeal.main (F := Ideal))) ⟨m, fun _ => 0, g⟩ (fun r => (∀ c : Dev Cert.OMlaDxReferenceIdeal.nD,
      r.2.mem ((c.tc : Thread Cert.OMlaDxReferenceIdeal.nD Cert.OMlaDxReferenceIdeal.τ).loc Cert.OMlaDxReferenceIdeal.main_arg0) = m ((c.tc : Thread Cert.OMlaDxReferenceIdeal.nD Cert.OMlaDxReferenceIdeal.τ).loc Cert.OMlaDxReferenceIdeal.main_arg0)
      ∧ r.2.mem ((c.tc : Thread Cert.OMlaDxReferenceIdeal.nD Cert.OMlaDxReferenceIdeal.τ).loc Cert.OMlaDxReferenceIdeal.main_arg1) = m ((c.tc : Thread Cert.OMlaDxReferenceIdeal.nD Cert.OMlaDxReferenceIdeal.τ).loc Cert.OMlaDxReferenceIdeal.main_arg1))
      ∧ r.2.sem = fun _ => 0)

def quiescent_OFoxDx [hOFoxDx : Cert.OFoxDx.Facts] : Prop :=
  ∀ (m : (ℓ : Loc Cert.OFoxDx.nD Cert.OFoxDx.τ Cert.OFoxDx.sig) → Buf (Elt Bits) ℓ) (g : Dev Cert.OFoxDx.nD → PrngReg), Pre_OFoxDx m →
    θ_run (Cert.OFoxDx.defs (F := Bits)) (onTc (τ := Cert.OFoxDx.τ) (Cert.OFoxDx.main (F := Bits))) ⟨m, fun _ => 0, g⟩ (fun r => (∀ c : Dev Cert.OFoxDx.nD,
      r.2.mem ((c.tc : Thread Cert.OFoxDx.nD Cert.OFoxDx.τ).loc Cert.OFoxDx.main_arg0) = m ((c.tc : Thread Cert.OFoxDx.nD Cert.OFoxDx.τ).loc Cert.OFoxDx.main_arg0)
      ∧ r.2.mem ((c.tc : Thread Cert.OFoxDx.nD Cert.OFoxDx.τ).loc Cert.OFoxDx.main_arg1) = m ((c.tc : Thread Cert.OFoxDx.nD Cert.OFoxDx.τ).loc Cert.OFoxDx.main_arg1))
      ∧ r.2.sem = fun _ => 0)

def quiescent_OFoxDxIdeal [hOFoxDxIdeal : Cert.OFoxDxIdeal.Facts] : Prop :=
  ∀ (m : (ℓ : Loc Cert.OFoxDxIdeal.nD Cert.OFoxDxIdeal.τ Cert.OFoxDxIdeal.sig) → Buf (Elt Ideal) ℓ) (g : Dev Cert.OFoxDxIdeal.nD → PrngReg), Pre_OFoxDxIdeal m →
    θ_run (Cert.OFoxDxIdeal.defs (F := Ideal)) (onTc (τ := Cert.OFoxDxIdeal.τ) (Cert.OFoxDxIdeal.main (F := Ideal))) ⟨m, fun _ => 0, g⟩ (fun r => (∀ c : Dev Cert.OFoxDxIdeal.nD,
      r.2.mem ((c.tc : Thread Cert.OFoxDxIdeal.nD Cert.OFoxDxIdeal.τ).loc Cert.OFoxDxIdeal.main_arg0) = m ((c.tc : Thread Cert.OFoxDxIdeal.nD Cert.OFoxDxIdeal.τ).loc Cert.OFoxDxIdeal.main_arg0)
      ∧ r.2.mem ((c.tc : Thread Cert.OFoxDxIdeal.nD Cert.OFoxDxIdeal.τ).loc Cert.OFoxDxIdeal.main_arg1) = m ((c.tc : Thread Cert.OFoxDxIdeal.nD Cert.OFoxDxIdeal.τ).loc Cert.OFoxDxIdeal.main_arg1))
      ∧ r.2.sem = fun _ => 0)

def quiescent_OFoxDxReferenceIdeal [hOFoxDxReferenceIdeal : Cert.OFoxDxReferenceIdeal.Facts] : Prop :=
  ∀ (m : (ℓ : Loc Cert.OFoxDxReferenceIdeal.nD Cert.OFoxDxReferenceIdeal.τ Cert.OFoxDxReferenceIdeal.sig) → Buf (Elt Ideal) ℓ) (g : Dev Cert.OFoxDxReferenceIdeal.nD → PrngReg), Pre_OFoxDxReferenceIdeal m →
    θ_run (Cert.OFoxDxReferenceIdeal.defs (F := Ideal)) (onTc (τ := Cert.OFoxDxReferenceIdeal.τ) (Cert.OFoxDxReferenceIdeal.main (F := Ideal))) ⟨m, fun _ => 0, g⟩ (fun r => (∀ c : Dev Cert.OFoxDxReferenceIdeal.nD,
      r.2.mem ((c.tc : Thread Cert.OFoxDxReferenceIdeal.nD Cert.OFoxDxReferenceIdeal.τ).loc Cert.OFoxDxReferenceIdeal.main_arg0) = m ((c.tc : Thread Cert.OFoxDxReferenceIdeal.nD Cert.OFoxDxReferenceIdeal.τ).loc Cert.OFoxDxReferenceIdeal.main_arg0)
      ∧ r.2.mem ((c.tc : Thread Cert.OFoxDxReferenceIdeal.nD Cert.OFoxDxReferenceIdeal.τ).loc Cert.OFoxDxReferenceIdeal.main_arg1) = m ((c.tc : Thread Cert.OFoxDxReferenceIdeal.nD Cert.OFoxDxReferenceIdeal.τ).loc Cert.OFoxDxReferenceIdeal.main_arg1))
      ∧ r.2.sem = fun _ => 0)

def quiescent_OMlaDw [hOMlaDw : Cert.OMlaDw.Facts] : Prop :=
  ∀ (m : (ℓ : Loc Cert.OMlaDw.nD Cert.OMlaDw.τ Cert.OMlaDw.sig) → Buf (Elt Bits) ℓ) (g : Dev Cert.OMlaDw.nD → PrngReg), Pre_OMlaDw m →
    θ_run (Cert.OMlaDw.defs (F := Bits)) (onTc (τ := Cert.OMlaDw.τ) (Cert.OMlaDw.main (F := Bits))) ⟨m, fun _ => 0, g⟩ (fun r => (∀ c : Dev Cert.OMlaDw.nD,
      r.2.mem ((c.tc : Thread Cert.OMlaDw.nD Cert.OMlaDw.τ).loc Cert.OMlaDw.main_arg0) = m ((c.tc : Thread Cert.OMlaDw.nD Cert.OMlaDw.τ).loc Cert.OMlaDw.main_arg0)
      ∧ r.2.mem ((c.tc : Thread Cert.OMlaDw.nD Cert.OMlaDw.τ).loc Cert.OMlaDw.main_arg1) = m ((c.tc : Thread Cert.OMlaDw.nD Cert.OMlaDw.τ).loc Cert.OMlaDw.main_arg1))
      ∧ r.2.sem = fun _ => 0)

def quiescent_OMlaDwIdeal [hOMlaDwIdeal : Cert.OMlaDwIdeal.Facts] : Prop :=
  ∀ (m : (ℓ : Loc Cert.OMlaDwIdeal.nD Cert.OMlaDwIdeal.τ Cert.OMlaDwIdeal.sig) → Buf (Elt Ideal) ℓ) (g : Dev Cert.OMlaDwIdeal.nD → PrngReg), Pre_OMlaDwIdeal m →
    θ_run (Cert.OMlaDwIdeal.defs (F := Ideal)) (onTc (τ := Cert.OMlaDwIdeal.τ) (Cert.OMlaDwIdeal.main (F := Ideal))) ⟨m, fun _ => 0, g⟩ (fun r => (∀ c : Dev Cert.OMlaDwIdeal.nD,
      r.2.mem ((c.tc : Thread Cert.OMlaDwIdeal.nD Cert.OMlaDwIdeal.τ).loc Cert.OMlaDwIdeal.main_arg0) = m ((c.tc : Thread Cert.OMlaDwIdeal.nD Cert.OMlaDwIdeal.τ).loc Cert.OMlaDwIdeal.main_arg0)
      ∧ r.2.mem ((c.tc : Thread Cert.OMlaDwIdeal.nD Cert.OMlaDwIdeal.τ).loc Cert.OMlaDwIdeal.main_arg1) = m ((c.tc : Thread Cert.OMlaDwIdeal.nD Cert.OMlaDwIdeal.τ).loc Cert.OMlaDwIdeal.main_arg1))
      ∧ r.2.sem = fun _ => 0)

def quiescent_OMlaDwReferenceIdeal [hOMlaDwReferenceIdeal : Cert.OMlaDwReferenceIdeal.Facts] : Prop :=
  ∀ (m : (ℓ : Loc Cert.OMlaDwReferenceIdeal.nD Cert.OMlaDwReferenceIdeal.τ Cert.OMlaDwReferenceIdeal.sig) → Buf (Elt Ideal) ℓ) (g : Dev Cert.OMlaDwReferenceIdeal.nD → PrngReg), Pre_OMlaDwReferenceIdeal m →
    θ_run (Cert.OMlaDwReferenceIdeal.defs (F := Ideal)) (onTc (τ := Cert.OMlaDwReferenceIdeal.τ) (Cert.OMlaDwReferenceIdeal.main (F := Ideal))) ⟨m, fun _ => 0, g⟩ (fun r => (∀ c : Dev Cert.OMlaDwReferenceIdeal.nD,
      r.2.mem ((c.tc : Thread Cert.OMlaDwReferenceIdeal.nD Cert.OMlaDwReferenceIdeal.τ).loc Cert.OMlaDwReferenceIdeal.main_arg0) = m ((c.tc : Thread Cert.OMlaDwReferenceIdeal.nD Cert.OMlaDwReferenceIdeal.τ).loc Cert.OMlaDwReferenceIdeal.main_arg0)
      ∧ r.2.mem ((c.tc : Thread Cert.OMlaDwReferenceIdeal.nD Cert.OMlaDwReferenceIdeal.τ).loc Cert.OMlaDwReferenceIdeal.main_arg1) = m ((c.tc : Thread Cert.OMlaDwReferenceIdeal.nD Cert.OMlaDwReferenceIdeal.τ).loc Cert.OMlaDwReferenceIdeal.main_arg1))
      ∧ r.2.sem = fun _ => 0)

def quiescent_OFoxDw [hOFoxDw : Cert.OFoxDw.Facts] : Prop :=
  ∀ (m : (ℓ : Loc Cert.OFoxDw.nD Cert.OFoxDw.τ Cert.OFoxDw.sig) → Buf (Elt Bits) ℓ) (g : Dev Cert.OFoxDw.nD → PrngReg), Pre_OFoxDw m →
    θ_run (Cert.OFoxDw.defs (F := Bits)) (onTc (τ := Cert.OFoxDw.τ) (Cert.OFoxDw.main (F := Bits))) ⟨m, fun _ => 0, g⟩ (fun r => (∀ c : Dev Cert.OFoxDw.nD,
      r.2.mem ((c.tc : Thread Cert.OFoxDw.nD Cert.OFoxDw.τ).loc Cert.OFoxDw.main_arg0) = m ((c.tc : Thread Cert.OFoxDw.nD Cert.OFoxDw.τ).loc Cert.OFoxDw.main_arg0)
      ∧ r.2.mem ((c.tc : Thread Cert.OFoxDw.nD Cert.OFoxDw.τ).loc Cert.OFoxDw.main_arg1) = m ((c.tc : Thread Cert.OFoxDw.nD Cert.OFoxDw.τ).loc Cert.OFoxDw.main_arg1))
      ∧ r.2.sem = fun _ => 0)

def quiescent_OFoxDwIdeal [hOFoxDwIdeal : Cert.OFoxDwIdeal.Facts] : Prop :=
  ∀ (m : (ℓ : Loc Cert.OFoxDwIdeal.nD Cert.OFoxDwIdeal.τ Cert.OFoxDwIdeal.sig) → Buf (Elt Ideal) ℓ) (g : Dev Cert.OFoxDwIdeal.nD → PrngReg), Pre_OFoxDwIdeal m →
    θ_run (Cert.OFoxDwIdeal.defs (F := Ideal)) (onTc (τ := Cert.OFoxDwIdeal.τ) (Cert.OFoxDwIdeal.main (F := Ideal))) ⟨m, fun _ => 0, g⟩ (fun r => (∀ c : Dev Cert.OFoxDwIdeal.nD,
      r.2.mem ((c.tc : Thread Cert.OFoxDwIdeal.nD Cert.OFoxDwIdeal.τ).loc Cert.OFoxDwIdeal.main_arg0) = m ((c.tc : Thread Cert.OFoxDwIdeal.nD Cert.OFoxDwIdeal.τ).loc Cert.OFoxDwIdeal.main_arg0)
      ∧ r.2.mem ((c.tc : Thread Cert.OFoxDwIdeal.nD Cert.OFoxDwIdeal.τ).loc Cert.OFoxDwIdeal.main_arg1) = m ((c.tc : Thread Cert.OFoxDwIdeal.nD Cert.OFoxDwIdeal.τ).loc Cert.OFoxDwIdeal.main_arg1))
      ∧ r.2.sem = fun _ => 0)

def quiescent_OFoxDwReferenceIdeal [hOFoxDwReferenceIdeal : Cert.OFoxDwReferenceIdeal.Facts] : Prop :=
  ∀ (m : (ℓ : Loc Cert.OFoxDwReferenceIdeal.nD Cert.OFoxDwReferenceIdeal.τ Cert.OFoxDwReferenceIdeal.sig) → Buf (Elt Ideal) ℓ) (g : Dev Cert.OFoxDwReferenceIdeal.nD → PrngReg), Pre_OFoxDwReferenceIdeal m →
    θ_run (Cert.OFoxDwReferenceIdeal.defs (F := Ideal)) (onTc (τ := Cert.OFoxDwReferenceIdeal.τ) (Cert.OFoxDwReferenceIdeal.main (F := Ideal))) ⟨m, fun _ => 0, g⟩ (fun r => (∀ c : Dev Cert.OFoxDwReferenceIdeal.nD,
      r.2.mem ((c.tc : Thread Cert.OFoxDwReferenceIdeal.nD Cert.OFoxDwReferenceIdeal.τ).loc Cert.OFoxDwReferenceIdeal.main_arg0) = m ((c.tc : Thread Cert.OFoxDwReferenceIdeal.nD Cert.OFoxDwReferenceIdeal.τ).loc Cert.OFoxDwReferenceIdeal.main_arg0)
      ∧ r.2.mem ((c.tc : Thread Cert.OFoxDwReferenceIdeal.nD Cert.OFoxDwReferenceIdeal.τ).loc Cert.OFoxDwReferenceIdeal.main_arg1) = m ((c.tc : Thread Cert.OFoxDwReferenceIdeal.nD Cert.OFoxDwReferenceIdeal.τ).loc Cert.OFoxDwReferenceIdeal.main_arg1))
      ∧ r.2.sem = fun _ => 0)

def quiescent_QUpDx [hQUpDx : Cert.QUpDx.Facts] : Prop :=
  ∀ (m : (ℓ : Loc Cert.QUpDx.nD Cert.QUpDx.τ Cert.QUpDx.sig) → Buf (Elt Bits) ℓ) (g : Dev Cert.QUpDx.nD → PrngReg), Pre_QUpDx m →
    θ_run (Cert.QUpDx.defs (F := Bits)) (onTc (τ := Cert.QUpDx.τ) (Cert.QUpDx.main (F := Bits))) ⟨m, fun _ => 0, g⟩ (fun r => (∀ c : Dev Cert.QUpDx.nD,
      r.2.mem ((c.tc : Thread Cert.QUpDx.nD Cert.QUpDx.τ).loc Cert.QUpDx.main_arg0) = m ((c.tc : Thread Cert.QUpDx.nD Cert.QUpDx.τ).loc Cert.QUpDx.main_arg0)
      ∧ r.2.mem ((c.tc : Thread Cert.QUpDx.nD Cert.QUpDx.τ).loc Cert.QUpDx.main_arg1) = m ((c.tc : Thread Cert.QUpDx.nD Cert.QUpDx.τ).loc Cert.QUpDx.main_arg1))
      ∧ r.2.sem = fun _ => 0)

def quiescent_QUpDxIdeal [hQUpDxIdeal : Cert.QUpDxIdeal.Facts] : Prop :=
  ∀ (m : (ℓ : Loc Cert.QUpDxIdeal.nD Cert.QUpDxIdeal.τ Cert.QUpDxIdeal.sig) → Buf (Elt Ideal) ℓ) (g : Dev Cert.QUpDxIdeal.nD → PrngReg), Pre_QUpDxIdeal m →
    θ_run (Cert.QUpDxIdeal.defs (F := Ideal)) (onTc (τ := Cert.QUpDxIdeal.τ) (Cert.QUpDxIdeal.main (F := Ideal))) ⟨m, fun _ => 0, g⟩ (fun r => (∀ c : Dev Cert.QUpDxIdeal.nD,
      r.2.mem ((c.tc : Thread Cert.QUpDxIdeal.nD Cert.QUpDxIdeal.τ).loc Cert.QUpDxIdeal.main_arg0) = m ((c.tc : Thread Cert.QUpDxIdeal.nD Cert.QUpDxIdeal.τ).loc Cert.QUpDxIdeal.main_arg0)
      ∧ r.2.mem ((c.tc : Thread Cert.QUpDxIdeal.nD Cert.QUpDxIdeal.τ).loc Cert.QUpDxIdeal.main_arg1) = m ((c.tc : Thread Cert.QUpDxIdeal.nD Cert.QUpDxIdeal.τ).loc Cert.QUpDxIdeal.main_arg1))
      ∧ r.2.sem = fun _ => 0)

def quiescent_QUpDxReferenceIdeal [hQUpDxReferenceIdeal : Cert.QUpDxReferenceIdeal.Facts] : Prop :=
  ∀ (m : (ℓ : Loc Cert.QUpDxReferenceIdeal.nD Cert.QUpDxReferenceIdeal.τ Cert.QUpDxReferenceIdeal.sig) → Buf (Elt Ideal) ℓ) (g : Dev Cert.QUpDxReferenceIdeal.nD → PrngReg), Pre_QUpDxReferenceIdeal m →
    θ_run (Cert.QUpDxReferenceIdeal.defs (F := Ideal)) (onTc (τ := Cert.QUpDxReferenceIdeal.τ) (Cert.QUpDxReferenceIdeal.main (F := Ideal))) ⟨m, fun _ => 0, g⟩ (fun r => (∀ c : Dev Cert.QUpDxReferenceIdeal.nD,
      r.2.mem ((c.tc : Thread Cert.QUpDxReferenceIdeal.nD Cert.QUpDxReferenceIdeal.τ).loc Cert.QUpDxReferenceIdeal.main_arg0) = m ((c.tc : Thread Cert.QUpDxReferenceIdeal.nD Cert.QUpDxReferenceIdeal.τ).loc Cert.QUpDxReferenceIdeal.main_arg0)
      ∧ r.2.mem ((c.tc : Thread Cert.QUpDxReferenceIdeal.nD Cert.QUpDxReferenceIdeal.τ).loc Cert.QUpDxReferenceIdeal.main_arg1) = m ((c.tc : Thread Cert.QUpDxReferenceIdeal.nD Cert.QUpDxReferenceIdeal.τ).loc Cert.QUpDxReferenceIdeal.main_arg1))
      ∧ r.2.sem = fun _ => 0)

def quiescent_QUpDw [hQUpDw : Cert.QUpDw.Facts] : Prop :=
  ∀ (m : (ℓ : Loc Cert.QUpDw.nD Cert.QUpDw.τ Cert.QUpDw.sig) → Buf (Elt Bits) ℓ) (g : Dev Cert.QUpDw.nD → PrngReg), Pre_QUpDw m →
    θ_run (Cert.QUpDw.defs (F := Bits)) (onTc (τ := Cert.QUpDw.τ) (Cert.QUpDw.main (F := Bits))) ⟨m, fun _ => 0, g⟩ (fun r => (∀ c : Dev Cert.QUpDw.nD,
      r.2.mem ((c.tc : Thread Cert.QUpDw.nD Cert.QUpDw.τ).loc Cert.QUpDw.main_arg0) = m ((c.tc : Thread Cert.QUpDw.nD Cert.QUpDw.τ).loc Cert.QUpDw.main_arg0)
      ∧ r.2.mem ((c.tc : Thread Cert.QUpDw.nD Cert.QUpDw.τ).loc Cert.QUpDw.main_arg1) = m ((c.tc : Thread Cert.QUpDw.nD Cert.QUpDw.τ).loc Cert.QUpDw.main_arg1))
      ∧ r.2.sem = fun _ => 0)

def quiescent_QUpDwIdeal [hQUpDwIdeal : Cert.QUpDwIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg), Pre_QUpDwIdeal m →
    θ_run (Cert.QUpDwIdeal.defs (F := Ideal)) (onTc (τ := Cert.QUpDwIdeal.τ) (Cert.QUpDwIdeal.main (F := Ideal))) ⟨m, fun _ => 0, g⟩ (fun r => (∀ c : Dev Cert.QUpDwIdeal.nD,
      r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
      ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1))
      ∧ r.2.sem = fun _ => 0)

def quiescent_QUpDwReferenceIdeal [hQUpDwReferenceIdeal : Cert.QUpDwReferenceIdeal.Facts] : Prop :=
  ∀ (m : (ℓ : Loc Cert.QUpDwReferenceIdeal.nD Cert.QUpDwReferenceIdeal.τ Cert.QUpDwReferenceIdeal.sig) → Buf (Elt Ideal) ℓ) (g : Dev Cert.QUpDwReferenceIdeal.nD → PrngReg), Pre_QUpDwReferenceIdeal m →
    θ_run (Cert.QUpDwReferenceIdeal.defs (F := Ideal)) (onTc (τ := Cert.QUpDwReferenceIdeal.τ) (Cert.QUpDwReferenceIdeal.main (F := Ideal))) ⟨m, fun _ => 0, g⟩ (fun r => (∀ c : Dev Cert.QUpDwReferenceIdeal.nD,
      r.2.mem ((c.tc : Thread Cert.QUpDwReferenceIdeal.nD Cert.QUpDwReferenceIdeal.τ).loc Cert.QUpDwReferenceIdeal.main_arg0) = m ((c.tc : Thread Cert.QUpDwReferenceIdeal.nD Cert.QUpDwReferenceIdeal.τ).loc Cert.QUpDwReferenceIdeal.main_arg0)
      ∧ r.2.mem ((c.tc : Thread Cert.QUpDwReferenceIdeal.nD Cert.QUpDwReferenceIdeal.τ).loc Cert.QUpDwReferenceIdeal.main_arg1) = m ((c.tc : Thread Cert.QUpDwReferenceIdeal.nD Cert.QUpDwReferenceIdeal.τ).loc Cert.QUpDwReferenceIdeal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)) (v2 : (c : Dev Cert.KernelIdeal.nD) → Buf (Elt Ideal) ((c.tc : Thread Cert.KernelIdeal.nD Cert.KernelIdeal.τ).loc Cert.KernelIdeal.main_v67_2)) (v3 : (c : Dev Cert.KernelIdeal.nD) → Buf (Elt Ideal) ((c.tc : Thread Cert.KernelIdeal.nD Cert.KernelIdeal.τ).loc Cert.KernelIdeal.main_v67_3)) (v4 : (c : Dev Cert.KernelIdeal.nD) → Buf (Elt Ideal) ((c.tc : Thread Cert.KernelIdeal.nD Cert.KernelIdeal.τ).loc Cert.KernelIdeal.main_v67_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_v67_2) = v2 c
          ∧ r.2.mem ((c.tc : Thread Cert.KernelIdeal.nD Cert.KernelIdeal.τ).loc Cert.KernelIdeal.main_v67_3) = v3 c
          ∧ r.2.mem ((c.tc : Thread Cert.KernelIdeal.nD Cert.KernelIdeal.τ).loc Cert.KernelIdeal.main_v67_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v2) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v2) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v3) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v1) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v3) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v3) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v3) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v3) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v3) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v1) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_v4) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v3) = v0 c
          ∧ r.2.mem ((c.tc : Thread Cert.MixReferenceIdeal.nD Cert.MixReferenceIdeal.τ).loc Cert.MixReferenceIdeal.main_v4) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3))

def preserves_OMla_OMlaIdeal : Prop :=
  True

def algebraic_OMlaIdeal_OMlaReferenceIdeal [hOMlaIdeal : Cert.OMlaIdeal.Facts] [hOMlaReferenceIdeal : Cert.OMlaReferenceIdeal.Facts] : Prop :=
  ∀ (m : (ℓ : Loc Cert.OMlaIdeal.nD Cert.OMlaIdeal.τ Cert.OMlaIdeal.sig) → Buf (Elt Ideal) ℓ) (g : Dev Cert.OMlaIdeal.nD → PrngReg)
    (m' : (ℓ : Loc Cert.OMlaReferenceIdeal.nD Cert.OMlaReferenceIdeal.τ Cert.OMlaReferenceIdeal.sig) → Buf (Elt Ideal) ℓ) (g' : Dev Cert.OMlaReferenceIdeal.nD → PrngReg), Pre_OMlaIdeal m →
    (∀ c : Dev Cert.OMlaIdeal.nD,
      m' ((c.tc : Thread Cert.OMlaReferenceIdeal.nD Cert.OMlaReferenceIdeal.τ).loc Cert.OMlaReferenceIdeal.main_arg0) = m ((c.tc : Thread Cert.OMlaIdeal.nD Cert.OMlaIdeal.τ).loc Cert.OMlaIdeal.main_arg0)
      ∧ m' ((c.tc : Thread Cert.OMlaReferenceIdeal.nD Cert.OMlaReferenceIdeal.τ).loc Cert.OMlaReferenceIdeal.main_arg1) = m ((c.tc : Thread Cert.OMlaIdeal.nD Cert.OMlaIdeal.τ).loc Cert.OMlaIdeal.main_arg1)) →
    ∃ (v0 : (c : Dev Cert.OMlaIdeal.nD) → Buf (Elt Ideal) ((c.tc : Thread Cert.OMlaIdeal.nD Cert.OMlaIdeal.τ).loc Cert.OMlaIdeal.main_v2)),
      θ_run (Cert.OMlaIdeal.defs (F := Ideal)) (onTc (τ := Cert.OMlaIdeal.τ) (Cert.OMlaIdeal.main (F := Ideal))) ⟨m, fun _ => 0, g⟩ (fun r => ∀ c : Dev Cert.OMlaIdeal.nD,
          r.2.mem ((c.tc : Thread Cert.OMlaIdeal.nD Cert.OMlaIdeal.τ).loc Cert.OMlaIdeal.main_v2) = v0 c
          ∧ r.2.mem ((c.tc : Thread Cert.OMlaIdeal.nD Cert.OMlaIdeal.τ).loc Cert.OMlaIdeal.main_arg0) = m ((c.tc : Thread Cert.OMlaIdeal.nD Cert.OMlaIdeal.τ).loc Cert.OMlaIdeal.main_arg0)
          ∧ r.2.mem ((c.tc : Thread Cert.OMlaIdeal.nD Cert.OMlaIdeal.τ).loc Cert.OMlaIdeal.main_arg1) = m ((c.tc : Thread Cert.OMlaIdeal.nD Cert.OMlaIdeal.τ).loc Cert.OMlaIdeal.main_arg1))
      ∧ θ_run (Cert.OMlaReferenceIdeal.defs (F := Ideal)) (onTc (τ := Cert.OMlaReferenceIdeal.τ) (Cert.OMlaReferenceIdeal.main (F := Ideal))) ⟨m', fun _ => 0, g'⟩ (fun r => ∀ c : Dev Cert.OMlaReferenceIdeal.nD,
          r.2.mem ((c.tc : Thread Cert.OMlaReferenceIdeal.nD Cert.OMlaReferenceIdeal.τ).loc Cert.OMlaReferenceIdeal.main_v1) = v0 c
          ∧ r.2.mem ((c.tc : Thread Cert.OMlaReferenceIdeal.nD Cert.OMlaReferenceIdeal.τ).loc Cert.OMlaReferenceIdeal.main_arg0) = m' ((c.tc : Thread Cert.OMlaReferenceIdeal.nD Cert.OMlaReferenceIdeal.τ).loc Cert.OMlaReferenceIdeal.main_arg0)
          ∧ r.2.mem ((c.tc : Thread Cert.OMlaReferenceIdeal.nD Cert.OMlaReferenceIdeal.τ).loc Cert.OMlaReferenceIdeal.main_arg1) = m' ((c.tc : Thread Cert.OMlaReferenceIdeal.nD Cert.OMlaReferenceIdeal.τ).loc Cert.OMlaReferenceIdeal.main_arg1))

def preserves_OFox_OFoxIdeal : Prop :=
  True

def algebraic_OFoxIdeal_OFoxReferenceIdeal [hOFoxIdeal : Cert.OFoxIdeal.Facts] [hOFoxReferenceIdeal : Cert.OFoxReferenceIdeal.Facts] : Prop :=
  ∀ (m : (ℓ : Loc Cert.OFoxIdeal.nD Cert.OFoxIdeal.τ Cert.OFoxIdeal.sig) → Buf (Elt Ideal) ℓ) (g : Dev Cert.OFoxIdeal.nD → PrngReg)
    (m' : (ℓ : Loc Cert.OFoxReferenceIdeal.nD Cert.OFoxReferenceIdeal.τ Cert.OFoxReferenceIdeal.sig) → Buf (Elt Ideal) ℓ) (g' : Dev Cert.OFoxReferenceIdeal.nD → PrngReg), Pre_OFoxIdeal m →
    (∀ c : Dev Cert.OFoxIdeal.nD,
      m' ((c.tc : Thread Cert.OFoxReferenceIdeal.nD Cert.OFoxReferenceIdeal.τ).loc Cert.OFoxReferenceIdeal.main_arg0) = m ((c.tc : Thread Cert.OFoxIdeal.nD Cert.OFoxIdeal.τ).loc Cert.OFoxIdeal.main_arg0)
      ∧ m' ((c.tc : Thread Cert.OFoxReferenceIdeal.nD Cert.OFoxReferenceIdeal.τ).loc Cert.OFoxReferenceIdeal.main_arg1) = m ((c.tc : Thread Cert.OFoxIdeal.nD Cert.OFoxIdeal.τ).loc Cert.OFoxIdeal.main_arg1)) →
    ∃ (v0 : (c : Dev Cert.OFoxIdeal.nD) → Buf (Elt Ideal) ((c.tc : Thread Cert.OFoxIdeal.nD Cert.OFoxIdeal.τ).loc Cert.OFoxIdeal.main_v2)),
      θ_run (Cert.OFoxIdeal.defs (F := Ideal)) (onTc (τ := Cert.OFoxIdeal.τ) (Cert.OFoxIdeal.main (F := Ideal))) ⟨m, fun _ => 0, g⟩ (fun r => ∀ c : Dev Cert.OFoxIdeal.nD,
          r.2.mem ((c.tc : Thread Cert.OFoxIdeal.nD Cert.OFoxIdeal.τ).loc Cert.OFoxIdeal.main_v2) = v0 c
          ∧ r.2.mem ((c.tc : Thread Cert.OFoxIdeal.nD Cert.OFoxIdeal.τ).loc Cert.OFoxIdeal.main_arg0) = m ((c.tc : Thread Cert.OFoxIdeal.nD Cert.OFoxIdeal.τ).loc Cert.OFoxIdeal.main_arg0)
          ∧ r.2.mem ((c.tc : Thread Cert.OFoxIdeal.nD Cert.OFoxIdeal.τ).loc Cert.OFoxIdeal.main_arg1) = m ((c.tc : Thread Cert.OFoxIdeal.nD Cert.OFoxIdeal.τ).loc Cert.OFoxIdeal.main_arg1))
      ∧ θ_run (Cert.OFoxReferenceIdeal.defs (F := Ideal)) (onTc (τ := Cert.OFoxReferenceIdeal.τ) (Cert.OFoxReferenceIdeal.main (F := Ideal))) ⟨m', fun _ => 0, g'⟩ (fun r => ∀ c : Dev Cert.OFoxReferenceIdeal.nD,
          r.2.mem ((c.tc : Thread Cert.OFoxReferenceIdeal.nD Cert.OFoxReferenceIdeal.τ).loc Cert.OFoxReferenceIdeal.main_v1) = v0 c
          ∧ r.2.mem ((c.tc : Thread Cert.OFoxReferenceIdeal.nD Cert.OFoxReferenceIdeal.τ).loc Cert.OFoxReferenceIdeal.main_arg0) = m' ((c.tc : Thread Cert.OFoxReferenceIdeal.nD Cert.OFoxReferenceIdeal.τ).loc Cert.OFoxReferenceIdeal.main_arg0)
          ∧ r.2.mem ((c.tc : Thread Cert.OFoxReferenceIdeal.nD Cert.OFoxReferenceIdeal.τ).loc Cert.OFoxReferenceIdeal.main_arg1) = m' ((c.tc : Thread Cert.OFoxReferenceIdeal.nD Cert.OFoxReferenceIdeal.τ).loc Cert.OFoxReferenceIdeal.main_arg1))

def preserves_Fk_FkIdeal : Prop :=
  True

def algebraic_FkIdeal_FkReferenceIdeal [hFkIdeal : Cert.FkIdeal.Facts] [hFkReferenceIdeal : Cert.FkReferenceIdeal.Facts] : Prop :=
  ∀ (m : (ℓ : Loc Cert.FkIdeal.nD Cert.FkIdeal.τ Cert.FkIdeal.sig) → Buf (Elt Ideal) ℓ) (g : Dev Cert.FkIdeal.nD → PrngReg)
    (m' : (ℓ : Loc Cert.FkReferenceIdeal.nD Cert.FkReferenceIdeal.τ Cert.FkReferenceIdeal.sig) → Buf (Elt Ideal) ℓ) (g' : Dev Cert.FkReferenceIdeal.nD → PrngReg), Pre_FkIdeal m →
    (∀ c : Dev Cert.FkIdeal.nD,
      m' ((c.tc : Thread Cert.FkReferenceIdeal.nD Cert.FkReferenceIdeal.τ).loc Cert.FkReferenceIdeal.main_arg0) = m ((c.tc : Thread Cert.FkIdeal.nD Cert.FkIdeal.τ).loc Cert.FkIdeal.main_arg0)
      ∧ m' ((c.tc : Thread Cert.FkReferenceIdeal.nD Cert.FkReferenceIdeal.τ).loc Cert.FkReferenceIdeal.main_arg1) = m ((c.tc : Thread Cert.FkIdeal.nD Cert.FkIdeal.τ).loc Cert.FkIdeal.main_arg1)) →
    ∃ (v0 : (c : Dev Cert.FkIdeal.nD) → Buf (Elt Ideal) ((c.tc : Thread Cert.FkIdeal.nD Cert.FkIdeal.τ).loc Cert.FkIdeal.main_v2)),
      θ_run (Cert.FkIdeal.defs (F := Ideal)) (onTc (τ := Cert.FkIdeal.τ) (Cert.FkIdeal.main (F := Ideal))) ⟨m, fun _ => 0, g⟩ (fun r => ∀ c : Dev Cert.FkIdeal.nD,
          r.2.mem ((c.tc : Thread Cert.FkIdeal.nD Cert.FkIdeal.τ).loc Cert.FkIdeal.main_v2) = v0 c
          ∧ r.2.mem ((c.tc : Thread Cert.FkIdeal.nD Cert.FkIdeal.τ).loc Cert.FkIdeal.main_arg0) = m ((c.tc : Thread Cert.FkIdeal.nD Cert.FkIdeal.τ).loc Cert.FkIdeal.main_arg0)
          ∧ r.2.mem ((c.tc : Thread Cert.FkIdeal.nD Cert.FkIdeal.τ).loc Cert.FkIdeal.main_arg1) = m ((c.tc : Thread Cert.FkIdeal.nD Cert.FkIdeal.τ).loc Cert.FkIdeal.main_arg1))
      ∧ θ_run (Cert.FkReferenceIdeal.defs (F := Ideal)) (onTc (τ := Cert.FkReferenceIdeal.τ) (Cert.FkReferenceIdeal.main (F := Ideal))) ⟨m', fun _ => 0, g'⟩ (fun r => ∀ c : Dev Cert.FkReferenceIdeal.nD,
          r.2.mem ((c.tc : Thread Cert.FkReferenceIdeal.nD Cert.FkReferenceIdeal.τ).loc Cert.FkReferenceIdeal.main_v1) = v0 c
          ∧ r.2.mem ((c.tc : Thread Cert.FkReferenceIdeal.nD Cert.FkReferenceIdeal.τ).loc Cert.FkReferenceIdeal.main_arg0) = m' ((c.tc : Thread Cert.FkReferenceIdeal.nD Cert.FkReferenceIdeal.τ).loc Cert.FkReferenceIdeal.main_arg0)
          ∧ r.2.mem ((c.tc : Thread Cert.FkReferenceIdeal.nD Cert.FkReferenceIdeal.τ).loc Cert.FkReferenceIdeal.main_arg1) = m' ((c.tc : Thread Cert.FkReferenceIdeal.nD Cert.FkReferenceIdeal.τ).loc Cert.FkReferenceIdeal.main_arg1))

def preserves_Lat_LatIdeal : Prop :=
  True

def algebraic_LatIdeal_LatReferenceIdeal [hLatIdeal : Cert.LatIdeal.Facts] [hLatReferenceIdeal : Cert.LatReferenceIdeal.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatReferenceIdeal.nD Cert.LatReferenceIdeal.τ Cert.LatReferenceIdeal.sig) → Buf (Elt Ideal) ℓ) (g' : Dev Cert.LatReferenceIdeal.nD → PrngReg), Pre_LatIdeal m →
    (∀ c : Dev Cert.LatIdeal.nD,
      m' ((c.tc : Thread Cert.LatReferenceIdeal.nD Cert.LatReferenceIdeal.τ).loc Cert.LatReferenceIdeal.main_arg0) = m ((c.tc : Thread Cert.LatIdeal.nD Cert.LatIdeal.τ).loc Cert.LatIdeal.main_arg0)
      ∧ m' ((c.tc : Thread Cert.LatReferenceIdeal.nD Cert.LatReferenceIdeal.τ).loc Cert.LatReferenceIdeal.main_arg1) = m ((c.tc : Thread Cert.LatIdeal.nD Cert.LatIdeal.τ).loc Cert.LatIdeal.main_arg1)) →
    ∃ (v0 : (c : Dev Cert.LatIdeal.nD) → Buf (Elt Ideal) ((c.tc : Thread Cert.LatIdeal.nD Cert.LatIdeal.τ).loc Cert.LatIdeal.main_v2)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v2) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1))
      ∧ θ_run (Cert.LatReferenceIdeal.defs (F := Ideal)) (onTc (τ := Cert.LatReferenceIdeal.τ) (Cert.LatReferenceIdeal.main (F := Ideal))) ⟨m', fun _ => 0, g'⟩ (fun r => ∀ c : Dev Cert.LatReferenceIdeal.nD,
          r.2.mem ((c.tc : Thread Cert.LatReferenceIdeal.nD Cert.LatReferenceIdeal.τ).loc Cert.LatReferenceIdeal.main_v0) = v0 c
          ∧ r.2.mem ((c.tc : Thread Cert.LatReferenceIdeal.nD Cert.LatReferenceIdeal.τ).loc Cert.LatReferenceIdeal.main_arg0) = m' ((c.tc : Thread Cert.LatReferenceIdeal.nD Cert.LatReferenceIdeal.τ).loc Cert.LatReferenceIdeal.main_arg0)
          ∧ r.2.mem ((c.tc : Thread Cert.LatReferenceIdeal.nD Cert.LatReferenceIdeal.τ).loc Cert.LatReferenceIdeal.main_arg1) = m' ((c.tc : Thread Cert.LatReferenceIdeal.nD Cert.LatReferenceIdeal.τ).loc Cert.LatReferenceIdeal.main_arg1))

def preserves_OMlaDx_OMlaDxIdeal : Prop :=
  True

def algebraic_OMlaDxIdeal_OMlaDxReferenceIdeal [hOMlaDxIdeal : Cert.OMlaDxIdeal.Facts] [hOMlaDxReferenceIdeal : Cert.OMlaDxReferenceIdeal.Facts] : Prop :=
  ∀ (m : (ℓ : Loc Cert.OMlaDxIdeal.nD Cert.OMlaDxIdeal.τ Cert.OMlaDxIdeal.sig) → Buf (Elt Ideal) ℓ) (g : Dev Cert.OMlaDxIdeal.nD → PrngReg)
    (m' : (ℓ : Loc Cert.OMlaDxReferenceIdeal.nD Cert.OMlaDxReferenceIdeal.τ Cert.OMlaDxReferenceIdeal.sig) → Buf (Elt Ideal) ℓ) (g' : Dev Cert.OMlaDxReferenceIdeal.nD → PrngReg), Pre_OMlaDxIdeal m →
    (∀ c : Dev Cert.OMlaDxIdeal.nD,
      m' ((c.tc : Thread Cert.OMlaDxReferenceIdeal.nD Cert.OMlaDxReferenceIdeal.τ).loc Cert.OMlaDxReferenceIdeal.main_arg0) = m ((c.tc : Thread Cert.OMlaDxIdeal.nD Cert.OMlaDxIdeal.τ).loc Cert.OMlaDxIdeal.main_arg0)
      ∧ m' ((c.tc : Thread Cert.OMlaDxReferenceIdeal.nD Cert.OMlaDxReferenceIdeal.τ).loc Cert.OMlaDxReferenceIdeal.main_arg1) = m ((c.tc : Thread Cert.OMlaDxIdeal.nD Cert.OMlaDxIdeal.τ).loc Cert.OMlaDxIdeal.main_arg1)) →
    ∃ (v0 : (c : Dev Cert.OMlaDxIdeal.nD) → Buf (Elt Ideal) ((c.tc : Thread Cert.OMlaDxIdeal.nD Cert.OMlaDxIdeal.τ).loc Cert.OMlaDxIdeal.main_v2)),
      θ_run (Cert.OMlaDxIdeal.defs (F := Ideal)) (onTc (τ := Cert.OMlaDxIdeal.τ) (Cert.OMlaDxIdeal.main (F := Ideal))) ⟨m, fun _ => 0, g⟩ (fun r => ∀ c : Dev Cert.OMlaDxIdeal.nD,
          r.2.mem ((c.tc : Thread Cert.OMlaDxIdeal.nD Cert.OMlaDxIdeal.τ).loc Cert.OMlaDxIdeal.main_v2) = v0 c
          ∧ r.2.mem ((c.tc : Thread Cert.OMlaDxIdeal.nD Cert.OMlaDxIdeal.τ).loc Cert.OMlaDxIdeal.main_arg0) = m ((c.tc : Thread Cert.OMlaDxIdeal.nD Cert.OMlaDxIdeal.τ).loc Cert.OMlaDxIdeal.main_arg0)
          ∧ r.2.mem ((c.tc : Thread Cert.OMlaDxIdeal.nD Cert.OMlaDxIdeal.τ).loc Cert.OMlaDxIdeal.main_arg1) = m ((c.tc : Thread Cert.OMlaDxIdeal.nD Cert.OMlaDxIdeal.τ).loc Cert.OMlaDxIdeal.main_arg1))
      ∧ θ_run (Cert.OMlaDxReferenceIdeal.defs (F := Ideal)) (onTc (τ := Cert.OMlaDxReferenceIdeal.τ) (Cert.OMlaDxReferenceIdeal.main (F := Ideal))) ⟨m', fun _ => 0, g'⟩ (fun r => ∀ c : Dev Cert.OMlaDxReferenceIdeal.nD,
          r.2.mem ((c.tc : Thread Cert.OMlaDxReferenceIdeal.nD Cert.OMlaDxReferenceIdeal.τ).loc Cert.OMlaDxReferenceIdeal.main_v3) = v0 c
          ∧ r.2.mem ((c.tc : Thread Cert.OMlaDxReferenceIdeal.nD Cert.OMlaDxReferenceIdeal.τ).loc Cert.OMlaDxReferenceIdeal.main_arg0) = m' ((c.tc : Thread Cert.OMlaDxReferenceIdeal.nD Cert.OMlaDxReferenceIdeal.τ).loc Cert.OMlaDxReferenceIdeal.main_arg0)
          ∧ r.2.mem ((c.tc : Thread Cert.OMlaDxReferenceIdeal.nD Cert.OMlaDxReferenceIdeal.τ).loc Cert.OMlaDxReferenceIdeal.main_arg1) = m' ((c.tc : Thread Cert.OMlaDxReferenceIdeal.nD Cert.OMlaDxReferenceIdeal.τ).loc Cert.OMlaDxReferenceIdeal.main_arg1))

def preserves_OFoxDx_OFoxDxIdeal : Prop :=
  True

def algebraic_OFoxDxIdeal_OFoxDxReferenceIdeal [hOFoxDxIdeal : Cert.OFoxDxIdeal.Facts] [hOFoxDxReferenceIdeal : Cert.OFoxDxReferenceIdeal.Facts] : Prop :=
  ∀ (m : (ℓ : Loc Cert.OFoxDxIdeal.nD Cert.OFoxDxIdeal.τ Cert.OFoxDxIdeal.sig) → Buf (Elt Ideal) ℓ) (g : Dev Cert.OFoxDxIdeal.nD → PrngReg)
    (m' : (ℓ : Loc Cert.OFoxDxReferenceIdeal.nD Cert.OFoxDxReferenceIdeal.τ Cert.OFoxDxReferenceIdeal.sig) → Buf (Elt Ideal) ℓ) (g' : Dev Cert.OFoxDxReferenceIdeal.nD → PrngReg), Pre_OFoxDxIdeal m →
    (∀ c : Dev Cert.OFoxDxIdeal.nD,
      m' ((c.tc : Thread Cert.OFoxDxReferenceIdeal.nD Cert.OFoxDxReferenceIdeal.τ).loc Cert.OFoxDxReferenceIdeal.main_arg0) = m ((c.tc : Thread Cert.OFoxDxIdeal.nD Cert.OFoxDxIdeal.τ).loc Cert.OFoxDxIdeal.main_arg0)
      ∧ m' ((c.tc : Thread Cert.OFoxDxReferenceIdeal.nD Cert.OFoxDxReferenceIdeal.τ).loc Cert.OFoxDxReferenceIdeal.main_arg1) = m ((c.tc : Thread Cert.OFoxDxIdeal.nD Cert.OFoxDxIdeal.τ).loc Cert.OFoxDxIdeal.main_arg1)) →
    ∃ (v0 : (c : Dev Cert.OFoxDxIdeal.nD) → Buf (Elt Ideal) ((c.tc : Thread Cert.OFoxDxIdeal.nD Cert.OFoxDxIdeal.τ).loc Cert.OFoxDxIdeal.main_v2)),
      θ_run (Cert.OFoxDxIdeal.defs (F := Ideal)) (onTc (τ := Cert.OFoxDxIdeal.τ) (Cert.OFoxDxIdeal.main (F := Ideal))) ⟨m, fun _ => 0, g⟩ (fun r => ∀ c : Dev Cert.OFoxDxIdeal.nD,
          r.2.mem ((c.tc : Thread Cert.OFoxDxIdeal.nD Cert.OFoxDxIdeal.τ).loc Cert.OFoxDxIdeal.main_v2) = v0 c
          ∧ r.2.mem ((c.tc : Thread Cert.OFoxDxIdeal.nD Cert.OFoxDxIdeal.τ).loc Cert.OFoxDxIdeal.main_arg0) = m ((c.tc : Thread Cert.OFoxDxIdeal.nD Cert.OFoxDxIdeal.τ).loc Cert.OFoxDxIdeal.main_arg0)
          ∧ r.2.mem ((c.tc : Thread Cert.OFoxDxIdeal.nD Cert.OFoxDxIdeal.τ).loc Cert.OFoxDxIdeal.main_arg1) = m ((c.tc : Thread Cert.OFoxDxIdeal.nD Cert.OFoxDxIdeal.τ).loc Cert.OFoxDxIdeal.main_arg1))
      ∧ θ_run (Cert.OFoxDxReferenceIdeal.defs (F := Ideal)) (onTc (τ := Cert.OFoxDxReferenceIdeal.τ) (Cert.OFoxDxReferenceIdeal.main (F := Ideal))) ⟨m', fun _ => 0, g'⟩ (fun r => ∀ c : Dev Cert.OFoxDxReferenceIdeal.nD,
          r.2.mem ((c.tc : Thread Cert.OFoxDxReferenceIdeal.nD Cert.OFoxDxReferenceIdeal.τ).loc Cert.OFoxDxReferenceIdeal.main_v3) = v0 c
          ∧ r.2.mem ((c.tc : Thread Cert.OFoxDxReferenceIdeal.nD Cert.OFoxDxReferenceIdeal.τ).loc Cert.OFoxDxReferenceIdeal.main_arg0) = m' ((c.tc : Thread Cert.OFoxDxReferenceIdeal.nD Cert.OFoxDxReferenceIdeal.τ).loc Cert.OFoxDxReferenceIdeal.main_arg0)
          ∧ r.2.mem ((c.tc : Thread Cert.OFoxDxReferenceIdeal.nD Cert.OFoxDxReferenceIdeal.τ).loc Cert.OFoxDxReferenceIdeal.main_arg1) = m' ((c.tc : Thread Cert.OFoxDxReferenceIdeal.nD Cert.OFoxDxReferenceIdeal.τ).loc Cert.OFoxDxReferenceIdeal.main_arg1))

def preserves_OMlaDw_OMlaDwIdeal : Prop :=
  True

def algebraic_OMlaDwIdeal_OMlaDwReferenceIdeal [hOMlaDwIdeal : Cert.OMlaDwIdeal.Facts] [hOMlaDwReferenceIdeal : Cert.OMlaDwReferenceIdeal.Facts] : Prop :=
  ∀ (m : (ℓ : Loc Cert.OMlaDwIdeal.nD Cert.OMlaDwIdeal.τ Cert.OMlaDwIdeal.sig) → Buf (Elt Ideal) ℓ) (g : Dev Cert.OMlaDwIdeal.nD → PrngReg)
    (m' : (ℓ : Loc Cert.OMlaDwReferenceIdeal.nD Cert.OMlaDwReferenceIdeal.τ Cert.OMlaDwReferenceIdeal.sig) → Buf (Elt Ideal) ℓ) (g' : Dev Cert.OMlaDwReferenceIdeal.nD → PrngReg), Pre_OMlaDwIdeal m →
    (∀ c : Dev Cert.OMlaDwIdeal.nD,
      m' ((c.tc : Thread Cert.OMlaDwReferenceIdeal.nD Cert.OMlaDwReferenceIdeal.τ).loc Cert.OMlaDwReferenceIdeal.main_arg0) = m ((c.tc : Thread Cert.OMlaDwIdeal.nD Cert.OMlaDwIdeal.τ).loc Cert.OMlaDwIdeal.main_arg0)
      ∧ m' ((c.tc : Thread Cert.OMlaDwReferenceIdeal.nD Cert.OMlaDwReferenceIdeal.τ).loc Cert.OMlaDwReferenceIdeal.main_arg1) = m ((c.tc : Thread Cert.OMlaDwIdeal.nD Cert.OMlaDwIdeal.τ).loc Cert.OMlaDwIdeal.main_arg1)) →
    ∃ (v0 : (c : Dev Cert.OMlaDwIdeal.nD) → Buf (Elt Ideal) ((c.tc : Thread Cert.OMlaDwIdeal.nD Cert.OMlaDwIdeal.τ).loc Cert.OMlaDwIdeal.main_v2)),
      θ_run (Cert.OMlaDwIdeal.defs (F := Ideal)) (onTc (τ := Cert.OMlaDwIdeal.τ) (Cert.OMlaDwIdeal.main (F := Ideal))) ⟨m, fun _ => 0, g⟩ (fun r => ∀ c : Dev Cert.OMlaDwIdeal.nD,
          r.2.mem ((c.tc : Thread Cert.OMlaDwIdeal.nD Cert.OMlaDwIdeal.τ).loc Cert.OMlaDwIdeal.main_v2) = v0 c
          ∧ r.2.mem ((c.tc : Thread Cert.OMlaDwIdeal.nD Cert.OMlaDwIdeal.τ).loc Cert.OMlaDwIdeal.main_arg0) = m ((c.tc : Thread Cert.OMlaDwIdeal.nD Cert.OMlaDwIdeal.τ).loc Cert.OMlaDwIdeal.main_arg0)
          ∧ r.2.mem ((c.tc : Thread Cert.OMlaDwIdeal.nD Cert.OMlaDwIdeal.τ).loc Cert.OMlaDwIdeal.main_arg1) = m ((c.tc : Thread Cert.OMlaDwIdeal.nD Cert.OMlaDwIdeal.τ).loc Cert.OMlaDwIdeal.main_arg1))
      ∧ θ_run (Cert.OMlaDwReferenceIdeal.defs (F := Ideal)) (onTc (τ := Cert.OMlaDwReferenceIdeal.τ) (Cert.OMlaDwReferenceIdeal.main (F := Ideal))) ⟨m', fun _ => 0, g'⟩ (fun r => ∀ c : Dev Cert.OMlaDwReferenceIdeal.nD,
          r.2.mem ((c.tc : Thread Cert.OMlaDwReferenceIdeal.nD Cert.OMlaDwReferenceIdeal.τ).loc Cert.OMlaDwReferenceIdeal.main_v3) = v0 c
          ∧ r.2.mem ((c.tc : Thread Cert.OMlaDwReferenceIdeal.nD Cert.OMlaDwReferenceIdeal.τ).loc Cert.OMlaDwReferenceIdeal.main_arg0) = m' ((c.tc : Thread Cert.OMlaDwReferenceIdeal.nD Cert.OMlaDwReferenceIdeal.τ).loc Cert.OMlaDwReferenceIdeal.main_arg0)
          ∧ r.2.mem ((c.tc : Thread Cert.OMlaDwReferenceIdeal.nD Cert.OMlaDwReferenceIdeal.τ).loc Cert.OMlaDwReferenceIdeal.main_arg1) = m' ((c.tc : Thread Cert.OMlaDwReferenceIdeal.nD Cert.OMlaDwReferenceIdeal.τ).loc Cert.OMlaDwReferenceIdeal.main_arg1))

def preserves_OFoxDw_OFoxDwIdeal : Prop :=
  True

def algebraic_OFoxDwIdeal_OFoxDwReferenceIdeal [hOFoxDwIdeal : Cert.OFoxDwIdeal.Facts] [hOFoxDwReferenceIdeal : Cert.OFoxDwReferenceIdeal.Facts] : Prop :=
  ∀ (m : (ℓ : Loc Cert.OFoxDwIdeal.nD Cert.OFoxDwIdeal.τ Cert.OFoxDwIdeal.sig) → Buf (Elt Ideal) ℓ) (g : Dev Cert.OFoxDwIdeal.nD → PrngReg)
    (m' : (ℓ : Loc Cert.OFoxDwReferenceIdeal.nD Cert.OFoxDwReferenceIdeal.τ Cert.OFoxDwReferenceIdeal.sig) → Buf (Elt Ideal) ℓ) (g' : Dev Cert.OFoxDwReferenceIdeal.nD → PrngReg), Pre_OFoxDwIdeal m →
    (∀ c : Dev Cert.OFoxDwIdeal.nD,
      m' ((c.tc : Thread Cert.OFoxDwReferenceIdeal.nD Cert.OFoxDwReferenceIdeal.τ).loc Cert.OFoxDwReferenceIdeal.main_arg0) = m ((c.tc : Thread Cert.OFoxDwIdeal.nD Cert.OFoxDwIdeal.τ).loc Cert.OFoxDwIdeal.main_arg0)
      ∧ m' ((c.tc : Thread Cert.OFoxDwReferenceIdeal.nD Cert.OFoxDwReferenceIdeal.τ).loc Cert.OFoxDwReferenceIdeal.main_arg1) = m ((c.tc : Thread Cert.OFoxDwIdeal.nD Cert.OFoxDwIdeal.τ).loc Cert.OFoxDwIdeal.main_arg1)) →
    ∃ (v0 : (c : Dev Cert.OFoxDwIdeal.nD) → Buf (Elt Ideal) ((c.tc : Thread Cert.OFoxDwIdeal.nD Cert.OFoxDwIdeal.τ).loc Cert.OFoxDwIdeal.main_v2)),
      θ_run (Cert.OFoxDwIdeal.defs (F := Ideal)) (onTc (τ := Cert.OFoxDwIdeal.τ) (Cert.OFoxDwIdeal.main (F := Ideal))) ⟨m, fun _ => 0, g⟩ (fun r => ∀ c : Dev Cert.OFoxDwIdeal.nD,
          r.2.mem ((c.tc : Thread Cert.OFoxDwIdeal.nD Cert.OFoxDwIdeal.τ).loc Cert.OFoxDwIdeal.main_v2) = v0 c
          ∧ r.2.mem ((c.tc : Thread Cert.OFoxDwIdeal.nD Cert.OFoxDwIdeal.τ).loc Cert.OFoxDwIdeal.main_arg0) = m ((c.tc : Thread Cert.OFoxDwIdeal.nD Cert.OFoxDwIdeal.τ).loc Cert.OFoxDwIdeal.main_arg0)
          ∧ r.2.mem ((c.tc : Thread Cert.OFoxDwIdeal.nD Cert.OFoxDwIdeal.τ).loc Cert.OFoxDwIdeal.main_arg1) = m ((c.tc : Thread Cert.OFoxDwIdeal.nD Cert.OFoxDwIdeal.τ).loc Cert.OFoxDwIdeal.main_arg1))
      ∧ θ_run (Cert.OFoxDwReferenceIdeal.defs (F := Ideal)) (onTc (τ := Cert.OFoxDwReferenceIdeal.τ) (Cert.OFoxDwReferenceIdeal.main (F := Ideal))) ⟨m', fun _ => 0, g'⟩ (fun r => ∀ c : Dev Cert.OFoxDwReferenceIdeal.nD,
          r.2.mem ((c.tc : Thread Cert.OFoxDwReferenceIdeal.nD Cert.OFoxDwReferenceIdeal.τ).loc Cert.OFoxDwReferenceIdeal.main_v3) = v0 c
          ∧ r.2.mem ((c.tc : Thread Cert.OFoxDwReferenceIdeal.nD Cert.OFoxDwReferenceIdeal.τ).loc Cert.OFoxDwReferenceIdeal.main_arg0) = m' ((c.tc : Thread Cert.OFoxDwReferenceIdeal.nD Cert.OFoxDwReferenceIdeal.τ).loc Cert.OFoxDwReferenceIdeal.main_arg0)
          ∧ r.2.mem ((c.tc : Thread Cert.OFoxDwReferenceIdeal.nD Cert.OFoxDwReferenceIdeal.τ).loc Cert.OFoxDwReferenceIdeal.main_arg1) = m' ((c.tc : Thread Cert.OFoxDwReferenceIdeal.nD Cert.OFoxDwReferenceIdeal.τ).loc Cert.OFoxDwReferenceIdeal.main_arg1))

def preserves_QUpDx_QUpDxIdeal : Prop :=
  True

def algebraic_QUpDxIdeal_QUpDxReferenceIdeal [hQUpDxIdeal : Cert.QUpDxIdeal.Facts] [hQUpDxReferenceIdeal : Cert.QUpDxReferenceIdeal.Facts] : Prop :=
  ∀ (m : (ℓ : Loc Cert.QUpDxIdeal.nD Cert.QUpDxIdeal.τ Cert.QUpDxIdeal.sig) → Buf (Elt Ideal) ℓ) (g : Dev Cert.QUpDxIdeal.nD → PrngReg)
    (m' : (ℓ : Loc Cert.QUpDxReferenceIdeal.nD Cert.QUpDxReferenceIdeal.τ Cert.QUpDxReferenceIdeal.sig) → Buf (Elt Ideal) ℓ) (g' : Dev Cert.QUpDxReferenceIdeal.nD → PrngReg), Pre_QUpDxIdeal m →
    (∀ c : Dev Cert.QUpDxIdeal.nD,
      m' ((c.tc : Thread Cert.QUpDxReferenceIdeal.nD Cert.QUpDxReferenceIdeal.τ).loc Cert.QUpDxReferenceIdeal.main_arg0) = m ((c.tc : Thread Cert.QUpDxIdeal.nD Cert.QUpDxIdeal.τ).loc Cert.QUpDxIdeal.main_arg0)
      ∧ m' ((c.tc : Thread Cert.QUpDxReferenceIdeal.nD Cert.QUpDxReferenceIdeal.τ).loc Cert.QUpDxReferenceIdeal.main_arg1) = m ((c.tc : Thread Cert.QUpDxIdeal.nD Cert.QUpDxIdeal.τ).loc Cert.QUpDxIdeal.main_arg1)) →
    ∃ (v0 : (c : Dev Cert.QUpDxIdeal.nD) → Buf (Elt Ideal) ((c.tc : Thread Cert.QUpDxIdeal.nD Cert.QUpDxIdeal.τ).loc Cert.QUpDxIdeal.main_v2)),
      θ_run (Cert.QUpDxIdeal.defs (F := Ideal)) (onTc (τ := Cert.QUpDxIdeal.τ) (Cert.QUpDxIdeal.main (F := Ideal))) ⟨m, fun _ => 0, g⟩ (fun r => ∀ c : Dev Cert.QUpDxIdeal.nD,
          r.2.mem ((c.tc : Thread Cert.QUpDxIdeal.nD Cert.QUpDxIdeal.τ).loc Cert.QUpDxIdeal.main_v2) = v0 c
          ∧ r.2.mem ((c.tc : Thread Cert.QUpDxIdeal.nD Cert.QUpDxIdeal.τ).loc Cert.QUpDxIdeal.main_arg0) = m ((c.tc : Thread Cert.QUpDxIdeal.nD Cert.QUpDxIdeal.τ).loc Cert.QUpDxIdeal.main_arg0)
          ∧ r.2.mem ((c.tc : Thread Cert.QUpDxIdeal.nD Cert.QUpDxIdeal.τ).loc Cert.QUpDxIdeal.main_arg1) = m ((c.tc : Thread Cert.QUpDxIdeal.nD Cert.QUpDxIdeal.τ).loc Cert.QUpDxIdeal.main_arg1))
      ∧ θ_run (Cert.QUpDxReferenceIdeal.defs (F := Ideal)) (onTc (τ := Cert.QUpDxReferenceIdeal.τ) (Cert.QUpDxReferenceIdeal.main (F := Ideal))) ⟨m', fun _ => 0, g'⟩ (fun r => ∀ c : Dev Cert.QUpDxReferenceIdeal.nD,
          r.2.mem ((c.tc : Thread Cert.QUpDxReferenceIdeal.nD Cert.QUpDxReferenceIdeal.τ).loc Cert.QUpDxReferenceIdeal.main_v2) = v0 c
          ∧ r.2.mem ((c.tc : Thread Cert.QUpDxReferenceIdeal.nD Cert.QUpDxReferenceIdeal.τ).loc Cert.QUpDxReferenceIdeal.main_arg0) = m' ((c.tc : Thread Cert.QUpDxReferenceIdeal.nD Cert.QUpDxReferenceIdeal.τ).loc Cert.QUpDxReferenceIdeal.main_arg0)
          ∧ r.2.mem ((c.tc : Thread Cert.QUpDxReferenceIdeal.nD Cert.QUpDxReferenceIdeal.τ).loc Cert.QUpDxReferenceIdeal.main_arg1) = m' ((c.tc : Thread Cert.QUpDxReferenceIdeal.nD Cert.QUpDxReferenceIdeal.τ).loc Cert.QUpDxReferenceIdeal.main_arg1))

def preserves_QUpDw_QUpDwIdeal : Prop :=
  True

def algebraic_QUpDwIdeal_QUpDwReferenceIdeal [hQUpDwIdeal : Cert.QUpDwIdeal.Facts] [hQUpDwReferenceIdeal : Cert.QUpDwReferenceIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg)
    (m' : (ℓ : Loc Cert.QUpDwReferenceIdeal.nD Cert.QUpDwReferenceIdeal.τ Cert.QUpDwReferenceIdeal.sig) → Buf (Elt Ideal) ℓ) (g' : Dev Cert.QUpDwReferenceIdeal.nD → PrngReg), Pre_QUpDwIdeal m →
    (∀ c : Dev Cert.QUpDwIdeal.nD,
      m' ((c.tc : Thread Cert.QUpDwReferenceIdeal.nD Cert.QUpDwReferenceIdeal.τ).loc Cert.QUpDwReferenceIdeal.main_arg0) = m ((c.tc : Thread Cert.QUpDwIdeal.nD Cert.QUpDwIdeal.τ).loc Cert.QUpDwIdeal.main_arg0)
      ∧ m' ((c.tc : Thread Cert.QUpDwReferenceIdeal.nD Cert.QUpDwReferenceIdeal.τ).loc Cert.QUpDwReferenceIdeal.main_arg1) = m ((c.tc : Thread Cert.QUpDwIdeal.nD Cert.QUpDwIdeal.τ).loc Cert.QUpDwIdeal.main_arg1)) →
    ∃ (v0 : (c : Dev Cert.QUpDwIdeal.nD) → Buf (Elt Ideal) ((c.tc : Thread Cert.QUpDwIdeal.nD Cert.QUpDwIdeal.τ).loc Cert.QUpDwIdeal.main_v2)),
      θ_run (Cert.QUpDwIdeal.defs (F := Ideal)) (onTc (τ := Cert.QUpDwIdeal.τ) (Cert.QUpDwIdeal.main (F := Ideal))) ⟨m, fun _ => 0, g⟩ (fun r => ∀ c : Dev Cert.QUpDwIdeal.nD,
          r.2.mem ((c.tc : Thread Cert.QUpDwIdeal.nD Cert.QUpDwIdeal.τ).loc Cert.QUpDwIdeal.main_v2) = v0 c
          ∧ r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
          ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1))
      ∧ θ_run (Cert.QUpDwReferenceIdeal.defs (F := Ideal)) (onTc (τ := Cert.QUpDwReferenceIdeal.τ) (Cert.QUpDwReferenceIdeal.main (F := Ideal))) ⟨m', fun _ => 0, g'⟩ (fun r => ∀ c : Dev Cert.QUpDwReferenceIdeal.nD,
          r.2.mem ((c.tc : Thread Cert.QUpDwReferenceIdeal.nD Cert.QUpDwReferenceIdeal.τ).loc Cert.QUpDwReferenceIdeal.main_v3) = v0 c
          ∧ r.2.mem ((c.tc : Thread Cert.QUpDwReferenceIdeal.nD Cert.QUpDwReferenceIdeal.τ).loc Cert.QUpDwReferenceIdeal.main_arg0) = m' ((c.tc : Thread Cert.QUpDwReferenceIdeal.nD Cert.QUpDwReferenceIdeal.τ).loc Cert.QUpDwReferenceIdeal.main_arg0)
          ∧ r.2.mem ((c.tc : Thread Cert.QUpDwReferenceIdeal.nD Cert.QUpDwReferenceIdeal.τ).loc Cert.QUpDwReferenceIdeal.main_arg1) = m' ((c.tc : Thread Cert.QUpDwReferenceIdeal.nD Cert.QUpDwReferenceIdeal.τ).loc Cert.QUpDwReferenceIdeal.main_arg1))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxReferenceIdeal : Cert.UpDxReferenceIdeal.Facts) (hUpDw : Cert.UpDw.Facts) (hUpDwIdeal : Cert.UpDwIdeal.Facts) (hUpDwReferenceIdeal : Cert.UpDwReferenceIdeal.Facts) (hUp : Cert.Up.Facts) (hUpIdeal : Cert.UpIdeal.Facts) (hUpReferenceIdeal : Cert.UpReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hInDw : Cert.InDw.Facts) (hInDwIdeal : Cert.InDwIdeal.Facts) (hInDwReferenceIdeal : Cert.InDwReferenceIdeal.Facts) (hGates : Cert.Gates.Facts) (hGatesIdeal : Cert.GatesIdeal.Facts) (hGatesReferenceIdeal : Cert.GatesReferenceIdeal.Facts) (hDown : Cert.Down.Facts) (hDownIdeal : Cert.DownIdeal.Facts) (hDownReferenceIdeal : Cert.DownReferenceIdeal.Facts) (hMix : Cert.Mix.Facts) (hMixIdeal : Cert.MixIdeal.Facts) (hMixReferenceIdeal : Cert.MixReferenceIdeal.Facts) (hOMla : Cert.OMla.Facts) (hOMlaIdeal : Cert.OMlaIdeal.Facts) (hOMlaReferenceIdeal : Cert.OMlaReferenceIdeal.Facts) (hOFox : Cert.OFox.Facts) (hOFoxIdeal : Cert.OFoxIdeal.Facts) (hOFoxReferenceIdeal : Cert.OFoxReferenceIdeal.Facts) (hFk : Cert.Fk.Facts) (hFkIdeal : Cert.FkIdeal.Facts) (hFkReferenceIdeal : Cert.FkReferenceIdeal.Facts) (hLat : Cert.Lat.Facts) (hLatIdeal : Cert.LatIdeal.Facts) (hLatReferenceIdeal : Cert.LatReferenceIdeal.Facts) (hOMlaDx : Cert.OMlaDx.Facts) (hOMlaDxIdeal : Cert.OMlaDxIdeal.Facts) (hOMlaDxReferenceIdeal : Cert.OMlaDxReferenceIdeal.Facts) (hOFoxDx : Cert.OFoxDx.Facts) (hOFoxDxIdeal : Cert.OFoxDxIdeal.Facts) (hOFoxDxReferenceIdeal : Cert.OFoxDxReferenceIdeal.Facts) (hOMlaDw : Cert.OMlaDw.Facts) (hOMlaDwIdeal : Cert.OMlaDwIdeal.Facts) (hOMlaDwReferenceIdeal : Cert.OMlaDwReferenceIdeal.Facts) (hOFoxDw : Cert.OFoxDw.Facts) (hOFoxDwIdeal : Cert.OFoxDwIdeal.Facts) (hOFoxDwReferenceIdeal : Cert.OFoxDwReferenceIdeal.Facts) (hQUpDx : Cert.QUpDx.Facts) (hQUpDxIdeal : Cert.QUpDxIdeal.Facts) (hQUpDxReferenceIdeal : Cert.QUpDxReferenceIdeal.Facts) (hQUpDw : Cert.QUpDw.Facts) (hQUpDwIdeal : Cert.QUpDwIdeal.Facts) (hQUpDwReferenceIdeal : Cert.QUpDwReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_Up (hUp := hUp)
    ∧ quiescent_UpIdeal (hUpIdeal := hUpIdeal)
    ∧ quiescent_UpReferenceIdeal (hUpReferenceIdeal := hUpReferenceIdeal)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Down (hDown := hDown)
    ∧ quiescent_DownIdeal (hDownIdeal := hDownIdeal)
    ∧ quiescent_DownReferenceIdeal (hDownReferenceIdeal := hDownReferenceIdeal)
    ∧ quiescent_Mix (hMix := hMix)
    ∧ quiescent_MixIdeal (hMixIdeal := hMixIdeal)
    ∧ quiescent_MixReferenceIdeal (hMixReferenceIdeal := hMixReferenceIdeal)
    ∧ quiescent_OMla (hOMla := hOMla)
    ∧ quiescent_OMlaIdeal (hOMlaIdeal := hOMlaIdeal)
    ∧ quiescent_OMlaReferenceIdeal (hOMlaReferenceIdeal := hOMlaReferenceIdeal)
    ∧ quiescent_OFox (hOFox := hOFox)
    ∧ quiescent_OFoxIdeal (hOFoxIdeal := hOFoxIdeal)
    ∧ quiescent_OFoxReferenceIdeal (hOFoxReferenceIdeal := hOFoxReferenceIdeal)
    ∧ quiescent_Fk (hFk := hFk)
    ∧ quiescent_FkIdeal (hFkIdeal := hFkIdeal)
    ∧ quiescent_FkReferenceIdeal (hFkReferenceIdeal := hFkReferenceIdeal)
    ∧ quiescent_Lat (hLat := hLat)
    ∧ quiescent_LatIdeal (hLatIdeal := hLatIdeal)
    ∧ quiescent_LatReferenceIdeal (hLatReferenceIdeal := hLatReferenceIdeal)
    ∧ quiescent_OMlaDx (hOMlaDx := hOMlaDx)
    ∧ quiescent_OMlaDxIdeal (hOMlaDxIdeal := hOMlaDxIdeal)
    ∧ quiescent_OMlaDxReferenceIdeal (hOMlaDxReferenceIdeal := hOMlaDxReferenceIdeal)
    ∧ quiescent_OFoxDx (hOFoxDx := hOFoxDx)
    ∧ quiescent_OFoxDxIdeal (hOFoxDxIdeal := hOFoxDxIdeal)
    ∧ quiescent_OFoxDxReferenceIdeal (hOFoxDxReferenceIdeal := hOFoxDxReferenceIdeal)
    ∧ quiescent_OMlaDw (hOMlaDw := hOMlaDw)
    ∧ quiescent_OMlaDwIdeal (hOMlaDwIdeal := hOMlaDwIdeal)
    ∧ quiescent_OMlaDwReferenceIdeal (hOMlaDwReferenceIdeal := hOMlaDwReferenceIdeal)
    ∧ quiescent_OFoxDw (hOFoxDw := hOFoxDw)
    ∧ quiescent_OFoxDwIdeal (hOFoxDwIdeal := hOFoxDwIdeal)
    ∧ quiescent_OFoxDwReferenceIdeal (hOFoxDwReferenceIdeal := hOFoxDwReferenceIdeal)
    ∧ quiescent_QUpDx (hQUpDx := hQUpDx)
    ∧ quiescent_QUpDxIdeal (hQUpDxIdeal := hQUpDxIdeal)
    ∧ quiescent_QUpDxReferenceIdeal (hQUpDxReferenceIdeal := hQUpDxReferenceIdeal)
    ∧ quiescent_QUpDw (hQUpDw := hQUpDw)
    ∧ quiescent_QUpDwIdeal (hQUpDwIdeal := hQUpDwIdeal)
    ∧ quiescent_QUpDwReferenceIdeal (hQUpDwReferenceIdeal := hQUpDwReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDx_UpDxIdeal
    ∧ algebraic_UpDxIdeal_UpDxReferenceIdeal (hUpDxIdeal := hUpDxIdeal) (hUpDxReferenceIdeal := hUpDxReferenceIdeal)
    ∧ preserves_UpDw_UpDwIdeal
    ∧ algebraic_UpDwIdeal_UpDwReferenceIdeal (hUpDwIdeal := hUpDwIdeal) (hUpDwReferenceIdeal := hUpDwReferenceIdeal)
    ∧ preserves_Up_UpIdeal
    ∧ algebraic_UpIdeal_UpReferenceIdeal (hUpIdeal := hUpIdeal) (hUpReferenceIdeal := hUpReferenceIdeal)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_InDw_InDwIdeal
    ∧ algebraic_InDwIdeal_InDwReferenceIdeal (hInDwIdeal := hInDwIdeal) (hInDwReferenceIdeal := hInDwReferenceIdeal)
    ∧ preserves_Gates_GatesIdeal
    ∧ algebraic_GatesIdeal_GatesReferenceIdeal (hGatesIdeal := hGatesIdeal) (hGatesReferenceIdeal := hGatesReferenceIdeal)
    ∧ preserves_Down_DownIdeal
    ∧ algebraic_DownIdeal_DownReferenceIdeal (hDownIdeal := hDownIdeal) (hDownReferenceIdeal := hDownReferenceIdeal)
    ∧ preserves_Mix_MixIdeal
    ∧ algebraic_MixIdeal_MixReferenceIdeal (hMixIdeal := hMixIdeal) (hMixReferenceIdeal := hMixReferenceIdeal)
    ∧ preserves_OMla_OMlaIdeal
    ∧ algebraic_OMlaIdeal_OMlaReferenceIdeal (hOMlaIdeal := hOMlaIdeal) (hOMlaReferenceIdeal := hOMlaReferenceIdeal)
    ∧ preserves_OFox_OFoxIdeal
    ∧ algebraic_OFoxIdeal_OFoxReferenceIdeal (hOFoxIdeal := hOFoxIdeal) (hOFoxReferenceIdeal := hOFoxReferenceIdeal)
    ∧ preserves_Fk_FkIdeal
    ∧ algebraic_FkIdeal_FkReferenceIdeal (hFkIdeal := hFkIdeal) (hFkReferenceIdeal := hFkReferenceIdeal)
    ∧ preserves_Lat_LatIdeal
    ∧ algebraic_LatIdeal_LatReferenceIdeal (hLatIdeal := hLatIdeal) (hLatReferenceIdeal := hLatReferenceIdeal)
    ∧ preserves_OMlaDx_OMlaDxIdeal
    ∧ algebraic_OMlaDxIdeal_OMlaDxReferenceIdeal (hOMlaDxIdeal := hOMlaDxIdeal) (hOMlaDxReferenceIdeal := hOMlaDxReferenceIdeal)
    ∧ preserves_OFoxDx_OFoxDxIdeal
    ∧ algebraic_OFoxDxIdeal_OFoxDxReferenceIdeal (hOFoxDxIdeal := hOFoxDxIdeal) (hOFoxDxReferenceIdeal := hOFoxDxReferenceIdeal)
    ∧ preserves_OMlaDw_OMlaDwIdeal
    ∧ algebraic_OMlaDwIdeal_OMlaDwReferenceIdeal (hOMlaDwIdeal := hOMlaDwIdeal) (hOMlaDwReferenceIdeal := hOMlaDwReferenceIdeal)
    ∧ preserves_OFoxDw_OFoxDwIdeal
    ∧ algebraic_OFoxDwIdeal_OFoxDwReferenceIdeal (hOFoxDwIdeal := hOFoxDwIdeal) (hOFoxDwReferenceIdeal := hOFoxDwReferenceIdeal)
    ∧ preserves_QUpDx_QUpDxIdeal
    ∧ algebraic_QUpDxIdeal_QUpDxReferenceIdeal (hQUpDxIdeal := hQUpDxIdeal) (hQUpDxReferenceIdeal := hQUpDxReferenceIdeal)
    ∧ preserves_QUpDw_QUpDwIdeal
    ∧ algebraic_QUpDwIdeal_QUpDwReferenceIdeal (hQUpDwIdeal := hQUpDwIdeal) (hQUpDwReferenceIdeal := hQUpDwReferenceIdeal)
-- ==== Pre_finite.lean ====
abbrev S8192x8x64 : Shape := ⟨3, ![8192, 8, 64]⟩
abbrev S8192x8 : Shape := ⟨2, ![8192, 8]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn_part1 {F : FTy → Type} [FloatOps F] (main_arg4 : FVec F S8192x8x64 .f32) (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  let main_v19 : FVec F S8192x8x64 .f32 := Host.absf main_arg4
  let main_cst_6 : FVec F S_ .f32 := constant S_ .f32 0x7F800000#32
  let main_v20 : FVec F S8192x8x64 .f32 := broadcastInDim S8192x8x64 ![] bcast_S_S8192x8x64 main_cst_6
  let main_v21 : IVec S8192x8x64 1 := cmpf .olt main_v19 main_v20
  let main_c_7 : IVec S_ 1 := constantI S_ 1 1#1
  let main_v22 : IVec S_ 1 := (fun x v => Host.reduce IntOp.andi x v reducesTo_S8192x8x64_S_d0_1_2 h_S_) main_v21 main_c_7
  let main_v23 : IVec S_ 1 := andi main_v18 main_v22
  main_v23

def fn {F : FTy → Type} [FloatOps F] (main_arg0 : FVec F S8192x8x64 .f32) (main_arg1 : FVec F S8192x8x64 .f32) (main_arg2 : FVec F S8192x8x64 .f32) (main_arg3 : FVec F S8192x8 .f32) (main_arg4 : FVec F S8192x8x64 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x64 .f32 := Host.absf main_arg1
  let main_cst_0 : FVec F S_ .f32 := constant S_ .f32 0x7F800000#32
  let main_v5 : FVec F S8192x8x64 .f32 := broadcastInDim S8192x8x64 ![] bcast_S_S8192x8x64 main_cst_0
  let main_v6 : IVec S8192x8x64 1 := cmpf .olt main_v4 main_v5
  let main_c_1 : IVec S_ 1 := constantI S_ 1 1#1
  let main_v7 : IVec S_ 1 := (fun x v => Host.reduce IntOp.andi x v reducesTo_S8192x8x64_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_arg4 main_v13 main_v16
-- ==== Kernel.lean ====
abbrev S8192x8x64 : Shape := ⟨3, ![8192, 8, 64]⟩
abbrev S8192x8 : Shape := ⟨2, ![8192, 8]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S8192x8x128 : Shape := ⟨3, ![8192, 8, 128]⟩
abbrev S8192x1024 : Shape := ⟨2, ![8192, 1024]⟩
abbrev S8x16x1x512 : Shape := ⟨4, ![8, 16, 1, 512]⟩
abbrev S8192x256 : Shape := ⟨2, ![8192, 256]⟩
abbrev S512x256 : Shape := ⟨2, ![512, 256]⟩
abbrev S2x16x1x512 : Shape := ⟨4, ![2, 16, 1, 512]⟩
abbrev S2x1x1x512 : Shape := ⟨4, ![2, 1, 1, 512]⟩
abbrev S2x8192x128 : Shape := ⟨3, ![2, 8192, 128]⟩
abbrev S2x512x128 : Shape := ⟨3, ![2, 512, 128]⟩
abbrev S1x1x1x512 : Shape := ⟨4, ![1, 1, 1, 512]⟩
abbrev S1x512 : Shape := ⟨2, ![1, 512]⟩
abbrev S128x512 : Shape := ⟨2, ![128, 512]⟩
abbrev S512x128 : Shape := ⟨2, ![512, 128]⟩
abbrev S512x512 : Shape := ⟨2, ![512, 512]⟩
abbrev S1x512x128 : Shape := ⟨3, ![1, 512, 128]⟩
abbrev S512 : Shape := ⟨1, ![512]⟩
abbrev S1x8192x128 : Shape := ⟨3, ![1, 8192, 128]⟩
abbrev S8192x128 : Shape := ⟨2, ![8192, 128]⟩

abbrev nBuf : Space → Nat
  | .hbm => 96
  | .vmem => 29
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8x64, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8x8192, .f32⟩
  | .hbm, ⟨10, _⟩ => ⟨S8x8192x1, .f32⟩
  | .hbm, ⟨11, _⟩ => ⟨S8x8192, .f32⟩
  | .hbm, ⟨12, _⟩ => ⟨S8x1x8192, .f32⟩
  | .hbm, ⟨13, _⟩ => ⟨S8x8192x8192, .f32⟩
  | .hbm, ⟨14, _⟩ => ⟨S8x8192x8192, .f32⟩
  | .hbm, ⟨15, _⟩ => ⟨S8x8192x8192, .f32⟩
  | .hbm, ⟨16, _⟩ => ⟨S8x8192x8192, .f32⟩
  | .hbm, ⟨17, _⟩ => ⟨S8192, .i32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S1x8192x8192, .i1⟩
  | .hbm, ⟨24, _⟩ => ⟨S_, .f32⟩
  | .hbm, ⟨25, _⟩ => ⟨S_, .f32⟩
  | .hbm, ⟨26, _⟩ => ⟨S8x8192x8192, .i1⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x64x8192, .f32⟩
  | .hbm, ⟨41, _⟩ => ⟨S8192x8x64, .f32⟩
  | .hbm, ⟨42, _⟩ => ⟨S8x8192x1, .f32⟩
  | .hbm, ⟨43, _⟩ => ⟨S8x8192x1, .f32⟩
  | .hbm, ⟨44, _⟩ => ⟨S8x8192, .f32⟩
  | .hbm, ⟨45, _⟩ => ⟨S8192x8x64, .f32⟩
  | .hbm, ⟨46, _⟩ => ⟨S_, .f32⟩
  | .hbm, ⟨47, _⟩ => ⟨S8192x8, .f32⟩
  | .hbm, ⟨48, _⟩ => ⟨S8x8192, .f32⟩
  | .hbm, ⟨49, _⟩ => ⟨S_, .f32⟩
  | .hbm, ⟨50, _⟩ => ⟨S_, .f32⟩
  | .hbm, ⟨51, _⟩ => ⟨S8192x8x128, .i32⟩
  | .hbm, ⟨52, _⟩ => ⟨S_, .i32⟩
  | .hbm, ⟨53, _⟩ => ⟨S8192x8x128, .i32⟩
  | .hbm, ⟨54, _⟩ => ⟨S8192x8x128, .i1⟩
  | .hbm, ⟨55, _⟩ => ⟨S8192x8x128, .f32⟩
  | .hbm, ⟨56, _⟩ => ⟨S_, .f32⟩
  | .hbm, ⟨57, _⟩ => ⟨S8192x8x64, .f32⟩
  | .hbm, ⟨58, _⟩ => ⟨S8192x8x64, .f32⟩
  | .hbm, ⟨59, _⟩ => ⟨S8192x8x64, .f32⟩
  | .hbm, ⟨60, _⟩ => ⟨S8192x8x64, .f32⟩
  | .hbm, ⟨61, _⟩ => ⟨S_, .i32⟩
  | .hbm, ⟨62, _⟩ => ⟨S_, .f32⟩
  | .hbm, ⟨63, _⟩ => ⟨S8192x8x128, .f32⟩
  | .hbm, ⟨64, _⟩ => ⟨S8192x1024, .f32⟩
  | .hbm, ⟨65, _⟩ => ⟨S8192x1024, .bf16⟩
  | .hbm, ⟨66, _⟩ => ⟨S_, .i32⟩
  | .hbm, ⟨67, _⟩ => ⟨S_, .f32⟩
  | .hbm, ⟨68, _⟩ => ⟨S8192x8x128, .f32⟩
  | .hbm, ⟨69, _⟩ => ⟨S8192x1024, .f32⟩
  | .hbm, ⟨70, _⟩ => ⟨S8192x1024, .bf16⟩
  | .hbm, ⟨71, _⟩ => ⟨S_, .i32⟩
  | .hbm, ⟨72, _⟩ => ⟨S_, .f32⟩
  | .hbm, ⟨73, _⟩ => ⟨S8192x8x128, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .bf16⟩
  | .hbm, ⟨78, _⟩ => ⟨S_, .i32⟩
  | .hbm, ⟨79, _⟩ => ⟨S_, .f32⟩
  | .hbm, ⟨80, _⟩ => ⟨S8192x8x128, .f32⟩
  | .hbm, ⟨81, _⟩ => ⟨S8192x1024, .f32⟩
  | .hbm, ⟨82, _⟩ => ⟨S8192x1024, .bf16⟩
  | .hbm, ⟨83, _⟩ => ⟨S8x8192, .f32⟩
  | .hbm, ⟨84, _⟩ => ⟨S8x8192, .f32⟩
  | .hbm, ⟨85, _⟩ => ⟨S8x16x1x512, .f32⟩
  | .hbm, ⟨86, _⟩ => ⟨S8x16x1x512, .f32⟩
  | .hbm, ⟨87, _⟩ => ⟨S8x8192, .f32⟩
  | .hbm, ⟨88, _⟩ => ⟨S8x8192, .f32⟩
  | .hbm, ⟨89, _⟩ => ⟨S8x8192, .f32⟩
  | .hbm, ⟨90, _⟩ => ⟨S8x16x1x512, .f32⟩
  | .hbm, ⟨91, _⟩ => ⟨S8192x1024, .bf16⟩
  | .hbm, ⟨92, _⟩ => ⟨S8192x1024, .bf16⟩
  | .hbm, ⟨93, _⟩ => ⟨S8192x1024, .bf16⟩
  | .hbm, ⟨94, _⟩ => ⟨S8x16x1x512, .f32⟩
  | .hbm, ⟨95, _⟩ => ⟨S8x16x1x512, .f32⟩
  | .local _ .vmem, ⟨0, _⟩ => ⟨S8192x256, .bf16⟩
  | .local _ .vmem, ⟨1, _⟩ => ⟨S8192x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S8192x256, .bf16⟩
  | .local _ .vmem, ⟨7, _⟩ => ⟨S8192x256, .bf16⟩
  | .local _ .vmem, ⟨8, _⟩ => ⟨S2x16x1x512, .f32⟩
  | .local _ .vmem, ⟨9, _⟩ => ⟨S2x16x1x512, .f32⟩
  | .local _ .vmem, ⟨10, _⟩ => ⟨S2x16x1x512, .f32⟩
  | .local _ .vmem, ⟨11, _⟩ => ⟨S2x16x1x512, .f32⟩
  | .local _ .vmem, ⟨12, _⟩ => ⟨S2x16x1x512, .f32⟩
  | .local _ .vmem, ⟨13, _⟩ => ⟨S2x16x1x512, .f32⟩
  | .local _ .vmem, ⟨14, _⟩ => ⟨S8192x256, .bf16⟩
  | .local _ .vmem, ⟨15, _⟩ => ⟨S8192x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S2x16x1x512, .f32⟩
  | .local _ .vmem, ⟨21, _⟩ => ⟨S2x16x1x512, .f32⟩
  | .local _ .vmem, ⟨22, _⟩ => ⟨S2x1x1x512, .f32⟩
  | .local _ .vmem, ⟨23, _⟩ => ⟨S2x1x1x512, .f32⟩
  | .local _ .vmem, ⟨24, _⟩ => ⟨S2x8192x128, .f32⟩
  | .local _ .vmem, ⟨25, _⟩ => ⟨S2x512x128, .f32⟩
  | .local _ .vmem, ⟨26, _⟩ => ⟨S2x512x128, .f32⟩
  | .local _ .vmem, ⟨27, _⟩ => ⟨S2x16x1x512, .f32⟩
  | .local _ .vmem, ⟨28, _⟩ => ⟨S2x512x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_c : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_6 : Ref sig .tc := ⟨.hbm, 61, rfl⟩
abbrev main_call1_v0 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_7 : Ref sig .tc := ⟨.hbm, 66, rfl⟩
abbrev main_call2_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_call3_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_call4_v0 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67_0 : Ref sig .tc := ⟨.hbm, 91, rfl⟩
abbrev main_v67_1 : Ref sig .tc := ⟨.hbm, 92, rfl⟩
abbrev main_v67_2 : Ref sig .tc := ⟨.hbm, 93, rfl⟩
abbrev main_v67_3 : Ref sig .tc := ⟨.hbm, 94, rfl⟩
abbrev main_v67_4 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 16], ![false, false]⟩

def k0_off1 (i : grid0.Coords) : Fin 4 → Nat :=
  let c0 : Index := 0#32
  let arg1 : BitVec 32 := BitVec.ofNat 32 (i 1).val
  let v0 : Index := Scalar.indexCast arg1
  let c0_0 : Index := 0#32
  let c0_1 : Index := 0#32
  ![0, v0.toNat, 0, 0]
def k0_off2 (i : grid0.Coords) : Fin 4 → Nat :=
  let c1 : Index := 1#32
  let arg1 : BitVec 32 := BitVec.ofNat 32 (i 1).val
  let v6 : Index := Scalar.indexCast arg1
  let c0_2 : Index := 0#32
  let c0_3 : Index := 0#32
  ![1, v6.toNat, 0, 0]
def k0_mult1 (i : grid0.Coords) : BitVec 32 :=
  let arg1 : BitVec 32 := BitVec.ofNat 32 (i 1).val
  let c512_i32 : BitVec 32 := 512#32
  let v35 : BitVec 32 := Scalar.muli arg1 c512_i32
  v35
def k0_off3 (i : grid0.Coords) : Fin 2 → Nat :=
  let arg1 : BitVec 32 := BitVec.ofNat 32 (i 1).val
  let c512_i32 : BitVec 32 := 512#32
  let v35 : BitVec 32 := Scalar.muli arg1 c512_i32
  let v36 : BitVec 32 := v35
  let v37 : Index := Scalar.indexCast v36
  let c0_23 : Index := 0#32
  ![v37.toNat, 0]
def k0_off4 (i : grid0.Coords) : Fin 3 → Nat :=
  let c0_51 : Index := 0#32
  let arg1 : BitVec 32 := BitVec.ofNat 32 (i 1).val
  let c512_i32 : BitVec 32 := 512#32
  let v35 : BitVec 32 := Scalar.muli arg1 c512_i32
  let v36 : BitVec 32 := v35
  let v85 : Index := Scalar.indexCast v36
  let c0_52 : Index := 0#32
  ![0, v85.toNat, 0]
def k0_off5 (i : grid0.Coords) : Fin 2 → Nat :=
  let arg1 : BitVec 32 := BitVec.ofNat 32 (i 1).val
  let c512_i32 : BitVec 32 := 512#32
  let v35 : BitVec 32 := Scalar.muli arg1 c512_i32
  let v36 : BitVec 32 := v35
  let v117 : Index := Scalar.indexCast v36
  let c128_69 : Index := 128#32
  ![v117.toNat, 128]
def k0_off6 (i : grid0.Coords) : Fin 3 → Nat :=
  let c1_97 : Index := 1#32
  let arg1 : BitVec 32 := BitVec.ofNat 32 (i 1).val
  let c512_i32 : BitVec 32 := 512#32
  let v35 : BitVec 32 := Scalar.muli arg1 c512_i32
  let v36 : BitVec 32 := v35
  let v165 : Index := Scalar.indexCast v36
  let c0_98 : Index := 0#32
  ![1, v165.toNat, 0]
@[reducible] def k0_t1_loop (i : grid0.Coords) : Scf.Loop 32 :=
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_116 : BitVec 32 := 1#32
  let v200 : BitVec 32 := Scalar.divsi v198 c1_i32_116
  let v201 : BitVec 32 := Scalar.muli v200 c1_i32_116
  let v202 : BitVec 32 := Scalar.addi v197 v201
  let c1_i32_117 : BitVec 32 := 1#32
  ⟨v197, v202, c1_i32_117⟩
def k0_mult2 (i : grid0.Coords) (k0_t1 : Fin (k0_t1_loop i).trips) : BitVec 32 :=
  let arg1 : BitVec 32 := BitVec.ofNat 32 (i 1).val
  let c1_i32 : BitVec 32 := 1#32
  let v197 : BitVec 32 := Scalar.addi arg1 c1_i32
  let c1_i32_117 : BitVec 32 := 1#32
  let arg19 : BitVec 32 := Scf.iv v197 c1_i32_117 k0_t1
  let c512_i32_158 : BitVec 32 := 512#32
  let v242 : BitVec 32 := Scalar.muli arg19 c512_i32_158
  v242
def k0_off7 (i : grid0.Coords) (k0_t1 : Fin (k0_t1_loop i).trips) : Fin 2 → Nat :=
  let arg1 : BitVec 32 := BitVec.ofNat 32 (i 1).val
  let c1_i32 : BitVec 32 := 1#32
  let v197 : BitVec 32 := Scalar.addi arg1 c1_i32
  let c1_i32_117 : BitVec 32 := 1#32
  let arg19 : BitVec 32 := Scf.iv v197 c1_i32_117 k0_t1
  let c512_i32_158 : BitVec 32 := 512#32
  let v242 : BitVec 32 := Scalar.muli arg19 c512_i32_158
  let v243 : BitVec 32 := v242
  let v244 : Index := Scalar.indexCast v243
  let c0_159 : Index := 0#32
  ![v244.toNat, 0]
def k0_off8 (i : grid0.Coords) (k0_t1 : Fin (k0_t1_loop i).trips) : Fin 4 → Nat :=
  let c0_162 : Index := 0#32
  let arg1 : BitVec 32 := BitVec.ofNat 32 (i 1).val
  let c1_i32 : BitVec 32 := 1#32
  let v197 : BitVec 32 := Scalar.addi arg1 c1_i32
  let c1_i32_117 : BitVec 32 := 1#32
  let arg19 : BitVec 32 := Scf.iv v197 c1_i32_117 k0_t1
  let v251 : Index := Scalar.indexCast arg19
  let c0_163 : Index := 0#32
  let c0_164 : Index := 0#32
  ![0, v251.toNat, 0, 0]
def k0_off9 (i : grid0.Coords) (k0_t1 : Fin (k0_t1_loop i).trips) : Fin 3 → Nat :=
  let c0_186 : Index := 0#32
  let arg1 : BitVec 32 := BitVec.ofNat 32 (i 1).val
  let c1_i32 : BitVec 32 := 1#32
  let v197 : BitVec 32 := Scalar.addi arg1 c1_i32
  let c1_i32_117 : BitVec 32 := 1#32
  let arg19 : BitVec 32 := Scf.iv v197 c1_i32_117 k0_t1
  let c512_i32_158 : BitVec 32 := 512#32
  let v242 : BitVec 32 := Scalar.muli arg19 c512_i32_158
  let v243 : BitVec 32 := v242
  let v287 : Index := Scalar.indexCast v243
  let c0_187 : Index := 0#32
  ![0, v287.toNat, 0]
def k0_off10 (i : grid0.Coords) (k0_t1 : Fin (k0_t1_loop i).trips) : Fin 2 → Nat :=
  let arg1 : BitVec 32 := BitVec.ofNat 32 (i 1).val
  let c1_i32 : BitVec 32 := 1#32
  let v197 : BitVec 32 := Scalar.addi arg1 c1_i32
  let c1_i32_117 : BitVec 32 := 1#32
  let arg19 : BitVec 32 := Scf.iv v197 c1_i32_117 k0_t1
  let c512_i32_158 : BitVec 32 := 512#32
  let v242 : BitVec 32 := Scalar.muli arg19 c512_i32_158
  let v243 : BitVec 32 := v242
  let v319 : Index := Scalar.indexCast v243
  let c128_204 : Index := 128#32
  ![v319.toNat, 128]
def k0_off11 (i : grid0.Coords) (k0_t1 : Fin (k0_t1_loop i).trips) : Fin 4 → Nat :=
  let c1_207 : Index := 1#32
  let arg1 : BitVec 32 := BitVec.ofNat 32 (i 1).val
  let c1_i32 : BitVec 32 := 1#32
  let v197 : BitVec 32 := Scalar.addi arg1 c1_i32
  let c1_i32_117 : BitVec 32 := 1#32
  let arg19 : BitVec 32 := Scf.iv v197 c1_i32_117 k0_t1
  let v326 : Index := Scalar.indexCast arg19
  let c0_208 : Index := 0#32
  let c0_209 : Index := 0#32
  ![1, v326.toNat, 0, 0]
def k0_off12 (i : grid0.Coords) (k0_t1 : Fin (k0_t1_loop i).trips) : Fin 3 → Nat :=
  let c1_231 : Index := 1#32
  let arg1 : BitVec 32 := BitVec.ofNat 32 (i 1).val
  let c1_i32 : BitVec 32 := 1#32
  let v197 : BitVec 32 := Scalar.addi arg1 c1_i32
  let c1_i32_117 : BitVec 32 := 1#32
  let arg19 : BitVec 32 := Scf.iv v197 c1_i32_117 k0_t1
  let c512_i32_158 : BitVec 32 := 512#32
  let v242 : BitVec 32 := Scalar.muli arg19 c512_i32_158
  let v243 : BitVec 32 := v242
  let v362 : Index := Scalar.indexCast v243
  let c0_232 : Index := 0#32
  ![1, v362.toNat, 0]
@[reducible] def k0_t2_loop (i : grid0.Coords) : Scf.Loop 32 :=
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_116 : BitVec 32 := 1#32
  let v200 : BitVec 32 := Scalar.divsi v198 c1_i32_116
  let v201 : BitVec 32 := Scalar.muli v200 c1_i32_116
  let v202 : BitVec 32 := Scalar.addi v197 v201
  let v199 : BitVec 32 := Scalar.addi v197 v198
  let c1_i32_118 : BitVec 32 := 1#32
  ⟨v202, v199, c1_i32_118⟩
def k0_mult3 (i : grid0.Coords) (k0_t2 : Fin (k0_t2_loop i).trips) : BitVec 32 :=
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_116 : BitVec 32 := 1#32
  let v200 : BitVec 32 := Scalar.divsi v198 c1_i32_116
  let v201 : BitVec 32 := Scalar.muli v200 c1_i32_116
  let v202 : BitVec 32 := Scalar.addi v197 v201
  let c1_i32_118 : BitVec 32 := 1#32
  let arg19 : BitVec 32 := Scf.iv v202 c1_i32_118 k0_t2
  let c512_i32_158 : BitVec 32 := 512#32
  let v242 : BitVec 32 := Scalar.muli arg19 c512_i32_158
  v242
def k0_off13 (i : grid0.Coords) (k0_t2 : Fin (k0_t2_loop i).trips) : Fin 2 → Nat :=
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_116 : BitVec 32 := 1#32
  let v200 : BitVec 32 := Scalar.divsi v198 c1_i32_116
  let v201 : BitVec 32 := Scalar.muli v200 c1_i32_116
  let v202 : BitVec 32 := Scalar.addi v197 v201
  let c1_i32_118 : BitVec 32 := 1#32
  let arg19 : BitVec 32 := Scf.iv v202 c1_i32_118 k0_t2
  let c512_i32_158 : BitVec 32 := 512#32
  let v242 : BitVec 32 := Scalar.muli arg19 c512_i32_158
  let v243 : BitVec 32 := v242
  let v244 : Index := Scalar.indexCast v243
  let c0_159 : Index := 0#32
  ![v244.toNat, 0]
def k0_off14 (i : grid0.Coords) (k0_t2 : Fin (k0_t2_loop i).trips) : Fin 4 → Nat :=
  let c0_162 : Index := 0#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_116 : BitVec 32 := 1#32
  let v200 : BitVec 32 := Scalar.divsi v198 c1_i32_116
  let v201 : BitVec 32 := Scalar.muli v200 c1_i32_116
  let v202 : BitVec 32 := Scalar.addi v197 v201
  let c1_i32_118 : BitVec 32 := 1#32
  let arg19 : BitVec 32 := Scf.iv v202 c1_i32_118 k0_t2
  let v251 : Index := Scalar.indexCast arg19
  let c0_163 : Index := 0#32
  let c0_164 : Index := 0#32
  ![0, v251.toNat, 0, 0]
def k0_off15 (i : grid0.Coords) (k0_t2 : Fin (k0_t2_loop i).trips) : Fin 3 → Nat :=
  let c0_186 : Index := 0#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_116 : BitVec 32 := 1#32
  let v200 : BitVec 32 := Scalar.divsi v198 c1_i32_116
  let v201 : BitVec 32 := Scalar.muli v200 c1_i32_116
  let v202 : BitVec 32 := Scalar.addi v197 v201
  let c1_i32_118 : BitVec 32 := 1#32
  let arg19 : BitVec 32 := Scf.iv v202 c1_i32_118 k0_t2
  let c512_i32_158 : BitVec 32 := 512#32
  let v242 : BitVec 32 := Scalar.muli arg19 c512_i32_158
  let v243 : BitVec 32 := v242
  let v287 : Index := Scalar.indexCast v243
  let c0_187 : Index := 0#32
  ![0, v287.toNat, 0]
def k0_off16 (i : grid0.Coords) (k0_t2 : Fin (k0_t2_loop i).trips) : Fin 2 → Nat :=
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_116 : BitVec 32 := 1#32
  let v200 : BitVec 32 := Scalar.divsi v198 c1_i32_116
  let v201 : BitVec 32 := Scalar.muli v200 c1_i32_116
  let v202 : BitVec 32 := Scalar.addi v197 v201
  let c1_i32_118 : BitVec 32 := 1#32
  let arg19 : BitVec 32 := Scf.iv v202 c1_i32_118 k0_t2
  let c512_i32_158 : BitVec 32 := 512#32
  let v242 : BitVec 32 := Scalar.muli arg19 c512_i32_158
  let v243 : BitVec 32 := v242
  let v319 : Index := Scalar.indexCast v243
  let c128_204 : Index := 128#32
  ![v319.toNat, 128]
def k0_off17 (i : grid0.Coords) (k0_t2 : Fin (k0_t2_loop i).trips) : Fin 4 → Nat :=
  let c1_207 : Index := 1#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_116 : BitVec 32 := 1#32
  let v200 : BitVec 32 := Scalar.divsi v198 c1_i32_116
  let v201 : BitVec 32 := Scalar.muli v200 c1_i32_116
  let v202 : BitVec 32 := Scalar.addi v197 v201
  let c1_i32_118 : BitVec 32 := 1#32
  let arg19 : BitVec 32 := Scf.iv v202 c1_i32_118 k0_t2
  let v326 : Index := Scalar.indexCast arg19
  let c0_208 : Index := 0#32
  let c0_209 : Index := 0#32
  ![1, v326.toNat, 0, 0]
def k0_off18 (i : grid0.Coords) (k0_t2 : Fin (k0_t2_loop i).trips) : Fin 3 → Nat :=
  let c1_231 : Index := 1#32
  let arg1 : BitVec 32 := BitVec.ofNat 32 (i 1).val
  let c1_i32 : BitVec 32 := 1#32
  let v197 : BitVec 32 := Scalar.addi arg1 c1_i32
  let c16_i32 : BitVec 32 := 16#32
  let v198 : BitVec 32 := Scalar.subi c16_i32 v197
  let c1_i32_116 : BitVec 32 := 1#32
  let v200 : BitVec 32 := Scalar.divsi v198 c1_i32_116
  let v201 : BitVec 32 := Scalar.muli v200 c1_i32_116
  let v202 : BitVec 32 := Scalar.addi v197 v201
  let c1_i32_118 : BitVec 32 := 1#32
  let arg19 : BitVec 32 := Scf.iv v202 c1_i32_118 k0_t2
  let c512_i32_158 : BitVec 32 := 512#32
  let v242 : BitVec 32 := Scalar.muli arg19 c512_i32_158
  let v243 : BitVec 32 := v242
  let v362 : Index := Scalar.indexCast v243
  let c0_232 : Index := 0#32
  ![1, v362.toNat, 0]
def k0_cond2 (i : grid0.Coords) : BitVec 1 :=
  let arg1 : BitVec 32 := BitVec.ofNat 32 (i 1).val
  let c15_i32 : BitVec 32 := 15#32
  let v239 : BitVec 1 := Scalar.cmpi .eq arg1 c15_i32
  let v240 : BitVec 32 := Scalar.extui v239
  let c0_i32_157 : BitVec 32 := 0#32
  let v241 : BitVec 1 := Scalar.cmpi .ne v240 c0_i32_157
  v241

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x16x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x16x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x16x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x16x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S8192x8x64 : Shape := ⟨3, ![8192, 8, 64]⟩
abbrev S8192x8 : Shape := ⟨2, ![8192, 8]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S8x8192x64 : Shape := ⟨3, ![8, 8192, 64]⟩
abbrev S8192x8x128 : Shape := ⟨3, ![8192, 8, 128]⟩
abbrev S8192x1024 : Shape := ⟨2, ![8192, 1024]⟩
abbrev S8x16x1x512 : Shape := ⟨4, ![8, 16, 1, 512]⟩

abbrev nBuf : Space → Nat
  | .hbm => 131
  | .vmem => 0
  | .smem => 0
  | _ => 0

abbrev hbmTy0_0 (i : Nat) : BufTy := match i % 128 with
  | 0 => ⟨S8192x8x64, .f32⟩
  | 1 => ⟨S8192x8x64, .f32⟩
  | 2 => ⟨S8192x8x64, .f32⟩
  | 3 => ⟨S8192x8, .f32⟩
  | 4 => ⟨S8192x8x64, .f32⟩
  | 5 => ⟨S8x8192x8192, .f32⟩
  | 6 => ⟨S_, .f32⟩
  | 7 => ⟨S8x8192x8192, .f32⟩
  | 8 => ⟨S8x8192x8192, .f32⟩
  | 9 => ⟨S8x8192, .f32⟩
  | 10 => ⟨S8x8192x1, .f32⟩
  | 11 => ⟨S8x8192, .f32⟩
  | 12 => ⟨S8x1x8192, .f32⟩
  | 13 => ⟨S8x8192x8192, .f32⟩
  | 14 => ⟨S8x8192x8192, .f32⟩
  | 15 => ⟨S8x8192x8192, .f32⟩
  | 16 => ⟨S8x8192x8192, .f32⟩
  | 17 => ⟨S8192, .i32⟩
  | 18 => ⟨S1x8192, .i32⟩
  | 19 => ⟨S8192x1, .i32⟩
  | 20 => ⟨S8192x8192, .i32⟩
  | 21 => ⟨S8192x8192, .i32⟩
  | 22 => ⟨S8192x8192, .i1⟩
  | 23 => ⟨S1x8192x8192, .i1⟩
  | 24 => ⟨S_, .f32⟩
  | 25 => ⟨S_, .f32⟩
  | 26 => ⟨S8x8192x8192, .i1⟩
  | 27 => ⟨S8x8192x8192, .f32⟩
  | 28 => ⟨S8x8192x8192, .f32⟩
  | 29 => ⟨S_, .f32⟩
  | 30 => ⟨S8x8192x8192, .f32⟩
  | 31 => ⟨S_, .f32⟩
  | 32 => ⟨S8x8192, .f32⟩
  | 33 => ⟨S8x8192x1, .f32⟩
  | 34 => ⟨S8x8192x8192, .f32⟩
  | 35 => ⟨S8x8192x8192, .i1⟩
  | 36 => ⟨S8x8192x8192, .f32⟩
  | 37 => ⟨S_, .f32⟩
  | 38 => ⟨S8x8192, .f32⟩
  | 39 => ⟨S_, .f32⟩
  | 40 => ⟨S8x8192, .f32⟩
  | 41 => ⟨S8x8192, .f32⟩
  | 42 => ⟨S_, .f32⟩
  | 43 => ⟨S8x8192, .f32⟩
  | 44 => ⟨S8x8192, .i1⟩
  | 45 => ⟨S_, .f32⟩
  | 46 => ⟨S8x8192, .f32⟩
  | 47 => ⟨S8x8192, .i1⟩
  | 48 => ⟨S_, .f32⟩
  | 49 => ⟨S8x8192, .f32⟩
  | 50 => ⟨S_, .f32⟩
  | 51 => ⟨S8x8192, .f32⟩
  | 52 => ⟨S_, .f32⟩
  | 53 => ⟨S8x8192, .f32⟩
  | 54 => ⟨S8x8192, .f32⟩
  | 55 => ⟨S8x8192, .f32⟩
  | 56 => ⟨S8x8192x1, .f32⟩
  | 57 => ⟨S8x8192x8192, .f32⟩
  | 58 => ⟨S8x8192x8192, .f32⟩
  | 59 => ⟨S8x8192x8192, .f32⟩
  | 60 => ⟨S_, .f32⟩
  | 61 => ⟨S8x8192, .f32⟩
  | 62 => ⟨S8x8192x1, .f32⟩
  | 63 => ⟨S8x8192x8192, .f32⟩
  | 64 => ⟨S8x8192x8192, .f32⟩
  | 65 => ⟨S8x8192x1, .f32⟩
  | 66 => ⟨S_, .f32⟩
  | 67 => ⟨S8x8192x1, .f32⟩
  | 68 => ⟨S8x8192x1, .f32⟩
  | 69 => ⟨S8x64x8192, .f32⟩
  | 70 => ⟨S8192x8x64, .f32⟩
  | 71 => ⟨S8x64x8192, .f32⟩
  | 72 => ⟨S8x8192x8192, .f32⟩
  | 73 => ⟨S8x64x8192, .f32⟩
  | 74 => ⟨S8192x8x64, .f32⟩
  | 75 => ⟨S8x8192x8192, .f32⟩
  | 76 => ⟨S8x8192x8192, .f32⟩
  | 77 => ⟨S8x8192x8192, .f32⟩
  | 78 => ⟨S_, .f32⟩
  | 79 => ⟨S8x8192, .f32⟩
  | 80 => ⟨S8x8192x1, .f32⟩
  | 81 => ⟨S8x8192x1, .f32⟩
  | 82 => ⟨S8x8192x8192, .f32⟩
  | 83 => ⟨S8x8192x8192, .f32⟩
  | 84 => ⟨S_, .f32⟩
  | 85 => ⟨S8x8192, .f32⟩
  | 86 => ⟨S8x8192x8192, .f32⟩
  | 87 => ⟨S8x8192x8192, .f32⟩
  | 88 => ⟨S8x8192x8192, .f32⟩
  | 89 => ⟨S_, .f32⟩
  | 90 => ⟨S8x8192x8192, .f32⟩
  | 91 => ⟨S8x8192x8192, .f32⟩
  | 92 => ⟨S_, .f32⟩
  | 93 => ⟨S8x8192, .f32⟩
  | 94 => ⟨S8x8192x1, .f32⟩
  | 95 => ⟨S8x8192x8192, .f32⟩
  | 96 => ⟨S_, .f32⟩
  | 97 => ⟨S8x8192, .f32⟩
  | 98 => ⟨S8x1x8192, .f32⟩
  | 99 => ⟨S_, .f32⟩
  | 100 => ⟨S8x8192, .f32⟩
  | 101 => ⟨S8192x8, .f32⟩
  | 102 => ⟨S_, .f32⟩
  | 103 => ⟨S8x8192, .f32⟩
  | 104 => ⟨S8192x8, .f32⟩
  | 105 => ⟨S_, .f32⟩
  | 106 => ⟨S8x8192x8192, .f32⟩
  | 107 => ⟨S8x8192x8192, .f32⟩
  | 108 => ⟨S8x8192x64, .f32⟩
  | 109 => ⟨S8192x8x64, .f32⟩
  | 110 => ⟨S8x8192x64, .f32⟩
  | 111 => ⟨S8192x8x64, .f32⟩
  | 112 => ⟨S_, .i32⟩
  | 113 => ⟨S_, .f32⟩
  | 114 => ⟨S8192x8x128, .f32⟩
  | 115 => ⟨S8192x1024, .f32⟩
  | 116 => ⟨S8192x1024, .bf16⟩
  | 117 => ⟨S_, .i32⟩
  | 118 => ⟨S_, .f32⟩
  | 119 => ⟨S8192x8x128, .f32⟩
  | 120 => ⟨S8192x1024, .f32⟩
  | 121 => ⟨S8192x1024, .bf16⟩
  | 122 => ⟨S_, .i32⟩
  | 123 => ⟨S_, .f32⟩
  | 124 => ⟨S8192x8x128, .f32⟩
  | 125 => ⟨S8192x1024, .f32⟩
  | 126 => ⟨S8192x1024, .bf16⟩
  | 127 => ⟨S8x8192, .f32⟩
  | _ => ⟨S8192x8x64, .f32⟩

abbrev hbmTy0_1 (i : Nat) : BufTy := match i % 128 with
  | 0 => ⟨S8x16x1x512, .f32⟩
  | 1 => ⟨S8x8192, .f32⟩
  | 2 => ⟨S8x16x1x512, .f32⟩
  | _ => ⟨S8192x8x64, .f32⟩

abbrev hbmTy (i : Nat) : BufTy := match i / 128 with
  | 0 => hbmTy0_0 i
  | 1 => hbmTy0_1 i
  | _ => ⟨S8192x8x64, .f32⟩

abbrev bufTy : (tb : Table) → Fin (tcTables nBuf tb) → BufTy
  | .hbm, ⟨i, _⟩ => hbmTy i
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_v18_1 : Ref sig .tc := ⟨.hbm, 26, rfl⟩
abbrev main_call0_v2 : Ref sig .tc := ⟨.hbm, 27, rfl⟩
abbrev main_v18_0 : Ref sig .tc := ⟨.hbm, 28, rfl⟩
abbrev main_call0_cst : Ref sig .tc := ⟨.hbm, 29, rfl⟩
abbrev main_v18_2 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_cst : Ref sig .tc := ⟨.hbm, 89, rfl⟩
abbrev main_call1_v0 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c : Ref sig .tc := ⟨.hbm, 112, rfl⟩
abbrev main_call2_v0 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_18 : Ref sig .tc := ⟨.hbm, 117, rfl⟩
abbrev main_call3_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c_19 : Ref sig .tc := ⟨.hbm, 122, rfl⟩
abbrev main_call4_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]
-- ==== UpDx.lean ====
abbrev S8192x5632 : Shape := ⟨2, ![8192, 5632]⟩
abbrev S1024x5632 : Shape := ⟨2, ![1024, 5632]⟩
abbrev S8192x1024 : Shape := ⟨2, ![8192, 1024]⟩
abbrev S512x5632 : Shape := ⟨2, ![512, 5632]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x5632, .bf16⟩
  | .hbm, ⟨3, _⟩ => ⟨S1024x5632, .bf16⟩
  | .hbm, ⟨4, _⟩ => ⟨S8192x1024, .f32⟩
  | .local _ .vmem, ⟨0, _⟩ => ⟨S1024x5632, .bf16⟩
  | .local _ .vmem, ⟨1, _⟩ => ⟨S1024x5632, .bf16⟩
  | .local _ .vmem, ⟨2, _⟩ => ⟨S512x5632, .bf16⟩
  | .local _ .vmem, ⟨3, _⟩ => ⟨S512x5632, .bf16⟩
  | .local _ .vmem, ⟨4, _⟩ => ⟨S1024x512, .f32⟩
  | .local _ .vmem, ⟨5, _⟩ => ⟨S1024x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpDw.lean ====
abbrev S8192x1024 : Shape := ⟨2, ![8192, 1024]⟩
abbrev S8192x5632 : Shape := ⟨2, ![8192, 5632]⟩
abbrev S1024x5632 : Shape := ⟨2, ![1024, 5632]⟩
abbrev S8192x256 : Shape := ⟨2, ![8192, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S1024x5632, .f32⟩
  | .local _ .vmem, ⟨0, _⟩ => ⟨S8192x1024, .bf16⟩
  | .local _ .vmem, ⟨1, _⟩ => ⟨S8192x256, .bf16⟩
  | .local _ .vmem, ⟨2, _⟩ => ⟨S8192x256, .bf16⟩
  | .local _ .vmem, ⟨3, _⟩ => ⟨S1024x256, .f32⟩
  | .local _ .vmem, ⟨4, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x1024, .bf16⟩
  | .hbm, ⟨3, _⟩ => ⟨S2816x1024, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | .hbm, ⟨6, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S8192x256 : Shape := ⟨2, ![8192, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .f32⟩
  | .local _ .vmem, ⟨4, _⟩ => ⟨S256x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S8192x256 : Shape := ⟨2, ![8192, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S8192x1024, .bf16⟩
  | .local _ .vmem, ⟨1, _⟩ => ⟨S8192x256, .bf16⟩
  | .local _ .vmem, ⟨2, _⟩ => ⟨S8192x256, .bf16⟩
  | .local _ .vmem, ⟨3, _⟩ => ⟨S1024x256, .f32⟩
  | .local _ .vmem, ⟨4, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDw.lean ====
abbrev S8192x1024 : Shape := ⟨2, ![8192, 1024]⟩
abbrev S8192x4480 : Shape := ⟨2, ![8192, 4480]⟩
abbrev S1024x4480 : Shape := ⟨2, ![1024, 4480]⟩
abbrev S8192x512 : Shape := ⟨2, ![8192, 512]⟩
abbrev S8192x640 : Shape := ⟨2, ![8192, 640]⟩
abbrev S512x640 : Shape := ⟨2, ![512, 640]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4480, .f32⟩
  | .hbm, ⟨2, _⟩ => ⟨S8192x1024, .bf16⟩
  | .hbm, ⟨3, _⟩ => ⟨S8192x4480, .bf16⟩
  | .hbm, ⟨4, _⟩ => ⟨S1024x4480, .f32⟩
  | .local _ .vmem, ⟨0, _⟩ => ⟨S8192x512, .bf16⟩
  | .local _ .vmem, ⟨1, _⟩ => ⟨S8192x512, .bf16⟩
  | .local _ .vmem, ⟨2, _⟩ => ⟨S8192x640, .bf16⟩
  | .local _ .vmem, ⟨3, _⟩ => ⟨S8192x640, .bf16⟩
  | .local _ .vmem, ⟨4, _⟩ => ⟨S512x640, .f32⟩
  | .local _ .vmem, ⟨5, _⟩ => ⟨S512x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S8192x1024 : Shape := ⟨2, ![8192, 1024]⟩
abbrev S8192x4480 : Shape := ⟨2, ![8192, 4480]⟩
abbrev S_ : Shape := ⟨0, ![]⟩
abbrev S1024x4480 : Shape := ⟨2, ![1024, 4480]⟩
abbrev S4480x1024 : Shape := ⟨2, ![4480, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4480, .f32⟩
  | .hbm, ⟨2, _⟩ => ⟨S_, .f32⟩
  | .hbm, ⟨3, _⟩ => ⟨S1024x4480, .f32⟩
  | .hbm, ⟨4, _⟩ => ⟨S8192x4480, .f32⟩
  | .hbm, ⟨5, _⟩ => ⟨S4480x1024, .f32⟩
  | .hbm, ⟨6, _⟩ => ⟨S1024x4480, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gates.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesReferenceIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S2816x512 : Shape := ⟨2, ![2816, 512]⟩
abbrev S1024x512 : Shape := ⟨2, ![1024, 512]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S8192x2816, .bf16⟩
  | .hbm, ⟨5, _⟩ => ⟨S2816x1024, .bf16⟩
  | .hbm, ⟨6, _⟩ => ⟨S8192x1024, .f32⟩
  | .hbm, ⟨7, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Mix.lean ====
abbrev S8192x1024 : Shape := ⟨2, ![8192, 1024]⟩
abbrev S1024x1024 : Shape := ⟨2, ![1024, 1024]⟩
abbrev S1x1024 : Shape := ⟨2, ![1, 1024]⟩
abbrev S1024x512 : Shape := ⟨2, ![1024, 512]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MixReferenceIdeal.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OMla.lean ====
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OMlaReferenceIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OFox.lean ====
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OFoxReferenceIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Fk.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FkReferenceIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Lat.lean ====
abbrev S8192x1024 : Shape := ⟨2, ![8192, 1024]⟩
abbrev S1024x896 : Shape := ⟨2, ![1024, 896]⟩
abbrev S8192x896 : Shape := ⟨2, ![8192, 896]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x896, .f32⟩
  | .hbm, ⟨2, _⟩ => ⟨S8192x1024, .bf16⟩
  | .hbm, ⟨3, _⟩ => ⟨S1024x896, .bf16⟩
  | .hbm, ⟨4, _⟩ => ⟨S8192x896, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .f32⟩
  | .local _ .vmem, ⟨4, _⟩ => ⟨S1024x896, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatReferenceIdeal.lean ====
abbrev S8192x1024 : Shape := ⟨2, ![8192, 1024]⟩
abbrev S1024x896 : Shape := ⟨2, ![1024, 896]⟩
abbrev S8192x896 : Shape := ⟨2, ![8192, 896]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x896, .f32⟩
  | .hbm, ⟨2, _⟩ => ⟨S8192x896, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OMlaDx.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OMlaDxReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OFoxDx.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OFoxDxReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OMlaDw.lean ====
abbrev S8192x1024 : Shape := ⟨2, ![8192, 1024]⟩
abbrev S1024x1024 : Shape := ⟨2, ![1024, 1024]⟩
abbrev S8192x256 : Shape := ⟨2, ![8192, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S8192x1024, .bf16⟩
  | .local _ .vmem, ⟨1, _⟩ => ⟨S8192x256, .bf16⟩
  | .local _ .vmem, ⟨2, _⟩ => ⟨S8192x256, .bf16⟩
  | .local _ .vmem, ⟨3, _⟩ => ⟨S1024x256, .f32⟩
  | .local _ .vmem, ⟨4, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OMlaDwReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OFoxDw.lean ====
abbrev S8192x1024 : Shape := ⟨2, ![8192, 1024]⟩
abbrev S1024x1024 : Shape := ⟨2, ![1024, 1024]⟩
abbrev S8192x256 : Shape := ⟨2, ![8192, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S8192x1024, .bf16⟩
  | .local _ .vmem, ⟨1, _⟩ => ⟨S8192x256, .bf16⟩
  | .local _ .vmem, ⟨2, _⟩ => ⟨S8192x256, .bf16⟩
  | .local _ .vmem, ⟨3, _⟩ => ⟨S1024x256, .f32⟩
  | .local _ .vmem, ⟨4, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OFoxDwReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QUpDx.lean ====
abbrev S8192x1024 : Shape := ⟨2, ![8192, 1024]⟩
abbrev S384x1024 : Shape := ⟨2, ![384, 1024]⟩
abbrev S8192x384 : Shape := ⟨2, ![8192, 384]⟩
abbrev S1024x1024 : Shape := ⟨2, ![1024, 1024]⟩
abbrev S1024x384 : Shape := ⟨2, ![1024, 384]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S384x1024, .f32⟩
  | .hbm, ⟨2, _⟩ => ⟨S8192x1024, .bf16⟩
  | .hbm, ⟨3, _⟩ => ⟨S384x1024, .bf16⟩
  | .hbm, ⟨4, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpDxReferenceIdeal.lean ====
abbrev S8192x1024 : Shape := ⟨2, ![8192, 1024]⟩
abbrev S384x1024 : Shape := ⟨2, ![384, 1024]⟩
abbrev S_ : Shape := ⟨0, ![]⟩
abbrev S8192x384 : Shape := ⟨2, ![8192, 384]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S384x1024, .f32⟩
  | .hbm, ⟨2, _⟩ => ⟨S_, .f32⟩
  | .hbm, ⟨3, _⟩ => ⟨S8192x384, .f32⟩
  | .hbm, ⟨4, _⟩ => ⟨S8192x1024, .f32⟩
  | .hbm, ⟨5, _⟩ => ⟨S8192x384, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QUpDw.lean ====
abbrev S8192x384 : Shape := ⟨2, ![8192, 384]⟩
abbrev S8192x1024 : Shape := ⟨2, ![8192, 1024]⟩
abbrev S384x1024 : Shape := ⟨2, ![384, 1024]⟩
abbrev S8192x512 : Shape := ⟨2, ![8192, 512]⟩
abbrev S384x512 : Shape := ⟨2, ![384, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S8192x1024, .f32⟩
  | .hbm, ⟨2, _⟩ => ⟨S8192x384, .bf16⟩
  | .hbm, ⟨3, _⟩ => ⟨S8192x1024, .bf16⟩
  | .hbm, ⟨4, _⟩ => ⟨S384x1024, .f32⟩
  | .local _ .vmem, ⟨0, _⟩ => ⟨S8192x384, .bf16⟩
  | .local _ .vmem, ⟨1, _⟩ => ⟨S8192x512, .bf16⟩
  | .local _ .vmem, ⟨2, _⟩ => ⟨S8192x512, .bf16⟩
  | .local _ .vmem, ⟨3, _⟩ => ⟨S384x512, .f32⟩
  | .local _ .vmem, ⟨4, _⟩ => ⟨S384x512, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8192x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpDwReferenceIdeal.lean ====
abbrev S8192x384 : Shape := ⟨2, ![8192, 384]⟩
abbrev S8192x1024 : Shape := ⟨2, ![8192, 1024]⟩
abbrev S_ : Shape := ⟨0, ![]⟩
abbrev S384x1024 : Shape := ⟨2, ![384, 1024]⟩
abbrev S1024x384 : Shape := ⟨2, ![1024, 384]⟩

abbrev nBuf : Space → Nat
  | .hbm => 7
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x1024, .f32⟩
  | .hbm, ⟨2, _⟩ => ⟨S_, .f32⟩
  | .hbm, ⟨3, _⟩ => ⟨S384x1024, .f32⟩
  | .hbm, ⟨4, _⟩ => ⟨S8192x1024, .f32⟩
  | .hbm, ⟨5, _⟩ => ⟨S1024x384, .f32⟩
  | .hbm, ⟨6, _⟩ => ⟨S384x1024, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.M.UpDx.lean ====
/-
The gradient of the feed-forward's input: the call's result is the sum over the hidden axis, and so is the reference's.
-/
module
public import proofs.«01_k».proof.Defs
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.UpDxReferenceIdeal
public import proofs.«01_k».proof.Proof.Gen.UpDxReferenceIdeal.Run
public import proofs.«01_k».proof.Proof.Gen.UpDxReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.UpDxIdeal.Prod
open Cert.UpDxIdeal Cert.UpDxIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x5632.Idx → EReal := m ((c : Thread nD τ).loc main_arg0)
/-- The second argument on a device. -/
abbrev x1 : S1024x5632.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 0 : ℕ) = ((cfg0.win 2).index t 0 : ℕ) ∧ ((cfg0.win 0).index t 1 : ℕ) = 0
    ∧ ((cfg0.win 1).index t 0 : ℕ) = ((cfg0.win 2).index t 1 : ℕ) ∧ ((cfg0.win 1).index t 1 : ℕ) = 0 := by decide +kernel

/-- The call's result is the product of the two arguments. -/
theorem arr : (dats m 0 c).arrAt 2 cfg0.N = fun i : S8192x1024.Idx => ∑ k : Fin 5632, x0 m c (ix2 (i 0) k) * x1 m c (ix2 (i 1) k) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 5632 → EReal => ∑ k, f k) (funext fun k => congrArg₂ (fun a b : EReal => a * b) ?_ ?_)
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e2]
    | ⟨1, _⟩ => blk_simp [e3]

/-- The reference's result of the same arguments is the same product. -/
theorem meet : (dats m 0 c).arrAt 2 cfg0.N = Cert.UpDxReferenceIdeal.Read.val_main_v2 (F := Ideal) (x0 m c) (x1 m c) := by
  rw [arr]
  funext i
  rw [Cert.UpDxReferenceIdeal.Read.val_main_v2_apply]
  refine Finset.sum_congr rfl fun k _ => congrArg₂ (· * ·) (congrArg (x0 m c) (funext fun a => ?_)) (congrArg (x1 m c) (funext fun a => ?_)) <;>
    (match a with
      | ⟨0, _⟩ => rfl
      | ⟨1, _⟩ => rfl)

/-- The exact call and the reference's gradient of the feed-forward's input end with the same array. -/
theorem algebraic : Cert.algebraic_UpDxIdeal_UpDxReferenceIdeal := fun m g m' g' _ hm => by
  refine ⟨fun c => Cert.UpDxReferenceIdeal.Read.val_main_v2 (F := Ideal) (x0 m c) (x1 m c), ?_, ?_⟩
  · refine (θ_run defs _ _).mono (fun r h c => ?_) (Cert.UpDxIdeal.Value.run_blocks m g)
    obtain ⟨h0, ha⟩ := h c
    exact ⟨h0.trans (meet m c), ha⟩
  · refine (θ_run Cert.UpDxReferenceIdeal.defs _ _).mono (fun r h c => ?_) (Cert.UpDxReferenceIdeal.Value.run (F := Ideal) m' g')
    obtain ⟨h0, ha⟩ := h c
    obtain ⟨e0, e1⟩ := hm c
    rw [Cert.UpDxReferenceIdeal.Read.val_main_v2_eq, e0, e1] at h0
    exact ⟨h0, ha⟩

/-- The call leaves its arguments as they are and its counters at zero. -/
theorem frame_p : Cert.quiescent_UpDx := fun m ρ _ => Cert.UpDx.Gen.frame m ρ

/-- The exact call leaves its arguments as they are and its counters at zero. -/
theorem frame_pi : Cert.quiescent_UpDxIdeal := fun m ρ _ => Cert.UpDxIdeal.Gen.frame m ρ

/-- The reference leaves its arguments as they are and has no counters. -/
theorem frame_ri : Cert.quiescent_UpDxReferenceIdeal := fun m ρ _ =>
  (θ_run Cert.UpDxReferenceIdeal.defs _ _).mono (fun r h => ⟨fun c => (h c).2,
      Idealize.ShloMosaic.sem_eq_zero_of_no_sems (by decide) r.2⟩)
    (Cert.UpDxReferenceIdeal.Value.run (F := Ideal) m ρ)

end Cert.UpDxIdeal.Prod
end
-- ==== Proof.M.UpDw.lean ====
/-
The gradient of the feed-forward's first weight: the call's result is the sum over the tokens, and so is the reference's, with the
factors the other way round and the axes exchanged.
-/
module
public import proofs.«01_k».proof.Defs
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwIdeal.Value
public import proofs.«01_k».proof.Proof.Gen.UpDwReferenceIdeal
public import proofs.«01_k».proof.Proof.Gen.UpDwReferenceIdeal.Run
public import proofs.«01_k».proof.Proof.Gen.UpDwReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.UpDwIdeal.Prod
open Cert.UpDwIdeal Cert.UpDwIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S8192x5632.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 1 : ℕ) = ((cfg0.win 2).index t 0 : ℕ) ∧ ((cfg0.win 0).index t 0 : ℕ) = 0
    ∧ ((cfg0.win 1).index t 1 : ℕ) = ((cfg0.win 2).index t 1 : ℕ) ∧ ((cfg0.win 1).index t 0 : ℕ) = 0 := by decide +kernel

/-- The call's result is the product of the two arguments. -/
theorem arr : (dats m 0 c).arrAt 2 cfg0.N = fun i : S1024x5632.Idx => ∑ k : Fin 8192, x0 m c (ix2 k (i 0)) * x1 m c (ix2 k (i 1)) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 8192 → EReal => ∑ k, f k) (funext fun k => congrArg₂ (fun a b : EReal => a * b) ?_ ?_)
  · rw [r0]
    refine congrArg (x0 m c) (funext fun a => Fin.ext ?_)
    match a with
    | ⟨0, _⟩ => blk_simp [e1]
    | ⟨1, _⟩ => blk_simp [e0]
  · rw [r1]
    refine congrArg (x1 m c) (funext fun a => Fin.ext ?_)
    match a with
    | ⟨0, _⟩ => blk_simp [e3]
    | ⟨1, _⟩ => blk_simp [e2]

/-- The reference's result of the same arguments is the same product. -/
theorem meet : (dats m 0 c).arrAt 2 cfg0.N = Cert.UpDwReferenceIdeal.Read.val_main_v3 (F := Ideal) (x0 m c) (x1 m c) := by
  rw [arr]
  funext i
  rw [Cert.UpDwReferenceIdeal.Read.val_main_v3_apply, Cert.UpDwReferenceIdeal.Read.val_main_v2_apply]
  refine Finset.sum_congr rfl fun k _ => (mul_comm _ _).trans (congrArg₂ (· * ·) (congrArg (x1 m c) (funext fun a => ?_)) (congrArg (x0 m c) (funext fun a => ?_))) <;>
    (match a with
      | ⟨0, _⟩ => rfl
      | ⟨1, _⟩ => rfl)

/-- The exact call and the reference's gradient of the feed-forward's first weight end with the same array. -/
theorem algebraic : Cert.algebraic_UpDwIdeal_UpDwReferenceIdeal := fun m g m' g' _ hm => by
  refine ⟨fun c => Cert.UpDwReferenceIdeal.Read.val_main_v3 (F := Ideal) (x0 m c) (x1 m c), ?_, ?_⟩
  · refine (θ_run defs _ _).mono (fun r h c => ?_) (Cert.UpDwIdeal.Value.run_blocks m g)
    obtain ⟨h0, ha⟩ := h c
    exact ⟨h0.trans (meet m c), ha⟩
  · refine (θ_run Cert.UpDwReferenceIdeal.defs _ _).mono (fun r h c => ?_) (Cert.UpDwReferenceIdeal.Value.run (F := Ideal) m' g')
    obtain ⟨h0, ha⟩ := h c
    obtain ⟨e0, e1⟩ := hm c
    rw [Cert.UpDwReferenceIdeal.Read.val_main_v3_eq, e0, e1] at h0
    exact ⟨h0, ha⟩

/-- The call leaves its arguments as they are and its counters at zero. -/
theorem frame_p : Cert.quiescent_UpDw := fun m ρ _ => Cert.UpDw.Gen.frame m ρ

/-- The exact call leaves its arguments as they are and its counters at zero. -/
theorem frame_pi : Cert.quiescent_UpDwIdeal := fun m ρ _ => Cert.UpDwIdeal.Gen.frame m ρ

/-- The reference leaves its arguments as they are and has no counters. -/
theorem frame_ri : Cert.quiescent_UpDwReferenceIdeal := fun m ρ _ =>
  (θ_run Cert.UpDwReferenceIdeal.defs _ _).mono (fun r h => ⟨fun c => (h c).2,
      Idealize.ShloMosaic.sem_eq_zero_of_no_sems (by decide) r.2⟩)
    (Cert.UpDwReferenceIdeal.Value.run (F := Ideal) m ρ)

end Cert.UpDwIdeal.Prod
end
-- ==== Proof.M.Up.lean ====
/-
The feed-forward's first product: the call's result is the sum over the model axis, and so is the reference's.
-/
module
public import proofs.«01_k».proof.Defs
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.UpIdeal.Prod
open Cert.UpIdeal Cert.UpIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S1024x5632.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 0 : ℕ) = ((cfg0.win 2).index t 0 : ℕ) ∧ ((cfg0.win 0).index t 1 : ℕ) = 0
    ∧ ((cfg0.win 1).index t 1 : ℕ) = ((cfg0.win 2).index t 1 : ℕ) ∧ ((cfg0.win 1).index t 0 : ℕ) = 0 := by decide +kernel

/-- The call's result is the product of the two arguments. -/
theorem arr : (dats m 0 c).arrAt 2 cfg0.N = fun i : S8192x5632.Idx => ∑ k : Fin 1024, x0 m c (ix2 (i 0) k) * x1 m c (ix2 k (i 1)) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 1024 → EReal => ∑ k, f k) (funext fun k => congrArg₂ (fun a b : EReal => a * b) ?_ ?_)
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e3]
    | ⟨1, _⟩ => blk_simp [e2]

/-- The reference's result of the same arguments is the same product. -/
theorem meet : (dats m 0 c).arrAt 2 cfg0.N = Cert.UpReferenceIdeal.Read.val_main_v1 (F := Ideal) (x0 m c) (x1 m c) := by
  rw [arr]
  funext i
  refine Eq.trans ?_ (Cert.UpReferenceIdeal.Read.val_main_v0_apply (x0 m c) (x1 m c) i).symm
  refine Finset.sum_congr rfl fun k _ => congrArg₂ (· * ·) (congrArg (x0 m c) (funext fun a => ?_)) (congrArg (x1 m c) (funext fun a => ?_)) <;>
    (match a with
      | ⟨0, _⟩ => rfl
      | ⟨1, _⟩ => rfl)

/-- The exact call and the reference's first product of the feed-forward end with the same array. -/
theorem algebraic : Cert.algebraic_UpIdeal_UpReferenceIdeal := fun m g m' g' _ hm => by
  refine ⟨fun c => Cert.UpReferenceIdeal.Read.val_main_v1 (F := Ideal) (x0 m c) (x1 m c), ?_, ?_⟩
  · refine (θ_run defs _ _).mono (fun r h c => ?_) (Cert.UpIdeal.Value.run_blocks m g)
    obtain ⟨h0, ha⟩ := h c
    exact ⟨h0.trans (meet m c), ha⟩
  · refine (θ_run Cert.UpReferenceIdeal.defs _ _).mono (fun r h c => ?_) (Cert.UpReferenceIdeal.Value.run (F := Ideal) m' g')
    obtain ⟨h0, ha⟩ := h c
    obtain ⟨e0, e1⟩ := hm c
    rw [Cert.UpReferenceIdeal.Read.val_main_v1_eq, e0, e1] at h0
    exact ⟨h0, ha⟩

/-- The call leaves its arguments as they are and its counters at zero. -/
theorem frame_p : Cert.quiescent_Up := fun m ρ _ => Cert.Up.Gen.frame m ρ

/-- The exact call leaves its arguments as they are and its counters at zero. -/
theorem frame_pi : Cert.quiescent_UpIdeal := fun m ρ _ => Cert.UpIdeal.Gen.frame m ρ

/-- The reference leaves its arguments as they are and has no counters. -/
theorem frame_ri : Cert.quiescent_UpReferenceIdeal := fun m ρ _ =>
  (θ_run Cert.UpReferenceIdeal.defs _ _).mono (fun r h => ⟨fun c => (h c).2,
      Idealize.ShloMosaic.sem_eq_zero_of_no_sems (by decide) r.2⟩)
    (Cert.UpReferenceIdeal.Value.run (F := Ideal) m ρ)

end Cert.UpIdeal.Prod
end
-- ==== Proof.M.DownDx.lean ====
/-
The gradient of the feed-forward's hidden values: the call's result is the sum over the model axis, and so is the
reference's.
-/
module
public import proofs.«01_k».proof.Defs
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxReferenceIdeal
public import proofs.«01_k».proof.Proof.Gen.DownDxReferenceIdeal.Run
public import proofs.«01_k».proof.Proof.Gen.DownDxReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.DownDxIdeal.Prod
open Cert.DownDxIdeal Cert.DownDxIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S2816x1024.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 0 : ℕ) = ((cfg0.win 2).index t 0 : ℕ) ∧ ((cfg0.win 0).index t 1 : ℕ) = 0
    ∧ ((cfg0.win 1).index t 0 : ℕ) = ((cfg0.win 2).index t 1 : ℕ) ∧ ((cfg0.win 1).index t 1 : ℕ) = 0 := by decide +kernel

/-- The call's result is the product of the two arguments. -/
theorem arr : (dats m 0 c).arrAt 2 cfg0.N = fun i : S8192x2816.Idx => ∑ k : Fin 1024, x0 m c (ix2 (i 0) k) * x1 m c (ix2 (i 1) k) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 1024 → EReal => ∑ k, f k) (funext fun k => congrArg₂ (fun a b : EReal => a * b) ?_ ?_)
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e2]
    | ⟨1, _⟩ => blk_simp [e3]

/-- The reference's result of the same arguments is the same product. -/
theorem meet : (dats m 0 c).arrAt 2 cfg0.N = Cert.DownDxReferenceIdeal.Read.val_main_v3 (F := Ideal) (x0 m c) (x1 m c) := by
  rw [arr]
  funext i
  refine Eq.trans ?_ (Cert.DownDxReferenceIdeal.Read.val_main_v2_apply (x0 m c) (x1 m c) i).symm
  refine Finset.sum_congr rfl fun k _ => congrArg₂ (· * ·) (congrArg (x0 m c) (funext fun a => ?_)) (congrArg (x1 m c) (funext fun a => ?_)) <;>
    (match a with
      | ⟨0, _⟩ => rfl
      | ⟨1, _⟩ => rfl)

/-- The exact call and the reference's gradient of the feed-forward's hidden values end with the same array. -/
theorem algebraic : Cert.algebraic_DownDxIdeal_DownDxReferenceIdeal := fun m g m' g' _ hm => by
  refine ⟨fun c => Cert.DownDxReferenceIdeal.Read.val_main_v3 (F := Ideal) (x0 m c) (x1 m c), ?_, ?_⟩
  · refine (θ_run defs _ _).mono (fun r h c => ?_) (Cert.DownDxIdeal.Value.run_blocks m g)
    obtain ⟨h0, ha⟩ := h c
    exact ⟨h0.trans (meet m c), ha⟩
  · refine (θ_run Cert.DownDxReferenceIdeal.defs _ _).mono (fun r h c => ?_) (Cert.DownDxReferenceIdeal.Value.run (F := Ideal) m' g')
    obtain ⟨h0, ha⟩ := h c
    obtain ⟨e0, e1⟩ := hm c
    rw [Cert.DownDxReferenceIdeal.Read.val_main_v3_eq, e0, e1] at h0
    exact ⟨h0, ha⟩

/-- The call leaves its arguments as they are and its counters at zero. -/
theorem frame_p : Cert.quiescent_DownDx := fun m ρ _ => Cert.DownDx.Gen.frame m ρ

/-- The exact call leaves its arguments as they are and its counters at zero. -/
theorem frame_pi : Cert.quiescent_DownDxIdeal := fun m ρ _ => Cert.DownDxIdeal.Gen.frame m ρ

/-- The reference leaves its arguments as they are and has no counters. -/
theorem frame_ri : Cert.quiescent_DownDxReferenceIdeal := fun m ρ _ =>
  (θ_run Cert.DownDxReferenceIdeal.defs _ _).mono (fun r h => ⟨fun c => (h c).2,
      Idealize.ShloMosaic.sem_eq_zero_of_no_sems (by decide) r.2⟩)
    (Cert.DownDxReferenceIdeal.Value.run (F := Ideal) m ρ)

end Cert.DownDxIdeal.Prod
end
-- ==== Proof.M.DownDw.lean ====
/-
The gradient of the feed-forward's second weight: the call's result is the sum over the tokens, and so is the reference's, with the
factors the other way round and the axes exchanged.
-/
module
public import proofs.«01_k».proof.Defs
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwReferenceIdeal
public import proofs.«01_k».proof.Proof.Gen.DownDwReferenceIdeal.Run
public import proofs.«01_k».proof.Proof.Gen.DownDwReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.DownDwIdeal.Prod
open Cert.DownDwIdeal Cert.DownDwIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x2816.Idx → EReal := m ((c : Thread nD τ).loc main_arg0)
/-- The second argument on a device. -/
abbrev x1 : S8192x1024.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 1 : ℕ) = ((cfg0.win 2).index t 0 : ℕ) ∧ ((cfg0.win 0).index t 0 : ℕ) = 0
    ∧ ((cfg0.win 1).index t 1 : ℕ) = ((cfg0.win 2).index t 1 : ℕ) ∧ ((cfg0.win 1).index t 0 : ℕ) = 0 := by decide +kernel

/-- The call's result is the product of the two arguments. -/
theorem arr : (dats m 0 c).arrAt 2 cfg0.N = fun i : S2816x1024.Idx => ∑ k : Fin 8192, x0 m c (ix2 k (i 0)) * x1 m c (ix2 k (i 1)) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 8192 → EReal => ∑ k, f k) (funext fun k => congrArg₂ (fun a b : EReal => a * b) ?_ ?_)
  · rw [r0]
    refine congrArg (x0 m c) (funext fun a => Fin.ext ?_)
    match a with
    | ⟨0, _⟩ => blk_simp [e1]
    | ⟨1, _⟩ => blk_simp [e0]
  · rw [r1]
    refine congrArg (x1 m c) (funext fun a => Fin.ext ?_)
    match a with
    | ⟨0, _⟩ => blk_simp [e3]
    | ⟨1, _⟩ => blk_simp [e2]

/-- The reference's result of the same arguments is the same product. -/
theorem meet : (dats m 0 c).arrAt 2 cfg0.N = Cert.DownDwReferenceIdeal.Read.val_main_v3 (F := Ideal) (x0 m c) (x1 m c) := by
  rw [arr]
  funext i
  rw [Cert.DownDwReferenceIdeal.Read.val_main_v3_apply, Cert.DownDwReferenceIdeal.Read.val_main_v2_apply]
  refine Finset.sum_congr rfl fun k _ => (mul_comm _ _).trans (congrArg₂ (· * ·) (congrArg (x1 m c) (funext fun a => ?_)) (congrArg (x0 m c) (funext fun a => ?_))) <;>
    (match a with
      | ⟨0, _⟩ => rfl
      | ⟨1, _⟩ => rfl)

/-- The exact call and the reference's gradient of the feed-forward's second weight end with the same array. -/
theorem algebraic : Cert.algebraic_DownDwIdeal_DownDwReferenceIdeal := fun m g m' g' _ hm => by
  refine ⟨fun c => Cert.DownDwReferenceIdeal.Read.val_main_v3 (F := Ideal) (x0 m c) (x1 m c), ?_, ?_⟩
  · refine (θ_run defs _ _).mono (fun r h c => ?_) (Cert.DownDwIdeal.Value.run_blocks m g)
    obtain ⟨h0, ha⟩ := h c
    exact ⟨h0.trans (meet m c), ha⟩
  · refine (θ_run Cert.DownDwReferenceIdeal.defs _ _).mono (fun r h c => ?_) (Cert.DownDwReferenceIdeal.Value.run (F := Ideal) m' g')
    obtain ⟨h0, ha⟩ := h c
    obtain ⟨e0, e1⟩ := hm c
    rw [Cert.DownDwReferenceIdeal.Read.val_main_v3_eq, e0, e1] at h0
    exact ⟨h0, ha⟩

/-- The call leaves its arguments as they are and its counters at zero. -/
theorem frame_p : Cert.quiescent_DownDw := fun m ρ _ => Cert.DownDw.Gen.frame m ρ

/-- The exact call leaves its arguments as they are and its counters at zero. -/
theorem frame_pi : Cert.quiescent_DownDwIdeal := fun m ρ _ => Cert.DownDwIdeal.Gen.frame m ρ

/-- The reference leaves its arguments as they are and has no counters. -/
theorem frame_ri : Cert.quiescent_DownDwReferenceIdeal := fun m ρ _ =>
  (θ_run Cert.DownDwReferenceIdeal.defs _ _).mono (fun r h => ⟨fun c => (h c).2,
      Idealize.ShloMosaic.sem_eq_zero_of_no_sems (by decide) r.2⟩)
    (Cert.DownDwReferenceIdeal.Value.run (F := Ideal) m ρ)

end Cert.DownDwIdeal.Prod
end
-- ==== Proof.M.OutDx.lean ====
/-
The gradient of the mixer's gated output: the call's result is the sum over the model axis, and so is the reference's.
-/
module
public import proofs.«01_k».proof.Defs
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxReferenceIdeal
public import proofs.«01_k».proof.Proof.Gen.OutDxReferenceIdeal.Run
public import proofs.«01_k».proof.Proof.Gen.OutDxReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.OutDxIdeal.Prod
open Cert.OutDxIdeal Cert.OutDxIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S1024x1024.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 0 : ℕ) = ((cfg0.win 2).index t 0 : ℕ) ∧ ((cfg0.win 0).index t 1 : ℕ) = 0
    ∧ ((cfg0.win 1).index t 0 : ℕ) = ((cfg0.win 2).index t 1 : ℕ) ∧ ((cfg0.win 1).index t 1 : ℕ) = 0 := by decide +kernel

/-- The call's result is the product of the two arguments. -/
theorem arr : (dats m 0 c).arrAt 2 cfg0.N = fun i : S8192x1024.Idx => ∑ k : Fin 1024, x0 m c (ix2 (i 0) k) * x1 m c (ix2 (i 1) k) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 1024 → EReal => ∑ k, f k) (funext fun k => congrArg₂ (fun a b : EReal => a * b) ?_ ?_)
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e2]
    | ⟨1, _⟩ => blk_simp [e3]

/-- The reference's result of the same arguments is the same product. -/
theorem meet : (dats m 0 c).arrAt 2 cfg0.N = Cert.OutDxReferenceIdeal.Read.val_main_v3 (F := Ideal) (x0 m c) (x1 m c) := by
  rw [arr]
  funext i
  refine Eq.trans ?_ (Cert.OutDxReferenceIdeal.Read.val_main_v2_apply (x0 m c) (x1 m c) i).symm
  refine Finset.sum_congr rfl fun k _ => congrArg₂ (· * ·) (congrArg (x0 m c) (funext fun a => ?_)) (congrArg (x1 m c) (funext fun a => ?_)) <;>
    (match a with
      | ⟨0, _⟩ => rfl
      | ⟨1, _⟩ => rfl)

/-- The exact call and the reference's gradient of the mixer's gated output end with the same array. -/
theorem algebraic : Cert.algebraic_OutDxIdeal_OutDxReferenceIdeal := fun m g m' g' _ hm => by
  refine ⟨fun c => Cert.OutDxReferenceIdeal.Read.val_main_v3 (F := Ideal) (x0 m c) (x1 m c), ?_, ?_⟩
  · refine (θ_run defs _ _).mono (fun r h c => ?_) (Cert.OutDxIdeal.Value.run_blocks m g)
    obtain ⟨h0, ha⟩ := h c
    exact ⟨h0.trans (meet m c), ha⟩
  · refine (θ_run Cert.OutDxReferenceIdeal.defs _ _).mono (fun r h c => ?_) (Cert.OutDxReferenceIdeal.Value.run (F := Ideal) m' g')
    obtain ⟨h0, ha⟩ := h c
    obtain ⟨e0, e1⟩ := hm c
    rw [Cert.OutDxReferenceIdeal.Read.val_main_v3_eq, e0, e1] at h0
    exact ⟨h0, ha⟩

/-- The call leaves its arguments as they are and its counters at zero. -/
theorem frame_p : Cert.quiescent_OutDx := fun m ρ _ => Cert.OutDx.Gen.frame m ρ

/-- The exact call leaves its arguments as they are and its counters at zero. -/
theorem frame_pi : Cert.quiescent_OutDxIdeal := fun m ρ _ => Cert.OutDxIdeal.Gen.frame m ρ

/-- The reference leaves its arguments as they are and has no counters. -/
theorem frame_ri : Cert.quiescent_OutDxReferenceIdeal := fun m ρ _ =>
  (θ_run Cert.OutDxReferenceIdeal.defs _ _).mono (fun r h => ⟨fun c => (h c).2,
      Idealize.ShloMosaic.sem_eq_zero_of_no_sems (by decide) r.2⟩)
    (Cert.OutDxReferenceIdeal.Value.run (F := Ideal) m ρ)

end Cert.OutDxIdeal.Prod
end
-- ==== Proof.M.OutDw.lean ====
/-
The gradient of the mixer's output weight: the call's result is the sum over the tokens, and so is the reference's, with the
factors the other way round and the axes exchanged.
-/
module
public import proofs.«01_k».proof.Defs
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwReferenceIdeal
public import proofs.«01_k».proof.Proof.Gen.OutDwReferenceIdeal.Run
public import proofs.«01_k».proof.Proof.Gen.OutDwReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.OutDwIdeal.Prod
open Cert.OutDwIdeal Cert.OutDwIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S8192x1024.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 1 : ℕ) = ((cfg0.win 2).index t 0 : ℕ) ∧ ((cfg0.win 0).index t 0 : ℕ) = 0
    ∧ ((cfg0.win 1).index t 1 : ℕ) = ((cfg0.win 2).index t 1 : ℕ) ∧ ((cfg0.win 1).index t 0 : ℕ) = 0 := by decide +kernel

/-- The call's result is the product of the two arguments. -/
theorem arr : (dats m 0 c).arrAt 2 cfg0.N = fun i : S1024x1024.Idx => ∑ k : Fin 8192, x0 m c (ix2 k (i 0)) * x1 m c (ix2 k (i 1)) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 8192 → EReal => ∑ k, f k) (funext fun k => congrArg₂ (fun a b : EReal => a * b) ?_ ?_)
  · rw [r0]
    refine congrArg (x0 m c) (funext fun a => Fin.ext ?_)
    match a with
    | ⟨0, _⟩ => blk_simp [e1]
    | ⟨1, _⟩ => blk_simp [e0]
  · rw [r1]
    refine congrArg (x1 m c) (funext fun a => Fin.ext ?_)
    match a with
    | ⟨0, _⟩ => blk_simp [e3]
    | ⟨1, _⟩ => blk_simp [e2]

/-- The reference's result of the same arguments is the same product. -/
theorem meet : (dats m 0 c).arrAt 2 cfg0.N = Cert.OutDwReferenceIdeal.Read.val_main_v3 (F := Ideal) (x0 m c) (x1 m c) := by
  rw [arr]
  funext i
  rw [Cert.OutDwReferenceIdeal.Read.val_main_v3_apply, Cert.OutDwReferenceIdeal.Read.val_main_v2_apply]
  refine Finset.sum_congr rfl fun k _ => (mul_comm _ _).trans (congrArg₂ (· * ·) (congrArg (x1 m c) (funext fun a => ?_)) (congrArg (x0 m c) (funext fun a => ?_))) <;>
    (match a with
      | ⟨0, _⟩ => rfl
      | ⟨1, _⟩ => rfl)

/-- The exact call and the reference's gradient of the mixer's output weight end with the same array. -/
theorem algebraic : Cert.algebraic_OutDwIdeal_OutDwReferenceIdeal := fun m g m' g' _ hm => by
  refine ⟨fun c => Cert.OutDwReferenceIdeal.Read.val_main_v3 (F := Ideal) (x0 m c) (x1 m c), ?_, ?_⟩
  · refine (θ_run defs _ _).mono (fun r h c => ?_) (Cert.OutDwIdeal.Value.run_blocks m g)
    obtain ⟨h0, ha⟩ := h c
    exact ⟨h0.trans (meet m c), ha⟩
  · refine (θ_run Cert.OutDwReferenceIdeal.defs _ _).mono (fun r h c => ?_) (Cert.OutDwReferenceIdeal.Value.run (F := Ideal) m' g')
    obtain ⟨h0, ha⟩ := h c
    obtain ⟨e0, e1⟩ := hm c
    rw [Cert.OutDwReferenceIdeal.Read.val_main_v3_eq, e0, e1] at h0
    exact ⟨h0, ha⟩

/-- The call leaves its arguments as they are and its counters at zero. -/
theorem frame_p : Cert.quiescent_OutDw := fun m ρ _ => Cert.OutDw.Gen.frame m ρ

/-- The exact call leaves its arguments as they are and its counters at zero. -/
theorem frame_pi : Cert.quiescent_OutDwIdeal := fun m ρ _ => Cert.OutDwIdeal.Gen.frame m ρ

/-- The reference leaves its arguments as they are and has no counters. -/
theorem frame_ri : Cert.quiescent_OutDwReferenceIdeal := fun m ρ _ =>
  (θ_run Cert.OutDwReferenceIdeal.defs _ _).mono (fun r h => ⟨fun c => (h c).2,
      Idealize.ShloMosaic.sem_eq_zero_of_no_sems (by decide) r.2⟩)
    (Cert.OutDwReferenceIdeal.Value.run (F := Ideal) m ρ)

end Cert.OutDwIdeal.Prod
end
-- ==== Proof.M.InDw.lean ====
/-
The gradient of the mixer's input weight: the call's result is the sum over the tokens, and so is the reference's, with the
factors the other way round and the axes exchanged.
-/
module
public import proofs.«01_k».proof.Defs
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwReferenceIdeal
public import proofs.«01_k».proof.Proof.Gen.InDwReferenceIdeal.Run
public import proofs.«01_k».proof.Proof.Gen.InDwReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.InDwIdeal.Prod
open Cert.InDwIdeal Cert.InDwIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S8192x4480.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 1 : ℕ) = ((cfg0.win 2).index t 0 : ℕ) ∧ ((cfg0.win 0).index t 0 : ℕ) = 0
    ∧ ((cfg0.win 1).index t 1 : ℕ) = ((cfg0.win 2).index t 1 : ℕ) ∧ ((cfg0.win 1).index t 0 : ℕ) = 0 := by decide +kernel

/-- The call's result is the product of the two arguments. -/
theorem arr : (dats m 0 c).arrAt 2 cfg0.N = fun i : S1024x4480.Idx => ∑ k : Fin 8192, x0 m c (ix2 k (i 0)) * x1 m c (ix2 k (i 1)) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 8192 → EReal => ∑ k, f k) (funext fun k => congrArg₂ (fun a b : EReal => a * b) ?_ ?_)
  · rw [r0]
    refine congrArg (x0 m c) (funext fun a => Fin.ext ?_)
    match a with
    | ⟨0, _⟩ => blk_simp [e1]
    | ⟨1, _⟩ => blk_simp [e0]
  · rw [r1]
    refine congrArg (x1 m c) (funext fun a => Fin.ext ?_)
    match a with
    | ⟨0, _⟩ => blk_simp [e3]
    | ⟨1, _⟩ => blk_simp [e2]

/-- The reference's result of the same arguments is the same product. -/
theorem meet : (dats m 0 c).arrAt 2 cfg0.N = Cert.InDwReferenceIdeal.Read.val_main_v3 (F := Ideal) (x0 m c) (x1 m c) := by
  rw [arr]
  funext i
  rw [Cert.InDwReferenceIdeal.Read.val_main_v3_apply, Cert.InDwReferenceIdeal.Read.val_main_v2_apply]
  refine Finset.sum_congr rfl fun k _ => (mul_comm _ _).trans (congrArg₂ (· * ·) (congrArg (x1 m c) (funext fun a => ?_)) (congrArg (x0 m c) (funext fun a => ?_))) <;>
    (match a with
      | ⟨0, _⟩ => rfl
      | ⟨1, _⟩ => rfl)

/-- The exact call and the reference's gradient of the mixer's input weight end with the same array. -/
theorem algebraic : Cert.algebraic_InDwIdeal_InDwReferenceIdeal := fun m g m' g' _ hm => by
  refine ⟨fun c => Cert.InDwReferenceIdeal.Read.val_main_v3 (F := Ideal) (x0 m c) (x1 m c), ?_, ?_⟩
  · refine (θ_run defs _ _).mono (fun r h c => ?_) (Cert.InDwIdeal.Value.run_blocks m g)
    obtain ⟨h0, ha⟩ := h c
    exact ⟨h0.trans (meet m c), ha⟩
  · refine (θ_run Cert.InDwReferenceIdeal.defs _ _).mono (fun r h c => ?_) (Cert.InDwReferenceIdeal.Value.run (F := Ideal) m' g')
    obtain ⟨h0, ha⟩ := h c
    obtain ⟨e0, e1⟩ := hm c
    rw [Cert.InDwReferenceIdeal.Read.val_main_v3_eq, e0, e1] at h0
    exact ⟨h0, ha⟩

/-- The call leaves its arguments as they are and its counters at zero. -/
theorem frame_p : Cert.quiescent_InDw := fun m ρ _ => Cert.InDw.Gen.frame m ρ

/-- The exact call leaves its arguments as they are and its counters at zero. -/
theorem frame_pi : Cert.quiescent_InDwIdeal := fun m ρ _ => Cert.InDwIdeal.Gen.frame m ρ

/-- The reference leaves its arguments as they are and has no counters. -/
theorem frame_ri : Cert.quiescent_InDwReferenceIdeal := fun m ρ _ =>
  (θ_run Cert.InDwReferenceIdeal.defs _ _).mono (fun r h => ⟨fun c => (h c).2,
      Idealize.ShloMosaic.sem_eq_zero_of_no_sems (by decide) r.2⟩)
    (Cert.InDwReferenceIdeal.Value.run (F := Ideal) m ρ)

end Cert.InDwIdeal.Prod
end
-- ==== Proof.M.Gates.lean ====
/-
The projection to the mixer's gates: the call's result is the sum over the model axis, and so is the reference's.
-/
module
public import proofs.«01_k».proof.Defs
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesIdeal.Value
public import proofs.«01_k».proof.Proof.Gen.GatesReferenceIdeal
public import proofs.«01_k».proof.Proof.Gen.GatesReferenceIdeal.Run
public import proofs.«01_k».proof.Proof.Gen.GatesReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.GatesIdeal.Prod
open Cert.GatesIdeal Cert.GatesIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S1024x2048.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 0 : ℕ) = ((cfg0.win 2).index t 0 : ℕ) ∧ ((cfg0.win 0).index t 1 : ℕ) = 0
    ∧ ((cfg0.win 1).index t 1 : ℕ) = ((cfg0.win 2).index t 1 : ℕ) ∧ ((cfg0.win 1).index t 0 : ℕ) = 0 := by decide +kernel

/-- The call's result is the product of the two arguments. -/
theorem arr : (dats m 0 c).arrAt 2 cfg0.N = fun i : S8192x2048.Idx => ∑ k : Fin 1024, x0 m c (ix2 (i 0) k) * x1 m c (ix2 k (i 1)) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 1024 → EReal => ∑ k, f k) (funext fun k => congrArg₂ (fun a b : EReal => a * b) ?_ ?_)
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e3]
    | ⟨1, _⟩ => blk_simp [e2]

/-- The reference's result of the same arguments is the same product. -/
theorem meet : (dats m 0 c).arrAt 2 cfg0.N = Cert.GatesReferenceIdeal.Read.val_main_v1 (F := Ideal) (x0 m c) (x1 m c) := by
  rw [arr]
  funext i
  refine Eq.trans ?_ (Cert.GatesReferenceIdeal.Read.val_main_v0_apply (x0 m c) (x1 m c) i).symm
  refine Finset.sum_congr rfl fun k _ => congrArg₂ (· * ·) (congrArg (x0 m c) (funext fun a => ?_)) (congrArg (x1 m c) (funext fun a => ?_)) <;>
    (match a with
      | ⟨0, _⟩ => rfl
      | ⟨1, _⟩ => rfl)

/-- The exact call and the reference's projection to the gates end with the same array. -/
theorem algebraic : Cert.algebraic_GatesIdeal_GatesReferenceIdeal := fun m g m' g' _ hm => by
  refine ⟨fun c => Cert.GatesReferenceIdeal.Read.val_main_v1 (F := Ideal) (x0 m c) (x1 m c), ?_, ?_⟩
  · refine (θ_run defs _ _).mono (fun r h c => ?_) (Cert.GatesIdeal.Value.run_blocks m g)
    obtain ⟨h0, ha⟩ := h c
    exact ⟨h0.trans (meet m c), ha⟩
  · refine (θ_run Cert.GatesReferenceIdeal.defs _ _).mono (fun r h c => ?_) (Cert.GatesReferenceIdeal.Value.run (F := Ideal) m' g')
    obtain ⟨h0, ha⟩ := h c
    obtain ⟨e0, e1⟩ := hm c
    rw [Cert.GatesReferenceIdeal.Read.val_main_v1_eq, e0, e1] at h0
    exact ⟨h0, ha⟩

/-- The call leaves its arguments as they are and its counters at zero. -/
theorem frame_p : Cert.quiescent_Gates := fun m ρ _ => Cert.Gates.Gen.frame m ρ

/-- The exact call leaves its arguments as they are and its counters at zero. -/
theorem frame_pi : Cert.quiescent_GatesIdeal := fun m ρ _ => Cert.GatesIdeal.Gen.frame m ρ

/-- The reference leaves its arguments as they are and has no counters. -/
theorem frame_ri : Cert.quiescent_GatesReferenceIdeal := fun m ρ _ =>
  (θ_run Cert.GatesReferenceIdeal.defs _ _).mono (fun r h => ⟨fun c => (h c).2,
      Idealize.ShloMosaic.sem_eq_zero_of_no_sems (by decide) r.2⟩)
    (Cert.GatesReferenceIdeal.Value.run (F := Ideal) m ρ)

end Cert.GatesIdeal.Prod
end
-- ==== Proof.M.Down.lean ====
/-
The feed-forward's second product, with its residual and gain: the call's two results are the residual plus the gain times the product, and the
product, and so are the reference's.
-/
module
public import proofs.«01_k».proof.Defs
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.DownIdeal.Prod
open Cert.DownIdeal Cert.DownIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The left factor on a device. -/
abbrev x0 : S8192x2816.Idx → EReal := m ((c : Thread nD τ).loc main_arg0)
/-- The weight on a device. -/
abbrev x1 : S2816x1024.Idx → EReal := m ((c : Thread nD τ).loc main_arg1)
/-- The residual on a device. -/
abbrev x2 : S8192x1024.Idx → EReal := m ((c : Thread nD τ).loc main_arg2)
/-- The gain of each column on a device. -/
abbrev x3 : S1x1024.Idx → EReal := m ((c : Thread nD τ).loc main_arg3)

/-- The call's first operand is the left factor, rounded. -/
theorem V0 : V m c main_v0 = truncf (F := Ideal) .bf16 (x0 m c) bitsLt_bf16_f32 := by
  unfold V; simp only [hostOps0]; after_reads_simp
/-- The call's second operand is the weight, rounded. -/
theorem V1 : V m c main_v1 = truncf (F := Ideal) .bf16 (x1 m c) bitsLt_bf16_f32 := by
  unfold V; simp only [hostOps0]; after_reads_simp
/-- The call's third operand is the residual. -/
theorem V2 : V m c main_arg2 = x2 m c := by
  unfold V; simp only [hostOps0]; after_reads_simp
/-- The call's fourth operand is the gain. -/
theorem V3 : V m c main_arg3 = x3 m c := by
  unfold V; simp only [hostOps0]; after_reads_simp

/-- At a grid point the blocks of the operands lie in the row and column of tiles of the first result's block, and the two
factors' blocks span the whole contracted axis. -/
theorem at4 : ∀ t : Fin cfg0.N, ((cfg0.win 0).index t 0 : ℕ) = ((cfg0.win 4).index t 0 : ℕ) ∧ ((cfg0.win 0).index t 1 : ℕ) = 0
    ∧ ((cfg0.win 1).index t 1 : ℕ) = ((cfg0.win 4).index t 1 : ℕ) ∧ ((cfg0.win 1).index t 0 : ℕ) = 0
    ∧ ((cfg0.win 2).index t 0 : ℕ) = ((cfg0.win 4).index t 0 : ℕ) ∧ ((cfg0.win 2).index t 1 : ℕ) = ((cfg0.win 4).index t 1 : ℕ)
    ∧ ((cfg0.win 3).index t 0 : ℕ) = 0 ∧ ((cfg0.win 3).index t 1 : ℕ) = ((cfg0.win 4).index t 1 : ℕ) := by decide +kernel

/-- The same of the second result's block. -/
theorem at5 : ∀ t : Fin cfg0.N, ((cfg0.win 0).index t 0 : ℕ) = ((cfg0.win 5).index t 0 : ℕ) ∧ ((cfg0.win 0).index t 1 : ℕ) = 0
    ∧ ((cfg0.win 1).index t 1 : ℕ) = ((cfg0.win 5).index t 1 : ℕ) ∧ ((cfg0.win 1).index t 0 : ℕ) = 0 := by decide +kernel

/-- The call's second result is the product of the left factor and the weight. -/
theorem arr5 : (dats m 0 c).arrAt 5 cfg0.N = fun i : S8192x1024.Idx => ∑ k : Fin 2816, x0 m c (ix2 (i 0) k) * x1 m c (ix2 k (i 1)) := by
  refine (dats m 0 c).arrAt_eq_of_covers 5 _ (by decide +kernel) fun t hf y => ?_
  blk_simp
  rw [after0_5]
  obtain ⟨e0, e1, e2, e3⟩ := at5 t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay2, k0_pay1]
  refine congrArg (fun f : Fin 2816 → EReal => ∑ k, f k) (funext fun k => congrArg₂ (fun a b : EReal => a * b) ?_ ?_)
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e3]
    | ⟨1, _⟩ => blk_simp [e2]

/-- The call's first result is the residual plus the gain times the product. -/
theorem arr4 : (dats m 0 c).arrAt 4 cfg0.N = fun i : S8192x1024.Idx =>
    x2 m c i + x3 m c (ix2 0 (i 1)) * ∑ k : Fin 2816, x0 m c (ix2 (i 0) k) * x1 m c (ix2 k (i 1)) := by
  refine (dats m 0 c).arrAt_eq_of_covers 4 _ (by decide +kernel) fun t hf y => ?_
  blk_simp
  rw [after0_4]
  obtain ⟨e0, e1, e2, e3, e4, e5, e6, e7⟩ := at4 t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  have r2 : ∀ x, iblk m c 2 t x = x2 m c (((cfg0.win 2).blk t).view.emb x) := fun x => congrFun (V2 m c) _
  have r3 : ∀ x, iblk m c 3 t x = x3 m c (((cfg0.win 3).blk t).view.emb x) := fun x => congrFun (V3 m c) _
  frame_out
  pointwise [k0_pay3, k0_pay1]
  refine congrArg₂ (fun a b : EReal => a + b) ?_ (congrArg₂ (fun a b : EReal => a * b) ?_
    (congrArg (fun f : Fin 2816 → EReal => ∑ k, f k) (funext fun k => congrArg₂ (fun a b : EReal => a * b) ?_ ?_)))
  · rw [r2]
    refine congrArg (x2 m c) (funext fun a => Fin.ext ?_)
    match a with
    | ⟨0, _⟩ => blk_simp [e4]
    | ⟨1, _⟩ => blk_simp [e5]
  · rw [r3]
    refine congrArg (x3 m c) (funext fun a => Fin.ext ?_)
    match a with
    | ⟨0, _⟩ => blk_simp [e6]
    | ⟨1, _⟩ => blk_simp [e7]
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e3]
    | ⟨1, _⟩ => blk_simp [e2]

/-- The product that the reference forms, at an index. -/
theorem ref_prod (i : S8192x1024.Idx) : Cert.DownReferenceIdeal.Read.val_main_v0 (F := Ideal) (x0 m c) (x1 m c) i
    = ∑ k : Fin 2816, x0 m c (ix2 (i 0) k) * x1 m c (ix2 k (i 1)) := by
  rw [Cert.DownReferenceIdeal.Read.val_main_v0_apply]
  refine Finset.sum_congr rfl fun k _ => congrArg₂ (· * ·) (congrArg (x0 m c) (funext fun a => ?_)) (congrArg (x1 m c) (funext fun a => ?_)) <;>
    (match a with
      | ⟨0, _⟩ => rfl
      | ⟨1, _⟩ => rfl)

/-- The reference's second result of the same arguments is the call's. -/
theorem meet5 : (dats m 0 c).arrAt 5 cfg0.N = Cert.DownReferenceIdeal.Read.val_main_v4 (F := Ideal) (x0 m c) (x1 m c) := by
  rw [arr5]
  funext i
  exact (ref_prod m c i).symm

/-- The reference's first result of the same arguments is the call's. -/
theorem meet4 : (dats m 0 c).arrAt 4 cfg0.N = Cert.DownReferenceIdeal.Read.val_main_v3 (F := Ideal) (x0 m c) (x1 m c) (x2 m c) (x3 m c) := by
  rw [arr4]
  funext i
  rw [Cert.DownReferenceIdeal.Read.val_main_v3_apply, Cert.DownReferenceIdeal.Read.val_main_v2_apply, Cert.DownReferenceIdeal.Read.val_main_v1_apply, ref_prod]
  refine congrArg (fun a : EReal => x2 m c i + a * _) (congrArg (x3 m c) (funext fun a => ?_))
  match a with
  | ⟨0, _⟩ => rfl
  | ⟨1, _⟩ => rfl

/-- The exact call and the reference end with the same two arrays. -/
theorem algebraic : Cert.algebraic_DownIdeal_DownReferenceIdeal := fun m g m' g' _ hm => by
  refine ⟨fun c => Cert.DownReferenceIdeal.Read.val_main_v3 (F := Ideal) (x0 m c) (x1 m c) (x2 m c) (x3 m c),
    fun c => Cert.DownReferenceIdeal.Read.val_main_v4 (F := Ideal) (x0 m c) (x1 m c), ?_, ?_⟩
  · refine (θ_run defs _ _).mono (fun r h c => ?_) (Cert.DownIdeal.Value.run_blocks m g)
    obtain ⟨h0, h1, ha⟩ := h c
    exact ⟨h0.trans (meet4 m c), h1.trans (meet5 m c), ha⟩
  · refine (θ_run Cert.DownReferenceIdeal.defs _ _).mono (fun r h c => ?_) (Cert.DownReferenceIdeal.Value.run (F := Ideal) m' g')
    obtain ⟨h0, h1, ha⟩ := h c
    obtain ⟨e0, e1, e2, e3⟩ := hm c
    rw [Cert.DownReferenceIdeal.Read.val_main_v3_eq, e0, e1, e2, e3] at h0
    rw [Cert.DownReferenceIdeal.Read.val_main_v4_eq, e0, e1] at h1
    exact ⟨h0, h1, ha⟩

/-- The call leaves its arguments as they are and its counters at zero. -/
theorem frame_p : Cert.quiescent_Down := fun m ρ _ => Cert.Down.Gen.frame m ρ

/-- The exact call leaves its arguments as they are and its counters at zero. -/
theorem frame_pi : Cert.quiescent_DownIdeal := fun m ρ _ => Cert.DownIdeal.Gen.frame m ρ

/-- The reference leaves its arguments as they are and has no counters. -/
theorem frame_ri : Cert.quiescent_DownReferenceIdeal := fun m ρ _ =>
  (θ_run Cert.DownReferenceIdeal.defs _ _).mono (fun r h => ⟨fun c => (h c).2.2,
      Idealize.ShloMosaic.sem_eq_zero_of_no_sems (by decide) r.2⟩)
    (Cert.DownReferenceIdeal.Value.run (F := Ideal) m ρ)

end Cert.DownIdeal.Prod
end
-- ==== Proof.M.Mix.lean ====
/-
The mixer's output product, with its residual and gain: the call's two results are the residual plus the gain times the product, and the
product, and so are the reference's.
-/
module
public import proofs.«01_k».proof.Defs
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.MixIdeal.Prod
open Cert.MixIdeal Cert.MixIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The left factor on a device. -/
abbrev x0 : S8192x1024.Idx → EReal := m ((c : Thread nD τ).loc main_arg0)
/-- The weight on a device. -/
abbrev x1 : S1024x1024.Idx → EReal := m ((c : Thread nD τ).loc main_arg1)
/-- The residual on a device. -/
abbrev x2 : S8192x1024.Idx → EReal := m ((c : Thread nD τ).loc main_arg2)
/-- The gain of each column on a device. -/
abbrev x3 : S1x1024.Idx → EReal := m ((c : Thread nD τ).loc main_arg3)

/-- The call's first operand is the left factor, rounded. -/
theorem V0 : V m c main_v0 = truncf (F := Ideal) .bf16 (x0 m c) bitsLt_bf16_f32 := by
  unfold V; simp only [hostOps0]; after_reads_simp
/-- The call's second operand is the weight, rounded. -/
theorem V1 : V m c main_v1 = truncf (F := Ideal) .bf16 (x1 m c) bitsLt_bf16_f32 := by
  unfold V; simp only [hostOps0]; after_reads_simp
/-- The call's third operand is the residual. -/
theorem V2 : V m c main_arg2 = x2 m c := by
  unfold V; simp only [hostOps0]; after_reads_simp
/-- The call's fourth operand is the gain. -/
theorem V3 : V m c main_arg3 = x3 m c := by
  unfold V; simp only [hostOps0]; after_reads_simp

/-- At a grid point the blocks of the operands lie in the row and column of tiles of the first result's block, and the two
factors' blocks span the whole contracted axis. -/
theorem at4 : ∀ t : Fin cfg0.N, ((cfg0.win 0).index t 0 : ℕ) = ((cfg0.win 4).index t 0 : ℕ) ∧ ((cfg0.win 0).index t 1 : ℕ) = 0
    ∧ ((cfg0.win 1).index t 1 : ℕ) = ((cfg0.win 4).index t 1 : ℕ) ∧ ((cfg0.win 1).index t 0 : ℕ) = 0
    ∧ ((cfg0.win 2).index t 0 : ℕ) = ((cfg0.win 4).index t 0 : ℕ) ∧ ((cfg0.win 2).index t 1 : ℕ) = ((cfg0.win 4).index t 1 : ℕ)
    ∧ ((cfg0.win 3).index t 0 : ℕ) = 0 ∧ ((cfg0.win 3).index t 1 : ℕ) = ((cfg0.win 4).index t 1 : ℕ) := by decide +kernel

/-- The same of the second result's block. -/
theorem at5 : ∀ t : Fin cfg0.N, ((cfg0.win 0).index t 0 : ℕ) = ((cfg0.win 5).index t 0 : ℕ) ∧ ((cfg0.win 0).index t 1 : ℕ) = 0
    ∧ ((cfg0.win 1).index t 1 : ℕ) = ((cfg0.win 5).index t 1 : ℕ) ∧ ((cfg0.win 1).index t 0 : ℕ) = 0 := by decide +kernel

/-- The call's second result is the product of the left factor and the weight. -/
theorem arr5 : (dats m 0 c).arrAt 5 cfg0.N = fun i : S8192x1024.Idx => ∑ k : Fin 1024, x0 m c (ix2 (i 0) k) * x1 m c (ix2 k (i 1)) := by
  refine (dats m 0 c).arrAt_eq_of_covers 5 _ (by decide +kernel) fun t hf y => ?_
  blk_simp
  rw [after0_5]
  obtain ⟨e0, e1, e2, e3⟩ := at5 t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay2, k0_pay1]
  refine congrArg (fun f : Fin 1024 → EReal => ∑ k, f k) (funext fun k => congrArg₂ (fun a b : EReal => a * b) ?_ ?_)
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e3]
    | ⟨1, _⟩ => blk_simp [e2]

/-- The call's first result is the residual plus the gain times the product. -/
theorem arr4 : (dats m 0 c).arrAt 4 cfg0.N = fun i : S8192x1024.Idx =>
    x2 m c i + x3 m c (ix2 0 (i 1)) * ∑ k : Fin 1024, x0 m c (ix2 (i 0) k) * x1 m c (ix2 k (i 1)) := by
  refine (dats m 0 c).arrAt_eq_of_covers 4 _ (by decide +kernel) fun t hf y => ?_
  blk_simp
  rw [after0_4]
  obtain ⟨e0, e1, e2, e3, e4, e5, e6, e7⟩ := at4 t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  have r2 : ∀ x, iblk m c 2 t x = x2 m c (((cfg0.win 2).blk t).view.emb x) := fun x => congrFun (V2 m c) _
  have r3 : ∀ x, iblk m c 3 t x = x3 m c (((cfg0.win 3).blk t).view.emb x) := fun x => congrFun (V3 m c) _
  frame_out
  pointwise [k0_pay3, k0_pay1]
  refine congrArg₂ (fun a b : EReal => a + b) ?_ (congrArg₂ (fun a b : EReal => a * b) ?_
    (congrArg (fun f : Fin 1024 → EReal => ∑ k, f k) (funext fun k => congrArg₂ (fun a b : EReal => a * b) ?_ ?_)))
  · rw [r2]
    refine congrArg (x2 m c) (funext fun a => Fin.ext ?_)
    match a with
    | ⟨0, _⟩ => blk_simp [e4]
    | ⟨1, _⟩ => blk_simp [e5]
  · rw [r3]
    refine congrArg (x3 m c) (funext fun a => Fin.ext ?_)
    match a with
    | ⟨0, _⟩ => blk_simp [e6]
    | ⟨1, _⟩ => blk_simp [e7]
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e3]
    | ⟨1, _⟩ => blk_simp [e2]

/-- The product that the reference forms, at an index. -/
theorem ref_prod (i : S8192x1024.Idx) : Cert.MixReferenceIdeal.Read.val_main_v0 (F := Ideal) (x0 m c) (x1 m c) i
    = ∑ k : Fin 1024, x0 m c (ix2 (i 0) k) * x1 m c (ix2 k (i 1)) := by
  rw [Cert.MixReferenceIdeal.Read.val_main_v0_apply]
  refine Finset.sum_congr rfl fun k _ => congrArg₂ (· * ·) (congrArg (x0 m c) (funext fun a => ?_)) (congrArg (x1 m c) (funext fun a => ?_)) <;>
    (match a with
      | ⟨0, _⟩ => rfl
      | ⟨1, _⟩ => rfl)

/-- The reference's second result of the same arguments is the call's. -/
theorem meet5 : (dats m 0 c).arrAt 5 cfg0.N = Cert.MixReferenceIdeal.Read.val_main_v4 (F := Ideal) (x0 m c) (x1 m c) := by
  rw [arr5]
  funext i
  exact (ref_prod m c i).symm

/-- The reference's first result of the same arguments is the call's. -/
theorem meet4 : (dats m 0 c).arrAt 4 cfg0.N = Cert.MixReferenceIdeal.Read.val_main_v3 (F := Ideal) (x0 m c) (x1 m c) (x2 m c) (x3 m c) := by
  rw [arr4]
  funext i
  rw [Cert.MixReferenceIdeal.Read.val_main_v3_apply, Cert.MixReferenceIdeal.Read.val_main_v2_apply, Cert.MixReferenceIdeal.Read.val_main_v1_apply, ref_prod]
  refine congrArg (fun a : EReal => x2 m c i + a * _) (congrArg (x3 m c) (funext fun a => ?_))
  match a with
  | ⟨0, _⟩ => rfl
  | ⟨1, _⟩ => rfl

/-- The exact call and the reference end with the same two arrays. -/
theorem algebraic : Cert.algebraic_MixIdeal_MixReferenceIdeal := fun m g m' g' _ hm => by
  refine ⟨fun c => Cert.MixReferenceIdeal.Read.val_main_v3 (F := Ideal) (x0 m c) (x1 m c) (x2 m c) (x3 m c),
    fun c => Cert.MixReferenceIdeal.Read.val_main_v4 (F := Ideal) (x0 m c) (x1 m c), ?_, ?_⟩
  · refine (θ_run defs _ _).mono (fun r h c => ?_) (Cert.MixIdeal.Value.run_blocks m g)
    obtain ⟨h0, h1, ha⟩ := h c
    exact ⟨h0.trans (meet4 m c), h1.trans (meet5 m c), ha⟩
  · refine (θ_run Cert.MixReferenceIdeal.defs _ _).mono (fun r h c => ?_) (Cert.MixReferenceIdeal.Value.run (F := Ideal) m' g')
    obtain ⟨h0, h1, ha⟩ := h c
    obtain ⟨e0, e1, e2, e3⟩ := hm c
    rw [Cert.MixReferenceIdeal.Read.val_main_v3_eq, e0, e1, e2, e3] at h0
    rw [Cert.MixReferenceIdeal.Read.val_main_v4_eq, e0, e1] at h1
    exact ⟨h0, h1, ha⟩

/-- The call leaves its arguments as they are and its counters at zero. -/
theorem frame_p : Cert.quiescent_Mix := fun m ρ _ => Cert.Mix.Gen.frame m ρ

/-- The exact call leaves its arguments as they are and its counters at zero. -/
theorem frame_pi : Cert.quiescent_MixIdeal := fun m ρ _ => Cert.MixIdeal.Gen.frame m ρ

/-- The reference leaves its arguments as they are and has no counters. -/
theorem frame_ri : Cert.quiescent_MixReferenceIdeal := fun m ρ _ =>
  (θ_run Cert.MixReferenceIdeal.defs _ _).mono (fun r h => ⟨fun c => (h c).2.2,
      Idealize.ShloMosaic.sem_eq_zero_of_no_sems (by decide) r.2⟩)
    (Cert.MixReferenceIdeal.Value.run (F := Ideal) m ρ)

end Cert.MixIdeal.Prod
end
-- ==== Proof.M.OMla.lean ====
/-
The projection of the latent attention's output: the call's result is the sum over the contracted axis, and so is the
reference's.
-/
module
public import proofs.«01_k».proof.Defs
public import proofs.«01_k».proof.Proof.Gen.OMla
public import proofs.«01_k».proof.Proof.Gen.OMla.Frame
public import proofs.«01_k».proof.Proof.Gen.OMlaIdeal
public import proofs.«01_k».proof.Proof.Gen.OMlaIdeal.Frame
public import proofs.«01_k».proof.Proof.Gen.OMlaIdeal.Value
public import proofs.«01_k».proof.Proof.Gen.OMlaReferenceIdeal
public import proofs.«01_k».proof.Proof.Gen.OMlaReferenceIdeal.Run
public import proofs.«01_k».proof.Proof.Gen.OMlaReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.OMlaIdeal.Prod
open Cert.OMlaIdeal Cert.OMlaIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S1024x1024.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 0 : ℕ) = ((cfg0.win 2).index t 0 : ℕ) ∧ ((cfg0.win 0).index t 1 : ℕ) = 0
    ∧ ((cfg0.win 1).index t 1 : ℕ) = ((cfg0.win 2).index t 1 : ℕ) ∧ ((cfg0.win 1).index t 0 : ℕ) = 0 := by decide +kernel

/-- The call's result is the product of the two arguments. -/
theorem arr : (dats m 0 c).arrAt 2 cfg0.N = fun i : S8192x1024.Idx => ∑ k : Fin 1024, x0 m c (ix2 (i 0) k) * x1 m c (ix2 k (i 1)) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 1024 → EReal => ∑ k, f k) (funext fun k => congrArg₂ (fun a b : EReal => a * b) ?_ ?_)
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e3]
    | ⟨1, _⟩ => blk_simp [e2]

/-- The reference's result of the same arguments is the same product. -/
theorem meet : (dats m 0 c).arrAt 2 cfg0.N = Cert.OMlaReferenceIdeal.Read.val_main_v1 (F := Ideal) (x0 m c) (x1 m c) := by
  rw [arr]
  funext i
  refine Eq.trans ?_ (Cert.OMlaReferenceIdeal.Read.val_main_v0_apply (x0 m c) (x1 m c) i).symm
  refine Finset.sum_congr rfl fun k _ => congrArg₂ (· * ·) (congrArg (x0 m c) (funext fun a => ?_)) (congrArg (x1 m c) (funext fun a => ?_)) <;>
    (match a with
      | ⟨0, _⟩ => rfl
      | ⟨1, _⟩ => rfl)

/-- The exact call and the reference's projection of the latent attention's output end with the same array. -/
theorem algebraic : Cert.algebraic_OMlaIdeal_OMlaReferenceIdeal := fun m g m' g' _ hm => by
  refine ⟨fun c => Cert.OMlaReferenceIdeal.Read.val_main_v1 (F := Ideal) (x0 m c) (x1 m c), ?_, ?_⟩
  · refine (θ_run defs _ _).mono (fun r h c => ?_) (Cert.OMlaIdeal.Value.run_blocks m g)
    obtain ⟨h0, ha⟩ := h c
    exact ⟨h0.trans (meet m c), ha⟩
  · refine (θ_run Cert.OMlaReferenceIdeal.defs _ _).mono (fun r h c => ?_) (Cert.OMlaReferenceIdeal.Value.run (F := Ideal) m' g')
    obtain ⟨h0, ha⟩ := h c
    obtain ⟨e0, e1⟩ := hm c
    rw [Cert.OMlaReferenceIdeal.Read.val_main_v1_eq, e0, e1] at h0
    exact ⟨h0, ha⟩

/-- The call leaves its arguments as they are and its counters at zero. -/
theorem frame_p : Cert.quiescent_OMla := fun m ρ _ => Cert.OMla.Gen.frame m ρ

/-- The exact call leaves its arguments as they are and its counters at zero. -/
theorem frame_pi : Cert.quiescent_OMlaIdeal := fun m ρ _ => Cert.OMlaIdeal.Gen.frame m ρ

/-- The reference leaves its arguments as they are and has no counters. -/
theorem frame_ri : Cert.quiescent_OMlaReferenceIdeal := fun m ρ _ =>
  (θ_run Cert.OMlaReferenceIdeal.defs _ _).mono (fun r h => ⟨fun c => (h c).2,
      Idealize.ShloMosaic.sem_eq_zero_of_no_sems (by decide) r.2⟩)
    (Cert.OMlaReferenceIdeal.Value.run (F := Ideal) m ρ)

end Cert.OMlaIdeal.Prod
end
-- ==== Proof.M.OFox.lean ====
/-
The projection of the forgetting attention's output: the call's result is the sum over the contracted axis, and so is the
reference's.
-/
module
public import proofs.«01_k».proof.Defs
public import proofs.«01_k».proof.Proof.Gen.OFox
public import proofs.«01_k».proof.Proof.Gen.OFox.Frame
public import proofs.«01_k».proof.Proof.Gen.OFoxIdeal
public import proofs.«01_k».proof.Proof.Gen.OFoxIdeal.Frame
public import proofs.«01_k».proof.Proof.Gen.OFoxIdeal.Value
public import proofs.«01_k».proof.Proof.Gen.OFoxReferenceIdeal
public import proofs.«01_k».proof.Proof.Gen.OFoxReferenceIdeal.Run
public import proofs.«01_k».proof.Proof.Gen.OFoxReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.OFoxIdeal.Prod
open Cert.OFoxIdeal Cert.OFoxIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S1024x1024.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 0 : ℕ) = ((cfg0.win 2).index t 0 : ℕ) ∧ ((cfg0.win 0).index t 1 : ℕ) = 0
    ∧ ((cfg0.win 1).index t 1 : ℕ) = ((cfg0.win 2).index t 1 : ℕ) ∧ ((cfg0.win 1).index t 0 : ℕ) = 0 := by decide +kernel

/-- The call's result is the product of the two arguments. -/
theorem arr : (dats m 0 c).arrAt 2 cfg0.N = fun i : S8192x1024.Idx => ∑ k : Fin 1024, x0 m c (ix2 (i 0) k) * x1 m c (ix2 k (i 1)) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 1024 → EReal => ∑ k, f k) (funext fun k => congrArg₂ (fun a b : EReal => a * b) ?_ ?_)
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e3]
    | ⟨1, _⟩ => blk_simp [e2]

/-- The reference's result of the same arguments is the same product. -/
theorem meet : (dats m 0 c).arrAt 2 cfg0.N = Cert.OFoxReferenceIdeal.Read.val_main_v1 (F := Ideal) (x0 m c) (x1 m c) := by
  rw [arr]
  funext i
  refine Eq.trans ?_ (Cert.OFoxReferenceIdeal.Read.val_main_v0_apply (x0 m c) (x1 m c) i).symm
  refine Finset.sum_congr rfl fun k _ => congrArg₂ (· * ·) (congrArg (x0 m c) (funext fun a => ?_)) (congrArg (x1 m c) (funext fun a => ?_)) <;>
    (match a with
      | ⟨0, _⟩ => rfl
      | ⟨1, _⟩ => rfl)

/-- The exact call and the reference's projection of the forgetting attention's output end with the same array. -/
theorem algebraic : Cert.algebraic_OFoxIdeal_OFoxReferenceIdeal := fun m g m' g' _ hm => by
  refine ⟨fun c => Cert.OFoxReferenceIdeal.Read.val_main_v1 (F := Ideal) (x0 m c) (x1 m c), ?_, ?_⟩
  · refine (θ_run defs _ _).mono (fun r h c => ?_) (Cert.OFoxIdeal.Value.run_blocks m g)
    obtain ⟨h0, ha⟩ := h c
    exact ⟨h0.trans (meet m c), ha⟩
  · refine (θ_run Cert.OFoxReferenceIdeal.defs _ _).mono (fun r h c => ?_) (Cert.OFoxReferenceIdeal.Value.run (F := Ideal) m' g')
    obtain ⟨h0, ha⟩ := h c
    obtain ⟨e0, e1⟩ := hm c
    rw [Cert.OFoxReferenceIdeal.Read.val_main_v1_eq, e0, e1] at h0
    exact ⟨h0, ha⟩

/-- The call leaves its arguments as they are and its counters at zero. -/
theorem frame_p : Cert.quiescent_OFox := fun m ρ _ => Cert.OFox.Gen.frame m ρ

/-- The exact call leaves its arguments as they are and its counters at zero. -/
theorem frame_pi : Cert.quiescent_OFoxIdeal := fun m ρ _ => Cert.OFoxIdeal.Gen.frame m ρ

/-- The reference leaves its arguments as they are and has no counters. -/
theorem frame_ri : Cert.quiescent_OFoxReferenceIdeal := fun m ρ _ =>
  (θ_run Cert.OFoxReferenceIdeal.defs _ _).mono (fun r h => ⟨fun c => (h c).2,
      Idealize.ShloMosaic.sem_eq_zero_of_no_sems (by decide) r.2⟩)
    (Cert.OFoxReferenceIdeal.Value.run (F := Ideal) m ρ)

end Cert.OFoxIdeal.Prod
end
-- ==== Proof.M.Fk.lean ====
/-
The projection to the forgetting attention's keys: the call's result is the sum over the contracted axis, and so is the
reference's.
-/
module
public import proofs.«01_k».proof.Defs
public import proofs.«01_k».proof.Proof.Gen.Fk
public import proofs.«01_k».proof.Proof.Gen.Fk.Frame
public import proofs.«01_k».proof.Proof.Gen.FkIdeal
public import proofs.«01_k».proof.Proof.Gen.FkIdeal.Frame
public import proofs.«01_k».proof.Proof.Gen.FkIdeal.Value
public import proofs.«01_k».proof.Proof.Gen.FkReferenceIdeal
public import proofs.«01_k».proof.Proof.Gen.FkReferenceIdeal.Run
public import proofs.«01_k».proof.Proof.Gen.FkReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.FkIdeal.Prod
open Cert.FkIdeal Cert.FkIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S1024x1024.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 0 : ℕ) = ((cfg0.win 2).index t 0 : ℕ) ∧ ((cfg0.win 0).index t 1 : ℕ) = 0
    ∧ ((cfg0.win 1).index t 1 : ℕ) = ((cfg0.win 2).index t 1 : ℕ) ∧ ((cfg0.win 1).index t 0 : ℕ) = 0 := by decide +kernel

/-- The call's result is the product of the two arguments. -/
theorem arr : (dats m 0 c).arrAt 2 cfg0.N = fun i : S8192x1024.Idx => ∑ k : Fin 1024, x0 m c (ix2 (i 0) k) * x1 m c (ix2 k (i 1)) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 1024 → EReal => ∑ k, f k) (funext fun k => congrArg₂ (fun a b : EReal => a * b) ?_ ?_)
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e3]
    | ⟨1, _⟩ => blk_simp [e2]

/-- The reference's result of the same arguments is the same product. -/
theorem meet : (dats m 0 c).arrAt 2 cfg0.N = Cert.FkReferenceIdeal.Read.val_main_v1 (F := Ideal) (x0 m c) (x1 m c) := by
  rw [arr]
  funext i
  refine Eq.trans ?_ (Cert.FkReferenceIdeal.Read.val_main_v0_apply (x0 m c) (x1 m c) i).symm
  refine Finset.sum_congr rfl fun k _ => congrArg₂ (· * ·) (congrArg (x0 m c) (funext fun a => ?_)) (congrArg (x1 m c) (funext fun a => ?_)) <;>
    (match a with
      | ⟨0, _⟩ => rfl
      | ⟨1, _⟩ => rfl)

/-- The exact call and the reference's projection to the forgetting attention's keys end with the same array. -/
theorem algebraic : Cert.algebraic_FkIdeal_FkReferenceIdeal := fun m g m' g' _ hm => by
  refine ⟨fun c => Cert.FkReferenceIdeal.Read.val_main_v1 (F := Ideal) (x0 m c) (x1 m c), ?_, ?_⟩
  · refine (θ_run defs _ _).mono (fun r h c => ?_) (Cert.FkIdeal.Value.run_blocks m g)
    obtain ⟨h0, ha⟩ := h c
    exact ⟨h0.trans (meet m c), ha⟩
  · refine (θ_run Cert.FkReferenceIdeal.defs _ _).mono (fun r h c => ?_) (Cert.FkReferenceIdeal.Value.run (F := Ideal) m' g')
    obtain ⟨h0, ha⟩ := h c
    obtain ⟨e0, e1⟩ := hm c
    rw [Cert.FkReferenceIdeal.Read.val_main_v1_eq, e0, e1] at h0
    exact ⟨h0, ha⟩

/-- The call leaves its arguments as they are and its counters at zero. -/
theorem frame_p : Cert.quiescent_Fk := fun m ρ _ => Cert.Fk.Gen.frame m ρ

/-- The exact call leaves its arguments as they are and its counters at zero. -/
theorem frame_pi : Cert.quiescent_FkIdeal := fun m ρ _ => Cert.FkIdeal.Gen.frame m ρ

/-- The reference leaves its arguments as they are and has no counters. -/
theorem frame_ri : Cert.quiescent_FkReferenceIdeal := fun m ρ _ =>
  (θ_run Cert.FkReferenceIdeal.defs _ _).mono (fun r h => ⟨fun c => (h c).2,
      Idealize.ShloMosaic.sem_eq_zero_of_no_sems (by decide) r.2⟩)
    (Cert.FkReferenceIdeal.Value.run (F := Ideal) m ρ)

end Cert.FkIdeal.Prod
end
-- ==== Proof.M.Lat.lean ====
/-
The projection to the latents: the call's result is the sum over the contracted axis, and so is the
reference's.
-/
module
public import proofs.«01_k».proof.Defs
public import proofs.«01_k».proof.Proof.Gen.Lat
public import proofs.«01_k».proof.Proof.Gen.Lat.Frame
public import proofs.«01_k».proof.Proof.Gen.LatIdeal
public import proofs.«01_k».proof.Proof.Gen.LatIdeal.Frame
public import proofs.«01_k».proof.Proof.Gen.LatIdeal.Value
public import proofs.«01_k».proof.Proof.Gen.LatReferenceIdeal
public import proofs.«01_k».proof.Proof.Gen.LatReferenceIdeal.Run
public import proofs.«01_k».proof.Proof.Gen.LatReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.LatIdeal.Prod
open Cert.LatIdeal Cert.LatIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S1024x896.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 0 : ℕ) = ((cfg0.win 2).index t 0 : ℕ) ∧ ((cfg0.win 0).index t 1 : ℕ) = 0
    ∧ ((cfg0.win 1).index t 1 : ℕ) = ((cfg0.win 2).index t 1 : ℕ) ∧ ((cfg0.win 1).index t 0 : ℕ) = 0 := by decide +kernel

/-- The call's result is the product of the two arguments. -/
theorem arr : (dats m 0 c).arrAt 2 cfg0.N = fun i : S8192x896.Idx => ∑ k : Fin 1024, x0 m c (ix2 (i 0) k) * x1 m c (ix2 k (i 1)) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 1024 → EReal => ∑ k, f k) (funext fun k => congrArg₂ (fun a b : EReal => a * b) ?_ ?_)
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e3]
    | ⟨1, _⟩ => blk_simp [e2]

/-- The reference's result of the same arguments is the same product. -/
theorem meet : (dats m 0 c).arrAt 2 cfg0.N = Cert.LatReferenceIdeal.Read.val_main_v0 (F := Ideal) (x0 m c) (x1 m c) := by
  rw [arr]
  funext i
  refine Eq.trans ?_ (Cert.LatReferenceIdeal.Read.val_main_v0_apply (x0 m c) (x1 m c) i).symm
  refine Finset.sum_congr rfl fun k _ => congrArg₂ (· * ·) (congrArg (x0 m c) (funext fun a => ?_)) (congrArg (x1 m c) (funext fun a => ?_)) <;>
    (match a with
      | ⟨0, _⟩ => rfl
      | ⟨1, _⟩ => rfl)

/-- The exact call and the reference's projection to the latents end with the same array. -/
theorem algebraic : Cert.algebraic_LatIdeal_LatReferenceIdeal := fun m g m' g' _ hm => by
  refine ⟨fun c => Cert.LatReferenceIdeal.Read.val_main_v0 (F := Ideal) (x0 m c) (x1 m c), ?_, ?_⟩
  · refine (θ_run defs _ _).mono (fun r h c => ?_) (Cert.LatIdeal.Value.run_blocks m g)
    obtain ⟨h0, ha⟩ := h c
    exact ⟨h0.trans (meet m c), ha⟩
  · refine (θ_run Cert.LatReferenceIdeal.defs _ _).mono (fun r h c => ?_) (Cert.LatReferenceIdeal.Value.run (F := Ideal) m' g')
    obtain ⟨h0, ha⟩ := h c
    obtain ⟨e0, e1⟩ := hm c
    rw [Cert.LatReferenceIdeal.Read.val_main_v0_eq, e0, e1] at h0
    exact ⟨h0, ha⟩

/-- The call leaves its arguments as they are and its counters at zero. -/
theorem frame_p : Cert.quiescent_Lat := fun m ρ _ => Cert.Lat.Gen.frame m ρ

/-- The exact call leaves its arguments as they are and its counters at zero. -/
theorem frame_pi : Cert.quiescent_LatIdeal := fun m ρ _ => Cert.LatIdeal.Gen.frame m ρ

/-- The reference leaves its arguments as they are and has no counters. -/
theorem frame_ri : Cert.quiescent_LatReferenceIdeal := fun m ρ _ =>
  (θ_run Cert.LatReferenceIdeal.defs _ _).mono (fun r h => ⟨fun c => (h c).2,
      Idealize.ShloMosaic.sem_eq_zero_of_no_sems (by decide) r.2⟩)
    (Cert.LatReferenceIdeal.Value.run (F := Ideal) m ρ)

end Cert.LatIdeal.Prod
end
-- ==== Proof.M.OMlaDx.lean ====
/-
The gradient of the latent attention's output: the call's result is the sum over the contracted axis, and so is the
reference's.
-/
module
public import proofs.«01_k».proof.Defs
public import proofs.«01_k».proof.Proof.Gen.OMlaDx
public import proofs.«01_k».proof.Proof.Gen.OMlaDx.Frame
public import proofs.«01_k».proof.Proof.Gen.OMlaDxIdeal
public import proofs.«01_k».proof.Proof.Gen.OMlaDxIdeal.Frame
public import proofs.«01_k».proof.Proof.Gen.OMlaDxIdeal.Value
public import proofs.«01_k».proof.Proof.Gen.OMlaDxReferenceIdeal
public import proofs.«01_k».proof.Proof.Gen.OMlaDxReferenceIdeal.Run
public import proofs.«01_k».proof.Proof.Gen.OMlaDxReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.OMlaDxIdeal.Prod
open Cert.OMlaDxIdeal Cert.OMlaDxIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S1024x1024.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 0 : ℕ) = ((cfg0.win 2).index t 0 : ℕ) ∧ ((cfg0.win 0).index t 1 : ℕ) = 0
    ∧ ((cfg0.win 1).index t 0 : ℕ) = ((cfg0.win 2).index t 1 : ℕ) ∧ ((cfg0.win 1).index t 1 : ℕ) = 0 := by decide +kernel

/-- The call's result is the product of the two arguments. -/
theorem arr : (dats m 0 c).arrAt 2 cfg0.N = fun i : S8192x1024.Idx => ∑ k : Fin 1024, x0 m c (ix2 (i 0) k) * x1 m c (ix2 (i 1) k) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 1024 → EReal => ∑ k, f k) (funext fun k => congrArg₂ (fun a b : EReal => a * b) ?_ ?_)
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e2]
    | ⟨1, _⟩ => blk_simp [e3]

/-- The reference's result of the same arguments is the same product. -/
theorem meet : (dats m 0 c).arrAt 2 cfg0.N = Cert.OMlaDxReferenceIdeal.Read.val_main_v3 (F := Ideal) (x0 m c) (x1 m c) := by
  rw [arr]
  funext i
  refine Eq.trans ?_ (Cert.OMlaDxReferenceIdeal.Read.val_main_v2_apply (x0 m c) (x1 m c) i).symm
  refine Finset.sum_congr rfl fun k _ => congrArg₂ (· * ·) (congrArg (x0 m c) (funext fun a => ?_)) (congrArg (x1 m c) (funext fun a => ?_)) <;>
    (match a with
      | ⟨0, _⟩ => rfl
      | ⟨1, _⟩ => rfl)

/-- The exact call and the reference's gradient of the latent attention's output end with the same array. -/
theorem algebraic : Cert.algebraic_OMlaDxIdeal_OMlaDxReferenceIdeal := fun m g m' g' _ hm => by
  refine ⟨fun c => Cert.OMlaDxReferenceIdeal.Read.val_main_v3 (F := Ideal) (x0 m c) (x1 m c), ?_, ?_⟩
  · refine (θ_run defs _ _).mono (fun r h c => ?_) (Cert.OMlaDxIdeal.Value.run_blocks m g)
    obtain ⟨h0, ha⟩ := h c
    exact ⟨h0.trans (meet m c), ha⟩
  · refine (θ_run Cert.OMlaDxReferenceIdeal.defs _ _).mono (fun r h c => ?_) (Cert.OMlaDxReferenceIdeal.Value.run (F := Ideal) m' g')
    obtain ⟨h0, ha⟩ := h c
    obtain ⟨e0, e1⟩ := hm c
    rw [Cert.OMlaDxReferenceIdeal.Read.val_main_v3_eq, e0, e1] at h0
    exact ⟨h0, ha⟩

/-- The call leaves its arguments as they are and its counters at zero. -/
theorem frame_p : Cert.quiescent_OMlaDx := fun m ρ _ => Cert.OMlaDx.Gen.frame m ρ

/-- The exact call leaves its arguments as they are and its counters at zero. -/
theorem frame_pi : Cert.quiescent_OMlaDxIdeal := fun m ρ _ => Cert.OMlaDxIdeal.Gen.frame m ρ

/-- The reference leaves its arguments as they are and has no counters. -/
theorem frame_ri : Cert.quiescent_OMlaDxReferenceIdeal := fun m ρ _ =>
  (θ_run Cert.OMlaDxReferenceIdeal.defs _ _).mono (fun r h => ⟨fun c => (h c).2,
      Idealize.ShloMosaic.sem_eq_zero_of_no_sems (by decide) r.2⟩)
    (Cert.OMlaDxReferenceIdeal.Value.run (F := Ideal) m ρ)

end Cert.OMlaDxIdeal.Prod
end
-- ==== Proof.M.OFoxDx.lean ====
/-
The gradient of the forgetting attention's output: the call's result is the sum over the contracted axis, and so is the
reference's.
-/
module
public import proofs.«01_k».proof.Defs
public import proofs.«01_k».proof.Proof.Gen.OFoxDx
public import proofs.«01_k».proof.Proof.Gen.OFoxDx.Frame
public import proofs.«01_k».proof.Proof.Gen.OFoxDxIdeal
public import proofs.«01_k».proof.Proof.Gen.OFoxDxIdeal.Frame
public import proofs.«01_k».proof.Proof.Gen.OFoxDxIdeal.Value
public import proofs.«01_k».proof.Proof.Gen.OFoxDxReferenceIdeal
public import proofs.«01_k».proof.Proof.Gen.OFoxDxReferenceIdeal.Run
public import proofs.«01_k».proof.Proof.Gen.OFoxDxReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.OFoxDxIdeal.Prod
open Cert.OFoxDxIdeal Cert.OFoxDxIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S1024x1024.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 0 : ℕ) = ((cfg0.win 2).index t 0 : ℕ) ∧ ((cfg0.win 0).index t 1 : ℕ) = 0
    ∧ ((cfg0.win 1).index t 0 : ℕ) = ((cfg0.win 2).index t 1 : ℕ) ∧ ((cfg0.win 1).index t 1 : ℕ) = 0 := by decide +kernel

/-- The call's result is the product of the two arguments. -/
theorem arr : (dats m 0 c).arrAt 2 cfg0.N = fun i : S8192x1024.Idx => ∑ k : Fin 1024, x0 m c (ix2 (i 0) k) * x1 m c (ix2 (i 1) k) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 1024 → EReal => ∑ k, f k) (funext fun k => congrArg₂ (fun a b : EReal => a * b) ?_ ?_)
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e2]
    | ⟨1, _⟩ => blk_simp [e3]

/-- The reference's result of the same arguments is the same product. -/
theorem meet : (dats m 0 c).arrAt 2 cfg0.N = Cert.OFoxDxReferenceIdeal.Read.val_main_v3 (F := Ideal) (x0 m c) (x1 m c) := by
  rw [arr]
  funext i
  refine Eq.trans ?_ (Cert.OFoxDxReferenceIdeal.Read.val_main_v2_apply (x0 m c) (x1 m c) i).symm
  refine Finset.sum_congr rfl fun k _ => congrArg₂ (· * ·) (congrArg (x0 m c) (funext fun a => ?_)) (congrArg (x1 m c) (funext fun a => ?_)) <;>
    (match a with
      | ⟨0, _⟩ => rfl
      | ⟨1, _⟩ => rfl)

/-- The exact call and the reference's gradient of the forgetting attention's output end with the same array. -/
theorem algebraic : Cert.algebraic_OFoxDxIdeal_OFoxDxReferenceIdeal := fun m g m' g' _ hm => by
  refine ⟨fun c => Cert.OFoxDxReferenceIdeal.Read.val_main_v3 (F := Ideal) (x0 m c) (x1 m c), ?_, ?_⟩
  · refine (θ_run defs _ _).mono (fun r h c => ?_) (Cert.OFoxDxIdeal.Value.run_blocks m g)
    obtain ⟨h0, ha⟩ := h c
    exact ⟨h0.trans (meet m c), ha⟩
  · refine (θ_run Cert.OFoxDxReferenceIdeal.defs _ _).mono (fun r h c => ?_) (Cert.OFoxDxReferenceIdeal.Value.run (F := Ideal) m' g')
    obtain ⟨h0, ha⟩ := h c
    obtain ⟨e0, e1⟩ := hm c
    rw [Cert.OFoxDxReferenceIdeal.Read.val_main_v3_eq, e0, e1] at h0
    exact ⟨h0, ha⟩

/-- The call leaves its arguments as they are and its counters at zero. -/
theorem frame_p : Cert.quiescent_OFoxDx := fun m ρ _ => Cert.OFoxDx.Gen.frame m ρ

/-- The exact call leaves its arguments as they are and its counters at zero. -/
theorem frame_pi : Cert.quiescent_OFoxDxIdeal := fun m ρ _ => Cert.OFoxDxIdeal.Gen.frame m ρ

/-- The reference leaves its arguments as they are and has no counters. -/
theorem frame_ri : Cert.quiescent_OFoxDxReferenceIdeal := fun m ρ _ =>
  (θ_run Cert.OFoxDxReferenceIdeal.defs _ _).mono (fun r h => ⟨fun c => (h c).2,
      Idealize.ShloMosaic.sem_eq_zero_of_no_sems (by decide) r.2⟩)
    (Cert.OFoxDxReferenceIdeal.Value.run (F := Ideal) m ρ)

end Cert.OFoxDxIdeal.Prod
end
-- ==== Proof.M.OMlaDw.lean ====
/-
The gradient of the latent attention's output weight: the call's result is the sum over the tokens, and so is the reference's, with the
factors the other way round and the axes exchanged.
-/
module
public import proofs.«01_k».proof.Defs
public import proofs.«01_k».proof.Proof.Gen.OMlaDw
public import proofs.«01_k».proof.Proof.Gen.OMlaDw.Frame
public import proofs.«01_k».proof.Proof.Gen.OMlaDwIdeal
public import proofs.«01_k».proof.Proof.Gen.OMlaDwIdeal.Frame
public import proofs.«01_k».proof.Proof.Gen.OMlaDwIdeal.Value
public import proofs.«01_k».proof.Proof.Gen.OMlaDwReferenceIdeal
public import proofs.«01_k».proof.Proof.Gen.OMlaDwReferenceIdeal.Run
public import proofs.«01_k».proof.Proof.Gen.OMlaDwReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.OMlaDwIdeal.Prod
open Cert.OMlaDwIdeal Cert.OMlaDwIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S8192x1024.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 1 : ℕ) = ((cfg0.win 2).index t 0 : ℕ) ∧ ((cfg0.win 0).index t 0 : ℕ) = 0
    ∧ ((cfg0.win 1).index t 1 : ℕ) = ((cfg0.win 2).index t 1 : ℕ) ∧ ((cfg0.win 1).index t 0 : ℕ) = 0 := by decide +kernel

/-- The call's result is the product of the two arguments. -/
theorem arr : (dats m 0 c).arrAt 2 cfg0.N = fun i : S1024x1024.Idx => ∑ k : Fin 8192, x0 m c (ix2 k (i 0)) * x1 m c (ix2 k (i 1)) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 8192 → EReal => ∑ k, f k) (funext fun k => congrArg₂ (fun a b : EReal => a * b) ?_ ?_)
  · rw [r0]
    refine congrArg (x0 m c) (funext fun a => Fin.ext ?_)
    match a with
    | ⟨0, _⟩ => blk_simp [e1]
    | ⟨1, _⟩ => blk_simp [e0]
  · rw [r1]
    refine congrArg (x1 m c) (funext fun a => Fin.ext ?_)
    match a with
    | ⟨0, _⟩ => blk_simp [e3]
    | ⟨1, _⟩ => blk_simp [e2]

/-- The reference's result of the same arguments is the same product. -/
theorem meet : (dats m 0 c).arrAt 2 cfg0.N = Cert.OMlaDwReferenceIdeal.Read.val_main_v3 (F := Ideal) (x0 m c) (x1 m c) := by
  rw [arr]
  funext i
  rw [Cert.OMlaDwReferenceIdeal.Read.val_main_v3_apply, Cert.OMlaDwReferenceIdeal.Read.val_main_v2_apply]
  refine Finset.sum_congr rfl fun k _ => (mul_comm _ _).trans (congrArg₂ (· * ·) (congrArg (x1 m c) (funext fun a => ?_)) (congrArg (x0 m c) (funext fun a => ?_))) <;>
    (match a with
      | ⟨0, _⟩ => rfl
      | ⟨1, _⟩ => rfl)

/-- The exact call and the reference's gradient of the latent attention's output weight end with the same array. -/
theorem algebraic : Cert.algebraic_OMlaDwIdeal_OMlaDwReferenceIdeal := fun m g m' g' _ hm => by
  refine ⟨fun c => Cert.OMlaDwReferenceIdeal.Read.val_main_v3 (F := Ideal) (x0 m c) (x1 m c), ?_, ?_⟩
  · refine (θ_run defs _ _).mono (fun r h c => ?_) (Cert.OMlaDwIdeal.Value.run_blocks m g)
    obtain ⟨h0, ha⟩ := h c
    exact ⟨h0.trans (meet m c), ha⟩
  · refine (θ_run Cert.OMlaDwReferenceIdeal.defs _ _).mono (fun r h c => ?_) (Cert.OMlaDwReferenceIdeal.Value.run (F := Ideal) m' g')
    obtain ⟨h0, ha⟩ := h c
    obtain ⟨e0, e1⟩ := hm c
    rw [Cert.OMlaDwReferenceIdeal.Read.val_main_v3_eq, e0, e1] at h0
    exact ⟨h0, ha⟩

/-- The call leaves its arguments as they are and its counters at zero. -/
theorem frame_p : Cert.quiescent_OMlaDw := fun m ρ _ => Cert.OMlaDw.Gen.frame m ρ

/-- The exact call leaves its arguments as they are and its counters at zero. -/
theorem frame_pi : Cert.quiescent_OMlaDwIdeal := fun m ρ _ => Cert.OMlaDwIdeal.Gen.frame m ρ

/-- The reference leaves its arguments as they are and has no counters. -/
theorem frame_ri : Cert.quiescent_OMlaDwReferenceIdeal := fun m ρ _ =>
  (θ_run Cert.OMlaDwReferenceIdeal.defs _ _).mono (fun r h => ⟨fun c => (h c).2,
      Idealize.ShloMosaic.sem_eq_zero_of_no_sems (by decide) r.2⟩)
    (Cert.OMlaDwReferenceIdeal.Value.run (F := Ideal) m ρ)

end Cert.OMlaDwIdeal.Prod
end
-- ==== Proof.M.OFoxDw.lean ====
/-
The gradient of the forgetting attention's output weight: the call's result is the sum over the tokens, and so is the reference's, with the
factors the other way round and the axes exchanged.
-/
module
public import proofs.«01_k».proof.Defs
public import proofs.«01_k».proof.Proof.Gen.OFoxDw
public import proofs.«01_k».proof.Proof.Gen.OFoxDw.Frame
public import proofs.«01_k».proof.Proof.Gen.OFoxDwIdeal
public import proofs.«01_k».proof.Proof.Gen.OFoxDwIdeal.Frame
public import proofs.«01_k».proof.Proof.Gen.OFoxDwIdeal.Value
public import proofs.«01_k».proof.Proof.Gen.OFoxDwReferenceIdeal
public import proofs.«01_k».proof.Proof.Gen.OFoxDwReferenceIdeal.Run
public import proofs.«01_k».proof.Proof.Gen.OFoxDwReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.OFoxDwIdeal.Prod
open Cert.OFoxDwIdeal Cert.OFoxDwIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S8192x1024.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 1 : ℕ) = ((cfg0.win 2).index t 0 : ℕ) ∧ ((cfg0.win 0).index t 0 : ℕ) = 0
    ∧ ((cfg0.win 1).index t 1 : ℕ) = ((cfg0.win 2).index t 1 : ℕ) ∧ ((cfg0.win 1).index t 0 : ℕ) = 0 := by decide +kernel

/-- The call's result is the product of the two arguments. -/
theorem arr : (dats m 0 c).arrAt 2 cfg0.N = fun i : S1024x1024.Idx => ∑ k : Fin 8192, x0 m c (ix2 k (i 0)) * x1 m c (ix2 k (i 1)) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 8192 → EReal => ∑ k, f k) (funext fun k => congrArg₂ (fun a b : EReal => a * b) ?_ ?_)
  · rw [r0]
    refine congrArg (x0 m c) (funext fun a => Fin.ext ?_)
    match a with
    | ⟨0, _⟩ => blk_simp [e1]
    | ⟨1, _⟩ => blk_simp [e0]
  · rw [r1]
    refine congrArg (x1 m c) (funext fun a => Fin.ext ?_)
    match a with
    | ⟨0, _⟩ => blk_simp [e3]
    | ⟨1, _⟩ => blk_simp [e2]

/-- The reference's result of the same arguments is the same product. -/
theorem meet : (dats m 0 c).arrAt 2 cfg0.N = Cert.OFoxDwReferenceIdeal.Read.val_main_v3 (F := Ideal) (x0 m c) (x1 m c) := by
  rw [arr]
  funext i
  rw [Cert.OFoxDwReferenceIdeal.Read.val_main_v3_apply, Cert.OFoxDwReferenceIdeal.Read.val_main_v2_apply]
  refine Finset.sum_congr rfl fun k _ => (mul_comm _ _).trans (congrArg₂ (· * ·) (congrArg (x1 m c) (funext fun a => ?_)) (congrArg (x0 m c) (funext fun a => ?_))) <;>
    (match a with
      | ⟨0, _⟩ => rfl
      | ⟨1, _⟩ => rfl)

/-- The exact call and the reference's gradient of the forgetting attention's output weight end with the same array. -/
theorem algebraic : Cert.algebraic_OFoxDwIdeal_OFoxDwReferenceIdeal := fun m g m' g' _ hm => by
  refine ⟨fun c => Cert.OFoxDwReferenceIdeal.Read.val_main_v3 (F := Ideal) (x0 m c) (x1 m c), ?_, ?_⟩
  · refine (θ_run defs _ _).mono (fun r h c => ?_) (Cert.OFoxDwIdeal.Value.run_blocks m g)
    obtain ⟨h0, ha⟩ := h c
    exact ⟨h0.trans (meet m c), ha⟩
  · refine (θ_run Cert.OFoxDwReferenceIdeal.defs _ _).mono (fun r h c => ?_) (Cert.OFoxDwReferenceIdeal.Value.run (F := Ideal) m' g')
    obtain ⟨h0, ha⟩ := h c
    obtain ⟨e0, e1⟩ := hm c
    rw [Cert.OFoxDwReferenceIdeal.Read.val_main_v3_eq, e0, e1] at h0
    exact ⟨h0, ha⟩

/-- The call leaves its arguments as they are and its counters at zero. -/
theorem frame_p : Cert.quiescent_OFoxDw := fun m ρ _ => Cert.OFoxDw.Gen.frame m ρ

/-- The exact call leaves its arguments as they are and its counters at zero. -/
theorem frame_pi : Cert.quiescent_OFoxDwIdeal := fun m ρ _ => Cert.OFoxDwIdeal.Gen.frame m ρ

/-- The reference leaves its arguments as they are and has no counters. -/
theorem frame_ri : Cert.quiescent_OFoxDwReferenceIdeal := fun m ρ _ =>
  (θ_run Cert.OFoxDwReferenceIdeal.defs _ _).mono (fun r h => ⟨fun c => (h c).2,
      Idealize.ShloMosaic.sem_eq_zero_of_no_sems (by decide) r.2⟩)
    (Cert.OFoxDwReferenceIdeal.Value.run (F := Ideal) m ρ)

end Cert.OFoxDwIdeal.Prod
end
-- ==== Proof.M.QUpDx.lean ====
/-
The gradient of the latent of the queries: the call's result is the sum over the contracted axis, and so is the
reference's.
-/
module
public import proofs.«01_k».proof.Defs
public import proofs.«01_k».proof.Proof.Gen.QUpDx
public import proofs.«01_k».proof.Proof.Gen.QUpDx.Frame
public import proofs.«01_k».proof.Proof.Gen.QUpDxIdeal
public import proofs.«01_k».proof.Proof.Gen.QUpDxIdeal.Frame
public import proofs.«01_k».proof.Proof.Gen.QUpDxIdeal.Value
public import proofs.«01_k».proof.Proof.Gen.QUpDxReferenceIdeal
public import proofs.«01_k».proof.Proof.Gen.QUpDxReferenceIdeal.Run
public import proofs.«01_k».proof.Proof.Gen.QUpDxReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.QUpDxIdeal.Prod
open Cert.QUpDxIdeal Cert.QUpDxIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x1024.Idx → EReal := m ((c : Thread nD τ).loc main_arg0)
/-- The second argument on a device. -/
abbrev x1 : S384x1024.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 0 : ℕ) = ((cfg0.win 2).index t 0 : ℕ) ∧ ((cfg0.win 0).index t 1 : ℕ) = 0
    ∧ ((cfg0.win 1).index t 0 : ℕ) = ((cfg0.win 2).index t 1 : ℕ) ∧ ((cfg0.win 1).index t 1 : ℕ) = 0 := by decide +kernel

/-- The call's result is the product of the two arguments. -/
theorem arr : (dats m 0 c).arrAt 2 cfg0.N = fun i : S8192x384.Idx => ∑ k : Fin 1024, x0 m c (ix2 (i 0) k) * x1 m c (ix2 (i 1) k) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 1024 → EReal => ∑ k, f k) (funext fun k => congrArg₂ (fun a b : EReal => a * b) ?_ ?_)
  · rw [r0]
    refine congrArg (x0 m c) (funext fun a => Fin.ext ?_)
    match a with
    | ⟨0, _⟩ => blk_simp [e0]
    | ⟨1, _⟩ => blk_simp [e1]
  · rw [r1]
    refine congrArg (x1 m c) (funext fun a => Fin.ext ?_)
    match a with
    | ⟨0, _⟩ => blk_simp [e2]
    | ⟨1, _⟩ => blk_simp [e3]

/-- The reference's result of the same arguments is the same product. -/
theorem meet : (dats m 0 c).arrAt 2 cfg0.N = Cert.QUpDxReferenceIdeal.Read.val_main_v2 (F := Ideal) (x0 m c) (x1 m c) := by
  rw [arr]
  funext i
  refine Eq.trans ?_ (Cert.QUpDxReferenceIdeal.Read.val_main_v2_apply (x0 m c) (x1 m c) i).symm
  refine Finset.sum_congr rfl fun k _ => congrArg₂ (· * ·) (congrArg (x0 m c) (funext fun a => ?_)) (congrArg (x1 m c) (funext fun a => ?_)) <;>
    (match a with
      | ⟨0, _⟩ => rfl
      | ⟨1, _⟩ => rfl)

/-- The exact call and the reference's gradient of the latent of the queries end with the same array. -/
theorem algebraic : Cert.algebraic_QUpDxIdeal_QUpDxReferenceIdeal := fun m g m' g' _ hm => by
  refine ⟨fun c => Cert.QUpDxReferenceIdeal.Read.val_main_v2 (F := Ideal) (x0 m c) (x1 m c), ?_, ?_⟩
  · refine (θ_run defs _ _).mono (fun r h c => ?_) (Cert.QUpDxIdeal.Value.run_blocks m g)
    obtain ⟨h0, ha⟩ := h c
    exact ⟨h0.trans (meet m c), ha⟩
  · refine (θ_run Cert.QUpDxReferenceIdeal.defs _ _).mono (fun r h c => ?_) (Cert.QUpDxReferenceIdeal.Value.run (F := Ideal) m' g')
    obtain ⟨h0, ha⟩ := h c
    obtain ⟨e0, e1⟩ := hm c
    rw [Cert.QUpDxReferenceIdeal.Read.val_main_v2_eq, e0, e1] at h0
    exact ⟨h0, ha⟩

/-- The call leaves its arguments as they are and its counters at zero. -/
theorem frame_p : Cert.quiescent_QUpDx := fun m ρ _ => Cert.QUpDx.Gen.frame m ρ

/-- The exact call leaves its arguments as they are and its counters at zero. -/
theorem frame_pi : Cert.quiescent_QUpDxIdeal := fun m ρ _ => Cert.QUpDxIdeal.Gen.frame m ρ

/-- The reference leaves its arguments as they are and has no counters. -/
theorem frame_ri : Cert.quiescent_QUpDxReferenceIdeal := fun m ρ _ =>
  (θ_run Cert.QUpDxReferenceIdeal.defs _ _).mono (fun r h => ⟨fun c => (h c).2,
      Idealize.ShloMosaic.sem_eq_zero_of_no_sems (by decide) r.2⟩)
    (Cert.QUpDxReferenceIdeal.Value.run (F := Ideal) m ρ)

end Cert.QUpDxIdeal.Prod
end
-- ==== Proof.M.QUpDw.lean ====
/-
The gradient of the weight of the latent of the queries: the call's result is the sum over the tokens, and so is the reference's, with the
factors the other way round and the axes exchanged.
-/
module
public import proofs.«01_k».proof.Defs
public import proofs.«01_k».proof.Proof.Gen.QUpDw
public import proofs.«01_k».proof.Proof.Gen.QUpDw.Frame
public import proofs.«01_k».proof.Proof.Gen.QUpDwIdeal
public import proofs.«01_k».proof.Proof.Gen.QUpDwIdeal.Frame
public import proofs.«01_k».proof.Proof.Gen.QUpDwIdeal.Value
public import proofs.«01_k».proof.Proof.Gen.QUpDwReferenceIdeal
public import proofs.«01_k».proof.Proof.Gen.QUpDwReferenceIdeal.Run
public import proofs.«01_k».proof.Proof.Gen.QUpDwReferenceIdeal.Read
public import Idealize.ShloMosaic.Lib.Pipeline.ValueKit.Geometry
public import Idealize.ShloMosaic.Lib.Pipeline.ValueKit.Acc
public import Idealize.ShloMosaic.Lib.StableHlo.RunRead
public import Idealize.ShloMosaic.Lib.Pointwise
@[expose] public section
set_option maxRecDepth 16384
set_option maxHeartbeats 1000000
noncomputable section
namespace Cert.QUpDwIdeal.Prod
open Cert.QUpDwIdeal Cert.QUpDwIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The first argument on a device. -/
abbrev x0 : S8192x384.Idx → EReal := m ((c : Thread nD τ).loc main_arg0)
/-- The second argument on a device. -/
abbrev x1 : S8192x1024.Idx → EReal := m ((c : Thread nD τ).loc main_arg1)

/-- The call's first operand is the first argument, rounded. -/
theorem V0 : V m c main_v0 = truncf (F := Ideal) .bf16 (x0 m c) bitsLt_bf16_f32 := by
  unfold V; simp only [hostOps0]; after_reads_simp
/-- The call's second operand is the second argument, rounded. -/
theorem V1 : V m c main_v1 = truncf (F := Ideal) .bf16 (x1 m c) bitsLt_bf16_f32 := by
  unfold V; simp only [hostOps0]; after_reads_simp

/-- At a grid point the blocks of the two operands lie in the result block's row and column of tiles, and span the whole
contracted axis. -/
theorem at_ : ∀ t : Fin cfg0.N, ((cfg0.win 0).index t 1 : ℕ) = ((cfg0.win 2).index t 0 : ℕ) ∧ ((cfg0.win 0).index t 0 : ℕ) = 0
    ∧ ((cfg0.win 1).index t 1 : ℕ) = ((cfg0.win 2).index t 1 : ℕ) ∧ ((cfg0.win 1).index t 0 : ℕ) = 0 := by decide +kernel

/-- The call's result is the product of the two arguments. -/
theorem arr : (dats m 0 c).arrAt 2 cfg0.N = fun i : S384x1024.Idx => ∑ k : Fin 8192, x0 m c (ix2 k (i 0)) * x1 m c (ix2 k (i 1)) := by
  refine (dats m 0 c).arrAt_eq_of_covers 2 _ (by decide +kernel) fun t hf y => ?_
  blk_simp
  rw [after0_2]
  obtain ⟨e0, e1, e2, e3⟩ := at_ t
  have r0 : ∀ x, iblk m c 0 t x = x0 m c (((cfg0.win 0).blk t).view.emb x) := fun x => congrFun (V0 m c) _
  have r1 : ∀ x, iblk m c 1 t x = x1 m c (((cfg0.win 1).blk t).view.emb x) := fun x => congrFun (V1 m c) _
  frame_out
  pointwise [k0_pay1]
  refine congrArg (fun f : Fin 8192 → EReal => ∑ k, f k) (funext fun k => congrArg₂ (fun a b : EReal => a * b) ?_ ?_)
  · rw [r0]
    refine congrArg (x0 m c) (funext fun a => Fin.ext ?_)
    match a with
    | ⟨0, _⟩ => blk_simp [e1]
    | ⟨1, _⟩ => blk_simp [e0]
  · rw [r1]
    refine congrArg (x1 m c) (funext fun a => Fin.ext ?_)
    match a with
    | ⟨0, _⟩ => blk_simp [e3]
    | ⟨1, _⟩ => blk_simp [e2]

/-- The reference's result of the same arguments is the same product. -/
theorem meet : (dats m 0 c).arrAt 2 cfg0.N = Cert.QUpDwReferenceIdeal.Read.val_main_v3 (F := Ideal) (x0 m c) (x1 m c) := by
  rw [arr]
  funext i
  rw [Cert.QUpDwReferenceIdeal.Read.val_main_v3_apply, Cert.QUpDwReferenceIdeal.Read.val_main_v2_apply]
  refine Finset.sum_congr rfl fun k _ => (mul_comm _ _).trans (congrArg₂ (· * ·) (congrArg (x1 m c) (funext fun a => ?_)) (congrArg (x0 m c) (funext fun a => ?_))) <;>
    (match a with
      | ⟨0, _⟩ => rfl
      | ⟨1, _⟩ => rfl)

/-- The exact call and the reference's gradient of the weight of the latent of the queries end with the same array. -/
theorem algebraic : Cert.algebraic_QUpDwIdeal_QUpDwReferenceIdeal := fun m g m' g' _ hm => by
  refine ⟨fun c => Cert.QUpDwReferenceIdeal.Read.val_main_v3 (F := Ideal) (x0 m c) (x1 m c), ?_, ?_⟩
  · refine (θ_run defs _ _).mono (fun r h c => ?_) (Cert.QUpDwIdeal.Value.run_blocks m g)
    obtain ⟨h0, ha⟩ := h c
    exact ⟨h0.trans (meet m c), ha⟩
  · refine (θ_run Cert.QUpDwReferenceIdeal.defs _ _).mono (fun r h c => ?_) (Cert.QUpDwReferenceIdeal.Value.run (F := Ideal) m' g')
    obtain ⟨h0, ha⟩ := h c
    obtain ⟨e0, e1⟩ := hm c
    rw [Cert.QUpDwReferenceIdeal.Read.val_main_v3_eq, e0, e1] at h0
    exact ⟨h0, ha⟩

/-- The call leaves its arguments as they are and its counters at zero. -/
theorem frame_p : Cert.quiescent_QUpDw := fun m ρ _ => Cert.QUpDw.Gen.frame m ρ

/-- The exact call leaves its arguments as they are and its counters at zero. -/
theorem frame_pi : Cert.quiescent_QUpDwIdeal := fun m ρ _ => Cert.QUpDwIdeal.Gen.frame m ρ

/-- The reference leaves its arguments as they are and has no counters. -/
theorem frame_ri : Cert.quiescent_QUpDwReferenceIdeal := fun m ρ _ =>
  (θ_run Cert.QUpDwReferenceIdeal.defs _ _).mono (fun r h => ⟨fun c => (h c).2,
      Idealize.ShloMosaic.sem_eq_zero_of_no_sems (by decide) r.2⟩)
    (Cert.QUpDwReferenceIdeal.Value.run (F := Ideal) m ρ)

end Cert.QUpDwIdeal.Prod
end
-- ==== Proof.Cond.lean ====
module
public import proofs.«01_k».proof.Proof.Gen.KernelIdeal.Loops
public import proofs.«01_k».proof.Proof.Gen.KernelIdeal.Points
@[expose] public section
set_option maxRecDepth 16384
set_option maxHeartbeats 4000000
noncomputable section
namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- The key block is the first of its pair of heads. -/
abbrev first (i : grid0.Coords) : Prop :=
  Scalar.cmpi .ne (Scalar.extui (Scalar.cmpi .eq (BitVec.ofNat 32 (i 1).val) 0#32)) 0#32 = 1#1

end Cert.KernelIdeal.Body

end
-- ==== Proof.RunA.lean ====
module
public import proofs.«01_k».proof.Proof.Cond
@[expose] public section
set_option maxRecDepth 16384
set_option maxHeartbeats 4000000
noncomputable section
namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- The body where the key block is the first of its pair of heads (and not the last): the gradient of the queries and the row sums are cleared first. -/
@[irreducible] def runA (𝒱 : Variants) (c : Dev nD) (bd : Option 𝒱.V) (i : grid0.Coords)
    (arg2 : Memref sig .tc .vmem S8192x256 .bf16) (harg2 : arg2.IsWhole)
    (arg3 : Memref sig .tc .vmem S512x256 .bf16) (harg3 : arg3.IsWhole)
    (arg4 : Memref sig .tc .vmem S512x256 .bf16) (harg4 : arg4.IsWhole)
    (arg5 : Memref sig .tc .vmem S8192x256 .bf16) (harg5 : arg5.IsWhole)
    (arg6 : Memref sig .tc .vmem S2x16x1x512 .f32) (harg6 : arg6.IsWhole)
    (arg7 : Memref sig .tc .vmem S2x16x1x512 .f32) (harg7 : arg7.IsWhole)
    (arg8 : Memref sig .tc .vmem S2x16x1x512 .f32) (harg8 : arg8.IsWhole)
    (arg9 : Memref sig .tc .vmem S8192x256 .bf16) (harg9 : arg9.IsWhole)
    (arg10 : Memref sig .tc .vmem S512x256 .bf16) (harg10 : arg10.IsWhole)
    (arg11 : Memref sig .tc .vmem S512x256 .bf16) (harg11 : arg11.IsWhole)
    (arg12 : Memref sig .tc .vmem S2x16x1x512 .f32) (harg12 : arg12.IsWhole)
    (arg13 : Memref sig .tc .vmem S2x1x1x512 .f32) (harg13 : arg13.IsWhole)
    (arg14 : Memref sig .tc .vmem S2x8192x128 .f32) (harg14 : arg14.IsWhole)
    (arg15 : Memref sig .tc .vmem S2x512x128 .f32) (harg15 : arg15.IsWhole)
    (arg16 : Memref sig .tc .vmem S2x512x128 .f32) (harg16 : arg16.IsWhole)
    (arg17 : Memref sig .tc .vmem S2x16x1x512 .f32) (harg17 : arg17.IsWhole)
    (arg18 : Memref sig .tc .vmem S2x512x128 .f32) (harg18 : arg18.IsWhole)
    (h1 : first i) (h2 : ¬ k0_cond2 i = 1#1)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty)
    (f16 : BufTy.Contents (Elt F) arg16.view.ty)
    (f17 : BufTy.Contents (Elt F) arg17.view.ty)
    (f18 : BufTy.Contents (Elt F) arg18.view.ty) :
    Σ' (L10 : List (View.Piece (Elt F) S512x256 .bf16))
      (L11 : List (View.Piece (Elt F) S512x256 .bf16))
      (L13 : List (View.Piece (Elt F) S2x1x1x512 .f32))
      (g14 : BufTy.Contents (Elt F) arg14.view.ty)
      (g15 : BufTy.Contents (Elt F) arg15.view.ty)
      (g16 : BufTy.Contents (Elt F) arg16.view.ty)
      (g17 : BufTy.Contents (Elt F) arg17.view.ty)
      (g18 : BufTy.Contents (Elt F) arg18.view.ty), ∀ (E : Set ℕ),
      (iprop((arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)
        ∗ (arg9.view.loc (c : Thread nD τ) ↦[arg9.view.set]{fullShare} f9)
        ∗ (arg10.view.loc (c : Thread nD τ) ↦[arg10.view.set]{fullShare} f10)
        ∗ (arg11.view.loc (c : Thread nD τ) ↦[arg11.view.set]{fullShare} f11)
        ∗ (arg12.view.loc (c : Thread nD τ) ↦[arg12.view.set]{fullShare} f12)
        ∗ (arg13.view.loc (c : Thread nD τ) ↦[arg13.view.set]{fullShare} f13)
        ∗ (arg14.view.loc (c : Thread nD τ) ↦[arg14.view.set]{fullShare} f14)
        ∗ (arg15.view.loc (c : Thread nD τ) ↦[arg15.view.set]{fullShare} f15)
        ∗ (arg16.view.loc (c : Thread nD τ) ↦[arg16.view.set]{fullShare} f16)
        ∗ (arg17.view.loc (c : Thread nD τ) ↦[arg17.view.set]{fullShare} f17)
        ∗ (arg18.view.loc (c : Thread nD τ) ↦[arg18.view.set]{fullShare} f18)) : sProp 𝕄)
      ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop((arg2.view.loc (c : Thread nD τ) ↦[arg2.view.set]{fullShare} f2)
            ∗ (arg3.view.loc (c : Thread nD τ) ↦[arg3.view.set]{fullShare} f3)
            ∗ (arg4.view.loc (c : Thread nD τ) ↦[arg4.view.set]{fullShare} f4)
            ∗ (arg5.view.loc (c : Thread nD τ) ↦[arg5.view.set]{fullShare} f5)
            ∗ (arg6.view.loc (c : Thread nD τ) ↦[arg6.view.set]{fullShare} f6)
            ∗ (arg7.view.loc (c : Thread nD τ) ↦[arg7.view.set]{fullShare} f7)
            ∗ (arg8.view.loc (c : Thread nD τ) ↦[arg8.view.set]{fullShare} f8)
            ∗ (arg9.view.loc (c : Thread nD τ) ↦[arg9.view.set]{fullShare} f9)
            ∗ (arg10.view.loc (c : Thread nD τ) ↦[arg10.view.set]{fullShare} (arg10.view.writes (Elt F) f10 L10))
            ∗ (arg11.view.loc (c : Thread nD τ) ↦[arg11.view.set]{fullShare} (arg11.view.writes (Elt F) f11 L11))
            ∗ (arg12.view.loc (c : Thread nD τ) ↦[arg12.view.set]{fullShare} f12)
            ∗ (arg13.view.loc (c : Thread nD τ) ↦[arg13.view.set]{fullShare} (arg13.view.writes (Elt F) f13 L13))
            ∗ (arg14.view.loc (c : Thread nD τ) ↦[arg14.view.set]{fullShare} g14)
            ∗ (arg15.view.loc (c : Thread nD τ) ↦[arg15.view.set]{fullShare} g15)
            ∗ (arg16.view.loc (c : Thread nD τ) ↦[arg16.view.set]{fullShare} g16)
            ∗ (arg17.view.loc (c : Thread nD τ) ↦[arg17.view.set]{fullShare} g17)
            ∗ (arg18.view.loc (c : Thread nD τ) ↦[arg18.view.set]{fullShare} g18))) := by
  refine ⟨?_, ?_, ?_, ?_, ?_, ?_, ?_, ?_, fun E => ?run⟩
  case run =>
    unfold cc0_fox_bwd
    iintro ⟨H2, H3, H4, H5, H6, H7, H8, H9, H10, H11, H12, H13, H14, H15, H16, H17, H18⟩
    sl_exec (disch := first | sl_exact h1 | sl_exact h2)
    sl_step
    sl_close

end Cert.KernelIdeal.Body

end
-- ==== Proof.RunB.lean ====
module
public import proofs.«01_k».proof.Proof.Cond
@[expose] public section
set_option maxRecDepth 16384
set_option maxHeartbeats 4000000
noncomputable section
namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- The body between the first and the last key block. -/
@[irreducible] def runB (𝒱 : Variants) (c : Dev nD) (bd : Option 𝒱.V) (i : grid0.Coords)
    (arg2 : Memref sig .tc .vmem S8192x256 .bf16) (harg2 : arg2.IsWhole)
    (arg3 : Memref sig .tc .vmem S512x256 .bf16) (harg3 : arg3.IsWhole)
    (arg4 : Memref sig .tc .vmem S512x256 .bf16) (harg4 : arg4.IsWhole)
    (arg5 : Memref sig .tc .vmem S8192x256 .bf16) (harg5 : arg5.IsWhole)
    (arg6 : Memref sig .tc .vmem S2x16x1x512 .f32) (harg6 : arg6.IsWhole)
    (arg7 : Memref sig .tc .vmem S2x16x1x512 .f32) (harg7 : arg7.IsWhole)
    (arg8 : Memref sig .tc .vmem S2x16x1x512 .f32) (harg8 : arg8.IsWhole)
    (arg9 : Memref sig .tc .vmem S8192x256 .bf16) (harg9 : arg9.IsWhole)
    (arg10 : Memref sig .tc .vmem S512x256 .bf16) (harg10 : arg10.IsWhole)
    (arg11 : Memref sig .tc .vmem S512x256 .bf16) (harg11 : arg11.IsWhole)
    (arg12 : Memref sig .tc .vmem S2x16x1x512 .f32) (harg12 : arg12.IsWhole)
    (arg13 : Memref sig .tc .vmem S2x1x1x512 .f32) (harg13 : arg13.IsWhole)
    (arg14 : Memref sig .tc .vmem S2x8192x128 .f32) (harg14 : arg14.IsWhole)
    (arg15 : Memref sig .tc .vmem S2x512x128 .f32) (harg15 : arg15.IsWhole)
    (arg16 : Memref sig .tc .vmem S2x512x128 .f32) (harg16 : arg16.IsWhole)
    (arg17 : Memref sig .tc .vmem S2x16x1x512 .f32) (harg17 : arg17.IsWhole)
    (arg18 : Memref sig .tc .vmem S2x512x128 .f32) (harg18 : arg18.IsWhole)
    (h1 : ¬ first i) (h2 : ¬ k0_cond2 i = 1#1)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty)
    (f16 : BufTy.Contents (Elt F) arg16.view.ty)
    (f17 : BufTy.Contents (Elt F) arg17.view.ty)
    (f18 : BufTy.Contents (Elt F) arg18.view.ty) :
    Σ' (L10 : List (View.Piece (Elt F) S512x256 .bf16))
      (L11 : List (View.Piece (Elt F) S512x256 .bf16))
      (L13 : List (View.Piece (Elt F) S2x1x1x512 .f32))
      (g14 : BufTy.Contents (Elt F) arg14.view.ty)
      (g15 : BufTy.Contents (Elt F) arg15.view.ty)
      (g16 : BufTy.Contents (Elt F) arg16.view.ty)
      (g17 : BufTy.Contents (Elt F) arg17.view.ty)
      (g18 : BufTy.Contents (Elt F) arg18.view.ty), ∀ (E : Set ℕ),
      (iprop((arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)
        ∗ (arg9.view.loc (c : Thread nD τ) ↦[arg9.view.set]{fullShare} f9)
        ∗ (arg10.view.loc (c : Thread nD τ) ↦[arg10.view.set]{fullShare} f10)
        ∗ (arg11.view.loc (c : Thread nD τ) ↦[arg11.view.set]{fullShare} f11)
        ∗ (arg12.view.loc (c : Thread nD τ) ↦[arg12.view.set]{fullShare} f12)
        ∗ (arg13.view.loc (c : Thread nD τ) ↦[arg13.view.set]{fullShare} f13)
        ∗ (arg14.view.loc (c : Thread nD τ) ↦[arg14.view.set]{fullShare} f14)
        ∗ (arg15.view.loc (c : Thread nD τ) ↦[arg15.view.set]{fullShare} f15)
        ∗ (arg16.view.loc (c : Thread nD τ) ↦[arg16.view.set]{fullShare} f16)
        ∗ (arg17.view.loc (c : Thread nD τ) ↦[arg17.view.set]{fullShare} f17)
        ∗ (arg18.view.loc (c : Thread nD τ) ↦[arg18.view.set]{fullShare} f18)) : sProp 𝕄)
      ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop((arg2.view.loc (c : Thread nD τ) ↦[arg2.view.set]{fullShare} f2)
            ∗ (arg3.view.loc (c : Thread nD τ) ↦[arg3.view.set]{fullShare} f3)
            ∗ (arg4.view.loc (c : Thread nD τ) ↦[arg4.view.set]{fullShare} f4)
            ∗ (arg5.view.loc (c : Thread nD τ) ↦[arg5.view.set]{fullShare} f5)
            ∗ (arg6.view.loc (c : Thread nD τ) ↦[arg6.view.set]{fullShare} f6)
            ∗ (arg7.view.loc (c : Thread nD τ) ↦[arg7.view.set]{fullShare} f7)
            ∗ (arg8.view.loc (c : Thread nD τ) ↦[arg8.view.set]{fullShare} f8)
            ∗ (arg9.view.loc (c : Thread nD τ) ↦[arg9.view.set]{fullShare} f9)
            ∗ (arg10.view.loc (c : Thread nD τ) ↦[arg10.view.set]{fullShare} (arg10.view.writes (Elt F) f10 L10))
            ∗ (arg11.view.loc (c : Thread nD τ) ↦[arg11.view.set]{fullShare} (arg11.view.writes (Elt F) f11 L11))
            ∗ (arg12.view.loc (c : Thread nD τ) ↦[arg12.view.set]{fullShare} f12)
            ∗ (arg13.view.loc (c : Thread nD τ) ↦[arg13.view.set]{fullShare} (arg13.view.writes (Elt F) f13 L13))
            ∗ (arg14.view.loc (c : Thread nD τ) ↦[arg14.view.set]{fullShare} g14)
            ∗ (arg15.view.loc (c : Thread nD τ) ↦[arg15.view.set]{fullShare} g15)
            ∗ (arg16.view.loc (c : Thread nD τ) ↦[arg16.view.set]{fullShare} g16)
            ∗ (arg17.view.loc (c : Thread nD τ) ↦[arg17.view.set]{fullShare} g17)
            ∗ (arg18.view.loc (c : Thread nD τ) ↦[arg18.view.set]{fullShare} g18))) := by
  refine ⟨?_, ?_, ?_, ?_, ?_, ?_, ?_, ?_, fun E => ?run⟩
  case run =>
    unfold cc0_fox_bwd
    iintro ⟨H2, H3, H4, H5, H6, H7, H8, H9, H10, H11, H12, H13, H14, H15, H16, H17, H18⟩
    sl_exec (disch := first | sl_exact h1 | sl_exact h2)
    sl_step
    sl_close

end Cert.KernelIdeal.Body

end
-- ==== Proof.RunC.lean ====
module
public import proofs.«01_k».proof.Proof.Cond
@[expose] public section
set_option maxRecDepth 16384
set_option maxHeartbeats 4000000
noncomputable section
namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- The body at the last key block of a pair of heads: the gradient of the queries and the row sums are given out at the end. -/
@[irreducible] def runC (𝒱 : Variants) (c : Dev nD) (bd : Option 𝒱.V) (i : grid0.Coords)
    (arg2 : Memref sig .tc .vmem S8192x256 .bf16) (harg2 : arg2.IsWhole)
    (arg3 : Memref sig .tc .vmem S512x256 .bf16) (harg3 : arg3.IsWhole)
    (arg4 : Memref sig .tc .vmem S512x256 .bf16) (harg4 : arg4.IsWhole)
    (arg5 : Memref sig .tc .vmem S8192x256 .bf16) (harg5 : arg5.IsWhole)
    (arg6 : Memref sig .tc .vmem S2x16x1x512 .f32) (harg6 : arg6.IsWhole)
    (arg7 : Memref sig .tc .vmem S2x16x1x512 .f32) (harg7 : arg7.IsWhole)
    (arg8 : Memref sig .tc .vmem S2x16x1x512 .f32) (harg8 : arg8.IsWhole)
    (arg9 : Memref sig .tc .vmem S8192x256 .bf16) (harg9 : arg9.IsWhole)
    (arg10 : Memref sig .tc .vmem S512x256 .bf16) (harg10 : arg10.IsWhole)
    (arg11 : Memref sig .tc .vmem S512x256 .bf16) (harg11 : arg11.IsWhole)
    (arg12 : Memref sig .tc .vmem S2x16x1x512 .f32) (harg12 : arg12.IsWhole)
    (arg13 : Memref sig .tc .vmem S2x1x1x512 .f32) (harg13 : arg13.IsWhole)
    (arg14 : Memref sig .tc .vmem S2x8192x128 .f32) (harg14 : arg14.IsWhole)
    (arg15 : Memref sig .tc .vmem S2x512x128 .f32) (harg15 : arg15.IsWhole)
    (arg16 : Memref sig .tc .vmem S2x512x128 .f32) (harg16 : arg16.IsWhole)
    (arg17 : Memref sig .tc .vmem S2x16x1x512 .f32) (harg17 : arg17.IsWhole)
    (arg18 : Memref sig .tc .vmem S2x512x128 .f32) (harg18 : arg18.IsWhole)
    (h1 : ¬ first i) (h2 : k0_cond2 i = 1#1)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty)
    (f16 : BufTy.Contents (Elt F) arg16.view.ty)
    (f17 : BufTy.Contents (Elt F) arg17.view.ty)
    (f18 : BufTy.Contents (Elt F) arg18.view.ty) :
    Σ' (L9 : List (View.Piece (Elt F) S8192x256 .bf16))
      (L12 : List (View.Piece (Elt F) S2x16x1x512 .f32))
      (L10 : List (View.Piece (Elt F) S512x256 .bf16))
      (L11 : List (View.Piece (Elt F) S512x256 .bf16))
      (L13 : List (View.Piece (Elt F) S2x1x1x512 .f32))
      (g14 : BufTy.Contents (Elt F) arg14.view.ty)
      (g15 : BufTy.Contents (Elt F) arg15.view.ty)
      (g16 : BufTy.Contents (Elt F) arg16.view.ty)
      (g17 : BufTy.Contents (Elt F) arg17.view.ty)
      (g18 : BufTy.Contents (Elt F) arg18.view.ty), ∀ (E : Set ℕ),
      (iprop((arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)
        ∗ (arg9.view.loc (c : Thread nD τ) ↦[arg9.view.set]{fullShare} f9)
        ∗ (arg10.view.loc (c : Thread nD τ) ↦[arg10.view.set]{fullShare} f10)
        ∗ (arg11.view.loc (c : Thread nD τ) ↦[arg11.view.set]{fullShare} f11)
        ∗ (arg12.view.loc (c : Thread nD τ) ↦[arg12.view.set]{fullShare} f12)
        ∗ (arg13.view.loc (c : Thread nD τ) ↦[arg13.view.set]{fullShare} f13)
        ∗ (arg14.view.loc (c : Thread nD τ) ↦[arg14.view.set]{fullShare} f14)
        ∗ (arg15.view.loc (c : Thread nD τ) ↦[arg15.view.set]{fullShare} f15)
        ∗ (arg16.view.loc (c : Thread nD τ) ↦[arg16.view.set]{fullShare} f16)
        ∗ (arg17.view.loc (c : Thread nD τ) ↦[arg17.view.set]{fullShare} f17)
        ∗ (arg18.view.loc (c : Thread nD τ) ↦[arg18.view.set]{fullShare} f18)) : sProp 𝕄)
      ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop((arg2.view.loc (c : Thread nD τ) ↦[arg2.view.set]{fullShare} f2)
            ∗ (arg3.view.loc (c : Thread nD τ) ↦[arg3.view.set]{fullShare} f3)
            ∗ (arg4.view.loc (c : Thread nD τ) ↦[arg4.view.set]{fullShare} f4)
            ∗ (arg5.view.loc (c : Thread nD τ) ↦[arg5.view.set]{fullShare} f5)
            ∗ (arg6.view.loc (c : Thread nD τ) ↦[arg6.view.set]{fullShare} f6)
            ∗ (arg7.view.loc (c : Thread nD τ) ↦[arg7.view.set]{fullShare} f7)
            ∗ (arg8.view.loc (c : Thread nD τ) ↦[arg8.view.set]{fullShare} f8)
            ∗ (arg9.view.loc (c : Thread nD τ) ↦[arg9.view.set]{fullShare} (arg9.view.writes (Elt F) f9 L9))
            ∗ (arg10.view.loc (c : Thread nD τ) ↦[arg10.view.set]{fullShare} (arg10.view.writes (Elt F) f10 L10))
            ∗ (arg11.view.loc (c : Thread nD τ) ↦[arg11.view.set]{fullShare} (arg11.view.writes (Elt F) f11 L11))
            ∗ (arg12.view.loc (c : Thread nD τ) ↦[arg12.view.set]{fullShare} (arg12.view.writes (Elt F) f12 L12))
            ∗ (arg13.view.loc (c : Thread nD τ) ↦[arg13.view.set]{fullShare} (arg13.view.writes (Elt F) f13 L13))
            ∗ (arg14.view.loc (c : Thread nD τ) ↦[arg14.view.set]{fullShare} g14)
            ∗ (arg15.view.loc (c : Thread nD τ) ↦[arg15.view.set]{fullShare} g15)
            ∗ (arg16.view.loc (c : Thread nD τ) ↦[arg16.view.set]{fullShare} g16)
            ∗ (arg17.view.loc (c : Thread nD τ) ↦[arg17.view.set]{fullShare} g17)
            ∗ (arg18.view.loc (c : Thread nD τ) ↦[arg18.view.set]{fullShare} g18))) := by
  refine ⟨?_, ?_, ?_, ?_, ?_, ?_, ?_, ?_, ?_, ?_, fun E => ?run⟩
  case run =>
    unfold cc0_fox_bwd
    iintro ⟨H2, H3, H4, H5, H6, H7, H8, H9, H10, H11, H12, H13, H14, H15, H16, H17, H18⟩
    sl_exec (disch := first | sl_exact h1 | sl_exact h2)
    sl_step
    sl_close

end Cert.KernelIdeal.Body

end
-- ==== Proof.Frame.lean ====
/-
Every run of the program ends, gives its five arguments back as it found them and leaves every semaphore at zero. The
body at a grid point is one of the three runs, by the place of the key block among those of its pair of heads; between
two points the five scratch buffers hold whatever the last point left in them.
-/
module
public import proofs.«01_k».proof.Proof.RunA
public import proofs.«01_k».proof.Proof.RunB
public import proofs.«01_k».proof.Proof.RunC
public import proofs.«01_k».proof.Proof.Gen.KernelIdeal.Frame
@[expose] public section
set_option maxRecDepth 16384
set_option maxHeartbeats 4000000
noncomputable section
namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- The key block cannot be both the first and the last of its pair of heads. -/
theorem not_last_of_first (i : grid0.Coords) (h : first i) : ¬ k0_cond2 i = 1#1 := by
  revert h; revert i; decide

/-- The body at any grid point, at the contents its buffers hold: the operands keep theirs, the results and the scratch
    buffers hold something. -/
theorem body_raw (𝒱 : Variants) (c : Dev nD) (bd : Option 𝒱.V) (E : Set ℕ) (i : grid0.Coords)
    (arg2 : Memref sig .tc .vmem S8192x256 .bf16) (harg2 : arg2.IsWhole)
    (arg3 : Memref sig .tc .vmem S512x256 .bf16) (harg3 : arg3.IsWhole)
    (arg4 : Memref sig .tc .vmem S512x256 .bf16) (harg4 : arg4.IsWhole)
    (arg5 : Memref sig .tc .vmem S8192x256 .bf16) (harg5 : arg5.IsWhole)
    (arg6 : Memref sig .tc .vmem S2x16x1x512 .f32) (harg6 : arg6.IsWhole)
    (arg7 : Memref sig .tc .vmem S2x16x1x512 .f32) (harg7 : arg7.IsWhole)
    (arg8 : Memref sig .tc .vmem S2x16x1x512 .f32) (harg8 : arg8.IsWhole)
    (arg9 : Memref sig .tc .vmem S8192x256 .bf16) (harg9 : arg9.IsWhole)
    (arg10 : Memref sig .tc .vmem S512x256 .bf16) (harg10 : arg10.IsWhole)
    (arg11 : Memref sig .tc .vmem S512x256 .bf16) (harg11 : arg11.IsWhole)
    (arg12 : Memref sig .tc .vmem S2x16x1x512 .f32) (harg12 : arg12.IsWhole)
    (arg13 : Memref sig .tc .vmem S2x1x1x512 .f32) (harg13 : arg13.IsWhole)
    (arg14 : Memref sig .tc .vmem S2x8192x128 .f32) (harg14 : arg14.IsWhole)
    (arg15 : Memref sig .tc .vmem S2x512x128 .f32) (harg15 : arg15.IsWhole)
    (arg16 : Memref sig .tc .vmem S2x512x128 .f32) (harg16 : arg16.IsWhole)
    (arg17 : Memref sig .tc .vmem S2x16x1x512 .f32) (harg17 : arg17.IsWhole)
    (arg18 : Memref sig .tc .vmem S2x512x128 .f32) (harg18 : arg18.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)) : sProp 𝕄)
      ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop((arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)
        ∗ (∃ f, (arg9.view.loc (c : Thread nD τ) ↦[arg9.view.set]{fullShare} f))
        ∗ (∃ f, (arg10.view.loc (c : Thread nD τ) ↦[arg10.view.set]{fullShare} f))
        ∗ (∃ f, (arg11.view.loc (c : Thread nD τ) ↦[arg11.view.set]{fullShare} f))
        ∗ (∃ f, (arg12.view.loc (c : Thread nD τ) ↦[arg12.view.set]{fullShare} f))
        ∗ (∃ f, (arg13.view.loc (c : Thread nD τ) ↦[arg13.view.set]{fullShare} f))
        ∗ (∃ f, (arg14.view.loc (c : Thread nD τ) ↦[arg14.view.set]{fullShare} f))
        ∗ (∃ f, (arg15.view.loc (c : Thread nD τ) ↦[arg15.view.set]{fullShare} f))
        ∗ (∃ f, (arg16.view.loc (c : Thread nD τ) ↦[arg16.view.set]{fullShare} f))
        ∗ (∃ f, (arg17.view.loc (c : Thread nD τ) ↦[arg17.view.set]{fullShare} f))
        ∗ (∃ f, (arg18.view.loc (c : Thread nD τ) ↦[arg18.view.set]{fullShare} f)))) := by
  by_cases h1 : first i
  · have h2 := not_last_of_first i h1
    refine ((runA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.2.2.2.2.2.2 E).trans (wp_mono _ _ _ fun _ => ?_)
    iintro ⟨H2, H3, H4, H5, H6, H7, H8, H9, H10, H11, H12, H13, H14, H15, H16, H17, H18⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18
  · by_cases h2 : k0_cond2 i = 1#1
    · refine ((runC 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.2.2.2.2.2.2.2.2 E).trans (wp_mono _ _ _ fun _ => ?_)
      iintro ⟨H2, H3, H4, H5, H6, H7, H8, H9, H10, H11, H12, H13, H14, H15, H16, H17, H18⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      iexists _; iexact H18
    · refine ((runB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.2.2.2.2.2.2 E).trans (wp_mono _ _ _ fun _ => ?_)
      iintro ⟨H2, H3, H4, H5, H6, H7, H8, H9, H10, H11, H12, H13, H14, H15, H16, H17, H18⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      iexists _; iexact H18

/-- The body at any grid point, on whole buffers. -/
theorem body_own (𝒱 : Variants) (c : Dev nD) (bd : Option 𝒱.V) (E : Set ℕ) (i : grid0.Coords)
    (arg2 : Memref sig .tc .vmem S8192x256 .bf16) (harg2 : arg2.IsWhole)
    (arg3 : Memref sig .tc .vmem S512x256 .bf16) (harg3 : arg3.IsWhole)
    (arg4 : Memref sig .tc .vmem S512x256 .bf16) (harg4 : arg4.IsWhole)
    (arg5 : Memref sig .tc .vmem S8192x256 .bf16) (harg5 : arg5.IsWhole)
    (arg6 : Memref sig .tc .vmem S2x16x1x512 .f32) (harg6 : arg6.IsWhole)
    (arg7 : Memref sig .tc .vmem S2x16x1x512 .f32) (harg7 : arg7.IsWhole)
    (arg8 : Memref sig .tc .vmem S2x16x1x512 .f32) (harg8 : arg8.IsWhole)
    (arg9 : Memref sig .tc .vmem S8192x256 .bf16) (harg9 : arg9.IsWhole)
    (arg10 : Memref sig .tc .vmem S512x256 .bf16) (harg10 : arg10.IsWhole)
    (arg11 : Memref sig .tc .vmem S512x256 .bf16) (harg11 : arg11.IsWhole)
    (arg12 : Memref sig .tc .vmem S2x16x1x512 .f32) (harg12 : arg12.IsWhole)
    (arg13 : Memref sig .tc .vmem S2x1x1x512 .f32) (harg13 : arg13.IsWhole)
    (arg14 : Memref sig .tc .vmem S2x8192x128 .f32) (harg14 : arg14.IsWhole)
    (arg15 : Memref sig .tc .vmem S2x512x128 .f32) (harg15 : arg15.IsWhole)
    (arg16 : Memref sig .tc .vmem S2x512x128 .f32) (harg16 : arg16.IsWhole)
    (arg17 : Memref sig .tc .vmem S2x16x1x512 .f32) (harg17 : arg17.IsWhole)
    (arg18 : Memref sig .tc .vmem S2x512x128 .f32) (harg18 : arg18.IsWhole)
    (X2 : S8192x256.Idx → Elt F .bf16) (X3 : S512x256.Idx → Elt F .bf16) (X4 : S512x256.Idx → Elt F .bf16) (X5 : S8192x256.Idx → Elt F .bf16) (X6 : S2x16x1x512.Idx → Elt F .f32) (X7 : S2x16x1x512.Idx → Elt F .f32) (X8 : S2x16x1x512.Idx → Elt F .f32) :
    (iprop(owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ (∃ X, owns (c : Thread nD τ) arg9 fullShare X)
        ∗ (∃ X, owns (c : Thread nD τ) arg10 fullShare X)
        ∗ (∃ X, owns (c : Thread nD τ) arg11 fullShare X)
        ∗ (∃ X, owns (c : Thread nD τ) arg12 fullShare X)
        ∗ (∃ X, owns (c : Thread nD τ) arg13 fullShare X)
        ∗ (∃ X, owns (c : Thread nD τ) arg14 fullShare X)
        ∗ (∃ X, owns (c : Thread nD τ) arg15 fullShare X)
        ∗ (∃ X, owns (c : Thread nD τ) arg16 fullShare X)
        ∗ (∃ X, owns (c : Thread nD τ) arg17 fullShare X)
        ∗ (∃ X, owns (c : Thread nD τ) arg18 fullShare X)) : sProp 𝕄)
      ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ (∃ X, owns (c : Thread nD τ) arg9 fullShare X)
        ∗ (∃ X, owns (c : Thread nD τ) arg10 fullShare X)
        ∗ (∃ X, owns (c : Thread nD τ) arg11 fullShare X)
        ∗ (∃ X, owns (c : Thread nD τ) arg12 fullShare X)
        ∗ (∃ X, owns (c : Thread nD τ) arg13 fullShare X)
        ∗ (∃ X, owns (c : Thread nD τ) arg14 fullShare X)
        ∗ (∃ X, owns (c : Thread nD τ) arg15 fullShare X)
        ∗ (∃ X, owns (c : Thread nD τ) arg16 fullShare X)
        ∗ (∃ X, owns (c : Thread nD τ) arg17 fullShare X)
        ∗ (∃ X, owns (c : Thread nD τ) arg18 fullShare X))) := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%x9, %f9, %e9, H9⟩, ⟨%x10, %f10, %e10, H10⟩, ⟨%x11, %f11, %e11, H11⟩, ⟨%x12, %f12, %e12, H12⟩, ⟨%x13, %f13, %e13, H13⟩, ⟨%x14, %f14, %e14, H14⟩, ⟨%x15, %f15, %e15, H15⟩, ⟨%x16, %f16, %e16, H16⟩, ⟨%x17, %f17, %e17, H17⟩, ⟨%x18, %f18, %e18, H18⟩⟩
  refine BIBase.Entails.trans ?_ ((body_raw 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f2 f3 f4 f5 f6 f7 f8 f9 f10 f11 f12 f13 f14 f15 f16 f17 f18).trans
    (wp_mono _ _ _ fun _ => ?_))
  · iintro ⟨⟨⟨⟨⟨⟨⟨⟨⟨⟨⟨⟨⟨⟨⟨⟨H2, H3⟩, H4⟩, H5⟩, H6⟩, H7⟩, H8⟩, H9⟩, H10⟩, H11⟩, H12⟩, H13⟩, H14⟩, H15⟩, H16⟩, H17⟩, H18⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · iintro ⟨H2, H3, H4, H5, H6, H7, H8, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩⟩
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    iexists _; iexists _; isplitr; swap; · iexact H18
    ipureintro; rfl

variable (m : (ℓ : Loc nD τ sig) → Buf (Elt F) ℓ) (ρ : Dev nD → PrngReg)

/-- Nothing is said of the five results. -/
def forgets0 : Fin 12 → Bool := fun w => decide (7 ≤ w.val)

/-- What the run of a core keeps: its operands' blocks, and scratch buffers that hold something. -/
def dats (_ : Fin 1) (c : Dev nD) : Dat τ (Elt F) Unit ℕ (UR sig nD τ) ℕ cfg0 c where
  A w := V m c (Pipeline.arrRef spec0 w)
  after
    | 0, t => iblk m c 0 t
    | 1, t => iblk m c 1 t
    | 2, t => iblk m c 2 t
    | 3, t => iblk m c 3 t
    | 4, t => iblk m c 4 t
    | 5, t => iblk m c 5 t
    | 6, t => iblk m c 6 t
    | 7, t => Pipeline.Dat.unnamed (cfg := cfg0) 7 t
    | 8, t => Pipeline.Dat.unnamed (cfg := cfg0) 8 t
    | 9, t => Pipeline.Dat.unnamed (cfg := cfg0) 9 t
    | 10, t => Pipeline.Dat.unnamed (cfg := cfg0) 10 t
    | 11, t => Pipeline.Dat.unnamed (cfg := cfg0) 11 t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d))
/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d))

/-- The body at a grid point of the run: from the operands' blocks and any results and scratch contents to the same. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).owesAt () t.succ = (dats m 0 c).owesAt () t.castSucc from rfl,
    show (dats m 0 c).Φ t.castSucc = Pipeline.ΦA spec0 c from rfl]
  unfold Pipeline.ΦA
  rw [scopedRest0_eq]
  simp only [before_0, before_1, before_2, before_3, before_4, before_5, before_6, after_0, after_1, after_2, after_3, after_4, after_5, after_6]
  iintro ⟨⟨⟨⟨%f14, H14⟩, ⟨%f15, H15⟩, ⟨%f16, H16⟩, ⟨%f17, H17⟩, ⟨%f18, H18⟩⟩, Hg⟩, HO, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩⟩
  have h := body_own (F := F) Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t)
  simp only [owns_whole] at h
  iapply ((sep_mono h .rfl).trans (wp_wand_r _ _ _))
  isplitl [W0 W1 W2 W3 W4 W5 W6 W7 W8 W9 W10 W11 H14 H15 H16 H17 H18]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexists _; iexact W7
    isplitl [W8]; · iexists _; iexact W8
    isplitl [W9]; · iexists _; iexact W9
    isplitl [W10]; · iexists _; iexact W10
    isplitl [W11]; · iexists _; iexact W11
    isplitl [H14]; · iexists _; iexact H14
    isplitl [H15]; · iexists _; iexact H15
    isplitl [H16]; · iexists _; iexact H16
    isplitl [H17]; · iexists _; iexact H17
    iexists _; iexact H18
  iintro %_ ⟨W0, W1, W2, W3, W4, W5, W6, W7, W8, W9, W10, W11, H14, H15, H16, H17, H18⟩
  isplitl [H14 H15 H16 H17 H18 Hg]
  · isplitl [H14 H15 H16 H17 H18]
    · isplitl [H14]; · iexact H14
      isplitl [H15]; · iexact H15
      isplitl [H16]; · iexact H16
      isplitl [H17]; · iexact H17
      iexact H18
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  iexact W11

/-- The row of the body table at a grid point is the body. -/
theorem defs₀_row (t : Fin cfg0.N) : defs₀ (F := F) .tc cfg0.body (cfg0.bodyArgs t (cfg0.slots t)) = bodyAt0 t := by
  unfold defs₀; rw [Defs.onTc_tc]

/-- The body keeps the invariant at every point of the run. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every run ends, leaves every unscoped buffer that is no operand of the call as the host code left it and every
semaphore at zero. -/
theorem run_main :
    θ_run defs (onTc (τ := τ) (main (F := F))) ⟨m, fun _ => 0, ρ⟩
      (fun r => Pipeline.RDat.FramePost (cfgs 0) (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl) (hQ' := fun _ h => h)

/-- Every run ends, gives the five arguments back unchanged and leaves every semaphore at zero. -/
theorem quiet :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun r h => ⟨fun c => ⟨
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩, h.2⟩)
    (run_main m ρ)

end Cert.KernelIdeal.Body
-- ==== Proof.K.Cond.lean ====
module
public import proofs.«01_k».proof.Proof.Gen.Kernel.Loops
public import proofs.«01_k».proof.Proof.Gen.Kernel.Points
@[expose] public section
set_option maxRecDepth 16384
set_option maxHeartbeats 4000000
noncomputable section
namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The key block is the first of its pair of heads. -/
abbrev first (i : grid0.Coords) : Prop :=
  Scalar.cmpi .ne (Scalar.extui (Scalar.cmpi .eq (BitVec.ofNat 32 (i 1).val) 0#32)) 0#32 = 1#1

end Cert.Kernel.Body

end
-- ==== Proof.V.Pay.lean ====
/-
What the body computes at one tile, over the extended reals, where everything it reads is a real number: each value at an
index is the real expression that the formula of the gradient has there.
-/
module
public import proofs.«01_k».proof.Proof.Gen.KernelIdeal.Skeleton
public import Idealize.ShloMosaic.Lib.Pointwise
@[expose] public section
set_option maxRecDepth 16384
set_option maxHeartbeats 4000000
noncomputable section
namespace Cert.KernelIdeal.Tile
open Cert.KernelIdeal Cert.KernelIdeal.Gen
open Idealize.ShloMosaic

/-- A matrix holds the real numbers `x a b`. -/
def isM {n m : ℕ} (X : (⟨2, ![n, m]⟩ : Shape).Idx → EReal) (x : ℕ → ℕ → ℝ) : Prop :=
  ∀ (a : Fin n) (b : Fin m), X (ix2 a b) = ((x a b : ℝ) : EReal)
/-- A slab of one matrix holds the real numbers `x a b`. -/
def isS {n m : ℕ} (X : (⟨3, ![1, n, m]⟩ : Shape).Idx → EReal) (x : ℕ → ℕ → ℝ) : Prop :=
  ∀ (a : Fin n) (b : Fin m), X (ix3 0 a b) = ((x a b : ℝ) : EReal)
/-- A row holds the real numbers `x b`. -/
def isR {n : ℕ} (X : (⟨4, ![1, 1, 1, n]⟩ : Shape).Idx → EReal) (x : ℕ → ℝ) : Prop :=
  ∀ b : Fin n, X (ix4 0 0 0 b) = ((x b : ℝ) : EReal)

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha h => rw [Finset.sum_insert ha, Finset.sum_insert ha, EReal.coe_add, h]

/-- The exponential of a score, base two: of key `a` against query `b`. -/
def sc (kt qt : ℕ → ℕ → ℝ) (fr fc ls : ℕ → ℝ) (a b : ℕ) : ℝ :=
  Real.rpow 2 (∑ l ∈ Finset.range 128, kt a l * qt b l + (fr b - fc a) - ls b)

theorem mask_eq : Named.named (F := Ideal) κ "mask" (φ := .f32) 0xF149F2CA#32 = ⊥ :=
  IdealRules.named_const.ideal_named_scalar _ _ _ _ rfl

theorem ln2_eq : Named.named (F := Ideal) κ "ln2" (φ := .f32) 0x3F317218#32 = ((Real.log 2 : ℝ) : EReal) :=
  IdealRules.named_const.ideal_named_scalar _ _ _ _ rfl

theorem eighth : Ideal.ofBits .f32 0x3E000000#32 = ((0.125 : ℝ) : EReal) := by
  simp [Ideal.ofBits, Ideal.ieee, -EReal.coe_mul]; norm_num

theorem zeros14 (x : S2x8192x128.Idx) : k0_pay50 (F := Ideal) x = 0 := by pointwise [k0_pay50]
theorem zeros17 (x : S2x16x1x512.Idx) : k0_pay51 (F := Ideal) x = 0 := by pointwise [k0_pay51]
theorem zeros15 (x : S2x512x128.Idx) : k0_pay52 (F := Ideal) x = 0 := by pointwise [k0_pay52]
theorem zeros16 (x : S2x512x128.Idx) : k0_pay53 (F := Ideal) x = 0 := by pointwise [k0_pay53]
theorem zeros18 (x : S2x512x128.Idx) : k0_pay54 (F := Ideal) x = 0 := by pointwise [k0_pay54]

/-- The mask at a tile on the diagonal lets a query see the keys up to its own. -/
theorem causal_word (a b : ℕ) (ha : a < 512) (hb : b < 512) :
    IntOp.cmpi .sge (BitVec.ofNat 32 b) (BitVec.ofNat 32 a) = if a ≤ b then 1#1 else 0#1 := by
  have h : (BitVec.ofNat 32 a).sle (BitVec.ofNat 32 b) = decide (a ≤ b) := by
    rw [BitVec.sle, BitVec.toInt_eq_toNat_of_lt (by simp; omega), BitVec.toInt_eq_toNat_of_lt (by simp; omega)]
    simp [Nat.mod_eq_of_lt (show a < 4294967296 by omega), Nat.mod_eq_of_lt (show b < 4294967296 by omega)]
  show BitVec.ofBool ((BitVec.ofNat 32 a).sle (BitVec.ofNat 32 b)) = _
  rw [h]
  by_cases h' : a ≤ b <;> simp [h']

section
variable {v5 : FVec Ideal S512x128 .f32} {k v q g : FVec Ideal S512x128 .bf16} {r l d : FVec Ideal S1x1x1x512 .f32}
  {e p w : FVec Ideal S512x512 .f32} {s : FVec Ideal S1x512x128 .f32} {fr fc ls dl rt : ℕ → ℝ} {kt vt qt gt pt dt st st st st st : ℕ → ℕ → ℝ}

theorem pay6_is (h5 : isM v5 fun a _ => fc a) (hk : isM k kt) (hq : isM q qt) (hr : isR r fr) (hl : isR l ls) :
    isM (k0_pay6 v5 k q r l) (sc kt qt fr fc ls) := by
  intro a b
  try unfold isM at h5
  try unfold isS at h5
  try unfold isR at h5
  try unfold isM at hk
  try unfold isS at hk
  try unfold isR at hk
  try unfold isM at hq
  try unfold isS at hq
  try unfold isR at hq
  try unfold isM at hr
  try unfold isS at hr
  try unfold isR at hr
  try unfold isM at hl
  try unfold isS at hl
  try unfold isR at hl
  pointwise [k0_pay6, k0_pay4]
  simp only [h5, hk, hq, hr, hl, sc, Finset.sum_range]
  simp only [dite_eq_ite, ite_self, ← EReal.coe_mul, ← coe_sum, ← EReal.coe_add, ← EReal.coe_sub, ← EReal.coe_neg]
  rfl

theorem pay18_is (h5 : isM v5 fun a _ => fc a) (hk : isM k kt) (hq : isM q qt) (hr : isR r fr) (hl : isR l ls) :
    isM (k0_pay18 v5 k q r l) (sc kt qt fr fc ls) := by
  intro a b
  try unfold isM at h5
  try unfold isS at h5
  try unfold isR at h5
  try unfold isM at hk
  try unfold isS at hk
  try unfold isR at hk
  try unfold isM at hq
  try unfold isS at hq
  try unfold isR at hq
  try unfold isM at hr
  try unfold isS at hr
  try unfold isR at hr
  try unfold isM at hl
  try unfold isS at hl
  try unfold isR at hl
  pointwise [k0_pay18, k0_pay16]
  simp only [h5, hk, hq, hr, hl, sc, Finset.sum_range]
  simp only [dite_eq_ite, ite_self, ← EReal.coe_mul, ← coe_sum, ← EReal.coe_add, ← EReal.coe_sub, ← EReal.coe_neg]
  rfl

theorem pay61_is (h5 : isM v5 fun a _ => fc a) (hk : isM k kt) (hq : isM q qt) (hr : isR r fr) (hl : isR l ls) :
    isM (k0_pay61 v5 k q r l) (fun a b => if a ≤ b then sc kt qt fr fc ls a b else 0) := by
  intro a b
  try unfold isM at h5
  try unfold isS at h5
  try unfold isR at h5
  try unfold isM at hk
  try unfold isS at hk
  try unfold isR at hk
  try unfold isM at hq
  try unfold isS at hq
  try unfold isR at hq
  try unfold isM at hr
  try unfold isS at hr
  try unfold isR at hr
  try unfold isM at hl
  try unfold isS at hl
  try unfold isR at hl
  pointwise [k0_pay61, k0_pay59]
  simp only [h5, hk, hq, hr, hl, sc, Finset.sum_range]
  rw [mask_eq, causal_word _ _ a.isLt b.isLt]
  by_cases h : (a : ℕ) ≤ b
  · rw [if_pos h, if_pos h]
    simp only [Scalar.select, if_true, dite_eq_ite, ite_self, ← EReal.coe_mul, ← coe_sum, ← EReal.coe_add, ← EReal.coe_sub]
    rfl
  · rw [if_neg h, if_neg h]
    rfl

theorem pay73_is (h5 : isM v5 fun a _ => fc a) (hk : isM k kt) (hq : isM q qt) (hr : isR r fr) (hl : isR l ls) :
    isM (k0_pay73 v5 k q r l) (fun a b => if a ≤ b then sc kt qt fr fc ls a b else 0) := by
  intro a b
  try unfold isM at h5
  try unfold isS at h5
  try unfold isR at h5
  try unfold isM at hk
  try unfold isS at hk
  try unfold isR at hk
  try unfold isM at hq
  try unfold isS at hq
  try unfold isR at hq
  try unfold isM at hr
  try unfold isS at hr
  try unfold isR at hr
  try unfold isM at hl
  try unfold isS at hl
  try unfold isR at hl
  pointwise [k0_pay73, k0_pay71]
  simp only [h5, hk, hq, hr, hl, sc, Finset.sum_range]
  rw [mask_eq, causal_word _ _ a.isLt b.isLt]
  by_cases h : (a : ℕ) ≤ b
  · rw [if_pos h, if_pos h]
    simp only [Scalar.select, if_true, dite_eq_ite, ite_self, ← EReal.coe_mul, ← coe_sum, ← EReal.coe_add, ← EReal.coe_sub]
    rfl
  · rw [if_neg h, if_neg h]
    rfl

theorem pay7_is (hp : isM (k0_pay6 v5 k q r l) pt) (hg : isM g gt) (ha : isS s st) :
    isS (k0_pay7 v5 k q g r l s) (fun a l => st a l + ∑ b ∈ Finset.range 512, pt a b * gt b l) := by
  intro a b
  try unfold isM at hp
  try unfold isS at hp
  try unfold isR at hp
  try unfold isM at hg
  try unfold isS at hg
  try unfold isR at hg
  try unfold isM at ha
  try unfold isS at ha
  try unfold isR at ha
  pointwise [k0_pay7, k0_pay5]
  simp only [hp, hg, ha, Finset.sum_range]
  simp only [dite_eq_ite, ite_self, ← EReal.coe_mul, ← coe_sum, ← EReal.coe_add, ← EReal.coe_sub, ← EReal.coe_neg]

theorem pay19_is (hp : isM (k0_pay18 v5 k q r l) pt) (hg : isM g gt) (ha : isS s st) :
    isS (k0_pay19 v5 k q g r l s) (fun a l => st a l + ∑ b ∈ Finset.range 512, pt a b * gt b l) := by
  intro a b
  try unfold isM at hp
  try unfold isS at hp
  try unfold isR at hp
  try unfold isM at hg
  try unfold isS at hg
  try unfold isR at hg
  try unfold isM at ha
  try unfold isS at ha
  try unfold isR at ha
  pointwise [k0_pay19, k0_pay17]
  simp only [hp, hg, ha, Finset.sum_range]
  simp only [dite_eq_ite, ite_self, ← EReal.coe_mul, ← coe_sum, ← EReal.coe_add, ← EReal.coe_sub, ← EReal.coe_neg]

theorem pay63_is (hp : isM (k0_pay61 v5 k q r l) pt) (hg : isM g gt) (ha : isS s st) :
    isS (k0_pay63 (k0_pay62 v5 k q g r l s)) (fun a l => st a l + ∑ b ∈ Finset.range 512, pt a b * gt b l) := by
  intro a b
  try unfold isM at hp
  try unfold isS at hp
  try unfold isR at hp
  try unfold isM at hg
  try unfold isS at hg
  try unfold isR at hg
  try unfold isM at ha
  try unfold isS at ha
  try unfold isR at ha
  pointwise [k0_pay62, k0_pay63, k0_pay60]
  simp only [hp, hg, ha, Finset.sum_range]
  simp only [dite_eq_ite, ite_self, ← EReal.coe_mul, ← coe_sum, ← EReal.coe_add, ← EReal.coe_sub, ← EReal.coe_neg]

theorem pay74_is (hp : isM p pt) (hg : isM g gt) (ha : isS s st) :
    isS (k0_pay74 (k0_pay72 g) p s) (fun a l => st a l + ∑ b ∈ Finset.range 512, pt a b * gt b l) := by
  intro a b
  try unfold isM at hp
  try unfold isS at hp
  try unfold isR at hp
  try unfold isM at hg
  try unfold isS at hg
  try unfold isR at hg
  try unfold isM at ha
  try unfold isS at ha
  try unfold isR at ha
  pointwise [k0_pay74, k0_pay72]
  simp only [hp, hg, ha, Finset.sum_range]
  simp only [dite_eq_ite, ite_self, ← EReal.coe_mul, ← coe_sum, ← EReal.coe_add, ← EReal.coe_sub, ← EReal.coe_neg]

theorem pay8_is (hp : isM (k0_pay6 v5 k q r l) pt) (hv : isM v vt) (hg : isM g gt) (hd : isR d dl) :
    isM (k0_pay8 v5 k v q g r l d) (fun a b => pt a b * (∑ l ∈ Finset.range 128, vt a l * gt b l - dl b)) := by
  intro a b
  try unfold isM at hp
  try unfold isS at hp
  try unfold isR at hp
  try unfold isM at hv
  try unfold isS at hv
  try unfold isR at hv
  try unfold isM at hg
  try unfold isS at hg
  try unfold isR at hg
  try unfold isM at hd
  try unfold isS at hd
  try unfold isR at hd
  pointwise [k0_pay8, k0_pay5]
  simp only [hp, hv, hg, hd, Finset.sum_range]
  simp only [dite_eq_ite, ite_self, ← EReal.coe_mul, ← coe_sum, ← EReal.coe_add, ← EReal.coe_sub, ← EReal.coe_neg]

theorem pay21_is (hp : isM p pt) (hv : isM v vt) (hg : isM g gt) (hd : isR d dl) :
    isM (k0_pay21 p (k0_pay20 v g) d) (fun a b => pt a b * (∑ l ∈ Finset.range 128, vt a l * gt b l - dl b)) := by
  intro a b
  try unfold isM at hp
  try unfold isS at hp
  try unfold isR at hp
  try unfold isM at hv
  try unfold isS at hv
  try unfold isR at hv
  try unfold isM at hg
  try unfold isS at hg
  try unfold isR at hg
  try unfold isM at hd
  try unfold isS at hd
  try unfold isR at hd
  pointwise [k0_pay21, k0_pay20, k0_pay17]
  simp only [hp, hv, hg, hd, Finset.sum_range]
  simp only [dite_eq_ite, ite_self, ← EReal.coe_mul, ← coe_sum, ← EReal.coe_add, ← EReal.coe_sub, ← EReal.coe_neg]

theorem pay64_is (hp : isM p pt) (hv : isM v vt) (hg : isM g gt) (hd : isR d dl) :
    isM (k0_pay64 v (k0_pay60 g) p d) (fun a b => pt a b * (∑ l ∈ Finset.range 128, vt a l * gt b l - dl b)) := by
  intro a b
  try unfold isM at hp
  try unfold isS at hp
  try unfold isR at hp
  try unfold isM at hv
  try unfold isS at hv
  try unfold isR at hv
  try unfold isM at hg
  try unfold isS at hg
  try unfold isR at hg
  try unfold isM at hd
  try unfold isS at hd
  try unfold isR at hd
  pointwise [k0_pay64, k0_pay60]
  simp only [hp, hv, hg, hd, Finset.sum_range]
  simp only [dite_eq_ite, ite_self, ← EReal.coe_mul, ← coe_sum, ← EReal.coe_add, ← EReal.coe_sub, ← EReal.coe_neg]

theorem pay75_is (hp : isM p pt) (hv : isM v vt) (hg : isM g gt) (hd : isR d dl) :
    isM (k0_pay75 v (k0_pay72 g) p d) (fun a b => pt a b * (∑ l ∈ Finset.range 128, vt a l * gt b l - dl b)) := by
  intro a b
  try unfold isM at hp
  try unfold isS at hp
  try unfold isR at hp
  try unfold isM at hv
  try unfold isS at hv
  try unfold isR at hv
  try unfold isM at hg
  try unfold isS at hg
  try unfold isR at hg
  try unfold isM at hd
  try unfold isS at hd
  try unfold isR at hd
  pointwise [k0_pay75, k0_pay72]
  simp only [hp, hv, hg, hd, Finset.sum_range]
  simp only [dite_eq_ite, ite_self, ← EReal.coe_mul, ← coe_sum, ← EReal.coe_add, ← EReal.coe_sub, ← EReal.coe_neg]

theorem pay10_is (hs : isM e dt) (hq : isM q qt) (ha : isS s st) :
    isS (k0_pay10 (k0_pay4 q) e s) (fun a l => st a l + ∑ b ∈ Finset.range 512, dt a b * qt b l) := by
  intro a b
  try unfold isM at hs
  try unfold isS at hs
  try unfold isR at hs
  try unfold isM at hq
  try unfold isS at hq
  try unfold isR at hq
  try unfold isM at ha
  try unfold isS at ha
  try unfold isR at ha
  pointwise [k0_pay10, k0_pay9, k0_pay4]
  simp only [hs, hq, ha, Finset.sum_range]
  simp only [dite_eq_ite, ite_self, ← EReal.coe_mul, ← coe_sum, ← EReal.coe_add, ← EReal.coe_sub, ← EReal.coe_neg]

theorem pay23_is (hs : isM (k0_pay21 p w d) dt) (hq : isM q qt) (ha : isS s st) :
    isS (k0_pay23 (k0_pay16 q) p w d s) (fun a l => st a l + ∑ b ∈ Finset.range 512, dt a b * qt b l) := by
  intro a b
  try unfold isM at hs
  try unfold isS at hs
  try unfold isR at hs
  try unfold isM at hq
  try unfold isS at hq
  try unfold isR at hq
  try unfold isM at ha
  try unfold isS at ha
  try unfold isR at ha
  pointwise [k0_pay23, k0_pay22, k0_pay16]
  simp only [hs, hq, ha, Finset.sum_range]
  simp only [dite_eq_ite, ite_self, ← EReal.coe_mul, ← coe_sum, ← EReal.coe_add, ← EReal.coe_sub, ← EReal.coe_neg]

theorem pay66_is (hs : isM (k0_pay64 v (k0_pay60 g) p d) dt) (hq : isM q qt) (ha : isS s st) :
    isS (k0_pay66 v (k0_pay59 q) (k0_pay60 g) p d s) (fun a l => st a l + ∑ b ∈ Finset.range 512, dt a b * qt b l) := by
  intro a b
  try unfold isM at hs
  try unfold isS at hs
  try unfold isR at hs
  try unfold isM at hq
  try unfold isS at hq
  try unfold isR at hq
  try unfold isM at ha
  try unfold isS at ha
  try unfold isR at ha
  pointwise [k0_pay66, k0_pay65, k0_pay59]
  simp only [hs, hq, ha, Finset.sum_range]
  simp only [dite_eq_ite, ite_self, ← EReal.coe_mul, ← coe_sum, ← EReal.coe_add, ← EReal.coe_sub, ← EReal.coe_neg]

theorem pay77_is (hs : isM (k0_pay75 v (k0_pay72 g) p d) dt) (hq : isM q qt) (ha : isS s st) :
    isS (k0_pay77 v (k0_pay71 q) (k0_pay72 g) p d s) (fun a l => st a l + ∑ b ∈ Finset.range 512, dt a b * qt b l) := by
  intro a b
  try unfold isM at hs
  try unfold isS at hs
  try unfold isR at hs
  try unfold isM at hq
  try unfold isS at hq
  try unfold isR at hq
  try unfold isM at ha
  try unfold isS at ha
  try unfold isR at ha
  pointwise [k0_pay77, k0_pay76, k0_pay71]
  simp only [hs, hq, ha, Finset.sum_range]
  simp only [dite_eq_ite, ite_self, ← EReal.coe_mul, ← coe_sum, ← EReal.coe_add, ← EReal.coe_sub, ← EReal.coe_neg]

theorem pay11_is (hs : isM e dt) (hk : isM k kt) (ha : isS s st) :
    isS (k0_pay11 k e s) (fun b l => st b l + ∑ a ∈ Finset.range 512, dt a b * kt a l) := by
  intro a b
  try unfold isM at hs
  try unfold isS at hs
  try unfold isR at hs
  try unfold isM at hk
  try unfold isS at hk
  try unfold isR at hk
  try unfold isM at ha
  try unfold isS at ha
  try unfold isR at ha
  pointwise [k0_pay11, k0_pay9]
  simp only [hs, hk, ha, Finset.sum_range]
  simp only [dite_eq_ite, ite_self, ← EReal.coe_mul, ← coe_sum, ← EReal.coe_add, ← EReal.coe_sub, ← EReal.coe_neg]

theorem pay24_is (hs : isM (k0_pay21 p w d) dt) (hk : isM k kt) (ha : isS s st) :
    isS (k0_pay24 k p w d s) (fun b l => st b l + ∑ a ∈ Finset.range 512, dt a b * kt a l) := by
  intro a b
  try unfold isM at hs
  try unfold isS at hs
  try unfold isR at hs
  try unfold isM at hk
  try unfold isS at hk
  try unfold isR at hk
  try unfold isM at ha
  try unfold isS at ha
  try unfold isR at ha
  pointwise [k0_pay24, k0_pay22]
  simp only [hs, hk, ha, Finset.sum_range]
  simp only [dite_eq_ite, ite_self, ← EReal.coe_mul, ← coe_sum, ← EReal.coe_add, ← EReal.coe_sub, ← EReal.coe_neg]

theorem pay67_is (hs : isM (k0_pay64 v (k0_pay60 g) p d) dt) (hk : isM k kt) (ha : isS s st) :
    isS (k0_pay67 k v (k0_pay60 g) p d s) (fun b l => st b l + ∑ a ∈ Finset.range 512, dt a b * kt a l) := by
  intro a b
  try unfold isM at hs
  try unfold isS at hs
  try unfold isR at hs
  try unfold isM at hk
  try unfold isS at hk
  try unfold isR at hk
  try unfold isM at ha
  try unfold isS at ha
  try unfold isR at ha
  pointwise [k0_pay67, k0_pay65]
  simp only [hs, hk, ha, Finset.sum_range]
  simp only [dite_eq_ite, ite_self, ← EReal.coe_mul, ← coe_sum, ← EReal.coe_add, ← EReal.coe_sub, ← EReal.coe_neg]

theorem pay78_is (hs : isM (k0_pay75 v (k0_pay72 g) p d) dt) (hk : isM k kt) (ha : isS s st) :
    isS (k0_pay78 k v (k0_pay72 g) p d s) (fun b l => st b l + ∑ a ∈ Finset.range 512, dt a b * kt a l) := by
  intro a b
  try unfold isM at hs
  try unfold isS at hs
  try unfold isR at hs
  try unfold isM at hk
  try unfold isS at hk
  try unfold isR at hk
  try unfold isM at ha
  try unfold isS at ha
  try unfold isR at ha
  pointwise [k0_pay78, k0_pay76]
  simp only [hs, hk, ha, Finset.sum_range]
  simp only [dite_eq_ite, ite_self, ← EReal.coe_mul, ← coe_sum, ← EReal.coe_add, ← EReal.coe_sub, ← EReal.coe_neg]

theorem pay12_is (hs : isM e dt) (ha : isS s st) :
    isS (k0_pay12 e s) (fun a l => st a l - (dt a l + dt a (128 + l) + dt a (256 + l) + dt a (384 + l))) := by
  intro a b
  try unfold isM at hs
  try unfold isS at hs
  try unfold isR at hs
  try unfold isM at ha
  try unfold isS at ha
  try unfold isR at ha
  pointwise [k0_pay12]
  simp only [hs, ha, Finset.sum_range]
  simp only [dite_eq_ite, ite_self, ← EReal.coe_mul, ← coe_sum, ← EReal.coe_add, ← EReal.coe_sub, ← EReal.coe_neg]

theorem pay25_is (hs : isM (k0_pay21 p w d) dt) (ha : isS s st) :
    isS (k0_pay25 p w d s) (fun a l => st a l - (dt a l + dt a (128 + l) + dt a (256 + l) + dt a (384 + l))) := by
  intro a b
  try unfold isM at hs
  try unfold isS at hs
  try unfold isR at hs
  try unfold isM at ha
  try unfold isS at ha
  try unfold isR at ha
  pointwise [k0_pay25]
  simp only [hs, ha, Finset.sum_range]
  simp only [dite_eq_ite, ite_self, ← EReal.coe_mul, ← coe_sum, ← EReal.coe_add, ← EReal.coe_sub, ← EReal.coe_neg]

theorem pay69_is (hs : isM (k0_pay64 v (k0_pay60 g) p d) dt) (ha : isS s st) :
    isS (k0_pay69 (k0_pay68 v (k0_pay60 g) p d s)) (fun a l => st a l - (dt a l + dt a (128 + l) + dt a (256 + l) + dt a (384 + l))) := by
  intro a b
  try unfold isM at hs
  try unfold isS at hs
  try unfold isR at hs
  try unfold isM at ha
  try unfold isS at ha
  try unfold isR at ha
  pointwise [k0_pay68, k0_pay69]
  simp only [hs, ha, Finset.sum_range]
  simp only [dite_eq_ite, ite_self, ← EReal.coe_mul, ← coe_sum, ← EReal.coe_add, ← EReal.coe_sub, ← EReal.coe_neg]

theorem pay79_is (hs : isM e dt) (ha : isS s st) :
    isS (k0_pay79 e s) (fun a l => st a l - (dt a l + dt a (128 + l) + dt a (256 + l) + dt a (384 + l))) := by
  intro a b
  try unfold isM at hs
  try unfold isS at hs
  try unfold isR at hs
  try unfold isM at ha
  try unfold isS at ha
  try unfold isR at ha
  pointwise [k0_pay79]
  simp only [hs, ha, Finset.sum_range]
  simp only [dite_eq_ite, ite_self, ← EReal.coe_mul, ← coe_sum, ← EReal.coe_add, ← EReal.coe_sub, ← EReal.coe_neg]

theorem pay15_is (hs : isM e dt) (hr : isR r rt) :
    isR (k0_pay15 (k0_pay13 r) (k0_pay14 e)) (fun b => rt b + ∑ a ∈ Finset.range 512, dt a b) := by
  intro b
  try unfold isM at hs
  try unfold isS at hs
  try unfold isR at hs
  try unfold isM at hr
  try unfold isS at hr
  try unfold isR at hr
  pointwise [k0_pay15, k0_pay13, k0_pay14]
  simp only [hs, hr, Finset.sum_range]
  simp only [dite_eq_ite, ite_self, ← EReal.coe_mul, ← coe_sum, ← EReal.coe_add, ← EReal.coe_sub, ← EReal.coe_neg]

theorem pay81_is (hs : isM e dt) (hr : isR r rt) :
    isR (k0_pay81 e r) (fun b => rt b + ∑ a ∈ Finset.range 512, dt a b) := by
  intro b
  try unfold isM at hs
  try unfold isS at hs
  try unfold isR at hs
  try unfold isM at hr
  try unfold isS at hr
  try unfold isR at hr
  pointwise [k0_pay81]
  simp only [hs, hr, Finset.sum_range]
  simp only [dite_eq_ite, ite_self, ← EReal.coe_mul, ← coe_sum, ← EReal.coe_add, ← EReal.coe_sub, ← EReal.coe_neg]

theorem pay70_is (hs : isM e dt) (hr : isR r rt) :
    isR (k0_pay70 e r) (fun b => rt b + ∑ a ∈ Finset.range 512, dt a b) := by
  intro b
  try unfold isM at hs
  try unfold isS at hs
  try unfold isR at hs
  try unfold isM at hr
  try unfold isS at hr
  try unfold isR at hr
  pointwise [k0_pay70]
  simp only [hs, hr, Finset.sum_range]
  simp only [dite_eq_ite, ite_self, ← EReal.coe_mul, ← coe_sum, ← EReal.coe_add, ← EReal.coe_sub, ← EReal.coe_neg]

theorem pay80_is (hs : isM e dt) (hr : isR r rt) :
    isR (k0_pay80 e r) (fun b => rt b + ∑ a ∈ Finset.range 512, dt a b) := by
  intro b
  try unfold isM at hs
  try unfold isS at hs
  try unfold isR at hs
  try unfold isM at hr
  try unfold isS at hr
  try unfold isR at hr
  pointwise [k0_pay80]
  simp only [hs, hr, Finset.sum_range]
  simp only [dite_eq_ite, ite_self, ← EReal.coe_mul, ← coe_sum, ← EReal.coe_add, ← EReal.coe_sub, ← EReal.coe_neg]

theorem pay48_is (hr : isR r fr) :
    isM (k0_pay48 (F := Ideal) r) (fun a _ => fr a) := by
  intro a b
  try unfold isM at hr
  try unfold isS at hr
  try unfold isR at hr
  pointwise [k0_pay48]
  simp only [hr, Finset.sum_range]

theorem pay49_is (hr : isR r fr) :
    isM (k0_pay49 (F := Ideal) r) (fun a _ => fr a) := by
  intro a b
  try unfold isM at hr
  try unfold isS at hr
  try unfold isR at hr
  pointwise [k0_pay49]
  simp only [hr, Finset.sum_range]

theorem pay1_is (ha : isS s st) :
    isR (k0_pay1 (F := Ideal) (k0_pay88 s)) (fun a => ∑ l ∈ Finset.range 128, st a l) := by
  intro a
  try unfold isM at ha
  try unfold isS at ha
  try unfold isR at ha
  pointwise [k0_pay1, k0_pay88]
  simp only [ha, Finset.sum_range]
  simp only [dite_eq_ite, ite_self, ← EReal.coe_mul, ← coe_sum, ← EReal.coe_add, ← EReal.coe_sub, ← EReal.coe_neg]

theorem pay85_is (ha : isS s st) :
    isR (k0_pay85 (F := Ideal) s) (fun a => ∑ l ∈ Finset.range 128, st a l) := by
  intro a
  try unfold isM at ha
  try unfold isS at ha
  try unfold isR at ha
  pointwise [k0_pay85]
  simp only [ha, Finset.sum_range]
  simp only [dite_eq_ite, ite_self, ← EReal.coe_mul, ← coe_sum, ← EReal.coe_add, ← EReal.coe_sub, ← EReal.coe_neg]

theorem pay84_is (ha : isS s st) :
    isM (k0_pay84 (F := Ideal) s) st := by
  intro a b
  try unfold isM at ha
  try unfold isS at ha
  try unfold isR at ha
  pointwise [k0_pay84]
  simp only [ha, Finset.sum_range]

theorem pay87_is (ha : isS s st) :
    isM (k0_pay87 (F := Ideal) s) st := by
  intro a b
  try unfold isM at ha
  try unfold isS at ha
  try unfold isR at ha
  pointwise [k0_pay87]
  simp only [ha, Finset.sum_range]

theorem pay83_is (ha : isS s st) :
    isM (k0_pay83 (F := Ideal) s) (fun a l => st a l * Real.log 2) := by
  intro a b
  try unfold isM at ha
  try unfold isS at ha
  try unfold isR at ha
  pointwise [k0_pay83]
  simp only [ha, ln2_eq, Finset.sum_range]
  simp only [dite_eq_ite, ite_self, ← EReal.coe_mul, ← coe_sum, ← EReal.coe_add, ← EReal.coe_sub, ← EReal.coe_neg]

theorem pay86_is (ha : isS s st) :
    isM (k0_pay86 (F := Ideal) s) (fun a l => st a l * Real.log 2) := by
  intro a b
  try unfold isM at ha
  try unfold isS at ha
  try unfold isR at ha
  pointwise [k0_pay86]
  simp only [ha, ln2_eq, Finset.sum_range]
  simp only [dite_eq_ite, ite_self, ← EReal.coe_mul, ← coe_sum, ← EReal.coe_add, ← EReal.coe_sub, ← EReal.coe_neg]

theorem pay2_is {t : FVec Ideal S1x8192x128 .f32} (ha : isS t st) :
    isM (k0_pay2 (F := Ideal) t) (fun a l => st a l * 0.125) := by
  intro a b
  try unfold isM at ha
  try unfold isS at ha
  try unfold isR at ha
  pointwise [k0_pay2]
  simp only [ha, eighth, Finset.sum_range]
  simp only [dite_eq_ite, ite_self, ← EReal.coe_mul, ← coe_sum, ← EReal.coe_add, ← EReal.coe_sub, ← EReal.coe_neg]

theorem pay3_is {t : FVec Ideal S1x8192x128 .f32} (ha : isS t st) :
    isM (k0_pay3 (F := Ideal) t) (fun a l => st a l * 0.125) := by
  intro a b
  try unfold isM at ha
  try unfold isS at ha
  try unfold isR at ha
  pointwise [k0_pay3]
  simp only [ha, eighth, Finset.sum_range]
  simp only [dite_eq_ite, ite_self, ← EReal.coe_mul, ← coe_sum, ← EReal.coe_add, ← EReal.coe_sub, ← EReal.coe_neg]

end
end Cert.KernelIdeal.Tile
-- ==== Proof.V.Off.lean ====
/-
Where the body loads and stores, in closed form, and what a load or a pair of stores makes of buffers that hold real
numbers.
-/
module
public import proofs.«01_k».proof.Proof.V.Pay
public import Idealize.ShloMosaic.Lib.Affine
public import Idealize.ShloMosaic.Lib.Writes
public import Idealize.ShloMosaic.Lib.Pipeline.ValueKit.Tiles
@[expose] public section
set_option maxRecDepth 16384
noncomputable section
namespace Cert.KernelIdeal.Tile
open Cert.KernelIdeal Cert.KernelIdeal.Gen
open Idealize.ShloMosaic

/-! ## The offsets -/

theorem col_int (i : grid0.Coords) : Affine.IsInt (BitVec.ofNat 32 (i 1).val) (((i 1).val : ℕ) : ℤ) := by
  have := (i 1).isLt
  have : (i 1).val < 16 := this
  exact Affine.ofNat _ (by omega)

theorem col_nat (i : grid0.Coords) : (BitVec.ofNat 32 (i 1).val).toNat = (i 1).val :=
  Affine.nat_eq (col_int i) _ rfl

theorem row_int (i : grid0.Coords) :
    Affine.IsInt (Scalar.muli (BitVec.ofNat 32 (i 1).val) 512#32) ((512 * (i 1).val : ℕ) : ℤ) := by
  have : (i 1).val < 16 := (i 1).isLt
  exact Affine.muli (col_int i) (Affine.ofNat _ (by omega) : Affine.IsInt 512#32 512) (by push_cast; omega)

theorem row_nat (i : grid0.Coords) : (Scalar.muli (BitVec.ofNat 32 (i 1).val) 512#32).toNat = 512 * (i 1).val :=
  Affine.nat_eq (row_int i) _ rfl

/-- The loop runs over the tiles of queries after the tile's own. -/
theorem trips_eq (i : grid0.Coords) : (k0_t1_loop i).trips = 15 - (i 1).val := by
  have h : ∀ n : Fin 16, Scf.trips (Scalar.addi (BitVec.ofNat 32 n.val) 1#32) (Scalar.addi (Scalar.addi (BitVec.ofNat 32 n.val) 1#32)
      (Scalar.muli (Scalar.divsi (Scalar.subi 16#32 (Scalar.addi (BitVec.ofNat 32 n.val) 1#32)) 1#32) 1#32)) 1#32 = 15 - n.val := by decide
  exact h (i 1)

theorem col_lt (i : grid0.Coords) (k : Fin (k0_t1_loop i).trips) : (i 1).val + 1 + k.val < 16 := by
  have := k.isLt
  have h2 := trips_eq i
  omega

theorem iv_int (i : grid0.Coords) (k : Fin (k0_t1_loop i).trips) :
    Affine.IsInt (Scf.iv (Scalar.addi (BitVec.ofNat 32 (i 1).val) 1#32) 1#32 k.val) (((i 1).val + 1 + k.val : ℕ) : ℤ) := by
  have := col_lt i k
  have h := Affine.addi (e := (((i 1).val + 1 : ℕ) : ℤ)) (col_int i) (Affine.ofNat _ (by omega) : Affine.IsInt 1#32 1) (by push_cast; omega)
  exact Affine.iv h (Affine.ofNat _ (by omega) : Affine.IsInt 1#32 1) k.val (by push_cast; omega)

theorem iv_nat (i : grid0.Coords) (k : Fin (k0_t1_loop i).trips) :
    (Scf.iv (Scalar.addi (BitVec.ofNat 32 (i 1).val) 1#32) 1#32 k.val).toNat = (i 1).val + 1 + k.val :=
  Affine.nat_eq (iv_int i k) _ rfl

theorem ivrow_nat (i : grid0.Coords) (k : Fin (k0_t1_loop i).trips) :
    (Scalar.muli (Scf.iv (Scalar.addi (BitVec.ofNat 32 (i 1).val) 1#32) 1#32 k.val) 512#32).toNat = 512 * ((i 1).val + 1 + k.val) := by
  have := col_lt i k
  exact Affine.nat_eq (Affine.muli (e := ((512 * ((i 1).val + 1 + k.val) : ℕ) : ℤ)) (iv_int i k) (Affine.ofNat _ (by omega) : Affine.IsInt 512#32 512) (by push_cast; omega)) _ rfl

theorem off1_eq (i : grid0.Coords) : k0_off1 i = ![0, (i 1).val, 0, 0] := congrArg (fun n => ![0, n, 0, 0]) (col_nat i)
theorem off2_eq (i : grid0.Coords) : k0_off2 i = ![1, (i 1).val, 0, 0] := congrArg (fun n => ![1, n, 0, 0]) (col_nat i)
theorem off3_eq (i : grid0.Coords) : k0_off3 i = ![512 * (i 1).val, 0] := congrArg (fun n => ![n, 0]) (row_nat i)
theorem off4_eq (i : grid0.Coords) : k0_off4 i = ![0, 512 * (i 1).val, 0] := congrArg (fun n => ![0, n, 0]) (row_nat i)
theorem off5_eq (i : grid0.Coords) : k0_off5 i = ![512 * (i 1).val, 128] := congrArg (fun n => ![n, 128]) (row_nat i)
theorem off6_eq (i : grid0.Coords) : k0_off6 i = ![1, 512 * (i 1).val, 0] := congrArg (fun n => ![1, n, 0]) (row_nat i)
section
variable (i : grid0.Coords) (k : Fin (k0_t1_loop i).trips)
theorem off7_eq : k0_off7 i k = ![512 * ((i 1).val + 1 + k.val), 0] := congrArg (fun n => ![n, 0]) (ivrow_nat i k)
theorem off8_eq : k0_off8 i k = ![0, (i 1).val + 1 + k.val, 0, 0] := congrArg (fun n => ![0, n, 0, 0]) (iv_nat i k)
theorem off9_eq : k0_off9 i k = ![0, 512 * ((i 1).val + 1 + k.val), 0] := congrArg (fun n => ![0, n, 0]) (ivrow_nat i k)
theorem off10_eq : k0_off10 i k = ![512 * ((i 1).val + 1 + k.val), 128] := congrArg (fun n => ![n, 128]) (ivrow_nat i k)
theorem off11_eq : k0_off11 i k = ![1, (i 1).val + 1 + k.val, 0, 0] := congrArg (fun n => ![1, n, 0, 0]) (iv_nat i k)
theorem off12_eq : k0_off12 i k = ![1, 512 * ((i 1).val + 1 + k.val), 0] := congrArg (fun n => ![1, n, 0]) (ivrow_nat i k)
end

/-! ## Loads -/

/-- Matrices in slabs hold the real numbers `x g a b`. -/
def is3 {p n m : ℕ} (X : (⟨3, ![p, n, m]⟩ : Shape).Idx → EReal) (x : ℕ → ℕ → ℕ → ℝ) : Prop :=
  ∀ (g : Fin p) (a : Fin n) (b : Fin m), X (ix3 g a b) = ((x g a b : ℝ) : EReal)
/-- Rows of tiles hold the real numbers `x g r` where `r` counts along the tiles. -/
def is4 {p n m : ℕ} (X : (⟨4, ![p, n, 1, m]⟩ : Shape).Idx → EReal) (x : ℕ → ℕ → ℝ) : Prop :=
  ∀ (g : Fin p) (a : Fin n) (b : Fin m), X (ix4 g a 0 b) = ((x g (m * a + b) : ℝ) : EReal)

/-- Two heads of 128 lanes side by side hold the real numbers `x g a l`. -/
def isH {n : ℕ} (X : (⟨2, ![n, 256]⟩ : Shape).Idx → EReal) (x : ℕ → ℕ → ℕ → ℝ) : Prop :=
  ∀ (g : Fin 2) (a : Fin n) (l : Fin 128), X (ix2 a (⟨128 * g.val + l.val, by omega⟩ : Fin 256)) = ((x g a l : ℝ) : EReal)

theorem isM_congr {n m : ℕ} {X : (⟨2, ![n, m]⟩ : Shape).Idx → EReal} {x y : ℕ → ℕ → ℝ} (h : isM X x)
    (he : ∀ a b, a < n → b < m → x a b = y a b) : isM X y := fun a b => (h a b).trans (by rw [he _ _ a.isLt b.isLt])
theorem isS_congr {n m : ℕ} {X : (⟨3, ![1, n, m]⟩ : Shape).Idx → EReal} {x y : ℕ → ℕ → ℝ} (h : isS X x)
    (he : ∀ a b, a < n → b < m → x a b = y a b) : isS X y := fun a b => (h a b).trans (by rw [he _ _ a.isLt b.isLt])
theorem isR_congr {n : ℕ} {X : (⟨4, ![1, 1, 1, n]⟩ : Shape).Idx → EReal} {x y : ℕ → ℝ} (h : isR X x)
    (he : ∀ b, b < n → x b = y b) : isR X y := fun b => (h b).trans (by rw [he _ b.isLt])
theorem is3_congr {p n m : ℕ} {X : (⟨3, ![p, n, m]⟩ : Shape).Idx → EReal} {x y : ℕ → ℕ → ℕ → ℝ} (h : is3 X x)
    (he : ∀ g a b, g < p → a < n → b < m → x g a b = y g a b) : is3 X y :=
  fun g a b => (h g a b).trans (by rw [he _ _ _ g.isLt a.isLt b.isLt])
theorem is4_congr {p n m : ℕ} {X : (⟨4, ![p, n, 1, m]⟩ : Shape).Idx → EReal} {x y : ℕ → ℕ → ℝ} (h : is4 X x)
    (he : ∀ g a b, g < p → a < n → b < m → x g (m * a + b) = y g (m * a + b)) : is4 X y :=
  fun g a b => (h g a b).trans (by rw [he _ _ _ g.isLt a.isLt b.isLt])

theorem ldH {n n' : ℕ} {X : (⟨2, ![n, 256]⟩ : Shape).Idx → EReal} {x : ℕ → ℕ → ℕ → ℝ} (h : isH X x) (off : Fin 2 → ℕ)
    (g o0 o1 : ℕ) (hg : o1 = 128 * g) (hg2 : g < 2) (ho : off = ![o0, o1]) (inb : ∀ a, off a + (![n', 128] : Fin 2 → ℕ) a ≤ (⟨2, ![n, 256]⟩ : Shape).size a) :
    isM (n := n') (m := 128) (fun j => X ((Rect.unit (s := ⟨2, ![n, 256]⟩) off ![n', 128] inb).toLoadRect.idx j)) (fun a l => x g (o0 + a) l) := by
  subst ho
  intro a b
  have h0 : o0 + n' ≤ n := inb 0
  refine Eq.trans (congrArg X ?_) (h ⟨g, hg2⟩ ⟨o0 + a, by omega⟩ b)
  funext t; apply Fin.ext
  rcases t with ⟨_ | _ | t, ht⟩
  · exact Rect.idx_unit_val _ _ _ _ _
  · exact (Rect.idx_unit_val _ _ _ _ _).trans (by show o1 + b.val = 128 * g + b.val; rw [hg])
  · exact absurd ht (by simp)

/-- Two heads' worth of rows at once, cut from the lanes. -/
theorem ldH0 {n : ℕ} {X : (⟨2, ![n, 256]⟩ : Shape).Idx → EReal} {x : ℕ → ℕ → ℕ → ℝ} (h : isH X x) (off : Fin 2 → ℕ)
    (g o1 : ℕ) (hg : o1 = 128 * g) (hg2 : g < 2) (ho : off = ![0, o1]) (inb : ∀ a, off a + (![n, 128] : Fin 2 → ℕ) a ≤ (⟨2, ![n, 256]⟩ : Shape).size a) :
    isM (n := n) (m := 128) (fun j => X ((Rect.unit (s := ⟨2, ![n, 256]⟩) off ![n, 128] inb).toLoadRect.idx j)) (fun a l => x g a l) :=
  isM_congr (ldH h off g 0 o1 hg hg2 ho inb) fun a b _ _ => by rw [Nat.zero_add]

theorem ld3 {p n m n' : ℕ} {X : (⟨3, ![p, n, m]⟩ : Shape).Idx → EReal} {x : ℕ → ℕ → ℕ → ℝ} (h : is3 X x) (off : Fin 3 → ℕ)
    (g o0 : ℕ) (ho : off = ![g, o0, 0]) (inb : ∀ a, off a + (![1, n', m] : Fin 3 → ℕ) a ≤ (⟨3, ![p, n, m]⟩ : Shape).size a) :
    isS (n := n') (m := m) (fun j => X ((Rect.unit (s := ⟨3, ![p, n, m]⟩) off ![1, n', m] inb).toLoadRect.idx j)) (fun a b => x g (o0 + a) b) := by
  subst ho
  intro a b
  have hg : g + 1 ≤ p := inb 0
  have h0 : o0 + n' ≤ n := inb 1
  refine Eq.trans (congrArg X ?_) (h ⟨g, by omega⟩ ⟨o0 + a, by omega⟩ b)
  funext t; apply Fin.ext
  rcases t with ⟨_ | _ | _ | t, ht⟩
  · exact Rect.idx_unit_val _ _ _ _ _
  · exact Rect.idx_unit_val _ _ _ _ _
  · exact (Rect.idx_unit_val _ _ _ _ _).trans (Nat.zero_add _)
  · exact absurd ht (by simp)

theorem ld4 {p n m : ℕ} {X : (⟨4, ![p, n, 1, m]⟩ : Shape).Idx → EReal} {x : ℕ → ℕ → ℝ} (h : is4 X x) (off : Fin 4 → ℕ)
    (g o0 : ℕ) (ho : off = ![g, o0, 0, 0]) (inb : ∀ a, off a + (![1, 1, 1, m] : Fin 4 → ℕ) a ≤ (⟨4, ![p, n, 1, m]⟩ : Shape).size a) :
    isR (n := m) (fun j => X ((Rect.unit (s := ⟨4, ![p, n, 1, m]⟩) off ![1, 1, 1, m] inb).toLoadRect.idx j)) (fun b => x g (m * o0 + b)) := by
  subst ho
  intro b
  have hg : g + 1 ≤ p := inb 0
  have h0 : o0 + 1 ≤ n := inb 1
  refine Eq.trans (congrArg X ?_) (h ⟨g, by omega⟩ ⟨o0, by omega⟩ b)
  funext t; apply Fin.ext
  rcases t with ⟨_ | _ | _ | _ | t, ht⟩
  · exact Rect.idx_unit_val _ _ _ _ _
  · exact Rect.idx_unit_val _ _ _ _ _
  · exact Rect.idx_unit_val _ _ _ _ _
  · exact (Rect.idx_unit_val _ _ _ _ _).trans (Nat.zero_add _)
  · exact absurd ht (by simp)

/-! ## Pairs of stores, one for each head -/

section
variable {sig' : RefSig} {κ' : Kind} {sp : Space}

theorem st3 {n m n' : ℕ} (v : View sig' κ' sp ⟨3, ![2, n, m]⟩ .f32) (f : v.ty.Contents (Elt Ideal)) {x y : ℕ → ℕ → ℕ → ℝ} (o : ℕ)
    (off0 off1 : Fin 3 → ℕ) (ho0 : off0 = ![0, o, 0]) (ho1 : off1 = ![1, o, 0])
    (inb0 : ∀ a, off0 a + (![1, n', m] : Fin 3 → ℕ) a ≤ (⟨3, ![2, n, m]⟩ : Shape).size a)
    (inb1 : ∀ a, off1 a + (![1, n', m] : Fin 3 → ℕ) a ≤ (⟨3, ![2, n, m]⟩ : Shape).size a)
    (w0 w1 : (⟨3, ![1, n', m]⟩ : Shape).Idx → EReal) (L : List (View.Piece (Elt Ideal) ⟨3, ![2, n, m]⟩ .f32))
    (h : ∀ (g : Fin 2) (a : Fin n) (b : Fin m), ¬ (o ≤ a.val ∧ a.val < o + n') →
      (v.read (Elt Ideal) (v.writes (Elt Ideal) f L) (ix3 g a b) : EReal) = ((x g a b : ℝ) : EReal))
    (h0 : isS w0 fun a l => y 0 (o + a) l) (h1 : isS w1 fun a l => y 1 (o + a) l) :
    is3 (v.read (Elt Ideal) (v.writes (Elt Ideal) f (⟨Rect.unit off1 ![1, n', m] inb1, w1⟩ :: ⟨Rect.unit off0 ![1, n', m] inb0, w0⟩ :: L)))
      (fun g a l => if o ≤ a ∧ a < o + n' then y g a l else x g a l) := by
  subst ho0 ho1
  intro g a b
  dsimp only
  by_cases ha : o ≤ a.val ∧ a.val < o + n'
  · rw [if_pos ha]
    have ha2 : o + (a.val - o) = a.val := by omega
    match g with
    | ⟨1, _⟩ =>
      have hit := View.read_writes_cons_hit_of_coords v f (Rect.unit ![1, o, 0] ![1, n', m] inb1) w1 (⟨Rect.unit ![0, o, 0] ![1, n', m] inb0, w0⟩ :: L) (ix3 (0 : Fin 1) (⟨a.val - o, by omega⟩ : Fin n') b) (ix3 (1 : Fin 2) a b) (by
        intro t
        rcases t with ⟨_ | _ | _ | t, ht⟩
        · simp
        · show a.val = o + 1 * (a.val - o); omega
        · show b.val = 0 + 1 * b.val; omega
        · exact absurd ht (by simp))
      refine Eq.trans hit ((h1 (⟨a.val - o, by omega⟩ : Fin n') b).trans ?_)
      show ((y 1 (o + (a.val - o)) b : ℝ) : EReal) = _
      rw [ha2]
    | ⟨0, _⟩ =>
      refine (View.read_writes_cons_miss_of_axis v f _ _ _ 0 1 1 rfl rfl rfl (.inl (by show (0 : ℕ) < 1; omega))).trans ?_
      have hit := View.read_writes_cons_hit_of_coords v f (Rect.unit ![0, o, 0] ![1, n', m] inb0) w0 L (ix3 (0 : Fin 1) (⟨a.val - o, by omega⟩ : Fin n') b) (ix3 (0 : Fin 2) a b) (by
        intro t
        rcases t with ⟨_ | _ | _ | t, ht⟩
        · simp
        · show a.val = o + 1 * (a.val - o); omega
        · show b.val = 0 + 1 * b.val; omega
        · exact absurd ht (by simp))
      refine Eq.trans hit ((h0 (⟨a.val - o, by omega⟩ : Fin n') b).trans ?_)
      show ((y 0 (o + (a.val - o)) b : ℝ) : EReal) = _
      rw [ha2]
  · rw [if_neg ha]
    have hm : a.val < o ∨ o + n' ≤ a.val := by omega
    refine (View.read_writes_cons_miss_of_axis v f _ _ _ 1 o n' rfl rfl rfl hm).trans ?_
    refine (View.read_writes_cons_miss_of_axis v f _ _ _ 1 o n' rfl rfl rfl hm).trans ?_
    exact h g a b ha

theorem st4 {n m : ℕ} (v : View sig' κ' sp ⟨4, ![2, n, 1, m]⟩ .f32) (f : v.ty.Contents (Elt Ideal)) {x y : ℕ → ℕ → ℝ} (o : ℕ)
    (off0 off1 : Fin 4 → ℕ) (ho0 : off0 = ![0, o, 0, 0]) (ho1 : off1 = ![1, o, 0, 0])
    (inb0 : ∀ a, off0 a + (![1, 1, 1, m] : Fin 4 → ℕ) a ≤ (⟨4, ![2, n, 1, m]⟩ : Shape).size a)
    (inb1 : ∀ a, off1 a + (![1, 1, 1, m] : Fin 4 → ℕ) a ≤ (⟨4, ![2, n, 1, m]⟩ : Shape).size a)
    (w0 w1 : (⟨4, ![1, 1, 1, m]⟩ : Shape).Idx → EReal) (L : List (View.Piece (Elt Ideal) ⟨4, ![2, n, 1, m]⟩ .f32))
    (h : ∀ (g : Fin 2) (a : Fin n) (b : Fin m), a.val ≠ o →
      (v.read (Elt Ideal) (v.writes (Elt Ideal) f L) (ix4 g a 0 b) : EReal) = ((x g (m * a + b) : ℝ) : EReal))
    (h0 : isR w0 fun b => y 0 (m * o + b)) (h1 : isR w1 fun b => y 1 (m * o + b)) :
    is4 (v.read (Elt Ideal) (v.writes (Elt Ideal) f (⟨Rect.unit off1 ![1, 1, 1, m] inb1, w1⟩ :: ⟨Rect.unit off0 ![1, 1, 1, m] inb0, w0⟩ :: L)))
      (fun g r => if m * o ≤ r ∧ r < m * (o + 1) then y g r else x g r) := by
  subst ho0 ho1
  intro g a b
  dsimp only
  have hb := b.isLt
  by_cases ha : a.val = o
  · rw [if_pos (by rw [ha, Nat.mul_add]; omega)]
    match g with
    | ⟨1, _⟩ =>
      have hit := View.read_writes_cons_hit_of_coords v f (Rect.unit ![1, o, 0, 0] ![1, 1, 1, m] inb1) w1 (⟨Rect.unit ![0, o, 0, 0] ![1, 1, 1, m] inb0, w0⟩ :: L) (ix4 (0 : Fin 1) (0 : Fin 1) (0 : Fin 1) b) (ix4 (1 : Fin 2) a (0 : Fin 1) b) (by
        intro t
        rcases t with ⟨_ | _ | _ | _ | t, ht⟩
        · simp
        · show a.val = o + 1 * 0; omega
        · simp
        · show b.val = 0 + 1 * b.val; omega
        · exact absurd ht (by simp))
      refine Eq.trans hit ((h1 b).trans ?_)
      show ((y 1 (m * o + b) : ℝ) : EReal) = ((y 1 (m * a.val + b) : ℝ) : EReal)
      rw [ha]
    | ⟨0, _⟩ =>
      refine (View.read_writes_cons_miss_of_axis v f _ _ _ 0 1 1 rfl rfl rfl (.inl (by show (0 : ℕ) < 1; omega))).trans ?_
      have hit := View.read_writes_cons_hit_of_coords v f (Rect.unit ![0, o, 0, 0] ![1, 1, 1, m] inb0) w0 L (ix4 (0 : Fin 1) (0 : Fin 1) (0 : Fin 1) b) (ix4 (0 : Fin 2) a (0 : Fin 1) b) (by
        intro t
        rcases t with ⟨_ | _ | _ | _ | t, ht⟩
        · simp
        · show a.val = o + 1 * 0; omega
        · simp
        · show b.val = 0 + 1 * b.val; omega
        · exact absurd ht (by simp))
      refine Eq.trans hit ((h0 b).trans ?_)
      show ((y 0 (m * o + b) : ℝ) : EReal) = ((y 0 (m * a.val + b) : ℝ) : EReal)
      rw [ha]
  · have hne : ¬ (m * o ≤ m * a.val + b.val ∧ m * a.val + b.val < m * (o + 1)) := by
      rintro ⟨u1, u2⟩
      rcases Nat.lt_or_gt_of_ne ha with u | u
      · have := Nat.mul_le_mul_left m (show a.val + 1 ≤ o from u); rw [Nat.mul_add] at this; omega
      · have := Nat.mul_le_mul_left m (show o + 1 ≤ a.val from u); omega
    rw [if_neg hne]
    have hm : a.val < o ∨ o + 1 ≤ a.val := by omega
    refine (View.read_writes_cons_miss_of_axis v f _ _ _ 1 o 1 rfl rfl rfl hm).trans ?_
    refine (View.read_writes_cons_miss_of_axis v f _ _ _ 1 o 1 rfl rfl rfl hm).trans ?_
    exact h g a b ha

/-- Two heads of lanes stored over a whole matrix. -/
theorem st2 {n : ℕ} (v : View sig' κ' sp ⟨2, ![n, 256]⟩ .bf16) (f : v.ty.Contents (Elt Ideal)) {y : ℕ → ℕ → ℕ → ℝ}
    (off0 off1 : Fin 2 → ℕ) (ho0 : off0 = ![0, 0]) (ho1 : off1 = ![0, 128])
    (inb0 : ∀ a, off0 a + (![n, 128] : Fin 2 → ℕ) a ≤ (⟨2, ![n, 256]⟩ : Shape).size a)
    (inb1 : ∀ a, off1 a + (![n, 128] : Fin 2 → ℕ) a ≤ (⟨2, ![n, 256]⟩ : Shape).size a)
    (w0 w1 : (⟨2, ![n, 128]⟩ : Shape).Idx → EReal) (L : List (View.Piece (Elt Ideal) ⟨2, ![n, 256]⟩ .bf16))
    (h0 : isM w0 fun a l => y 0 a l) (h1 : isM w1 fun a l => y 1 a l) :
    isH (v.read (Elt Ideal) (v.writes (Elt Ideal) f (⟨Rect.unit off1 ![n, 128] inb1, w1⟩ :: ⟨Rect.unit off0 ![n, 128] inb0, w0⟩ :: L))) y := by
  subst ho0 ho1
  intro g a l
  match g with
  | ⟨1, _⟩ =>
    have hit := View.read_writes_cons_hit_of_coords v f (Rect.unit ![0, 128] ![n, 128] inb1) w1 (⟨Rect.unit ![0, 0] ![n, 128] inb0, w0⟩ :: L) (ix2 a l) (ix2 a (⟨128 * 1 + l.val, by omega⟩ : Fin 256)) (by
      intro t
      rcases t with ⟨_ | _ | t, ht⟩
      · show a.val = 0 + 1 * a.val; omega
      · show 128 * 1 + l.val = 128 + 1 * l.val; omega
      · exact absurd ht (by simp))
    exact Eq.trans hit (h1 a l)
  | ⟨0, _⟩ =>
    have hl := l.isLt
    refine (View.read_writes_cons_miss_of_axis v f _ _ (ix2 a (⟨128 * 0 + l.val, by omega⟩ : Fin 256)) 1 128 128 rfl rfl rfl (.inl (by show 128 * 0 + l.val < 128; omega))).trans ?_
    have hit := View.read_writes_cons_hit_of_coords v f (Rect.unit ![0, 0] ![n, 128] inb0) w0 L (ix2 a l) (ix2 a (⟨128 * 0 + l.val, by omega⟩ : Fin 256)) (by
      intro t
      rcases t with ⟨_ | _ | t, ht⟩
      · show a.val = 0 + 1 * a.val; omega
      · show 128 * 0 + l.val = 0 + 1 * l.val; omega
      · exact absurd ht (by simp))
    exact Eq.trans hit (h0 a l)
end
end Cert.KernelIdeal.Tile
-- ==== Proof.V.Trip.lean ====
/-
One trip of the loop over the later tiles of queries, as real numbers: what it leaves in each of the five buffers it adds to.
-/
module
public import proofs.«01_k».proof.Proof.V.Off
public import proofs.«01_k».proof.Proof.Gen.KernelIdeal.Loops
@[expose] public section
set_option maxRecDepth 65536
set_option maxHeartbeats 4000000
noncomputable section
namespace Cert.KernelIdeal.Tile
open Cert.KernelIdeal Cert.KernelIdeal.Gen
open Idealize.ShloMosaic

/-- The real numbers a pair of heads is computed from: queries, keys, values and the gradient of the result, at a head, a
position and a lane; the running log gate, the row's log-sum and its share of the gradient, at a head and a position. -/
structure Rd where
  q : ℕ → ℕ → ℕ → ℝ
  k : ℕ → ℕ → ℕ → ℝ
  v : ℕ → ℕ → ℕ → ℝ
  d : ℕ → ℕ → ℕ → ℝ
  f : ℕ → ℕ → ℝ
  l : ℕ → ℕ → ℝ
  e : ℕ → ℕ → ℝ

namespace Rd
variable (R : Rd)
/-- The weight of the key at `j` for the query at `r`. -/
def P (g j r : ℕ) : ℝ := if j ≤ r then sc (R.k g) (R.q g) (R.f g) (R.f g) (R.l g) j r else 0
/-- The gradient at that pair's score. -/
def D (g j r : ℕ) : ℝ := R.P g j r * (∑ l ∈ Finset.range 128, R.v g j l * R.d g r l - R.e g r)
theorem D_zero {g j r : ℕ} (h : ¬ j ≤ r) : R.D g j r = 0 := by rw [D, P, if_neg h, zero_mul]
theorem P_zero {g j r : ℕ} (h : ¬ j ≤ r) : R.P g j r = 0 := by rw [P, if_neg h]
end Rd

/-- What the body reads at a tile of keys: the operands hold the real numbers of `R`. -/
structure Reads (R : Rd) (i : grid0.Coords)
    (Y2 : S8192x256.Idx → EReal) (Y5 : S8192x256.Idx → EReal) (Y6 Y7 Y8 : S2x16x1x512.Idx → EReal) : Prop where
  q : isH Y2 R.q
  d : isH Y5 R.d
  l : is4 Y6 R.l
  e : is4 Y7 R.e
  f : is4 Y8 R.f
/-- What the loop is handed: the tile's keys and values, and its column of the gate. -/
structure Cols (R : Rd) (i : grid0.Coords) (v5 v11 : FVec Ideal S512x128 .f32) (v28 v30 v32 v34 : FVec Ideal S512x128 .bf16) : Prop where
  f0 : isM v5 fun a _ => R.f 0 (512 * (i 1).val + a)
  f1 : isM v11 fun a _ => R.f 1 (512 * (i 1).val + a)
  k0 : isM v28 fun a l => R.k 0 (512 * (i 1).val + a) l
  k1 : isM v30 fun a l => R.k 1 (512 * (i 1).val + a) l
  v0 : isM v32 fun a l => R.v 0 (512 * (i 1).val + a) l
  v1 : isM v34 fun a l => R.v 1 (512 * (i 1).val + a) l

/-- One trip. -/
theorem trip_is (𝒱 : Variants) (c : Dev nD) (bd : Option 𝒱.V) (i : grid0.Coords)
    (arg2 : Memref sig .tc .vmem S8192x256 .bf16) (harg2 : arg2.IsWhole)
    (arg3 : Memref sig .tc .vmem S512x256 .bf16) (harg3 : arg3.IsWhole)
    (arg4 : Memref sig .tc .vmem S512x256 .bf16) (harg4 : arg4.IsWhole)
    (arg5 : Memref sig .tc .vmem S8192x256 .bf16) (harg5 : arg5.IsWhole)
    (arg6 : Memref sig .tc .vmem S2x16x1x512 .f32) (harg6 : arg6.IsWhole)
    (arg7 : Memref sig .tc .vmem S2x16x1x512 .f32) (harg7 : arg7.IsWhole)
    (arg8 : Memref sig .tc .vmem S2x16x1x512 .f32) (harg8 : arg8.IsWhole)
    (arg9 : Memref sig .tc .vmem S8192x256 .bf16) (harg9 : arg9.IsWhole)
    (arg10 : Memref sig .tc .vmem S512x256 .bf16) (harg10 : arg10.IsWhole)
    (arg11 : Memref sig .tc .vmem S512x256 .bf16) (harg11 : arg11.IsWhole)
    (arg12 : Memref sig .tc .vmem S2x16x1x512 .f32) (harg12 : arg12.IsWhole)
    (arg13 : Memref sig .tc .vmem S2x1x1x512 .f32) (harg13 : arg13.IsWhole)
    (arg14 : Memref sig .tc .vmem S2x8192x128 .f32) (harg14 : arg14.IsWhole)
    (arg15 : Memref sig .tc .vmem S2x512x128 .f32) (harg15 : arg15.IsWhole)
    (arg16 : Memref sig .tc .vmem S2x512x128 .f32) (harg16 : arg16.IsWhole)
    (arg17 : Memref sig .tc .vmem S2x16x1x512 .f32) (harg17 : arg17.IsWhole)
    (arg18 : Memref sig .tc .vmem S2x512x128 .f32) (harg18 : arg18.IsWhole)
    (arg1 : BitVec 32) (v5 v11 : FVec Ideal S512x128 .f32) (v28 v30 v32 v34 : FVec Ideal S512x128 .bf16)
    (v156 : FVec Ideal S512x512 .f32) (v174 : Vec Ideal S1x512x128 .f32) (v197 : BitVec 32)
    (X2 : arg2.view.ty.Contents (Elt Ideal)) (X5 : arg5.view.ty.Contents (Elt Ideal)) (X6 : arg6.view.ty.Contents (Elt Ideal)) (X7 : arg7.view.ty.Contents (Elt Ideal)) (X8 : arg8.view.ty.Contents (Elt Ideal)) (R : Rd)
    (hR : Reads R i (arg2.view.read (Elt Ideal) X2) (arg5.view.read (Elt Ideal) X5) (arg6.view.read (Elt Ideal) X6) (arg7.view.read (Elt Ideal) X7) (arg8.view.read (Elt Ideal) X8))
    (hC : Cols R i v5 v11 v28 v30 v32 v34) (k : Fin (k0_t1_loop i).trips)
    (G14 : arg14.view.ty.Contents (Elt Ideal)) (G15 : arg15.view.ty.Contents (Elt Ideal)) (G16 : arg16.view.ty.Contents (Elt Ideal)) (G17 : arg17.view.ty.Contents (Elt Ideal)) (G18 : arg18.view.ty.Contents (Elt Ideal))
    (L14 : List (View.Piece (Elt Ideal) S2x8192x128 .f32)) (L15 : List (View.Piece (Elt Ideal) S2x512x128 .f32)) (L16 : List (View.Piece (Elt Ideal) S2x512x128 .f32)) (L17 : List (View.Piece (Elt Ideal) S2x16x1x512 .f32)) (L18 : List (View.Piece (Elt Ideal) S2x512x128 .f32))
    (x14 x15 x16 x18 : ℕ → ℕ → ℕ → ℝ) (x17 : ℕ → ℕ → ℝ)
    (h14 : is3 (arg14.view.read (Elt Ideal) (arg14.view.writes (Elt Ideal) G14 L14)) x14) (h15 : is3 (arg15.view.read (Elt Ideal) (arg15.view.writes (Elt Ideal) G15 L15)) x15) (h16 : is3 (arg16.view.read (Elt Ideal) (arg16.view.writes (Elt Ideal) G16 L16)) x16) (h17 : is4 (arg17.view.read (Elt Ideal) (arg17.view.writes (Elt Ideal) G17 L17)) x17) (h18 : is3 (arg18.view.read (Elt Ideal) (arg18.view.writes (Elt Ideal) G18 L18)) x18) :
    (is3 (arg14.view.read (Elt Ideal) (arg14.view.writes (Elt Ideal) G14 ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v11 v28 v30 v32 v34 v156 v174 v197 X2 X5 X6 X7 X8 k (arg14.view.writes (Elt Ideal) G14 L14) (arg15.view.writes (Elt Ideal) G15 L15) (arg16.view.writes (Elt Ideal) G16 L16) (arg17.view.writes (Elt Ideal) G17 L17) (arg18.view.writes (Elt Ideal) G18 L18)).1 ++ L14))) (fun g r l => if 512 * ((i 1).val + 1 + k.val) ≤ r ∧ r < 512 * ((i 1).val + 1 + k.val) + 512 then x14 g r l + ∑ a ∈ Finset.range 512, R.D g (512 * (i 1).val + a) r * R.k g (512 * (i 1).val + a) l else x14 g r l)) ∧ (is3 (arg15.view.read (Elt Ideal) (arg15.view.writes (Elt Ideal) G15 ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v11 v28 v30 v32 v34 v156 v174 v197 X2 X5 X6 X7 X8 k (arg14.view.writes (Elt Ideal) G14 L14) (arg15.view.writes (Elt Ideal) G15 L15) (arg16.view.writes (Elt Ideal) G16 L16) (arg17.view.writes (Elt Ideal) G17 L17) (arg18.view.writes (Elt Ideal) G18 L18)).2.1 ++ L15))) (fun g a l => x15 g a l + ∑ b ∈ Finset.range 512, R.D g (512 * (i 1).val + a) (512 * ((i 1).val + 1 + k.val) + b) * R.q g (512 * ((i 1).val + 1 + k.val) + b) l)) ∧ (is3 (arg16.view.read (Elt Ideal) (arg16.view.writes (Elt Ideal) G16 ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v11 v28 v30 v32 v34 v156 v174 v197 X2 X5 X6 X7 X8 k (arg14.view.writes (Elt Ideal) G14 L14) (arg15.view.writes (Elt Ideal) G15 L15) (arg16.view.writes (Elt Ideal) G16 L16) (arg17.view.writes (Elt Ideal) G17 L17) (arg18.view.writes (Elt Ideal) G18 L18)).2.2.1 ++ L16))) (fun g a l => x16 g a l + ∑ b ∈ Finset.range 512, R.P g (512 * (i 1).val + a) (512 * ((i 1).val + 1 + k.val) + b) * R.d g (512 * ((i 1).val + 1 + k.val) + b) l)) ∧ (is4 (arg17.view.read (Elt Ideal) (arg17.view.writes (Elt Ideal) G17 ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v11 v28 v30 v32 v34 v156 v174 v197 X2 X5 X6 X7 X8 k (arg14.view.writes (Elt Ideal) G14 L14) (arg15.view.writes (Elt Ideal) G15 L15) (arg16.view.writes (Elt Ideal) G16 L16) (arg17.view.writes (Elt Ideal) G17 L17) (arg18.view.writes (Elt Ideal) G18 L18)).2.2.2.1 ++ L17))) (fun g r => if 512 * ((i 1).val + 1 + k.val) ≤ r ∧ r < 512 * ((i 1).val + 1 + k.val + 1) then x17 g r + ∑ a ∈ Finset.range 512, R.D g (512 * (i 1).val + a) r else x17 g r)) ∧ (is3 (arg18.view.read (Elt Ideal) (arg18.view.writes (Elt Ideal) G18 ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v11 v28 v30 v32 v34 v156 v174 v197 X2 X5 X6 X7 X8 k (arg14.view.writes (Elt Ideal) G14 L14) (arg15.view.writes (Elt Ideal) G15 L15) (arg16.view.writes (Elt Ideal) G16 L16) (arg17.view.writes (Elt Ideal) G17 L17) (arg18.view.writes (Elt Ideal) G18 L18)).2.2.2.2 ++ L18))) (fun g a l => x18 g a l - (R.D g (512 * (i 1).val + a) (512 * ((i 1).val + 1 + k.val) + l) + R.D g (512 * (i 1).val + a) (512 * ((i 1).val + 1 + k.val) + (128 + l)) + R.D g (512 * (i 1).val + a) (512 * ((i 1).val + 1 + k.val) + (256 + l)) + R.D g (512 * (i 1).val + a) (512 * ((i 1).val + 1 + k.val) + (384 + l))))) := by
  have hq0 : isM (View.readAt (Elt Ideal) arg2.view (Rect.unit (s := S8192x256) (k0_off7 i k) S512x128.size (k0_off7_inb i k)).toLoadRect X2) (fun b l => R.q 0 (512 * ((i 1).val + 1 + k.val) + b) l) := ldH hR.q _ 0 _ _ rfl (by omega) (off7_eq i k) _
  have hd0 : isM (View.readAt (Elt Ideal) arg5.view (Rect.unit (s := S8192x256) (k0_off7 i k) S512x128.size (k0_off7_inb i k)).toLoadRect X5) (fun b l => R.d 0 (512 * ((i 1).val + 1 + k.val) + b) l) := ldH hR.d _ 0 _ _ rfl (by omega) (off7_eq i k) _
  have hl0 : isR (View.readAt (Elt Ideal) arg6.view (Rect.unit (s := S2x16x1x512) (k0_off8 i k) S1x1x1x512.size (k0_off8_inb i k)).toLoadRect X6) (fun b => R.l 0 (512 * ((i 1).val + 1 + k.val) + b)) := ld4 hR.l _ 0 _ (off8_eq i k) _
  have he0 : isR (View.readAt (Elt Ideal) arg7.view (Rect.unit (s := S2x16x1x512) (k0_off8 i k) S1x1x1x512.size (k0_off8_inb i k)).toLoadRect X7) (fun b => R.e 0 (512 * ((i 1).val + 1 + k.val) + b)) := ld4 hR.e _ 0 _ (off8_eq i k) _
  have hf0 : isR (View.readAt (Elt Ideal) arg8.view (Rect.unit (s := S2x16x1x512) (k0_off8 i k) S1x1x1x512.size (k0_off8_inb i k)).toLoadRect X8) (fun b => R.f 0 (512 * ((i 1).val + 1 + k.val) + b)) := ld4 hR.f _ 0 _ (off8_eq i k) _
  have hp0 : isM (k0_pay6 v5 v28 (View.readAt (Elt Ideal) arg2.view (Rect.unit (s := S8192x256) (k0_off7 i k) S512x128.size (k0_off7_inb i k)).toLoadRect X2) (View.readAt (Elt Ideal) arg8.view (Rect.unit (s := S2x16x1x512) (k0_off8 i k) S1x1x1x512.size (k0_off8_inb i k)).toLoadRect X8) (View.readAt (Elt Ideal) arg6.view (Rect.unit (s := S2x16x1x512) (k0_off8 i k) S1x1x1x512.size (k0_off8_inb i k)).toLoadRect X6)) (fun a b => R.P 0 (512 * (i 1).val + a) (512 * ((i 1).val + 1 + k.val) + b)) :=
    isM_congr (pay6_is hC.f0 hC.k0 hq0 hf0 hl0) fun a b ha hb => by
      rw [Rd.P, if_pos (by omega)]; rfl
  have hs0 : isM (k0_pay8 v5 v28 v32 (View.readAt (Elt Ideal) arg2.view (Rect.unit (s := S8192x256) (k0_off7 i k) S512x128.size (k0_off7_inb i k)).toLoadRect X2) (View.readAt (Elt Ideal) arg5.view (Rect.unit (s := S8192x256) (k0_off7 i k) S512x128.size (k0_off7_inb i k)).toLoadRect X5) (View.readAt (Elt Ideal) arg8.view (Rect.unit (s := S2x16x1x512) (k0_off8 i k) S1x1x1x512.size (k0_off8_inb i k)).toLoadRect X8) (View.readAt (Elt Ideal) arg6.view (Rect.unit (s := S2x16x1x512) (k0_off8 i k) S1x1x1x512.size (k0_off8_inb i k)).toLoadRect X6) (View.readAt (Elt Ideal) arg7.view (Rect.unit (s := S2x16x1x512) (k0_off8 i k) S1x1x1x512.size (k0_off8_inb i k)).toLoadRect X7)) (fun a b => R.D 0 (512 * (i 1).val + a) (512 * ((i 1).val + 1 + k.val) + b)) := pay8_is hp0 hC.v0 hd0 he0
  have hq1 : isM (View.readAt (Elt Ideal) arg2.view (Rect.unit (s := S8192x256) (k0_off10 i k) S512x128.size (k0_off10_inb i k)).toLoadRect X2) (fun b l => R.q 1 (512 * ((i 1).val + 1 + k.val) + b) l) := ldH hR.q _ 1 _ _ rfl (by omega) (off10_eq i k) _
  have hd1 : isM (View.readAt (Elt Ideal) arg5.view (Rect.unit (s := S8192x256) (k0_off10 i k) S512x128.size (k0_off10_inb i k)).toLoadRect X5) (fun b l => R.d 1 (512 * ((i 1).val + 1 + k.val) + b) l) := ldH hR.d _ 1 _ _ rfl (by omega) (off10_eq i k) _
  have hl1 : isR (View.readAt (Elt Ideal) arg6.view (Rect.unit (s := S2x16x1x512) (k0_off11 i k) S1x1x1x512.size (k0_off11_inb i k)).toLoadRect X6) (fun b => R.l 1 (512 * ((i 1).val + 1 + k.val) + b)) := ld4 hR.l _ 1 _ (off11_eq i k) _
  have he1 : isR (View.readAt (Elt Ideal) arg7.view (Rect.unit (s := S2x16x1x512) (k0_off11 i k) S1x1x1x512.size (k0_off11_inb i k)).toLoadRect X7) (fun b => R.e 1 (512 * ((i 1).val + 1 + k.val) + b)) := ld4 hR.e _ 1 _ (off11_eq i k) _
  have hf1 : isR (View.readAt (Elt Ideal) arg8.view (Rect.unit (s := S2x16x1x512) (k0_off11 i k) S1x1x1x512.size (k0_off11_inb i k)).toLoadRect X8) (fun b => R.f 1 (512 * ((i 1).val + 1 + k.val) + b)) := ld4 hR.f _ 1 _ (off11_eq i k) _
  have hp1 : isM (k0_pay18 v11 v30 (View.readAt (Elt Ideal) arg2.view (Rect.unit (s := S8192x256) (k0_off10 i k) S512x128.size (k0_off10_inb i k)).toLoadRect X2) (View.readAt (Elt Ideal) arg8.view (Rect.unit (s := S2x16x1x512) (k0_off11 i k) S1x1x1x512.size (k0_off11_inb i k)).toLoadRect X8) (View.readAt (Elt Ideal) arg6.view (Rect.unit (s := S2x16x1x512) (k0_off11 i k) S1x1x1x512.size (k0_off11_inb i k)).toLoadRect X6)) (fun a b => R.P 1 (512 * (i 1).val + a) (512 * ((i 1).val + 1 + k.val) + b)) :=
    isM_congr (pay18_is hC.f1 hC.k1 hq1 hf1 hl1) fun a b ha hb => by
      rw [Rd.P, if_pos (by omega)]; rfl
  have hs1 : isM (k0_pay21 (k0_pay18 v11 v30 (View.readAt (Elt Ideal) arg2.view (Rect.unit (s := S8192x256) (k0_off10 i k) S512x128.size (k0_off10_inb i k)).toLoadRect X2) (View.readAt (Elt Ideal) arg8.view (Rect.unit (s := S2x16x1x512) (k0_off11 i k) S1x1x1x512.size (k0_off11_inb i k)).toLoadRect X8) (View.readAt (Elt Ideal) arg6.view (Rect.unit (s := S2x16x1x512) (k0_off11 i k) S1x1x1x512.size (k0_off11_inb i k)).toLoadRect X6)) (k0_pay20 v34 (View.readAt (Elt Ideal) arg5.view (Rect.unit (s := S8192x256) (k0_off10 i k) S512x128.size (k0_off10_inb i k)).toLoadRect X5)) (View.readAt (Elt Ideal) arg7.view (Rect.unit (s := S2x16x1x512) (k0_off11 i k) S1x1x1x512.size (k0_off11_inb i k)).toLoadRect X7)) (fun a b => R.D 1 (512 * (i 1).val + a) (512 * ((i 1).val + 1 + k.val) + b)) := pay21_is hp1 hC.v1 hd1 he1
  unfold tripL_k0_t1 trip_k0_t1
  dsimp only [List.cons_append, List.nil_append]
  refine ⟨?_, ?_, ?_, ?_, ?_⟩
  · refine st3 _ _ _ _ _ (off9_eq i k) (off12_eq i k) _ _ _ _ _ (fun g a b _ => h14 g a b) ?_ ?_
    · exact pay11_is hs0 hC.k0 (ld3 h14 _ 0 _ (off9_eq i k) _)
    · exact pay24_is hs1 hC.k1 (ld3 h14 _ 1 _ (off12_eq i k) _)
  · refine is3_congr (st3 (y := fun g a l => x15 g a l + ∑ b ∈ Finset.range 512, R.D g (512 * (i 1).val + a) (512 * ((i 1).val + 1 + k.val) + b) * R.q g (512 * ((i 1).val + 1 + k.val) + b) l) _ _ 0 _ _ rfl rfl _ _ _ _ _ (fun g a b _ => h15 g a b) (isS_congr (pay10_is hs0 hq0 (ld3 h15 _ 0 0 rfl _)) fun a b _ _ => ?_) (isS_congr (pay23_is hs1 hq1 (ld3 h15 _ 1 0 rfl _)) fun a b _ _ => ?_)) fun g a b _ ha _ => if_pos ⟨Nat.zero_le _, by omega⟩
    · simp only [Nat.zero_add]
    · simp only [Nat.zero_add]
  · refine is3_congr (st3 (y := fun g a l => x16 g a l + ∑ b ∈ Finset.range 512, R.P g (512 * (i 1).val + a) (512 * ((i 1).val + 1 + k.val) + b) * R.d g (512 * ((i 1).val + 1 + k.val) + b) l) _ _ 0 _ _ rfl rfl _ _ _ _ _ (fun g a b _ => h16 g a b) (isS_congr (pay7_is hp0 hd0 (ld3 h16 _ 0 0 rfl _)) fun a b _ _ => ?_) (isS_congr (pay19_is hp1 hd1 (ld3 h16 _ 1 0 rfl _)) fun a b _ _ => ?_)) fun g a b _ ha _ => if_pos ⟨Nat.zero_le _, by omega⟩
    · simp only [Nat.zero_add]
    · simp only [Nat.zero_add]
  · refine st4 _ _ _ _ _ (off8_eq i k) (off11_eq i k) _ _ _ _ _ (fun g a b _ => h17 g a b) ?_ ?_
    · exact pay15_is hs0 (ld4 h17 _ 0 _ (off8_eq i k) _)
    · exact pay81_is hs1 (ld4 h17 _ 1 _ (off11_eq i k) _)
  · refine is3_congr (st3 (y := fun g a l => x18 g a l - (R.D g (512 * (i 1).val + a) (512 * ((i 1).val + 1 + k.val) + l) + R.D g (512 * (i 1).val + a) (512 * ((i 1).val + 1 + k.val) + (128 + l)) + R.D g (512 * (i 1).val + a) (512 * ((i 1).val + 1 + k.val) + (256 + l)) + R.D g (512 * (i 1).val + a) (512 * ((i 1).val + 1 + k.val) + (384 + l)))) _ _ 0 _ _ rfl rfl _ _ _ _ _ (fun g a b _ => h18 g a b) (isS_congr (pay12_is hs0 (ld3 h18 _ 0 0 rfl _)) fun a b _ _ => ?_) (isS_congr (pay25_is hs1 (ld3 h18 _ 1 0 rfl _)) fun a b _ _ => ?_)) fun g a b _ ha _ => if_pos ⟨Nat.zero_le _, by omega⟩
    · simp only [Nat.zero_add]
    · simp only [Nat.zero_add]
end Cert.KernelIdeal.Tile
-- ==== Proof.V.Loop.lean ====
/-
The loop over the later tiles of queries, as real numbers: what its trips leave together.
-/
module
public import proofs.«01_k».proof.Proof.V.Trip
@[expose] public section
set_option maxRecDepth 65536
set_option maxHeartbeats 4000000
noncomputable section
namespace Cert.KernelIdeal.Tile
open Cert.KernelIdeal Cert.KernelIdeal.Gen
open Idealize.ShloMosaic

theorem sum_tile (f : ℕ → ℝ) (c m : ℕ) (h : c ≤ m) :
    ∑ r ∈ Finset.Ico (512 * c) (512 * m), f r + ∑ b ∈ Finset.range 512, f (512 * m + b) = ∑ r ∈ Finset.Ico (512 * c) (512 * (m + 1)), f r := by
  rw [← Finset.sum_Ico_consecutive f (show 512 * c ≤ 512 * m by omega) (show 512 * m ≤ 512 * (m + 1) by omega),
    Finset.sum_Ico_eq_sum_range f (512 * m), show 512 * (m + 1) - 512 * m = 512 by omega]

theorem sum_lane (f : ℕ → ℝ) (c m l : ℕ) (h : c ≤ m) :
    ∑ s ∈ Finset.Ico (4 * c) (4 * m), f (128 * s + l) + (f (512 * m + l) + f (512 * m + (128 + l)) + f (512 * m + (256 + l)) + f (512 * m + (384 + l)))
      = ∑ s ∈ Finset.Ico (4 * c) (4 * (m + 1)), f (128 * s + l) := by
  rw [← Finset.sum_Ico_consecutive _ (show 4 * c ≤ 4 * m by omega) (show 4 * m ≤ 4 * (m + 1) by omega),
    Finset.sum_Ico_eq_sum_range _ (4 * m), show 4 * (m + 1) - 4 * m = 4 by omega]
  simp only [Finset.sum_range_succ, Finset.sum_range_zero, zero_add]
  rw [show 128 * (4 * m + 0) + l = 512 * m + l by omega, show 128 * (4 * m + 1) + l = 512 * m + (128 + l) by omega,
    show 128 * (4 * m + 2) + l = 512 * m + (256 + l) by omega, show 128 * (4 * m + 3) + l = 512 * m + (384 + l) by omega]

/-- After `n` trips. -/
theorem loop_is (𝒱 : Variants) (c : Dev nD) (bd : Option 𝒱.V) (i : grid0.Coords)
    (arg2 : Memref sig .tc .vmem S8192x256 .bf16) (harg2 : arg2.IsWhole)
    (arg3 : Memref sig .tc .vmem S512x256 .bf16) (harg3 : arg3.IsWhole)
    (arg4 : Memref sig .tc .vmem S512x256 .bf16) (harg4 : arg4.IsWhole)
    (arg5 : Memref sig .tc .vmem S8192x256 .bf16) (harg5 : arg5.IsWhole)
    (arg6 : Memref sig .tc .vmem S2x16x1x512 .f32) (harg6 : arg6.IsWhole)
    (arg7 : Memref sig .tc .vmem S2x16x1x512 .f32) (harg7 : arg7.IsWhole)
    (arg8 : Memref sig .tc .vmem S2x16x1x512 .f32) (harg8 : arg8.IsWhole)
    (arg9 : Memref sig .tc .vmem S8192x256 .bf16) (harg9 : arg9.IsWhole)
    (arg10 : Memref sig .tc .vmem S512x256 .bf16) (harg10 : arg10.IsWhole)
    (arg11 : Memref sig .tc .vmem S512x256 .bf16) (harg11 : arg11.IsWhole)
    (arg12 : Memref sig .tc .vmem S2x16x1x512 .f32) (harg12 : arg12.IsWhole)
    (arg13 : Memref sig .tc .vmem S2x1x1x512 .f32) (harg13 : arg13.IsWhole)
    (arg14 : Memref sig .tc .vmem S2x8192x128 .f32) (harg14 : arg14.IsWhole)
    (arg15 : Memref sig .tc .vmem S2x512x128 .f32) (harg15 : arg15.IsWhole)
    (arg16 : Memref sig .tc .vmem S2x512x128 .f32) (harg16 : arg16.IsWhole)
    (arg17 : Memref sig .tc .vmem S2x16x1x512 .f32) (harg17 : arg17.IsWhole)
    (arg18 : Memref sig .tc .vmem S2x512x128 .f32) (harg18 : arg18.IsWhole)
    (arg1 : BitVec 32) (v5 v11 : FVec Ideal S512x128 .f32) (v28 v30 v32 v34 : FVec Ideal S512x128 .bf16)
    (v156 : FVec Ideal S512x512 .f32) (v174 : Vec Ideal S1x512x128 .f32) (v197 : BitVec 32)
    (X2 : arg2.view.ty.Contents (Elt Ideal)) (X5 : arg5.view.ty.Contents (Elt Ideal)) (X6 : arg6.view.ty.Contents (Elt Ideal)) (X7 : arg7.view.ty.Contents (Elt Ideal)) (X8 : arg8.view.ty.Contents (Elt Ideal)) (R : Rd)
    (hR : Reads R i (arg2.view.read (Elt Ideal) X2) (arg5.view.read (Elt Ideal) X5) (arg6.view.read (Elt Ideal) X6) (arg7.view.read (Elt Ideal) X7) (arg8.view.read (Elt Ideal) X8))
    (hC : Cols R i v5 v11 v28 v30 v32 v34)
    (G14 : arg14.view.ty.Contents (Elt Ideal)) (G15 : arg15.view.ty.Contents (Elt Ideal)) (G16 : arg16.view.ty.Contents (Elt Ideal)) (G17 : arg17.view.ty.Contents (Elt Ideal)) (G18 : arg18.view.ty.Contents (Elt Ideal))
    (x14 x15 x16 x18 : ℕ → ℕ → ℕ → ℝ) (x17 : ℕ → ℕ → ℝ)
    (h14 : is3 (arg14.view.read (Elt Ideal) G14) x14) (h15 : is3 (arg15.view.read (Elt Ideal) G15) x15) (h16 : is3 (arg16.view.read (Elt Ideal) G16) x16) (h17 : is4 (arg17.view.read (Elt Ideal) G17) x17) (h18 : is3 (arg18.view.read (Elt Ideal) G18) x18) (n : ℕ) (hn : n ≤ (k0_t1_loop i).trips) :
    (is3 (arg14.view.read (Elt Ideal) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v11 v28 v30 v32 v34 v156 v174 v197 X2 X5 X6 X7 X8 G14 G15 G16 G17 G18 n).1)) (fun g r l => if 512 * ((i 1).val + 1) ≤ r ∧ r < 512 * ((i 1).val + 1 + n) then x14 g r l + ∑ a ∈ Finset.range 512, R.D g (512 * (i 1).val + a) r * R.k g (512 * (i 1).val + a) l else x14 g r l)) ∧ (is3 (arg15.view.read (Elt Ideal) (arg15.view.writes (Elt Ideal) G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v11 v28 v30 v32 v34 v156 v174 v197 X2 X5 X6 X7 X8 G14 G15 G16 G17 G18 n).2.1)) (fun g a l => x15 g a l + ∑ r ∈ Finset.Ico (512 * ((i 1).val + 1)) (512 * ((i 1).val + 1 + n)), R.D g (512 * (i 1).val + a) r * R.q g r l)) ∧ (is3 (arg16.view.read (Elt Ideal) (arg16.view.writes (Elt Ideal) G16 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v11 v28 v30 v32 v34 v156 v174 v197 X2 X5 X6 X7 X8 G14 G15 G16 G17 G18 n).2.2.1)) (fun g a l => x16 g a l + ∑ r ∈ Finset.Ico (512 * ((i 1).val + 1)) (512 * ((i 1).val + 1 + n)), R.P g (512 * (i 1).val + a) r * R.d g r l)) ∧ (is4 (arg17.view.read (Elt Ideal) (arg17.view.writes (Elt Ideal) G17 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v11 v28 v30 v32 v34 v156 v174 v197 X2 X5 X6 X7 X8 G14 G15 G16 G17 G18 n).2.2.2.1)) (fun g r => if 512 * ((i 1).val + 1) ≤ r ∧ r < 512 * ((i 1).val + 1 + n) then x17 g r + ∑ a ∈ Finset.range 512, R.D g (512 * (i 1).val + a) r else x17 g r)) ∧ (is3 (arg18.view.read (Elt Ideal) (arg18.view.writes (Elt Ideal) G18 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v11 v28 v30 v32 v34 v156 v174 v197 X2 X5 X6 X7 X8 G14 G15 G16 G17 G18 n).2.2.2.2)) (fun g a l => x18 g a l - ∑ s ∈ Finset.Ico (4 * ((i 1).val + 1)) (4 * ((i 1).val + 1 + n)), R.D g (512 * (i 1).val + a) (128 * s + l))) := by
  induction n with
  | zero =>
    refine ⟨?_, ?_, ?_, ?_, ?_⟩
    · refine is3_congr (x := x14) h14 fun g a b _ _ _ => ?_
      rw [if_neg (by omega)]
    · refine is3_congr (x := x15) h15 fun g a b _ _ _ => ?_
      simp
    · refine is3_congr (x := x16) h16 fun g a b _ _ _ => ?_
      simp
    · refine is4_congr (x := x17) h17 fun g a b _ _ _ => ?_
      rw [if_neg (by omega)]
    · refine is3_congr (x := x18) h18 fun g a b _ _ _ => ?_
      simp
  | succ n ih =>
    obtain ⟨i14, i15, i16, i17, i18⟩ := ih (by omega)
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v11 v28 v30 v32 v34 v156 v174 v197 X2 X5 X6 X7 X8 G14 G15 G16 G17 G18 ⟨n, by omega⟩
    dsimp only at hs
    rw [hs]
    obtain ⟨t14, t15, t16, t17, t18⟩ := trip_is 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v11 v28 v30 v32 v34 v156 v174 v197 X2 X5 X6 X7 X8 R hR hC ⟨n, by omega⟩ G14 G15 G16 G17 G18 _ _ _ _ _ _ _ _ _ _ i14 i15 i16 i17 i18
    refine ⟨is3_congr t14 ?_, is3_congr t15 ?_, is3_congr t16 ?_, is4_congr t17 ?_, is3_congr t18 ?_⟩
    · intro g r l _ _ _
      dsimp only
      split_ifs <;> first | rfl | (exfalso; omega)
    · intro g a l _ _ _
      dsimp only
      rw [add_assoc, sum_tile (fun r => R.D g (512 * (i 1).val + a) r * R.q g r l) _ _ (by omega)]
      rfl
    · intro g a l _ _ _
      dsimp only
      rw [add_assoc, sum_tile (fun r => R.P g (512 * (i 1).val + a) r * R.d g r l) _ _ (by omega)]
      rfl
    · intro g a b _ _ _
      dsimp only
      generalize 512 * a + b = r
      split_ifs <;> first | rfl | (exfalso; omega)
    · intro g a l _ _ _
      dsimp only
      rw [sub_sub, sum_lane (fun r => R.D g (512 * (i 1).val + a) r) _ _ _ (by omega)]
      rfl
end Cert.KernelIdeal.Tile
-- ==== Proof.V.Put.lean ====
/-
A single store into a buffer of real numbers, the fill with zeros, the sums that the tiles of queries make together, and
the second loop, which has no trips.
-/
module
public import proofs.«01_k».proof.Proof.V.Loop
@[expose] public section
set_option maxRecDepth 65536
set_option maxHeartbeats 4000000
noncomputable section
namespace Cert.KernelIdeal.Tile
open Cert.KernelIdeal Cert.KernelIdeal.Gen
open Idealize.ShloMosaic

section
variable {sig' : RefSig} {κ' : Kind} {sp : Space}

theorem put3 {p n m n' : ℕ} (v : View sig' κ' sp ⟨3, ![p, n, m]⟩ .f32) (f : v.ty.Contents (Elt Ideal)) {x y : ℕ → ℕ → ℕ → ℝ} (g0 o : ℕ)
    (off : Fin 3 → ℕ) (ho : off = ![g0, o, 0])
    (inb : ∀ a, off a + (![1, n', m] : Fin 3 → ℕ) a ≤ (⟨3, ![p, n, m]⟩ : Shape).size a)
    (w : (⟨3, ![1, n', m]⟩ : Shape).Idx → EReal) (L : List (View.Piece (Elt Ideal) ⟨3, ![p, n, m]⟩ .f32))
    (h : is3 (v.read (Elt Ideal) (v.writes (Elt Ideal) f L)) x) (hw : isS w fun a l => y g0 (o + a) l) :
    is3 (v.read (Elt Ideal) (v.writes (Elt Ideal) f (⟨Rect.unit off ![1, n', m] inb, w⟩ :: L)))
      (fun g a l => if g = g0 ∧ o ≤ a ∧ a < o + n' then y g a l else x g a l) := by
  subst ho
  intro g a b
  dsimp only
  by_cases hg : g.val = g0
  · by_cases ha : o ≤ a.val ∧ a.val < o + n'
    · rw [if_pos ⟨hg, ha⟩]
      have hit := View.read_writes_cons_hit_of_coords v f (Rect.unit ![g0, o, 0] ![1, n', m] inb) w L (ix3 (0 : Fin 1) (⟨a.val - o, by omega⟩ : Fin n') b) (ix3 g a b) (by
        intro t
        rcases t with ⟨_ | _ | _ | t, ht⟩
        · show g.val = g0 + 1 * 0; omega
        · show a.val = o + 1 * (a.val - o); omega
        · show b.val = 0 + 1 * b.val; omega
        · exact absurd ht (by simp))
      refine Eq.trans hit ((hw (⟨a.val - o, by omega⟩ : Fin n') b).trans ?_)
      show ((y g0 (o + (a.val - o)) b : ℝ) : EReal) = _
      rw [show o + (a.val - o) = a.val by omega, hg]
    · rw [if_neg (fun u => ha u.2)]
      exact (View.read_writes_cons_miss_of_axis v f _ _ _ 1 o n' rfl rfl rfl (by show a.val < o ∨ o + n' ≤ a.val; omega)).trans (h g a b)
  · rw [if_neg (fun u => hg u.1)]
    exact (View.read_writes_cons_miss_of_axis v f _ _ _ 0 g0 1 rfl rfl rfl (by show g.val < g0 ∨ g0 + 1 ≤ g.val; omega)).trans (h g a b)

theorem put4 {p n m : ℕ} (v : View sig' κ' sp ⟨4, ![p, n, 1, m]⟩ .f32) (f : v.ty.Contents (Elt Ideal)) {x y : ℕ → ℕ → ℝ} (g0 o : ℕ)
    (off : Fin 4 → ℕ) (ho : off = ![g0, o, 0, 0])
    (inb : ∀ a, off a + (![1, 1, 1, m] : Fin 4 → ℕ) a ≤ (⟨4, ![p, n, 1, m]⟩ : Shape).size a)
    (w : (⟨4, ![1, 1, 1, m]⟩ : Shape).Idx → EReal) (L : List (View.Piece (Elt Ideal) ⟨4, ![p, n, 1, m]⟩ .f32))
    (h : ∀ (g : Fin p) (a : Fin n) (b : Fin m), ¬ (g.val = g0 ∧ a.val = o) →
      (v.read (Elt Ideal) (v.writes (Elt Ideal) f L) (ix4 g a 0 b) : EReal) = ((x g (m * a + b) : ℝ) : EReal))
    (hw : isR w fun b => y g0 (m * o + b)) :
    is4 (v.read (Elt Ideal) (v.writes (Elt Ideal) f (⟨Rect.unit off ![1, 1, 1, m] inb, w⟩ :: L)))
      (fun g r => if g = g0 ∧ m * o ≤ r ∧ r < m * (o + 1) then y g r else x g r) := by
  subst ho
  intro g a b
  dsimp only
  have hb := b.isLt
  by_cases hg : g.val = g0
  · by_cases ha : a.val = o
    · rw [if_pos ⟨hg, by rw [ha, Nat.mul_add]; omega⟩]
      have hit := View.read_writes_cons_hit_of_coords v f (Rect.unit ![g0, o, 0, 0] ![1, 1, 1, m] inb) w L (ix4 (0 : Fin 1) (0 : Fin 1) (0 : Fin 1) b) (ix4 g a (0 : Fin 1) b) (by
        intro t
        rcases t with ⟨_ | _ | _ | _ | t, ht⟩
        · show g.val = g0 + 1 * 0; omega
        · show a.val = o + 1 * 0; omega
        · simp
        · show b.val = 0 + 1 * b.val; omega
        · exact absurd ht (by simp))
      refine Eq.trans hit ((hw b).trans ?_)
      show ((y g0 (m * o + b) : ℝ) : EReal) = ((y g.val (m * a.val + b) : ℝ) : EReal)
      rw [ha, hg]
    · have hne : ¬ (g.val = g0 ∧ m * o ≤ m * a.val + b.val ∧ m * a.val + b.val < m * (o + 1)) := by
        rintro ⟨_, u1, u2⟩
        rcases Nat.lt_or_gt_of_ne ha with u | u
        · have := Nat.mul_le_mul_left m (show a.val + 1 ≤ o from u); rw [Nat.mul_add] at this; omega
        · have := Nat.mul_le_mul_left m (show o + 1 ≤ a.val from u); omega
      rw [if_neg hne]
      exact (View.read_writes_cons_miss_of_axis v f _ _ _ 1 o 1 rfl rfl rfl (by show a.val < o ∨ o + 1 ≤ a.val; omega)).trans (h g a b (fun u => ha u.2))
  · rw [if_neg (fun u => hg u.1)]
    exact (View.read_writes_cons_miss_of_axis v f _ _ _ 0 g0 1 rfl rfl rfl (by show g.val < g0 ∨ g0 + 1 ≤ g.val; omega)).trans (h g a b (fun u => hg u.1))

theorem fill3 {p n m : ℕ} (v : View sig' κ' sp ⟨3, ![p, n, m]⟩ .f32) (f : v.ty.Contents (Elt Ideal))
    (inb : ∀ a, (![0, 0, 0] : Fin 3 → ℕ) a + (![p, n, m] : Fin 3 → ℕ) a ≤ (⟨3, ![p, n, m]⟩ : Shape).size a)
    (w : (⟨3, ![p, n, m]⟩ : Shape).Idx → EReal) (hw : ∀ j, w j = 0) :
    is3 (v.read (Elt Ideal) (v.writes (Elt Ideal) f [⟨Rect.unit ![0, 0, 0] ![p, n, m] inb, w⟩])) (fun _ _ _ => 0) := by
  intro g a b
  have hit := View.read_writes_cons_hit_of_coords v f (Rect.unit ![0, 0, 0] ![p, n, m] inb) w [] (ix3 g a b) (ix3 g a b) (by
    intro t
    rcases t with ⟨_ | _ | _ | t, ht⟩
    · show g.val = 0 + 1 * g.val; omega
    · show a.val = 0 + 1 * a.val; omega
    · show b.val = 0 + 1 * b.val; omega
    · exact absurd ht (by simp))
  exact Eq.trans hit ((hw _).trans EReal.coe_zero.symm)

theorem fill4 {p n m : ℕ} (v : View sig' κ' sp ⟨4, ![p, n, 1, m]⟩ .f32) (f : v.ty.Contents (Elt Ideal))
    (inb : ∀ a, (![0, 0, 0, 0] : Fin 4 → ℕ) a + (![p, n, 1, m] : Fin 4 → ℕ) a ≤ (⟨4, ![p, n, 1, m]⟩ : Shape).size a)
    (w : (⟨4, ![p, n, 1, m]⟩ : Shape).Idx → EReal) {x : ℕ → ℕ → ℝ} (hw : is4 w x) :
    is4 (v.read (Elt Ideal) (v.writes (Elt Ideal) f [⟨Rect.unit ![0, 0, 0, 0] ![p, n, 1, m] inb, w⟩])) x := by
  intro g a b
  have hit := View.read_writes_cons_hit_of_coords v f (Rect.unit ![0, 0, 0, 0] ![p, n, 1, m] inb) w [] (ix4 g a (0 : Fin 1) b) (ix4 g a (0 : Fin 1) b) (by
    intro t
    rcases t with ⟨_ | _ | _ | _ | t, ht⟩
    · show g.val = 0 + 1 * g.val; omega
    · show a.val = 0 + 1 * a.val; omega
    · simp
    · show b.val = 0 + 1 * b.val; omega
    · exact absurd ht (by simp))
  exact Eq.trans hit (hw g a b)
end

/-- All of it loaded at once. -/
theorem ld4all {p n m : ℕ} {X : (⟨4, ![p, n, 1, m]⟩ : Shape).Idx → EReal} {x : ℕ → ℕ → ℝ} (h : is4 X x)
    (inb : ∀ a, (![0, 0, 0, 0] : Fin 4 → ℕ) a + (![p, n, 1, m] : Fin 4 → ℕ) a ≤ (⟨4, ![p, n, 1, m]⟩ : Shape).size a) :
    is4 (fun j => X ((Rect.unit (s := ⟨4, ![p, n, 1, m]⟩) ![0, 0, 0, 0] ![p, n, 1, m] inb).toLoadRect.idx j)) x := by
  intro g a b
  refine Eq.trans (congrArg X ?_) (h g a b)
  funext t; apply Fin.ext
  rcases t with ⟨_ | _ | _ | _ | t, ht⟩
  · exact (Rect.idx_unit_val _ _ _ _ _).trans (Nat.zero_add _)
  · exact (Rect.idx_unit_val _ _ _ _ _).trans (Nat.zero_add _)
  · exact Rect.idx_unit_val _ _ _ _ _
  · exact (Rect.idx_unit_val _ _ _ _ _).trans (Nat.zero_add _)
  · exact absurd ht (by simp)

section
variable {r : Vec Ideal S512x128 .bf16} {x : ℕ → ℕ → ℝ}
theorem pay55_is (h : isM r x) : isM (k0_pay55 (F := Ideal) r) x := by
  intro a b
  pointwise [k0_pay55]
  exact h a b
theorem pay56_is (h : isM r x) : isM (k0_pay56 (F := Ideal) r) x := by
  intro a b
  pointwise [k0_pay56]
  exact h a b
theorem pay57_is (h : isM r x) : isM (k0_pay57 (F := Ideal) r) x := by
  intro a b
  pointwise [k0_pay57]
  exact h a b
theorem pay58_is (h : isM r x) : isM (k0_pay58 (F := Ideal) r) x := by
  intro a b
  pointwise [k0_pay58]
  exact h a b
end

/-- The tile's own queries and the later ones are all the queries that see the tile's keys. -/
theorem sum_all (f : ℕ → ℝ) (c n : ℕ) (hc : c + 1 + n = 16) (hf : ∀ r, r < 512 * c → f r = 0) :
    ∑ b ∈ Finset.range 512, f (512 * c + b) + ∑ r ∈ Finset.Ico (512 * (c + 1)) (512 * (c + 1 + n)), f r = ∑ r ∈ Finset.range 8192, f r := by
  rw [hc, show 512 * 16 = 8192 from rfl, Finset.range_eq_Ico (a := 8192), ← Finset.sum_Ico_consecutive f (show 0 ≤ 512 * c by omega) (show 512 * c ≤ 8192 by omega),
    ← Finset.sum_Ico_consecutive f (show 512 * c ≤ 512 * (c + 1) by omega) (show 512 * (c + 1) ≤ 8192 by omega),
    Finset.sum_Ico_eq_sum_range f (512 * c), show 512 * (c + 1) - 512 * c = 512 by omega,
    Finset.sum_eq_zero (s := Finset.Ico 0 (512 * c)) fun r hr => hf r (Finset.mem_Ico.1 hr).2, zero_add]

theorem sum_blocks (f : ℕ → ℝ) (n : ℕ) :
    ∑ l ∈ Finset.range 128, ∑ s ∈ Finset.range n, f (128 * s + l) = ∑ r ∈ Finset.range (128 * n), f r := by
  rw [Finset.sum_comm]
  induction n with
  | zero => simp
  | succ n ih => rw [Finset.sum_range_succ, ih, Nat.mul_succ, Finset.sum_range_add]

/-- The partial sums kept in the lanes, added up. -/
theorem sum_lanes (f : ℕ → ℝ) (c n : ℕ) (hc : c + 1 + n = 16) (hf : ∀ r, r < 512 * c → f r = 0) :
    ∑ l ∈ Finset.range 128, ((0 - (f (512 * c + l) + f (512 * c + (128 + l)) + f (512 * c + (256 + l)) + f (512 * c + (384 + l))))
      - ∑ s ∈ Finset.Ico (4 * (c + 1)) (4 * (c + 1 + n)), f (128 * s + l)) = - ∑ r ∈ Finset.range 8192, f r := by
  have key : ∀ l ∈ Finset.range 128, ((0 - (f (512 * c + l) + f (512 * c + (128 + l)) + f (512 * c + (256 + l)) + f (512 * c + (384 + l))))
      - ∑ s ∈ Finset.Ico (4 * (c + 1)) (4 * (c + 1 + n)), f (128 * s + l)) = - ∑ s ∈ Finset.range 64, f (128 * s + l) := by
    intro l hl
    have hl := Finset.mem_range.1 hl
    have h1 := sum_lane f 0 c l (Nat.zero_le c)
    have h0 : ∑ s ∈ Finset.Ico (4 * 0) (4 * c), f (128 * s + l) = 0 :=
      Finset.sum_eq_zero fun s hs => hf _ (by have := (Finset.mem_Ico.1 hs).2; omega)
    rw [h0, zero_add] at h1
    rw [h1, zero_sub, hc, show 4 * 16 = 64 from rfl, Finset.range_eq_Ico (a := 64), ← Finset.sum_Ico_consecutive (fun s => f (128 * s + l)) (show 0 ≤ 4 * (c + 1) by omega) (show 4 * (c + 1) ≤ 64 by omega)]
    simp only [Nat.mul_zero]
    ring
  rw [Finset.sum_congr rfl key, Finset.sum_neg_distrib, sum_blocks]

theorem trips2 (i : grid0.Coords) : (k0_t2_loop i).trips = 0 := by
  have h : ∀ n : Fin 16, Scf.trips (Scalar.addi (Scalar.addi (BitVec.ofNat 32 n.val) 1#32)
      (Scalar.muli (Scalar.divsi (Scalar.subi 16#32 (Scalar.addi (BitVec.ofNat 32 n.val) 1#32)) 1#32) 1#32))
      (Scalar.addi (Scalar.addi (BitVec.ofNat 32 n.val) 1#32) (Scalar.subi 16#32 (Scalar.addi (BitVec.ofNat 32 n.val) 1#32))) 1#32 = 0 := by decide
  exact h (i 1)
theorem trips2' (i : grid0.Coords) : Scf.trips (k0_t2_loop i).lb (k0_t2_loop i).ub (k0_t2_loop i).st = 0 := trips2 i

/-- The second loop writes nothing. -/
theorem pb2_nil (𝒱 : Variants) (c : Dev nD) (bd : Option 𝒱.V) (i : grid0.Coords)
    (arg2 : Memref sig .tc .vmem S8192x256 .bf16) (harg2 : arg2.IsWhole)
    (arg3 : Memref sig .tc .vmem S512x256 .bf16) (harg3 : arg3.IsWhole)
    (arg4 : Memref sig .tc .vmem S512x256 .bf16) (harg4 : arg4.IsWhole)
    (arg5 : Memref sig .tc .vmem S8192x256 .bf16) (harg5 : arg5.IsWhole)
    (arg6 : Memref sig .tc .vmem S2x16x1x512 .f32) (harg6 : arg6.IsWhole)
    (arg7 : Memref sig .tc .vmem S2x16x1x512 .f32) (harg7 : arg7.IsWhole)
    (arg8 : Memref sig .tc .vmem S2x16x1x512 .f32) (harg8 : arg8.IsWhole)
    (arg9 : Memref sig .tc .vmem S8192x256 .bf16) (harg9 : arg9.IsWhole)
    (arg10 : Memref sig .tc .vmem S512x256 .bf16) (harg10 : arg10.IsWhole)
    (arg11 : Memref sig .tc .vmem S512x256 .bf16) (harg11 : arg11.IsWhole)
    (arg12 : Memref sig .tc .vmem S2x16x1x512 .f32) (harg12 : arg12.IsWhole)
    (arg13 : Memref sig .tc .vmem S2x1x1x512 .f32) (harg13 : arg13.IsWhole)
    (arg14 : Memref sig .tc .vmem S2x8192x128 .f32) (harg14 : arg14.IsWhole)
    (arg15 : Memref sig .tc .vmem S2x512x128 .f32) (harg15 : arg15.IsWhole)
    (arg16 : Memref sig .tc .vmem S2x512x128 .f32) (harg16 : arg16.IsWhole)
    (arg17 : Memref sig .tc .vmem S2x16x1x512 .f32) (harg17 : arg17.IsWhole)
    (arg18 : Memref sig .tc .vmem S2x512x128 .f32) (harg18 : arg18.IsWhole)
    (arg1 : BitVec 32) (v5 v11 : FVec Ideal S512x128 .f32) (v28 v30 v32 v34 : FVec Ideal S512x128 .bf16)
    (v156 : FVec Ideal S512x512 .f32) (v174 : Vec Ideal S1x512x128 .f32) (v197 : BitVec 32)
    (X2 : arg2.view.ty.Contents (Elt Ideal)) (X5 : arg5.view.ty.Contents (Elt Ideal)) (X6 : arg6.view.ty.Contents (Elt Ideal)) (X7 : arg7.view.ty.Contents (Elt Ideal)) (X8 : arg8.view.ty.Contents (Elt Ideal)) (G14 : arg14.view.ty.Contents (Elt Ideal)) (G15 : arg15.view.ty.Contents (Elt Ideal)) (G16 : arg16.view.ty.Contents (Elt Ideal)) (G17 : arg17.view.ty.Contents (Elt Ideal)) (G18 : arg18.view.ty.Contents (Elt Ideal)) : pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v11 v28 v30 v32 v34 v156 v174 v197 X2 X5 X6 X7 X8 G14 G15 G16 G17 G18 0 = ([], [], [], [], []) := rfl
end Cert.KernelIdeal.Tile
-- ==== Proof.V.PtA.lean ====
/-
The body at the first tile of keys, as real numbers: what it writes of the gradients of the tile's keys, values and gates, and
what it leaves in the sums for the queries.
-/
module
public import proofs.«01_k».proof.Proof.V.Put
public import proofs.«01_k».proof.Proof.RunA
@[expose] public section
set_option maxRecDepth 65536
set_option maxHeartbeats 16000000
noncomputable section
namespace Cert.KernelIdeal.Tile
open Cert.KernelIdeal Cert.KernelIdeal.Gen
open Idealize.ShloMosaic
attribute [local irreducible] pb_k0_t1 pb_k0_t2

/-- The body at the first tile of keys. -/
theorem ptA (𝒱 : Variants) (c : Dev nD) (bd : Option 𝒱.V) (i : grid0.Coords)
    (arg2 : Memref sig .tc .vmem S8192x256 .bf16) (harg2 : arg2.IsWhole)
    (arg3 : Memref sig .tc .vmem S512x256 .bf16) (harg3 : arg3.IsWhole)
    (arg4 : Memref sig .tc .vmem S512x256 .bf16) (harg4 : arg4.IsWhole)
    (arg5 : Memref sig .tc .vmem S8192x256 .bf16) (harg5 : arg5.IsWhole)
    (arg6 : Memref sig .tc .vmem S2x16x1x512 .f32) (harg6 : arg6.IsWhole)
    (arg7 : Memref sig .tc .vmem S2x16x1x512 .f32) (harg7 : arg7.IsWhole)
    (arg8 : Memref sig .tc .vmem S2x16x1x512 .f32) (harg8 : arg8.IsWhole)
    (arg9 : Memref sig .tc .vmem S8192x256 .bf16) (harg9 : arg9.IsWhole)
    (arg10 : Memref sig .tc .vmem S512x256 .bf16) (harg10 : arg10.IsWhole)
    (arg11 : Memref sig .tc .vmem S512x256 .bf16) (harg11 : arg11.IsWhole)
    (arg12 : Memref sig .tc .vmem S2x16x1x512 .f32) (harg12 : arg12.IsWhole)
    (arg13 : Memref sig .tc .vmem S2x1x1x512 .f32) (harg13 : arg13.IsWhole)
    (arg14 : Memref sig .tc .vmem S2x8192x128 .f32) (harg14 : arg14.IsWhole)
    (arg15 : Memref sig .tc .vmem S2x512x128 .f32) (harg15 : arg15.IsWhole)
    (arg16 : Memref sig .tc .vmem S2x512x128 .f32) (harg16 : arg16.IsWhole)
    (arg17 : Memref sig .tc .vmem S2x16x1x512 .f32) (harg17 : arg17.IsWhole)
    (arg18 : Memref sig .tc .vmem S2x512x128 .f32) (harg18 : arg18.IsWhole)
    (h1 : Body.first i) (h2 : ¬ k0_cond2 i = 1#1)
    (f2 : arg2.view.ty.Contents (Elt Ideal)) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f11 : arg11.view.ty.Contents (Elt Ideal)) (f12 : arg12.view.ty.Contents (Elt Ideal)) (f13 : arg13.view.ty.Contents (Elt Ideal)) (f14 : arg14.view.ty.Contents (Elt Ideal)) (f15 : arg15.view.ty.Contents (Elt Ideal)) (f16 : arg16.view.ty.Contents (Elt Ideal)) (f17 : arg17.view.ty.Contents (Elt Ideal)) (f18 : arg18.view.ty.Contents (Elt Ideal)) (R : Rd)
    (hR : Reads R i (arg2.view.read (Elt Ideal) f2) (arg5.view.read (Elt Ideal) f5) (arg6.view.read (Elt Ideal) f6) (arg7.view.read (Elt Ideal) f7) (arg8.view.read (Elt Ideal) f8))
    (hk : isH (arg3.view.read (Elt Ideal) f3) (fun g a l => R.k g (512 * (i 1).val + a) l))
    (hv : isH (arg4.view.read (Elt Ideal) f4) (fun g a l => R.v g (512 * (i 1).val + a) l))
    :
    isH (arg10.view.read (Elt Ideal) (arg10.view.writes (Elt Ideal) f10 (Body.runA (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).1)) (fun g a l => (∑ r ∈ Finset.range 8192, R.D g (512 * (i 1).val + a) r * R.q g r l) * Real.log 2)
    ∧ isH (arg11.view.read (Elt Ideal) (arg11.view.writes (Elt Ideal) f11 (Body.runA (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.1)) (fun g a l => ∑ r ∈ Finset.range 8192, R.P g (512 * (i 1).val + a) r * R.d g r l)
    ∧ is4 (arg13.view.read (Elt Ideal) (arg13.view.writes (Elt Ideal) f13 (Body.runA (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.1)) (fun g a => - ∑ r ∈ Finset.range 8192, R.D g (512 * (i 1).val + a) r)
    ∧ is3 (arg14.view.read (Elt Ideal) (Body.runA (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.2.1) (fun g r l => ∑ a ∈ Finset.range 512, R.D g (512 * (i 1).val + a) r * R.k g (512 * (i 1).val + a) l)
    ∧ is4 (arg17.view.read (Elt Ideal) (Body.runA (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.2.2.2.2.1) (fun g r => ∑ a ∈ Finset.range 512, R.D g (512 * (i 1).val + a) r) := by
  have hq0 : isM (View.readAt (Elt Ideal) arg2.view (Rect.unit (s := S8192x256) (k0_off3 i) S512x128.size (k0_off3_inb i)).toLoadRect f2) (fun b l => R.q 0 (512 * (i 1).val + b) l) := ldH hR.q _ 0 _ _ rfl (by omega) (off3_eq i) _
  have hd0 : isM (View.readAt (Elt Ideal) arg5.view (Rect.unit (s := S8192x256) (k0_off3 i) S512x128.size (k0_off3_inb i)).toLoadRect f5) (fun b l => R.d 0 (512 * (i 1).val + b) l) := ldH hR.d _ 0 _ _ rfl (by omega) (off3_eq i) _
  have hl0 : isR (View.readAt (Elt Ideal) arg6.view (Rect.unit (s := S2x16x1x512) (k0_off1 i) S1x1x1x512.size (k0_off1_inb i)).toLoadRect f6) (fun b => R.l 0 (512 * (i 1).val + b)) := ld4 hR.l _ 0 _ (off1_eq i) _
  have he0 : isR (View.readAt (Elt Ideal) arg7.view (Rect.unit (s := S2x16x1x512) (k0_off1 i) S1x1x1x512.size (k0_off1_inb i)).toLoadRect f7) (fun b => R.e 0 (512 * (i 1).val + b)) := ld4 hR.e _ 0 _ (off1_eq i) _
  have hf0 : isR (View.readAt (Elt Ideal) arg8.view (Rect.unit (s := S2x16x1x512) (k0_off1 i) S1x1x1x512.size (k0_off1_inb i)).toLoadRect f8) (fun b => R.f 0 (512 * (i 1).val + b)) := ld4 hR.f _ 0 _ (off1_eq i) _
  have hq1 : isM (View.readAt (Elt Ideal) arg2.view (Rect.unit (s := S8192x256) (k0_off5 i) S512x128.size (k0_off5_inb i)).toLoadRect f2) (fun b l => R.q 1 (512 * (i 1).val + b) l) := ldH hR.q _ 1 _ _ rfl (by omega) (off5_eq i) _
  have hd1 : isM (View.readAt (Elt Ideal) arg5.view (Rect.unit (s := S8192x256) (k0_off5 i) S512x128.size (k0_off5_inb i)).toLoadRect f5) (fun b l => R.d 1 (512 * (i 1).val + b) l) := ldH hR.d _ 1 _ _ rfl (by omega) (off5_eq i) _
  have hl1 : isR (View.readAt (Elt Ideal) arg6.view (Rect.unit (s := S2x16x1x512) (k0_off2 i) S1x1x1x512.size (k0_off2_inb i)).toLoadRect f6) (fun b => R.l 1 (512 * (i 1).val + b)) := ld4 hR.l _ 1 _ (off2_eq i) _
  have he1 : isR (View.readAt (Elt Ideal) arg7.view (Rect.unit (s := S2x16x1x512) (k0_off2 i) S1x1x1x512.size (k0_off2_inb i)).toLoadRect f7) (fun b => R.e 1 (512 * (i 1).val + b)) := ld4 hR.e _ 1 _ (off2_eq i) _
  have hf1 : isR (View.readAt (Elt Ideal) arg8.view (Rect.unit (s := S2x16x1x512) (k0_off2 i) S1x1x1x512.size (k0_off2_inb i)).toLoadRect f8) (fun b => R.f 1 (512 * (i 1).val + b)) := ld4 hR.f _ 1 _ (off2_eq i) _
  have hC : Cols R i (Body.runA.sl.v5 i arg8 f8) (Body.runA.sl.v11 i arg8 f8) (Body.runA.sl.v28 arg3 f3) (Body.runA.sl.r_1 arg3 f3) (Body.runA.sl.r_2 arg4 f4) (Body.runA.sl.r_3 arg4 f4) :=
    ⟨pay48_is hf0, pay49_is hf1, pay55_is (ldH0 hk _ 0 0 rfl (by omega) rfl inb_S512x256_S512x128_0_0), pay56_is (ldH0 hk _ 1 128 rfl (by omega) rfl inb_S512x256_S512x128_0_128),
      pay57_is (ldH0 hv _ 0 0 rfl (by omega) rfl inb_S512x256_S512x128_0_0), pay58_is (ldH0 hv _ 1 128 rfl (by omega) rfl inb_S512x256_S512x128_0_128)⟩
  have hp0 := isM_congr (y := fun a b => R.P 0 (512 * (i 1).val + a) (512 * (i 1).val + b)) (pay61_is hC.f0 hC.k0 hq0 hf0 hl0) (fun a b _ _ => by
    simp only [Rd.P, Nat.add_le_add_iff_left]; rfl)
  have hp1 := isM_congr (y := fun a b => R.P 1 (512 * (i 1).val + a) (512 * (i 1).val + b)) (pay73_is hC.f1 hC.k1 hq1 hf1 hl1) (fun a b _ _ => by
    simp only [Rd.P, Nat.add_le_add_iff_left]; rfl)
  have hs0 := isM_congr (y := fun a b => R.D 0 (512 * (i 1).val + a) (512 * (i 1).val + b)) (pay64_is hp0 hC.v0 hd0 he0) (fun _ _ _ _ => rfl)
  have hs1 := isM_congr (y := fun a b => R.D 1 (512 * (i 1).val + a) (512 * (i 1).val + b)) (pay75_is hp1 hC.v1 hd1 he1) (fun _ _ _ _ => rfl)
  have z15 := fill3 arg15.view arg15.view.junk inb_S2x512x128_S2x512x128_0_0_0 (k0_pay52 (F := Ideal)) (zeros15)
  have a15 := put3 arg15.view arg15.view.junk (y := fun g a l => ∑ b ∈ Finset.range 512, R.D g (512 * (i 1).val + a) (512 * (i 1).val + b) * R.q g (512 * (i 1).val + b) l) 0 0 _ rfl inb_S2x512x128_S1x512x128_0_0_0 _ _ z15
    (isS_congr (pay66_is hs0 hq0 (ld3 z15 _ 0 0 rfl inb_S2x512x128_S1x512x128_0_0_0)) (fun a l _ _ => by simp))
  have b15 := put3 arg15.view arg15.view.junk (y := fun g a l => ∑ b ∈ Finset.range 512, R.D g (512 * (i 1).val + a) (512 * (i 1).val + b) * R.q g (512 * (i 1).val + b) l) 1 0 _ rfl inb_S2x512x128_S1x512x128_1_0_0 _ _ a15
    (isS_congr (pay77_is hs1 hq1 (ld3 a15 _ 1 0 rfl inb_S2x512x128_S1x512x128_1_0_0)) (fun a l _ _ => by simp))
  have g15 : is3 (arg15.view.read (Elt Ideal) (arg15.view.writes (Elt Ideal) arg15.view.junk (Body.runA.sl.H15_3 i arg2 arg3 arg4 arg5 arg6 arg7 arg8 arg15 f2 f3 f4 f5 f6 f7 f8))) (fun g a l => ∑ b ∈ Finset.range 512, R.D g (512 * (i 1).val + a) (512 * (i 1).val + b) * R.q g (512 * (i 1).val + b) l) :=
    is3_congr b15 (fun g a l hg ha _ => by split_ifs <;> first | rfl | (exfalso; omega))
  have z16 := fill3 arg16.view arg16.view.junk inb_S2x512x128_S2x512x128_0_0_0 (k0_pay53 (F := Ideal)) (zeros16)
  have a16 := put3 arg16.view arg16.view.junk (y := fun g a l => ∑ b ∈ Finset.range 512, R.P g (512 * (i 1).val + a) (512 * (i 1).val + b) * R.d g (512 * (i 1).val + b) l) 0 0 _ rfl inb_S2x512x128_S1x512x128_0_0_0 _ _ z16
    (isS_congr (pay63_is hp0 hd0 (ld3 z16 _ 0 0 rfl inb_S2x512x128_S1x512x128_0_0_0)) (fun a l _ _ => by simp))
  have b16 := put3 arg16.view arg16.view.junk (y := fun g a l => ∑ b ∈ Finset.range 512, R.P g (512 * (i 1).val + a) (512 * (i 1).val + b) * R.d g (512 * (i 1).val + b) l) 1 0 _ rfl inb_S2x512x128_S1x512x128_1_0_0 _ _ a16
    (isS_congr (pay74_is hp1 hd1 (ld3 a16 _ 1 0 rfl inb_S2x512x128_S1x512x128_1_0_0)) (fun a l _ _ => by simp))
  have g16 : is3 (arg16.view.read (Elt Ideal) (arg16.view.writes (Elt Ideal) arg16.view.junk (Body.runA.sl.H16_3 i arg2 arg3 arg5 arg6 arg8 arg16 f2 f3 f5 f6 f8))) (fun g a l => ∑ b ∈ Finset.range 512, R.P g (512 * (i 1).val + a) (512 * (i 1).val + b) * R.d g (512 * (i 1).val + b) l) :=
    is3_congr b16 (fun g a l hg ha _ => by split_ifs <;> first | rfl | (exfalso; omega))
  have z18 := fill3 arg18.view arg18.view.junk inb_S2x512x128_S2x512x128_0_0_0 (k0_pay54 (F := Ideal)) (zeros18)
  have a18 := put3 arg18.view arg18.view.junk (y := fun g a l => 0 - (R.D g (512 * (i 1).val + a) (512 * (i 1).val + l) + R.D g (512 * (i 1).val + a) (512 * (i 1).val + (128 + l)) + R.D g (512 * (i 1).val + a) (512 * (i 1).val + (256 + l)) + R.D g (512 * (i 1).val + a) (512 * (i 1).val + (384 + l)))) 0 0 _ rfl inb_S2x512x128_S1x512x128_0_0_0 _ _ z18
    (isS_congr (pay69_is hs0 (ld3 z18 _ 0 0 rfl inb_S2x512x128_S1x512x128_0_0_0)) (fun a l _ _ => by simp))
  have b18 := put3 arg18.view arg18.view.junk (y := fun g a l => 0 - (R.D g (512 * (i 1).val + a) (512 * (i 1).val + l) + R.D g (512 * (i 1).val + a) (512 * (i 1).val + (128 + l)) + R.D g (512 * (i 1).val + a) (512 * (i 1).val + (256 + l)) + R.D g (512 * (i 1).val + a) (512 * (i 1).val + (384 + l)))) 1 0 _ rfl inb_S2x512x128_S1x512x128_1_0_0 _ _ a18
    (isS_congr (pay79_is hs1 (ld3 a18 _ 1 0 rfl inb_S2x512x128_S1x512x128_1_0_0)) (fun a l _ _ => by simp))
  have g18 : is3 (arg18.view.read (Elt Ideal) (arg18.view.writes (Elt Ideal) arg18.view.junk (Body.runA.sl.H18_3 i arg2 arg3 arg4 arg5 arg6 arg7 arg8 arg18 f2 f3 f4 f5 f6 f7 f8))) (fun g a l => 0 - (R.D g (512 * (i 1).val + a) (512 * (i 1).val + l) + R.D g (512 * (i 1).val + a) (512 * (i 1).val + (128 + l)) + R.D g (512 * (i 1).val + a) (512 * (i 1).val + (256 + l)) + R.D g (512 * (i 1).val + a) (512 * (i 1).val + (384 + l)))) :=
    is3_congr b18 (fun g a l hg ha _ => by split_ifs <;> first | rfl | (exfalso; omega))
  have z14 := fill3 arg14.view arg14.view.junk inb_S2x8192x128_S2x8192x128_0_0_0 (k0_pay50 (F := Ideal)) zeros14
  have a14 := put3 arg14.view arg14.view.junk (y := fun g r l => 0 + ∑ a ∈ Finset.range 512, R.D g (512 * (i 1).val + a) r * R.k g (512 * (i 1).val + a) l) 0 _ _ (off4_eq i) (k0_off4_inb i) _ _ z14 (pay67_is hs0 hC.k0 (ld3 z14 _ 0 _ (off4_eq i) (k0_off4_inb i)))
  have b14 := put3 arg14.view arg14.view.junk (y := fun g r l => 0 + ∑ a ∈ Finset.range 512, R.D g (512 * (i 1).val + a) r * R.k g (512 * (i 1).val + a) l) 1 _ _ (off6_eq i) (k0_off6_inb i) _ _ a14 (isS_congr (pay78_is hs1 hC.k1 (ld3 a14 _ 1 _ (off6_eq i) (k0_off6_inb i))) (fun a l _ _ => by simp))
  have g14 : is3 (arg14.view.read (Elt Ideal) (arg14.view.writes (Elt Ideal) arg14.view.junk (⟨Rect.unit (k0_off6 i) S1x512x128.size (k0_off6_inb i), Body.runA.sl.v173 i arg2 arg3 arg4 arg5 arg6 arg7 arg8 arg14 f2 f3 f4 f5 f6 f7 f8⟩ :: Body.runA.sl.H14_2 i arg2 arg3 arg4 arg5 arg6 arg7 arg8 arg14 f2 f3 f4 f5 f6 f7 f8))) (fun g r l => if 512 * (i 1).val ≤ r ∧ r < 512 * (i 1).val + 512 then (0 + ∑ a ∈ Finset.range 512, R.D g (512 * (i 1).val + a) r * R.k g (512 * (i 1).val + a) l) else 0) := is3_congr b14 (fun g r l hg _ _ => by dsimp only; split_ifs <;> first | rfl | (exfalso; omega))
  have z17 := fill4 arg17.view arg17.view.junk inb_S2x16x1x512_S2x16x1x512_0_0_0_0 (k0_pay51 (F := Ideal)) (x := fun _ _ => 0) (fun g a b => (zeros17 _).trans EReal.coe_zero.symm)
  have a17 := put4 arg17.view arg17.view.junk (x := fun _ _ => 0) (y := fun g r => 0 + ∑ a ∈ Finset.range 512, R.D g (512 * (i 1).val + a) r) 0 _ _ (off1_eq i) (k0_off1_inb i) _ _ (fun g a b _ => z17 g a b) (pay70_is hs0 (ld4 z17 _ 0 _ (off1_eq i) (k0_off1_inb i)))
  have b17 := put4 arg17.view arg17.view.junk (x := fun g r => if g = 0 ∧ 512 * (i 1).val ≤ r ∧ r < 512 * ((i 1).val + 1) then ((fun g r => 0 + ∑ a ∈ Finset.range 512, R.D g (512 * (i 1).val + a) r) g r : ℝ) else 0) (y := fun g r => 0 + ∑ a ∈ Finset.range 512, R.D g (512 * (i 1).val + a) r) 1 _ _ (off2_eq i) (k0_off2_inb i) _ _ (fun g a b _ => a17 g a b) (isR_congr (pay80_is hs1 (ld4 a17 _ 1 _ (off2_eq i) (k0_off2_inb i))) (fun b _ => by simp))
  have g17 : is4 (arg17.view.read (Elt Ideal) (arg17.view.writes (Elt Ideal) arg17.view.junk (⟨Rect.unit (k0_off2 i) S1x1x1x512.size (k0_off2_inb i), k0_pay80 (Body.runA.sl.v156 i arg2 arg3 arg4 arg5 arg6 arg7 arg8 f2 f3 f4 f5 f6 f7 f8) (View.readAt (Elt Ideal) arg17.view (Rect.unit (s := S2x16x1x512) (k0_off2 i) S1x1x1x512.size (k0_off2_inb i)).toLoadRect (arg17.view.writes (Elt Ideal) arg17.view.junk (Body.runA.sl.H17_2 i arg2 arg3 arg4 arg5 arg6 arg7 arg8 arg17 f2 f3 f4 f5 f6 f7 f8)))⟩ :: Body.runA.sl.H17_2 i arg2 arg3 arg4 arg5 arg6 arg7 arg8 arg17 f2 f3 f4 f5 f6 f7 f8))) (fun g r => if 512 * (i 1).val ≤ r ∧ r < 512 * ((i 1).val + 1) then (0 + ∑ a ∈ Finset.range 512, R.D g (512 * (i 1).val + a) r) else 0) := is4_congr b17 (fun g a b hg _ _ => by dsimp only; generalize 512 * a + b = r; split_ifs <;> first | rfl | (exfalso; omega))
  obtain ⟨l14, l15, l16, l17, l18⟩ := loop_is 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) (Body.runA.sl.v5 i arg8 f8) (Body.runA.sl.v11 i arg8 f8) (Body.runA.sl.v28 arg3 f3) (Body.runA.sl.r_1 arg3 f3) (Body.runA.sl.r_2 arg4 f4) (Body.runA.sl.r_3 arg4 f4)
    (Body.runA.sl.v156 i arg2 arg3 arg4 arg5 arg6 arg7 arg8 f2 f3 f4 f5 f6 f7 f8) (Body.runA.sl.v174 i arg2 arg3 arg4 arg5 arg6 arg7 arg8 arg18 f2 f3 f4 f5 f6 f7 f8) (Body.runA.sl.v197 i) f2 f5 f6 f7 f8 R hR hC _ _ _ _ _ _ _ _ _ _ g14 g15 g16 g17 g18 (Scf.trips (k0_t1_loop i).lb (k0_t1_loop i).ub (k0_t1_loop i).st) le_rfl
  have hn : (i 1).val + 1 + Scf.trips (k0_t1_loop i).lb (k0_t1_loop i).ub (k0_t1_loop i).st = 16 := by
    have h1 := trips_eq i
    have h2 : (i 1).val < 16 := (i 1).isLt
    change (i 1).val + 1 + (k0_t1_loop i).trips = 16
    omega
  have m14 := is3_congr (y := fun g r l => ∑ a ∈ Finset.range 512, R.D g (512 * (i 1).val + a) r * R.k g (512 * (i 1).val + a) l) l14 (fun g r l _ hr _ => by
    have hz : r < 512 * (i 1).val → ∑ a ∈ Finset.range 512, R.D g (512 * (i 1).val + a) r * R.k g (512 * (i 1).val + a) l = 0 := fun h =>
      Finset.sum_eq_zero fun a _ => by rw [R.D_zero (by omega), zero_mul]
    dsimp only
    rw [hn]
    split_ifs <;> first | rfl | (exfalso; omega) | exact (hz (by omega)).symm | (rw [hz (by omega)]; simp) | simp)
  have m17 := is4_congr (y := fun g r => ∑ a ∈ Finset.range 512, R.D g (512 * (i 1).val + a) r) l17 (fun g a b _ ha hb => by
    have hr : 512 * a + b < 8192 := by omega
    generalize 512 * a + b = r at hr
    have hz : r < 512 * (i 1).val → ∑ a ∈ Finset.range 512, R.D g (512 * (i 1).val + a) r = 0 := fun h =>
      Finset.sum_eq_zero fun a _ => R.D_zero (by omega)
    dsimp only
    rw [hn]
    split_ifs <;> first | rfl | (exfalso; omega) | exact (hz (by omega)).symm | (rw [hz (by omega)]; simp) | simp)
  have m15 := is3_congr (y := fun g a l => ∑ r ∈ Finset.range 8192, R.D g (512 * (i 1).val + a) r * R.q g r l) l15 (fun g a l _ _ _ =>
    sum_all (fun r => R.D g (512 * (i 1).val + a) r * R.q g r l) _ _ hn fun r h => by rw [R.D_zero (by omega), zero_mul])
  have m16 := is3_congr (y := fun g a l => ∑ r ∈ Finset.range 8192, R.P g (512 * (i 1).val + a) r * R.d g r l) l16 (fun g a l _ _ _ =>
    sum_all (fun r => R.P g (512 * (i 1).val + a) r * R.d g r l) _ _ hn fun r h => by rw [R.P_zero (by omega), zero_mul])
  have m18 : ∀ g a, ∑ l ∈ Finset.range 128, ((0 - (R.D g (512 * (i 1).val + a) (512 * (i 1).val + l) + R.D g (512 * (i 1).val + a) (512 * (i 1).val + (128 + l)) + R.D g (512 * (i 1).val + a) (512 * (i 1).val + (256 + l)) + R.D g (512 * (i 1).val + a) (512 * (i 1).val + (384 + l))))
      - ∑ s ∈ Finset.Ico (4 * ((i 1).val + 1)) (4 * ((i 1).val + 1 + Scf.trips (k0_t1_loop i).lb (k0_t1_loop i).ub (k0_t1_loop i).st)), R.D g (512 * (i 1).val + a) (128 * s + l)) = - ∑ r ∈ Finset.range 8192, R.D g (512 * (i 1).val + a) r := fun g a =>
    sum_lanes (fun r => R.D g (512 * (i 1).val + a) r) _ _ hn fun r h => R.D_zero (by omega)
  refine ⟨?_, ?_, ?_, ?_, ?_⟩
  · unfold Body.runA
    dsimp only
    refine st2 (y := fun g a l => (∑ r ∈ Finset.range 8192, R.D g (512 * (i 1).val + a) r * R.q g r l) * Real.log 2) _ _ _ _ rfl rfl _ _ _ _ [] ?_ ?_
    · unfold Body.runA.sl.r_11 Body.runA.sl.v203 View.readCov
      rw [trips2', pb2_nil, List.nil_append, View.writes_append]
      exact isM_congr (pay83_is (ld3 m15 _ 0 0 rfl inb_S2x512x128_S1x512x128_0_0_0)) (fun a l _ _ => by simp only [Nat.zero_add])
    · unfold Body.runA.sl.v221 View.readCov
      rw [trips2', pb2_nil, List.nil_append, View.writes_append]
      exact isM_congr (pay86_is (ld3 m15 _ 1 0 rfl inb_S2x512x128_S1x512x128_1_0_0)) (fun a l _ _ => by simp only [Nat.zero_add])
  · unfold Body.runA
    dsimp only
    refine st2 (y := fun g a l => ∑ r ∈ Finset.range 8192, R.P g (512 * (i 1).val + a) r * R.d g r l) _ _ _ _ rfl rfl _ _ _ _ [] ?_ ?_
    · unfold Body.runA.sl.v209 View.readCov
      rw [trips2', pb2_nil, List.nil_append, View.writes_append]
      exact isM_congr (pay84_is (ld3 m16 _ 0 0 rfl inb_S2x512x128_S1x512x128_0_0_0)) (fun a l _ _ => by simp only [Nat.zero_add])
    · unfold Body.runA.sl.v227 View.readCov
      rw [trips2', pb2_nil, List.nil_append, View.writes_append]
      exact isM_congr (pay87_is (ld3 m16 _ 1 0 rfl inb_S2x512x128_S1x512x128_1_0_0)) (fun a l _ _ => by simp only [Nat.zero_add])
  · unfold Body.runA
    dsimp only
    refine is4_congr (st4 (x := fun _ _ => 0) (y := fun g a => - ∑ r ∈ Finset.range 8192, R.D g (512 * (i 1).val + a) r) _ _ 0 _ _ rfl rfl _ _ _ _ [] (fun g a b h => absurd (show a.val = 0 by omega) h) ?_ ?_) (fun g a b _ ha hb => if_pos (by omega))
    · unfold Body.runA.sl.v213 View.readCov
      rw [trips2', pb2_nil, List.nil_append, View.writes_append]
      exact isR_congr (pay85_is (ld3 l18 _ 0 0 rfl inb_S2x512x128_S1x512x128_0_0_0)) (fun a _ => by simp only [Nat.zero_add, Nat.mul_zero]; exact m18 0 a)
    · unfold Body.runA.sl.v238 Body.runA.sl.r_12 Body.runA.sl.v231 View.readCov
      rw [trips2', pb2_nil, List.nil_append, View.writes_append]
      exact isR_congr (pay1_is (ld3 l18 _ 1 0 rfl inb_S2x512x128_S1x512x128_1_0_0)) (fun a _ => by simp only [Nat.zero_add, Nat.mul_zero]; exact m18 1 a)
  · unfold Body.runA
    dsimp only
    rw [trips2', pb2_nil]
    dsimp only
    rw [List.nil_append, View.writes_append]
    exact m14
  · unfold Body.runA
    dsimp only
    rw [trips2', pb2_nil]
    dsimp only
    rw [List.nil_append, View.writes_append]
    exact m17
end Cert.KernelIdeal.Tile
-- ==== Proof.V.PtB.lean ====
/-
The body at a tile of keys between the first and the last, as real numbers: what it writes of the gradients of the tile's keys, values and gates, and
what it leaves in the sums for the queries.
-/
module
public import proofs.«01_k».proof.Proof.V.Put
public import proofs.«01_k».proof.Proof.RunB
@[expose] public section
set_option maxRecDepth 65536
set_option maxHeartbeats 16000000
noncomputable section
namespace Cert.KernelIdeal.Tile
open Cert.KernelIdeal Cert.KernelIdeal.Gen
open Idealize.ShloMosaic
attribute [local irreducible] pb_k0_t1 pb_k0_t2

/-- The body at a tile of keys between the first and the last. -/
theorem ptB (𝒱 : Variants) (c : Dev nD) (bd : Option 𝒱.V) (i : grid0.Coords)
    (arg2 : Memref sig .tc .vmem S8192x256 .bf16) (harg2 : arg2.IsWhole)
    (arg3 : Memref sig .tc .vmem S512x256 .bf16) (harg3 : arg3.IsWhole)
    (arg4 : Memref sig .tc .vmem S512x256 .bf16) (harg4 : arg4.IsWhole)
    (arg5 : Memref sig .tc .vmem S8192x256 .bf16) (harg5 : arg5.IsWhole)
    (arg6 : Memref sig .tc .vmem S2x16x1x512 .f32) (harg6 : arg6.IsWhole)
    (arg7 : Memref sig .tc .vmem S2x16x1x512 .f32) (harg7 : arg7.IsWhole)
    (arg8 : Memref sig .tc .vmem S2x16x1x512 .f32) (harg8 : arg8.IsWhole)
    (arg9 : Memref sig .tc .vmem S8192x256 .bf16) (harg9 : arg9.IsWhole)
    (arg10 : Memref sig .tc .vmem S512x256 .bf16) (harg10 : arg10.IsWhole)
    (arg11 : Memref sig .tc .vmem S512x256 .bf16) (harg11 : arg11.IsWhole)
    (arg12 : Memref sig .tc .vmem S2x16x1x512 .f32) (harg12 : arg12.IsWhole)
    (arg13 : Memref sig .tc .vmem S2x1x1x512 .f32) (harg13 : arg13.IsWhole)
    (arg14 : Memref sig .tc .vmem S2x8192x128 .f32) (harg14 : arg14.IsWhole)
    (arg15 : Memref sig .tc .vmem S2x512x128 .f32) (harg15 : arg15.IsWhole)
    (arg16 : Memref sig .tc .vmem S2x512x128 .f32) (harg16 : arg16.IsWhole)
    (arg17 : Memref sig .tc .vmem S2x16x1x512 .f32) (harg17 : arg17.IsWhole)
    (arg18 : Memref sig .tc .vmem S2x512x128 .f32) (harg18 : arg18.IsWhole)
    (h1 : ¬ Body.first i) (h2 : ¬ k0_cond2 i = 1#1)
    (f2 : arg2.view.ty.Contents (Elt Ideal)) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f11 : arg11.view.ty.Contents (Elt Ideal)) (f12 : arg12.view.ty.Contents (Elt Ideal)) (f13 : arg13.view.ty.Contents (Elt Ideal)) (f14 : arg14.view.ty.Contents (Elt Ideal)) (f15 : arg15.view.ty.Contents (Elt Ideal)) (f16 : arg16.view.ty.Contents (Elt Ideal)) (f17 : arg17.view.ty.Contents (Elt Ideal)) (f18 : arg18.view.ty.Contents (Elt Ideal)) (R : Rd)
    (hR : Reads R i (arg2.view.read (Elt Ideal) f2) (arg5.view.read (Elt Ideal) f5) (arg6.view.read (Elt Ideal) f6) (arg7.view.read (Elt Ideal) f7) (arg8.view.read (Elt Ideal) f8))
    (hk : isH (arg3.view.read (Elt Ideal) f3) (fun g a l => R.k g (512 * (i 1).val + a) l))
    (hv : isH (arg4.view.read (Elt Ideal) f4) (fun g a l => R.v g (512 * (i 1).val + a) l))
    (x14 : ℕ → ℕ → ℕ → ℝ) (x17 : ℕ → ℕ → ℝ) (h14 : is3 (arg14.view.read (Elt Ideal) f14) x14) (h17 : is4 (arg17.view.read (Elt Ideal) f17) x17)
    :
    isH (arg10.view.read (Elt Ideal) (arg10.view.writes (Elt Ideal) f10 (Body.runB (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).1)) (fun g a l => (∑ r ∈ Finset.range 8192, R.D g (512 * (i 1).val + a) r * R.q g r l) * Real.log 2)
    ∧ isH (arg11.view.read (Elt Ideal) (arg11.view.writes (Elt Ideal) f11 (Body.runB (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.1)) (fun g a l => ∑ r ∈ Finset.range 8192, R.P g (512 * (i 1).val + a) r * R.d g r l)
    ∧ is4 (arg13.view.read (Elt Ideal) (arg13.view.writes (Elt Ideal) f13 (Body.runB (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.1)) (fun g a => - ∑ r ∈ Finset.range 8192, R.D g (512 * (i 1).val + a) r)
    ∧ is3 (arg14.view.read (Elt Ideal) (Body.runB (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.2.1) (fun g r l => x14 g r l + ∑ a ∈ Finset.range 512, R.D g (512 * (i 1).val + a) r * R.k g (512 * (i 1).val + a) l)
    ∧ is4 (arg17.view.read (Elt Ideal) (Body.runB (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.2.2.2.2.1) (fun g r => x17 g r + ∑ a ∈ Finset.range 512, R.D g (512 * (i 1).val + a) r) := by
  have hq0 : isM (View.readAt (Elt Ideal) arg2.view (Rect.unit (s := S8192x256) (k0_off3 i) S512x128.size (k0_off3_inb i)).toLoadRect f2) (fun b l => R.q 0 (512 * (i 1).val + b) l) := ldH hR.q _ 0 _ _ rfl (by omega) (off3_eq i) _
  have hd0 : isM (View.readAt (Elt Ideal) arg5.view (Rect.unit (s := S8192x256) (k0_off3 i) S512x128.size (k0_off3_inb i)).toLoadRect f5) (fun b l => R.d 0 (512 * (i 1).val + b) l) := ldH hR.d _ 0 _ _ rfl (by omega) (off3_eq i) _
  have hl0 : isR (View.readAt (Elt Ideal) arg6.view (Rect.unit (s := S2x16x1x512) (k0_off1 i) S1x1x1x512.size (k0_off1_inb i)).toLoadRect f6) (fun b => R.l 0 (512 * (i 1).val + b)) := ld4 hR.l _ 0 _ (off1_eq i) _
  have he0 : isR (View.readAt (Elt Ideal) arg7.view (Rect.unit (s := S2x16x1x512) (k0_off1 i) S1x1x1x512.size (k0_off1_inb i)).toLoadRect f7) (fun b => R.e 0 (512 * (i 1).val + b)) := ld4 hR.e _ 0 _ (off1_eq i) _
  have hf0 : isR (View.readAt (Elt Ideal) arg8.view (Rect.unit (s := S2x16x1x512) (k0_off1 i) S1x1x1x512.size (k0_off1_inb i)).toLoadRect f8) (fun b => R.f 0 (512 * (i 1).val + b)) := ld4 hR.f _ 0 _ (off1_eq i) _
  have hq1 : isM (View.readAt (Elt Ideal) arg2.view (Rect.unit (s := S8192x256) (k0_off5 i) S512x128.size (k0_off5_inb i)).toLoadRect f2) (fun b l => R.q 1 (512 * (i 1).val + b) l) := ldH hR.q _ 1 _ _ rfl (by omega) (off5_eq i) _
  have hd1 : isM (View.readAt (Elt Ideal) arg5.view (Rect.unit (s := S8192x256) (k0_off5 i) S512x128.size (k0_off5_inb i)).toLoadRect f5) (fun b l => R.d 1 (512 * (i 1).val + b) l) := ldH hR.d _ 1 _ _ rfl (by omega) (off5_eq i) _
  have hl1 : isR (View.readAt (Elt Ideal) arg6.view (Rect.unit (s := S2x16x1x512) (k0_off2 i) S1x1x1x512.size (k0_off2_inb i)).toLoadRect f6) (fun b => R.l 1 (512 * (i 1).val + b)) := ld4 hR.l _ 1 _ (off2_eq i) _
  have he1 : isR (View.readAt (Elt Ideal) arg7.view (Rect.unit (s := S2x16x1x512) (k0_off2 i) S1x1x1x512.size (k0_off2_inb i)).toLoadRect f7) (fun b => R.e 1 (512 * (i 1).val + b)) := ld4 hR.e _ 1 _ (off2_eq i) _
  have hf1 : isR (View.readAt (Elt Ideal) arg8.view (Rect.unit (s := S2x16x1x512) (k0_off2 i) S1x1x1x512.size (k0_off2_inb i)).toLoadRect f8) (fun b => R.f 1 (512 * (i 1).val + b)) := ld4 hR.f _ 1 _ (off2_eq i) _
  have hC : Cols R i (Body.runB.sl.v5 i arg8 f8) (Body.runB.sl.v11 i arg8 f8) (Body.runB.sl.v28 arg3 f3) (Body.runB.sl.r_1 arg3 f3) (Body.runB.sl.r_2 arg4 f4) (Body.runB.sl.r_3 arg4 f4) :=
    ⟨pay48_is hf0, pay49_is hf1, pay55_is (ldH0 hk _ 0 0 rfl (by omega) rfl inb_S512x256_S512x128_0_0), pay56_is (ldH0 hk _ 1 128 rfl (by omega) rfl inb_S512x256_S512x128_0_128),
      pay57_is (ldH0 hv _ 0 0 rfl (by omega) rfl inb_S512x256_S512x128_0_0), pay58_is (ldH0 hv _ 1 128 rfl (by omega) rfl inb_S512x256_S512x128_0_128)⟩
  have hp0 := isM_congr (y := fun a b => R.P 0 (512 * (i 1).val + a) (512 * (i 1).val + b)) (pay61_is hC.f0 hC.k0 hq0 hf0 hl0) (fun a b _ _ => by
    simp only [Rd.P, Nat.add_le_add_iff_left]; rfl)
  have hp1 := isM_congr (y := fun a b => R.P 1 (512 * (i 1).val + a) (512 * (i 1).val + b)) (pay73_is hC.f1 hC.k1 hq1 hf1 hl1) (fun a b _ _ => by
    simp only [Rd.P, Nat.add_le_add_iff_left]; rfl)
  have hs0 := isM_congr (y := fun a b => R.D 0 (512 * (i 1).val + a) (512 * (i 1).val + b)) (pay64_is hp0 hC.v0 hd0 he0) (fun _ _ _ _ => rfl)
  have hs1 := isM_congr (y := fun a b => R.D 1 (512 * (i 1).val + a) (512 * (i 1).val + b)) (pay75_is hp1 hC.v1 hd1 he1) (fun _ _ _ _ => rfl)
  have z15 := fill3 arg15.view arg15.view.junk inb_S2x512x128_S2x512x128_0_0_0 (k0_pay52 (F := Ideal)) (zeros15)
  have a15 := put3 arg15.view arg15.view.junk (y := fun g a l => ∑ b ∈ Finset.range 512, R.D g (512 * (i 1).val + a) (512 * (i 1).val + b) * R.q g (512 * (i 1).val + b) l) 0 0 _ rfl inb_S2x512x128_S1x512x128_0_0_0 _ _ z15
    (isS_congr (pay66_is hs0 hq0 (ld3 z15 _ 0 0 rfl inb_S2x512x128_S1x512x128_0_0_0)) (fun a l _ _ => by simp))
  have b15 := put3 arg15.view arg15.view.junk (y := fun g a l => ∑ b ∈ Finset.range 512, R.D g (512 * (i 1).val + a) (512 * (i 1).val + b) * R.q g (512 * (i 1).val + b) l) 1 0 _ rfl inb_S2x512x128_S1x512x128_1_0_0 _ _ a15
    (isS_congr (pay77_is hs1 hq1 (ld3 a15 _ 1 0 rfl inb_S2x512x128_S1x512x128_1_0_0)) (fun a l _ _ => by simp))
  have g15 : is3 (arg15.view.read (Elt Ideal) (arg15.view.writes (Elt Ideal) arg15.view.junk (Body.runB.sl.H15_3 i arg2 arg3 arg4 arg5 arg6 arg7 arg8 arg15 f2 f3 f4 f5 f6 f7 f8))) (fun g a l => ∑ b ∈ Finset.range 512, R.D g (512 * (i 1).val + a) (512 * (i 1).val + b) * R.q g (512 * (i 1).val + b) l) :=
    is3_congr b15 (fun g a l hg ha _ => by split_ifs <;> first | rfl | (exfalso; omega))
  have z16 := fill3 arg16.view arg16.view.junk inb_S2x512x128_S2x512x128_0_0_0 (k0_pay53 (F := Ideal)) (zeros16)
  have a16 := put3 arg16.view arg16.view.junk (y := fun g a l => ∑ b ∈ Finset.range 512, R.P g (512 * (i 1).val + a) (512 * (i 1).val + b) * R.d g (512 * (i 1).val + b) l) 0 0 _ rfl inb_S2x512x128_S1x512x128_0_0_0 _ _ z16
    (isS_congr (pay63_is hp0 hd0 (ld3 z16 _ 0 0 rfl inb_S2x512x128_S1x512x128_0_0_0)) (fun a l _ _ => by simp))
  have b16 := put3 arg16.view arg16.view.junk (y := fun g a l => ∑ b ∈ Finset.range 512, R.P g (512 * (i 1).val + a) (512 * (i 1).val + b) * R.d g (512 * (i 1).val + b) l) 1 0 _ rfl inb_S2x512x128_S1x512x128_1_0_0 _ _ a16
    (isS_congr (pay74_is hp1 hd1 (ld3 a16 _ 1 0 rfl inb_S2x512x128_S1x512x128_1_0_0)) (fun a l _ _ => by simp))
  have g16 : is3 (arg16.view.read (Elt Ideal) (arg16.view.writes (Elt Ideal) arg16.view.junk (Body.runB.sl.H16_3 i arg2 arg3 arg5 arg6 arg8 arg16 f2 f3 f5 f6 f8))) (fun g a l => ∑ b ∈ Finset.range 512, R.P g (512 * (i 1).val + a) (512 * (i 1).val + b) * R.d g (512 * (i 1).val + b) l) :=
    is3_congr b16 (fun g a l hg ha _ => by split_ifs <;> first | rfl | (exfalso; omega))
  have z18 := fill3 arg18.view arg18.view.junk inb_S2x512x128_S2x512x128_0_0_0 (k0_pay54 (F := Ideal)) (zeros18)
  have a18 := put3 arg18.view arg18.view.junk (y := fun g a l => 0 - (R.D g (512 * (i 1).val + a) (512 * (i 1).val + l) + R.D g (512 * (i 1).val + a) (512 * (i 1).val + (128 + l)) + R.D g (512 * (i 1).val + a) (512 * (i 1).val + (256 + l)) + R.D g (512 * (i 1).val + a) (512 * (i 1).val + (384 + l)))) 0 0 _ rfl inb_S2x512x128_S1x512x128_0_0_0 _ _ z18
    (isS_congr (pay69_is hs0 (ld3 z18 _ 0 0 rfl inb_S2x512x128_S1x512x128_0_0_0)) (fun a l _ _ => by simp))
  have b18 := put3 arg18.view arg18.view.junk (y := fun g a l => 0 - (R.D g (512 * (i 1).val + a) (512 * (i 1).val + l) + R.D g (512 * (i 1).val + a) (512 * (i 1).val + (128 + l)) + R.D g (512 * (i 1).val + a) (512 * (i 1).val + (256 + l)) + R.D g (512 * (i 1).val + a) (512 * (i 1).val + (384 + l)))) 1 0 _ rfl inb_S2x512x128_S1x512x128_1_0_0 _ _ a18
    (isS_congr (pay79_is hs1 (ld3 a18 _ 1 0 rfl inb_S2x512x128_S1x512x128_1_0_0)) (fun a l _ _ => by simp))
  have g18 : is3 (arg18.view.read (Elt Ideal) (arg18.view.writes (Elt Ideal) arg18.view.junk (Body.runB.sl.H18_3 i arg2 arg3 arg4 arg5 arg6 arg7 arg8 arg18 f2 f3 f4 f5 f6 f7 f8))) (fun g a l => 0 - (R.D g (512 * (i 1).val + a) (512 * (i 1).val + l) + R.D g (512 * (i 1).val + a) (512 * (i 1).val + (128 + l)) + R.D g (512 * (i 1).val + a) (512 * (i 1).val + (256 + l)) + R.D g (512 * (i 1).val + a) (512 * (i 1).val + (384 + l)))) :=
    is3_congr b18 (fun g a l hg ha _ => by split_ifs <;> first | rfl | (exfalso; omega))
  have g14 : is3 (arg14.view.read (Elt Ideal) (arg14.view.writes (Elt Ideal) f14 [⟨Rect.unit (k0_off6 i) S1x512x128.size (k0_off6_inb i), Body.runB.sl.v173 i arg2 arg3 arg4 arg5 arg6 arg7 arg8 arg14 f2 f3 f4 f5 f6 f7 f8 f14⟩, ⟨Rect.unit (k0_off4 i) S1x512x128.size (k0_off4_inb i), Body.runB.sl.v93 i arg2 arg3 arg4 arg5 arg6 arg7 arg8 arg14 f2 f3 f4 f5 f6 f7 f8 f14⟩])) (fun g r l => if 512 * (i 1).val ≤ r ∧ r < 512 * (i 1).val + 512 then (x14 g r l + ∑ a ∈ Finset.range 512, R.D g (512 * (i 1).val + a) r * R.k g (512 * (i 1).val + a) l) else x14 g r l) :=
    st3 (y := fun g r l => x14 g r l + ∑ a ∈ Finset.range 512, R.D g (512 * (i 1).val + a) r * R.k g (512 * (i 1).val + a) l) _ _ _ _ _ (off4_eq i) (off6_eq i) _ _ _ _ _ (fun g a b _ => h14 g a b) (pay67_is hs0 hC.k0 (ld3 h14 _ 0 _ (off4_eq i) _)) (pay78_is hs1 hC.k1 (ld3 h14 _ 1 _ (off6_eq i) _))
  have g17 : is4 (arg17.view.read (Elt Ideal) (arg17.view.writes (Elt Ideal) f17 [⟨Rect.unit (k0_off2 i) S1x1x1x512.size (k0_off2_inb i), k0_pay80 (Body.runB.sl.v156 i arg2 arg3 arg4 arg5 arg6 arg7 arg8 f2 f3 f4 f5 f6 f7 f8) (Body.runB.sl.v188 i arg17 f17)⟩, ⟨Rect.unit (k0_off1 i) S1x1x1x512.size (k0_off1_inb i), k0_pay70 (Body.runB.sl.v76 i arg2 arg3 arg4 arg5 arg6 arg7 arg8 f2 f3 f4 f5 f6 f7 f8) (View.readAt (Elt Ideal) arg17.view (Rect.unit (s := S2x16x1x512) (k0_off1 i) S1x1x1x512.size (k0_off1_inb i)).toLoadRect f17)⟩])) (fun g r => if 512 * (i 1).val ≤ r ∧ r < 512 * ((i 1).val + 1) then (x17 g r + ∑ a ∈ Finset.range 512, R.D g (512 * (i 1).val + a) r) else x17 g r) :=
    st4 (y := fun g r => x17 g r + ∑ a ∈ Finset.range 512, R.D g (512 * (i 1).val + a) r) _ _ _ _ _ (off1_eq i) (off2_eq i) _ _ _ _ _ (fun g a b _ => h17 g a b) (pay70_is hs0 (ld4 h17 _ 0 _ (off1_eq i) _)) (pay80_is hs1 (ld4 h17 _ 1 _ (off2_eq i) _))
  obtain ⟨l14, l15, l16, l17, l18⟩ := loop_is 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) (Body.runB.sl.v5 i arg8 f8) (Body.runB.sl.v11 i arg8 f8) (Body.runB.sl.v28 arg3 f3) (Body.runB.sl.r_1 arg3 f3) (Body.runB.sl.r_2 arg4 f4) (Body.runB.sl.r_3 arg4 f4)
    (Body.runB.sl.v156 i arg2 arg3 arg4 arg5 arg6 arg7 arg8 f2 f3 f4 f5 f6 f7 f8) (Body.runB.sl.v174 i arg2 arg3 arg4 arg5 arg6 arg7 arg8 arg18 f2 f3 f4 f5 f6 f7 f8) (Body.runB.sl.v197 i) f2 f5 f6 f7 f8 R hR hC _ _ _ _ _ _ _ _ _ _ g14 g15 g16 g17 g18 (Scf.trips (k0_t1_loop i).lb (k0_t1_loop i).ub (k0_t1_loop i).st) le_rfl
  have hn : (i 1).val + 1 + Scf.trips (k0_t1_loop i).lb (k0_t1_loop i).ub (k0_t1_loop i).st = 16 := by
    have h1 := trips_eq i
    have h2 : (i 1).val < 16 := (i 1).isLt
    change (i 1).val + 1 + (k0_t1_loop i).trips = 16
    omega
  have m14 := is3_congr (y := fun g r l => x14 g r l + ∑ a ∈ Finset.range 512, R.D g (512 * (i 1).val + a) r * R.k g (512 * (i 1).val + a) l) l14 (fun g r l _ hr _ => by
    have hz : r < 512 * (i 1).val → ∑ a ∈ Finset.range 512, R.D g (512 * (i 1).val + a) r * R.k g (512 * (i 1).val + a) l = 0 := fun h =>
      Finset.sum_eq_zero fun a _ => by rw [R.D_zero (by omega), zero_mul]
    dsimp only
    rw [hn]
    split_ifs <;> first | rfl | (exfalso; omega) | exact (hz (by omega)).symm | (rw [hz (by omega)]; simp) | simp)
  have m17 := is4_congr (y := fun g r => x17 g r + ∑ a ∈ Finset.range 512, R.D g (512 * (i 1).val + a) r) l17 (fun g a b _ ha hb => by
    have hr : 512 * a + b < 8192 := by omega
    generalize 512 * a + b = r at hr
    have hz : r < 512 * (i 1).val → ∑ a ∈ Finset.range 512, R.D g (512 * (i 1).val + a) r = 0 := fun h =>
      Finset.sum_eq_zero fun a _ => R.D_zero (by omega)
    dsimp only
    rw [hn]
    split_ifs <;> first | rfl | (exfalso; omega) | exact (hz (by omega)).symm | (rw [hz (by omega)]; simp) | simp)
  have m15 := is3_congr (y := fun g a l => ∑ r ∈ Finset.range 8192, R.D g (512 * (i 1).val + a) r * R.q g r l) l15 (fun g a l _ _ _ =>
    sum_all (fun r => R.D g (512 * (i 1).val + a) r * R.q g r l) _ _ hn fun r h => by rw [R.D_zero (by omega), zero_mul])
  have m16 := is3_congr (y := fun g a l => ∑ r ∈ Finset.range 8192, R.P g (512 * (i 1).val + a) r * R.d g r l) l16 (fun g a l _ _ _ =>
    sum_all (fun r => R.P g (512 * (i 1).val + a) r * R.d g r l) _ _ hn fun r h => by rw [R.P_zero (by omega), zero_mul])
  have m18 : ∀ g a, ∑ l ∈ Finset.range 128, ((0 - (R.D g (512 * (i 1).val + a) (512 * (i 1).val + l) + R.D g (512 * (i 1).val + a) (512 * (i 1).val + (128 + l)) + R.D g (512 * (i 1).val + a) (512 * (i 1).val + (256 + l)) + R.D g (512 * (i 1).val + a) (512 * (i 1).val + (384 + l))))
      - ∑ s ∈ Finset.Ico (4 * ((i 1).val + 1)) (4 * ((i 1).val + 1 + Scf.trips (k0_t1_loop i).lb (k0_t1_loop i).ub (k0_t1_loop i).st)), R.D g (512 * (i 1).val + a) (128 * s + l)) = - ∑ r ∈ Finset.range 8192, R.D g (512 * (i 1).val + a) r := fun g a =>
    sum_lanes (fun r => R.D g (512 * (i 1).val + a) r) _ _ hn fun r h => R.D_zero (by omega)
  refine ⟨?_, ?_, ?_, ?_, ?_⟩
  · unfold Body.runB
    dsimp only
    refine st2 (y := fun g a l => (∑ r ∈ Finset.range 8192, R.D g (512 * (i 1).val + a) r * R.q g r l) * Real.log 2) _ _ _ _ rfl rfl _ _ _ _ [] ?_ ?_
    · unfold Body.runB.sl.r_11 Body.runB.sl.v203 View.readCov
      rw [trips2', pb2_nil, List.nil_append, View.writes_append]
      exact isM_congr (pay83_is (ld3 m15 _ 0 0 rfl inb_S2x512x128_S1x512x128_0_0_0)) (fun a l _ _ => by simp only [Nat.zero_add])
    · unfold Body.runB.sl.v221 View.readCov
      rw [trips2', pb2_nil, List.nil_append, View.writes_append]
      exact isM_congr (pay86_is (ld3 m15 _ 1 0 rfl inb_S2x512x128_S1x512x128_1_0_0)) (fun a l _ _ => by simp only [Nat.zero_add])
  · unfold Body.runB
    dsimp only
    refine st2 (y := fun g a l => ∑ r ∈ Finset.range 8192, R.P g (512 * (i 1).val + a) r * R.d g r l) _ _ _ _ rfl rfl _ _ _ _ [] ?_ ?_
    · unfold Body.runB.sl.v209 View.readCov
      rw [trips2', pb2_nil, List.nil_append, View.writes_append]
      exact isM_congr (pay84_is (ld3 m16 _ 0 0 rfl inb_S2x512x128_S1x512x128_0_0_0)) (fun a l _ _ => by simp only [Nat.zero_add])
    · unfold Body.runB.sl.v227 View.readCov
      rw [trips2', pb2_nil, List.nil_append, View.writes_append]
      exact isM_congr (pay87_is (ld3 m16 _ 1 0 rfl inb_S2x512x128_S1x512x128_1_0_0)) (fun a l _ _ => by simp only [Nat.zero_add])
  · unfold Body.runB
    dsimp only
    refine is4_congr (st4 (x := fun _ _ => 0) (y := fun g a => - ∑ r ∈ Finset.range 8192, R.D g (512 * (i 1).val + a) r) _ _ 0 _ _ rfl rfl _ _ _ _ [] (fun g a b h => absurd (show a.val = 0 by omega) h) ?_ ?_) (fun g a b _ ha hb => if_pos (by omega))
    · unfold Body.runB.sl.v213 View.readCov
      rw [trips2', pb2_nil, List.nil_append, View.writes_append]
      exact isR_congr (pay85_is (ld3 l18 _ 0 0 rfl inb_S2x512x128_S1x512x128_0_0_0)) (fun a _ => by simp only [Nat.zero_add, Nat.mul_zero]; exact m18 0 a)
    · unfold Body.runB.sl.v238 Body.runB.sl.r_12 Body.runB.sl.v231 View.readCov
      rw [trips2', pb2_nil, List.nil_append, View.writes_append]
      exact isR_congr (pay1_is (ld3 l18 _ 1 0 rfl inb_S2x512x128_S1x512x128_1_0_0)) (fun a _ => by simp only [Nat.zero_add, Nat.mul_zero]; exact m18 1 a)
  · unfold Body.runB
    dsimp only
    rw [trips2', pb2_nil]
    dsimp only
    rw [List.nil_append, View.writes_append]
    exact m14
  · unfold Body.runB
    dsimp only
    rw [trips2', pb2_nil]
    dsimp only
    rw [List.nil_append, View.writes_append]
    exact m17
end Cert.KernelIdeal.Tile
-- ==== Proof.V.PtC.lean ====
/-
The body at the last tile of keys, as real numbers: what it writes of the gradients of the tile's keys, values and gates, and
what it leaves in the sums for the queries, which it also writes out.
-/
module
public import proofs.«01_k».proof.Proof.V.Put
public import proofs.«01_k».proof.Proof.RunC
@[expose] public section
set_option maxRecDepth 65536
set_option maxHeartbeats 16000000
noncomputable section
namespace Cert.KernelIdeal.Tile
open Cert.KernelIdeal Cert.KernelIdeal.Gen
open Idealize.ShloMosaic
attribute [local irreducible] pb_k0_t1 pb_k0_t2

/-- The body at the last tile of keys. -/
theorem ptC (𝒱 : Variants) (c : Dev nD) (bd : Option 𝒱.V) (i : grid0.Coords)
    (arg2 : Memref sig .tc .vmem S8192x256 .bf16) (harg2 : arg2.IsWhole)
    (arg3 : Memref sig .tc .vmem S512x256 .bf16) (harg3 : arg3.IsWhole)
    (arg4 : Memref sig .tc .vmem S512x256 .bf16) (harg4 : arg4.IsWhole)
    (arg5 : Memref sig .tc .vmem S8192x256 .bf16) (harg5 : arg5.IsWhole)
    (arg6 : Memref sig .tc .vmem S2x16x1x512 .f32) (harg6 : arg6.IsWhole)
    (arg7 : Memref sig .tc .vmem S2x16x1x512 .f32) (harg7 : arg7.IsWhole)
    (arg8 : Memref sig .tc .vmem S2x16x1x512 .f32) (harg8 : arg8.IsWhole)
    (arg9 : Memref sig .tc .vmem S8192x256 .bf16) (harg9 : arg9.IsWhole)
    (arg10 : Memref sig .tc .vmem S512x256 .bf16) (harg10 : arg10.IsWhole)
    (arg11 : Memref sig .tc .vmem S512x256 .bf16) (harg11 : arg11.IsWhole)
    (arg12 : Memref sig .tc .vmem S2x16x1x512 .f32) (harg12 : arg12.IsWhole)
    (arg13 : Memref sig .tc .vmem S2x1x1x512 .f32) (harg13 : arg13.IsWhole)
    (arg14 : Memref sig .tc .vmem S2x8192x128 .f32) (harg14 : arg14.IsWhole)
    (arg15 : Memref sig .tc .vmem S2x512x128 .f32) (harg15 : arg15.IsWhole)
    (arg16 : Memref sig .tc .vmem S2x512x128 .f32) (harg16 : arg16.IsWhole)
    (arg17 : Memref sig .tc .vmem S2x16x1x512 .f32) (harg17 : arg17.IsWhole)
    (arg18 : Memref sig .tc .vmem S2x512x128 .f32) (harg18 : arg18.IsWhole)
    (h1 : ¬ Body.first i) (h2 : k0_cond2 i = 1#1)
    (f2 : arg2.view.ty.Contents (Elt Ideal)) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f11 : arg11.view.ty.Contents (Elt Ideal)) (f12 : arg12.view.ty.Contents (Elt Ideal)) (f13 : arg13.view.ty.Contents (Elt Ideal)) (f14 : arg14.view.ty.Contents (Elt Ideal)) (f15 : arg15.view.ty.Contents (Elt Ideal)) (f16 : arg16.view.ty.Contents (Elt Ideal)) (f17 : arg17.view.ty.Contents (Elt Ideal)) (f18 : arg18.view.ty.Contents (Elt Ideal)) (R : Rd)
    (hR : Reads R i (arg2.view.read (Elt Ideal) f2) (arg5.view.read (Elt Ideal) f5) (arg6.view.read (Elt Ideal) f6) (arg7.view.read (Elt Ideal) f7) (arg8.view.read (Elt Ideal) f8))
    (hk : isH (arg3.view.read (Elt Ideal) f3) (fun g a l => R.k g (512 * (i 1).val + a) l))
    (hv : isH (arg4.view.read (Elt Ideal) f4) (fun g a l => R.v g (512 * (i 1).val + a) l))
    (x14 : ℕ → ℕ → ℕ → ℝ) (x17 : ℕ → ℕ → ℝ) (h14 : is3 (arg14.view.read (Elt Ideal) f14) x14) (h17 : is4 (arg17.view.read (Elt Ideal) f17) x17)
    :
    isH (arg10.view.read (Elt Ideal) (arg10.view.writes (Elt Ideal) f10 (Body.runC (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.1)) (fun g a l => (∑ r ∈ Finset.range 8192, R.D g (512 * (i 1).val + a) r * R.q g r l) * Real.log 2)
    ∧ isH (arg11.view.read (Elt Ideal) (arg11.view.writes (Elt Ideal) f11 (Body.runC (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.2.1)) (fun g a l => ∑ r ∈ Finset.range 8192, R.P g (512 * (i 1).val + a) r * R.d g r l)
    ∧ is4 (arg13.view.read (Elt Ideal) (arg13.view.writes (Elt Ideal) f13 (Body.runC (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.2.2.1)) (fun g a => - ∑ r ∈ Finset.range 8192, R.D g (512 * (i 1).val + a) r)
    ∧ is3 (arg14.view.read (Elt Ideal) (Body.runC (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.2.2.2.1) (fun g r l => x14 g r l + ∑ a ∈ Finset.range 512, R.D g (512 * (i 1).val + a) r * R.k g (512 * (i 1).val + a) l)
    ∧ is4 (arg17.view.read (Elt Ideal) (Body.runC (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.2.2.2.2.2.2.1) (fun g r => x17 g r + ∑ a ∈ Finset.range 512, R.D g (512 * (i 1).val + a) r)
    ∧ isH (arg9.view.read (Elt Ideal) (arg9.view.writes (Elt Ideal) f9 (Body.runC (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).1)) (fun g r l => (x14 g r l + ∑ a ∈ Finset.range 512, R.D g (512 * (i 1).val + a) r * R.k g (512 * (i 1).val + a) l) * 0.125)
    ∧ is4 (arg12.view.read (Elt Ideal) (arg12.view.writes (Elt Ideal) f12 (Body.runC (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.1)) (fun g r => x17 g r + ∑ a ∈ Finset.range 512, R.D g (512 * (i 1).val + a) r) := by
  have hq0 : isM (View.readAt (Elt Ideal) arg2.view (Rect.unit (s := S8192x256) (k0_off3 i) S512x128.size (k0_off3_inb i)).toLoadRect f2) (fun b l => R.q 0 (512 * (i 1).val + b) l) := ldH hR.q _ 0 _ _ rfl (by omega) (off3_eq i) _
  have hd0 : isM (View.readAt (Elt Ideal) arg5.view (Rect.unit (s := S8192x256) (k0_off3 i) S512x128.size (k0_off3_inb i)).toLoadRect f5) (fun b l => R.d 0 (512 * (i 1).val + b) l) := ldH hR.d _ 0 _ _ rfl (by omega) (off3_eq i) _
  have hl0 : isR (View.readAt (Elt Ideal) arg6.view (Rect.unit (s := S2x16x1x512) (k0_off1 i) S1x1x1x512.size (k0_off1_inb i)).toLoadRect f6) (fun b => R.l 0 (512 * (i 1).val + b)) := ld4 hR.l _ 0 _ (off1_eq i) _
  have he0 : isR (View.readAt (Elt Ideal) arg7.view (Rect.unit (s := S2x16x1x512) (k0_off1 i) S1x1x1x512.size (k0_off1_inb i)).toLoadRect f7) (fun b => R.e 0 (512 * (i 1).val + b)) := ld4 hR.e _ 0 _ (off1_eq i) _
  have hf0 : isR (View.readAt (Elt Ideal) arg8.view (Rect.unit (s := S2x16x1x512) (k0_off1 i) S1x1x1x512.size (k0_off1_inb i)).toLoadRect f8) (fun b => R.f 0 (512 * (i 1).val + b)) := ld4 hR.f _ 0 _ (off1_eq i) _
  have hq1 : isM (View.readAt (Elt Ideal) arg2.view (Rect.unit (s := S8192x256) (k0_off5 i) S512x128.size (k0_off5_inb i)).toLoadRect f2) (fun b l => R.q 1 (512 * (i 1).val + b) l) := ldH hR.q _ 1 _ _ rfl (by omega) (off5_eq i) _
  have hd1 : isM (View.readAt (Elt Ideal) arg5.view (Rect.unit (s := S8192x256) (k0_off5 i) S512x128.size (k0_off5_inb i)).toLoadRect f5) (fun b l => R.d 1 (512 * (i 1).val + b) l) := ldH hR.d _ 1 _ _ rfl (by omega) (off5_eq i) _
  have hl1 : isR (View.readAt (Elt Ideal) arg6.view (Rect.unit (s := S2x16x1x512) (k0_off2 i) S1x1x1x512.size (k0_off2_inb i)).toLoadRect f6) (fun b => R.l 1 (512 * (i 1).val + b)) := ld4 hR.l _ 1 _ (off2_eq i) _
  have he1 : isR (View.readAt (Elt Ideal) arg7.view (Rect.unit (s := S2x16x1x512) (k0_off2 i) S1x1x1x512.size (k0_off2_inb i)).toLoadRect f7) (fun b => R.e 1 (512 * (i 1).val + b)) := ld4 hR.e _ 1 _ (off2_eq i) _
  have hf1 : isR (View.readAt (Elt Ideal) arg8.view (Rect.unit (s := S2x16x1x512) (k0_off2 i) S1x1x1x512.size (k0_off2_inb i)).toLoadRect f8) (fun b => R.f 1 (512 * (i 1).val + b)) := ld4 hR.f _ 1 _ (off2_eq i) _
  have hC : Cols R i (Body.runC.sl.v5 i arg8 f8) (Body.runC.sl.v11 i arg8 f8) (Body.runC.sl.v28 arg3 f3) (Body.runC.sl.r_1 arg3 f3) (Body.runC.sl.r_2 arg4 f4) (Body.runC.sl.r_3 arg4 f4) :=
    ⟨pay48_is hf0, pay49_is hf1, pay55_is (ldH0 hk _ 0 0 rfl (by omega) rfl inb_S512x256_S512x128_0_0), pay56_is (ldH0 hk _ 1 128 rfl (by omega) rfl inb_S512x256_S512x128_0_128),
      pay57_is (ldH0 hv _ 0 0 rfl (by omega) rfl inb_S512x256_S512x128_0_0), pay58_is (ldH0 hv _ 1 128 rfl (by omega) rfl inb_S512x256_S512x128_0_128)⟩
  have hp0 := isM_congr (y := fun a b => R.P 0 (512 * (i 1).val + a) (512 * (i 1).val + b)) (pay61_is hC.f0 hC.k0 hq0 hf0 hl0) (fun a b _ _ => by
    simp only [Rd.P, Nat.add_le_add_iff_left]; rfl)
  have hp1 := isM_congr (y := fun a b => R.P 1 (512 * (i 1).val + a) (512 * (i 1).val + b)) (pay73_is hC.f1 hC.k1 hq1 hf1 hl1) (fun a b _ _ => by
    simp only [Rd.P, Nat.add_le_add_iff_left]; rfl)
  have hs0 := isM_congr (y := fun a b => R.D 0 (512 * (i 1).val + a) (512 * (i 1).val + b)) (pay64_is hp0 hC.v0 hd0 he0) (fun _ _ _ _ => rfl)
  have hs1 := isM_congr (y := fun a b => R.D 1 (512 * (i 1).val + a) (512 * (i 1).val + b)) (pay75_is hp1 hC.v1 hd1 he1) (fun _ _ _ _ => rfl)
  have z15 := fill3 arg15.view arg15.view.junk inb_S2x512x128_S2x512x128_0_0_0 (k0_pay52 (F := Ideal)) (zeros15)
  have a15 := put3 arg15.view arg15.view.junk (y := fun g a l => ∑ b ∈ Finset.range 512, R.D g (512 * (i 1).val + a) (512 * (i 1).val + b) * R.q g (512 * (i 1).val + b) l) 0 0 _ rfl inb_S2x512x128_S1x512x128_0_0_0 _ _ z15
    (isS_congr (pay66_is hs0 hq0 (ld3 z15 _ 0 0 rfl inb_S2x512x128_S1x512x128_0_0_0)) (fun a l _ _ => by simp))
  have b15 := put3 arg15.view arg15.view.junk (y := fun g a l => ∑ b ∈ Finset.range 512, R.D g (512 * (i 1).val + a) (512 * (i 1).val + b) * R.q g (512 * (i 1).val + b) l) 1 0 _ rfl inb_S2x512x128_S1x512x128_1_0_0 _ _ a15
    (isS_congr (pay77_is hs1 hq1 (ld3 a15 _ 1 0 rfl inb_S2x512x128_S1x512x128_1_0_0)) (fun a l _ _ => by simp))
  have g15 : is3 (arg15.view.read (Elt Ideal) (arg15.view.writes (Elt Ideal) arg15.view.junk (Body.runC.sl.H15_3 i arg2 arg3 arg4 arg5 arg6 arg7 arg8 arg15 f2 f3 f4 f5 f6 f7 f8))) (fun g a l => ∑ b ∈ Finset.range 512, R.D g (512 * (i 1).val + a) (512 * (i 1).val + b) * R.q g (512 * (i 1).val + b) l) :=
    is3_congr b15 (fun g a l hg ha _ => by split_ifs <;> first | rfl | (exfalso; omega))
  have z16 := fill3 arg16.view arg16.view.junk inb_S2x512x128_S2x512x128_0_0_0 (k0_pay53 (F := Ideal)) (zeros16)
  have a16 := put3 arg16.view arg16.view.junk (y := fun g a l => ∑ b ∈ Finset.range 512, R.P g (512 * (i 1).val + a) (512 * (i 1).val + b) * R.d g (512 * (i 1).val + b) l) 0 0 _ rfl inb_S2x512x128_S1x512x128_0_0_0 _ _ z16
    (isS_congr (pay63_is hp0 hd0 (ld3 z16 _ 0 0 rfl inb_S2x512x128_S1x512x128_0_0_0)) (fun a l _ _ => by simp))
  have b16 := put3 arg16.view arg16.view.junk (y := fun g a l => ∑ b ∈ Finset.range 512, R.P g (512 * (i 1).val + a) (512 * (i 1).val + b) * R.d g (512 * (i 1).val + b) l) 1 0 _ rfl inb_S2x512x128_S1x512x128_1_0_0 _ _ a16
    (isS_congr (pay74_is hp1 hd1 (ld3 a16 _ 1 0 rfl inb_S2x512x128_S1x512x128_1_0_0)) (fun a l _ _ => by simp))
  have g16 : is3 (arg16.view.read (Elt Ideal) (arg16.view.writes (Elt Ideal) arg16.view.junk (Body.runC.sl.H16_3 i arg2 arg3 arg5 arg6 arg8 arg16 f2 f3 f5 f6 f8))) (fun g a l => ∑ b ∈ Finset.range 512, R.P g (512 * (i 1).val + a) (512 * (i 1).val + b) * R.d g (512 * (i 1).val + b) l) :=
    is3_congr b16 (fun g a l hg ha _ => by split_ifs <;> first | rfl | (exfalso; omega))
  have z18 := fill3 arg18.view arg18.view.junk inb_S2x512x128_S2x512x128_0_0_0 (k0_pay54 (F := Ideal)) (zeros18)
  have a18 := put3 arg18.view arg18.view.junk (y := fun g a l => 0 - (R.D g (512 * (i 1).val + a) (512 * (i 1).val + l) + R.D g (512 * (i 1).val + a) (512 * (i 1).val + (128 + l)) + R.D g (512 * (i 1).val + a) (512 * (i 1).val + (256 + l)) + R.D g (512 * (i 1).val + a) (512 * (i 1).val + (384 + l)))) 0 0 _ rfl inb_S2x512x128_S1x512x128_0_0_0 _ _ z18
    (isS_congr (pay69_is hs0 (ld3 z18 _ 0 0 rfl inb_S2x512x128_S1x512x128_0_0_0)) (fun a l _ _ => by simp))
  have b18 := put3 arg18.view arg18.view.junk (y := fun g a l => 0 - (R.D g (512 * (i 1).val + a) (512 * (i 1).val + l) + R.D g (512 * (i 1).val + a) (512 * (i 1).val + (128 + l)) + R.D g (512 * (i 1).val + a) (512 * (i 1).val + (256 + l)) + R.D g (512 * (i 1).val + a) (512 * (i 1).val + (384 + l)))) 1 0 _ rfl inb_S2x512x128_S1x512x128_1_0_0 _ _ a18
    (isS_congr (pay79_is hs1 (ld3 a18 _ 1 0 rfl inb_S2x512x128_S1x512x128_1_0_0)) (fun a l _ _ => by simp))
  have g18 : is3 (arg18.view.read (Elt Ideal) (arg18.view.writes (Elt Ideal) arg18.view.junk (Body.runC.sl.H18_3 i arg2 arg3 arg4 arg5 arg6 arg7 arg8 arg18 f2 f3 f4 f5 f6 f7 f8))) (fun g a l => 0 - (R.D g (512 * (i 1).val + a) (512 * (i 1).val + l) + R.D g (512 * (i 1).val + a) (512 * (i 1).val + (128 + l)) + R.D g (512 * (i 1).val + a) (512 * (i 1).val + (256 + l)) + R.D g (512 * (i 1).val + a) (512 * (i 1).val + (384 + l)))) :=
    is3_congr b18 (fun g a l hg ha _ => by split_ifs <;> first | rfl | (exfalso; omega))
  have g14 : is3 (arg14.view.read (Elt Ideal) (arg14.view.writes (Elt Ideal) f14 [⟨Rect.unit (k0_off6 i) S1x512x128.size (k0_off6_inb i), Body.runC.sl.v173 i arg2 arg3 arg4 arg5 arg6 arg7 arg8 arg14 f2 f3 f4 f5 f6 f7 f8 f14⟩, ⟨Rect.unit (k0_off4 i) S1x512x128.size (k0_off4_inb i), Body.runC.sl.v93 i arg2 arg3 arg4 arg5 arg6 arg7 arg8 arg14 f2 f3 f4 f5 f6 f7 f8 f14⟩])) (fun g r l => if 512 * (i 1).val ≤ r ∧ r < 512 * (i 1).val + 512 then (x14 g r l + ∑ a ∈ Finset.range 512, R.D g (512 * (i 1).val + a) r * R.k g (512 * (i 1).val + a) l) else x14 g r l) :=
    st3 (y := fun g r l => x14 g r l + ∑ a ∈ Finset.range 512, R.D g (512 * (i 1).val + a) r * R.k g (512 * (i 1).val + a) l) _ _ _ _ _ (off4_eq i) (off6_eq i) _ _ _ _ _ (fun g a b _ => h14 g a b) (pay67_is hs0 hC.k0 (ld3 h14 _ 0 _ (off4_eq i) _)) (pay78_is hs1 hC.k1 (ld3 h14 _ 1 _ (off6_eq i) _))
  have g17 : is4 (arg17.view.read (Elt Ideal) (arg17.view.writes (Elt Ideal) f17 [⟨Rect.unit (k0_off2 i) S1x1x1x512.size (k0_off2_inb i), k0_pay80 (Body.runC.sl.v156 i arg2 arg3 arg4 arg5 arg6 arg7 arg8 f2 f3 f4 f5 f6 f7 f8) (Body.runC.sl.v188 i arg17 f17)⟩, ⟨Rect.unit (k0_off1 i) S1x1x1x512.size (k0_off1_inb i), k0_pay70 (Body.runC.sl.v76 i arg2 arg3 arg4 arg5 arg6 arg7 arg8 f2 f3 f4 f5 f6 f7 f8) (View.readAt (Elt Ideal) arg17.view (Rect.unit (s := S2x16x1x512) (k0_off1 i) S1x1x1x512.size (k0_off1_inb i)).toLoadRect f17)⟩])) (fun g r => if 512 * (i 1).val ≤ r ∧ r < 512 * ((i 1).val + 1) then (x17 g r + ∑ a ∈ Finset.range 512, R.D g (512 * (i 1).val + a) r) else x17 g r) :=
    st4 (y := fun g r => x17 g r + ∑ a ∈ Finset.range 512, R.D g (512 * (i 1).val + a) r) _ _ _ _ _ (off1_eq i) (off2_eq i) _ _ _ _ _ (fun g a b _ => h17 g a b) (pay70_is hs0 (ld4 h17 _ 0 _ (off1_eq i) _)) (pay80_is hs1 (ld4 h17 _ 1 _ (off2_eq i) _))
  obtain ⟨l14, l15, l16, l17, l18⟩ := loop_is 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) (Body.runC.sl.v5 i arg8 f8) (Body.runC.sl.v11 i arg8 f8) (Body.runC.sl.v28 arg3 f3) (Body.runC.sl.r_1 arg3 f3) (Body.runC.sl.r_2 arg4 f4) (Body.runC.sl.r_3 arg4 f4)
    (Body.runC.sl.v156 i arg2 arg3 arg4 arg5 arg6 arg7 arg8 f2 f3 f4 f5 f6 f7 f8) (Body.runC.sl.v174 i arg2 arg3 arg4 arg5 arg6 arg7 arg8 arg18 f2 f3 f4 f5 f6 f7 f8) (Body.runC.sl.v197 i) f2 f5 f6 f7 f8 R hR hC _ _ _ _ _ _ _ _ _ _ g14 g15 g16 g17 g18 (Scf.trips (k0_t1_loop i).lb (k0_t1_loop i).ub (k0_t1_loop i).st) le_rfl
  have hn : (i 1).val + 1 + Scf.trips (k0_t1_loop i).lb (k0_t1_loop i).ub (k0_t1_loop i).st = 16 := by
    have h1 := trips_eq i
    have h2 : (i 1).val < 16 := (i 1).isLt
    change (i 1).val + 1 + (k0_t1_loop i).trips = 16
    omega
  have m14 := is3_congr (y := fun g r l => x14 g r l + ∑ a ∈ Finset.range 512, R.D g (512 * (i 1).val + a) r * R.k g (512 * (i 1).val + a) l) l14 (fun g r l _ hr _ => by
    have hz : r < 512 * (i 1).val → ∑ a ∈ Finset.range 512, R.D g (512 * (i 1).val + a) r * R.k g (512 * (i 1).val + a) l = 0 := fun h =>
      Finset.sum_eq_zero fun a _ => by rw [R.D_zero (by omega), zero_mul]
    dsimp only
    rw [hn]
    split_ifs <;> first | rfl | (exfalso; omega) | exact (hz (by omega)).symm | (rw [hz (by omega)]; simp) | simp)
  have m17 := is4_congr (y := fun g r => x17 g r + ∑ a ∈ Finset.range 512, R.D g (512 * (i 1).val + a) r) l17 (fun g a b _ ha hb => by
    have hr : 512 * a + b < 8192 := by omega
    generalize 512 * a + b = r at hr
    have hz : r < 512 * (i 1).val → ∑ a ∈ Finset.range 512, R.D g (512 * (i 1).val + a) r = 0 := fun h =>
      Finset.sum_eq_zero fun a _ => R.D_zero (by omega)
    dsimp only
    rw [hn]
    split_ifs <;> first | rfl | (exfalso; omega) | exact (hz (by omega)).symm | (rw [hz (by omega)]; simp) | simp)
  have m15 := is3_congr (y := fun g a l => ∑ r ∈ Finset.range 8192, R.D g (512 * (i 1).val + a) r * R.q g r l) l15 (fun g a l _ _ _ =>
    sum_all (fun r => R.D g (512 * (i 1).val + a) r * R.q g r l) _ _ hn fun r h => by rw [R.D_zero (by omega), zero_mul])
  have m16 := is3_congr (y := fun g a l => ∑ r ∈ Finset.range 8192, R.P g (512 * (i 1).val + a) r * R.d g r l) l16 (fun g a l _ _ _ =>
    sum_all (fun r => R.P g (512 * (i 1).val + a) r * R.d g r l) _ _ hn fun r h => by rw [R.P_zero (by omega), zero_mul])
  have m18 : ∀ g a, ∑ l ∈ Finset.range 128, ((0 - (R.D g (512 * (i 1).val + a) (512 * (i 1).val + l) + R.D g (512 * (i 1).val + a) (512 * (i 1).val + (128 + l)) + R.D g (512 * (i 1).val + a) (512 * (i 1).val + (256 + l)) + R.D g (512 * (i 1).val + a) (512 * (i 1).val + (384 + l))))
      - ∑ s ∈ Finset.Ico (4 * ((i 1).val + 1)) (4 * ((i 1).val + 1 + Scf.trips (k0_t1_loop i).lb (k0_t1_loop i).ub (k0_t1_loop i).st)), R.D g (512 * (i 1).val + a) (128 * s + l)) = - ∑ r ∈ Finset.range 8192, R.D g (512 * (i 1).val + a) r := fun g a =>
    sum_lanes (fun r => R.D g (512 * (i 1).val + a) r) _ _ hn fun r h => R.D_zero (by omega)
  refine ⟨?_, ?_, ?_, ?_, ?_, ?_, ?_⟩
  · unfold Body.runC
    dsimp only
    refine st2 (y := fun g a l => (∑ r ∈ Finset.range 8192, R.D g (512 * (i 1).val + a) r * R.q g r l) * Real.log 2) _ _ _ _ rfl rfl _ _ _ _ [] ?_ ?_
    · unfold Body.runC.sl.r_11 Body.runC.sl.v203 View.readCov
      rw [trips2', pb2_nil, List.nil_append, View.writes_append]
      exact isM_congr (pay83_is (ld3 m15 _ 0 0 rfl inb_S2x512x128_S1x512x128_0_0_0)) (fun a l _ _ => by simp only [Nat.zero_add])
    · unfold Body.runC.sl.v221 View.readCov
      rw [trips2', pb2_nil, List.nil_append, View.writes_append]
      exact isM_congr (pay86_is (ld3 m15 _ 1 0 rfl inb_S2x512x128_S1x512x128_1_0_0)) (fun a l _ _ => by simp only [Nat.zero_add])
  · unfold Body.runC
    dsimp only
    refine st2 (y := fun g a l => ∑ r ∈ Finset.range 8192, R.P g (512 * (i 1).val + a) r * R.d g r l) _ _ _ _ rfl rfl _ _ _ _ [] ?_ ?_
    · unfold Body.runC.sl.v209 View.readCov
      rw [trips2', pb2_nil, List.nil_append, View.writes_append]
      exact isM_congr (pay84_is (ld3 m16 _ 0 0 rfl inb_S2x512x128_S1x512x128_0_0_0)) (fun a l _ _ => by simp only [Nat.zero_add])
    · unfold Body.runC.sl.v227 View.readCov
      rw [trips2', pb2_nil, List.nil_append, View.writes_append]
      exact isM_congr (pay87_is (ld3 m16 _ 1 0 rfl inb_S2x512x128_S1x512x128_1_0_0)) (fun a l _ _ => by simp only [Nat.zero_add])
  · unfold Body.runC
    dsimp only
    refine is4_congr (st4 (x := fun _ _ => 0) (y := fun g a => - ∑ r ∈ Finset.range 8192, R.D g (512 * (i 1).val + a) r) _ _ 0 _ _ rfl rfl _ _ _ _ [] (fun g a b h => absurd (show a.val = 0 by omega) h) ?_ ?_) (fun g a b _ ha hb => if_pos (by omega))
    · unfold Body.runC.sl.v213 View.readCov
      rw [trips2', pb2_nil, List.nil_append, View.writes_append]
      exact isR_congr (pay85_is (ld3 l18 _ 0 0 rfl inb_S2x512x128_S1x512x128_0_0_0)) (fun a _ => by simp only [Nat.zero_add, Nat.mul_zero]; exact m18 0 a)
    · unfold Body.runC.sl.v238 Body.runC.sl.r_12 Body.runC.sl.v231 View.readCov
      rw [trips2', pb2_nil, List.nil_append, View.writes_append]
      exact isR_congr (pay1_is (ld3 l18 _ 1 0 rfl inb_S2x512x128_S1x512x128_1_0_0)) (fun a _ => by simp only [Nat.zero_add, Nat.mul_zero]; exact m18 1 a)
  · unfold Body.runC
    dsimp only
    rw [trips2', pb2_nil]
    dsimp only
    rw [List.nil_append, View.writes_append]
    exact m14
  · unfold Body.runC
    dsimp only
    rw [trips2', pb2_nil]
    dsimp only
    rw [List.nil_append, View.writes_append]
    exact m17
  · unfold Body.runC
    dsimp only
    refine st2 (y := fun g r l => (x14 g r l + ∑ a ∈ Finset.range 512, R.D g (512 * (i 1).val + a) r * R.k g (512 * (i 1).val + a) l) * 0.125) _ _ _ _ rfl rfl _ _ _ _ [] ?_ ?_
    · unfold Body.runC.sl.v246 Body.runC.sl.v245 Body.runC.sl.v244 Body.runC.sl.v243 Body.runC.sl.v242 Body.runC.sl.cst_161
      rw [trips2', pb2_nil]
      dsimp only
      rw [List.nil_append, View.writes_append]
      exact isM_congr (pay2_is (ld3 m14 _ 0 0 rfl inb_S2x8192x128_S1x8192x128_0_0_0)) (fun a l _ _ => by simp only [Nat.zero_add])
    · unfold Body.runC.sl.v252 Body.runC.sl.v251 Body.runC.sl.v244 Body.runC.sl.v249 Body.runC.sl.v248 Body.runC.sl.cst_161
      rw [trips2', pb2_nil]
      dsimp only
      rw [List.nil_append, View.writes_append]
      exact isM_congr (pay3_is (ld3 m14 _ 1 0 rfl inb_S2x8192x128_S1x8192x128_1_0_0)) (fun a l _ _ => by simp only [Nat.zero_add])
  · unfold Body.runC Body.runC.sl.v254
    dsimp only
    rw [trips2', pb2_nil]
    dsimp only
    rw [List.nil_append, View.writes_append]
    exact fill4 _ _ _ _ (ld4all m17 _)
end Cert.KernelIdeal.Tile
-- ==== Proof.V.Body.lean ====
/-
The body at any grid point, as real numbers: from the sums that the key blocks before it left for the
queries to those with its own block added, and to the gradients of its block's keys, values and gates.
-/
module
public import proofs.«01_k».proof.Proof.V.PtA
public import proofs.«01_k».proof.Proof.V.PtB
public import proofs.«01_k».proof.Proof.V.PtC
public import proofs.«01_k».proof.Proof.Frame
@[expose] public section
set_option maxRecDepth 16384
set_option maxHeartbeats 4000000
noncomputable section
namespace Cert.KernelIdeal.Tile
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

local notation "𝕄" => MT nD τ sig Unit (Elt Ideal) ℕ (UR sig nD τ) ℕ

theorem isH_congr {n : ℕ} {X : (⟨2, ![n, 256]⟩ : Shape).Idx → EReal} {x y : ℕ → ℕ → ℕ → ℝ} (h : isH X x)
    (he : ∀ g a l, g < 2 → a < n → l < 128 → x g a l = y g a l) : isH X y :=
  fun g a l => (h g a l).trans (by rw [he _ _ _ g.isLt a.isLt l.isLt])

/-- The gradient of a query before its last scaling, over the keys of the first `n` blocks. -/
def dqAt (R : Rd) (n : ℕ) : ℕ → ℕ → ℕ → ℝ := fun g r l => ∑ j ∈ Finset.range (512 * n), R.D g j r * R.k g j l

/-- The gradient of a query's gate, over the keys of the first `n` blocks. -/
def drAt (R : Rd) (n : ℕ) : ℕ → ℕ → ℝ := fun g r => ∑ j ∈ Finset.range (512 * n), R.D g j r

theorem dq_step (R : Rd) (n g r l : ℕ) : dqAt R n g r l + ∑ a ∈ Finset.range 512, R.D g (512 * n + a) r * R.k g (512 * n + a) l = dqAt R (n + 1) g r l := by
  unfold dqAt; rw [Nat.mul_add, Nat.mul_one, Finset.sum_range_add]
theorem dr_step (R : Rd) (n g r : ℕ) : drAt R n g r + ∑ a ∈ Finset.range 512, R.D g (512 * n + a) r = drAt R (n + 1) g r := by
  unfold drAt; rw [Nat.mul_add, Nat.mul_one, Finset.sum_range_add]
theorem dq_first (R : Rd) {n : ℕ} (h : n = 0) (g r l : ℕ) : ∑ a ∈ Finset.range 512, R.D g (512 * n + a) r * R.k g (512 * n + a) l = dqAt R (n + 1) g r l := by
  subst h; rw [← dq_step]; simp [dqAt]
theorem dr_first (R : Rd) {n : ℕ} (h : n = 0) (g r : ℕ) : ∑ a ∈ Finset.range 512, R.D g (512 * n + a) r = drAt R (n + 1) g r := by
  subst h; rw [← dr_step]; simp [drAt]
theorem dq_all (R : Rd) {n : ℕ} (h : n = 15) (g r l : ℕ) : dqAt R n g r l + ∑ a ∈ Finset.range 512, R.D g (512 * n + a) r * R.k g (512 * n + a) l
    = ∑ j ∈ Finset.range 8192, R.D g j r * R.k g j l := by
  rw [dq_step, h]; rfl
theorem dr_all (R : Rd) {n : ℕ} (h : n = 15) (g r : ℕ) : drAt R n g r + ∑ a ∈ Finset.range 512, R.D g (512 * n + a) r = ∑ j ∈ Finset.range 8192, R.D g j r := by
  rw [dr_step, h]; rfl

theorem first_val (i : grid0.Coords) (h : Body.first i) : (i 1).val = 0 := by
  revert h; revert i; decide
theorem last_val (i : grid0.Coords) (h : k0_cond2 i = 1#1) : (i 1).val = 15 := by
  revert h; revert i; decide

/-- The body at any grid point, on whole buffers that hold the real numbers `R`. -/
theorem body_val (𝒱 : Variants) (c : Dev nD) (bd : Option 𝒱.V) (E : Set ℕ) (i : grid0.Coords)
    (arg2 : Memref sig .tc .vmem S8192x256 .bf16) (harg2 : arg2.IsWhole)
    (arg3 : Memref sig .tc .vmem S512x256 .bf16) (harg3 : arg3.IsWhole)
    (arg4 : Memref sig .tc .vmem S512x256 .bf16) (harg4 : arg4.IsWhole)
    (arg5 : Memref sig .tc .vmem S8192x256 .bf16) (harg5 : arg5.IsWhole)
    (arg6 : Memref sig .tc .vmem S2x16x1x512 .f32) (harg6 : arg6.IsWhole)
    (arg7 : Memref sig .tc .vmem S2x16x1x512 .f32) (harg7 : arg7.IsWhole)
    (arg8 : Memref sig .tc .vmem S2x16x1x512 .f32) (harg8 : arg8.IsWhole)
    (arg9 : Memref sig .tc .vmem S8192x256 .bf16) (harg9 : arg9.IsWhole)
    (arg10 : Memref sig .tc .vmem S512x256 .bf16) (harg10 : arg10.IsWhole)
    (arg11 : Memref sig .tc .vmem S512x256 .bf16) (harg11 : arg11.IsWhole)
    (arg12 : Memref sig .tc .vmem S2x16x1x512 .f32) (harg12 : arg12.IsWhole)
    (arg13 : Memref sig .tc .vmem S2x1x1x512 .f32) (harg13 : arg13.IsWhole)
    (arg14 : Memref sig .tc .vmem S2x8192x128 .f32) (harg14 : arg14.IsWhole)
    (arg15 : Memref sig .tc .vmem S2x512x128 .f32) (harg15 : arg15.IsWhole)
    (arg16 : Memref sig .tc .vmem S2x512x128 .f32) (harg16 : arg16.IsWhole)
    (arg17 : Memref sig .tc .vmem S2x16x1x512 .f32) (harg17 : arg17.IsWhole)
    (arg18 : Memref sig .tc .vmem S2x512x128 .f32) (harg18 : arg18.IsWhole)
    (X2 : S8192x256.Idx → Elt Ideal .bf16) (X3 : S512x256.Idx → Elt Ideal .bf16) (X4 : S512x256.Idx → Elt Ideal .bf16) (X5 : S8192x256.Idx → Elt Ideal .bf16) (X6 : S2x16x1x512.Idx → Elt Ideal .f32) (X7 : S2x16x1x512.Idx → Elt Ideal .f32) (X8 : S2x16x1x512.Idx → Elt Ideal .f32) (X9 : S8192x256.Idx → Elt Ideal .bf16) (X10 : S512x256.Idx → Elt Ideal .bf16) (X11 : S512x256.Idx → Elt Ideal .bf16) (X12 : S2x16x1x512.Idx → Elt Ideal .f32) (X13 : S2x1x1x512.Idx → Elt Ideal .f32) (X14 : S2x8192x128.Idx → Elt Ideal .f32) (X15 : S2x512x128.Idx → Elt Ideal .f32) (X16 : S2x512x128.Idx → Elt Ideal .f32) (X17 : S2x16x1x512.Idx → Elt Ideal .f32) (X18 : S2x512x128.Idx → Elt Ideal .f32) (R : Rd)
    (hR : Reads R i X2 X5 X6 X7 X8)
    (hk : isH X3 (fun g a l => R.k g (512 * (i 1).val + a) l))
    (hv : isH X4 (fun g a l => R.v g (512 * (i 1).val + a) l))
    (h14 : ¬ Body.first i → is3 X14 (dqAt R (i 1).val)) (h17 : ¬ Body.first i → is4 X17 (drAt R (i 1).val)) :
    (iprop(owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ owns (c : Thread nD τ) arg9 fullShare X9
        ∗ owns (c : Thread nD τ) arg10 fullShare X10
        ∗ owns (c : Thread nD τ) arg11 fullShare X11
        ∗ owns (c : Thread nD τ) arg12 fullShare X12
        ∗ owns (c : Thread nD τ) arg13 fullShare X13
        ∗ owns (c : Thread nD τ) arg14 fullShare X14
        ∗ owns (c : Thread nD τ) arg15 fullShare X15
        ∗ owns (c : Thread nD τ) arg16 fullShare X16
        ∗ owns (c : Thread nD τ) arg17 fullShare X17
        ∗ owns (c : Thread nD τ) arg18 fullShare X18) : sProp 𝕄)
      ⊢ wp frame (wpE (defs₀ (F := Ideal)) 𝒱 (c : Thread nD τ) bd) E (cc0_fox_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ (∃ X, ⌜k0_cond2 i = 1#1 → isH X (fun g r l => (∑ j ∈ Finset.range 8192, R.D g j r * R.k g j l) * 0.125)⌝ ∗ owns (c : Thread nD τ) arg9 fullShare X)
        ∗ (∃ X, ⌜isH X (fun g a l => (∑ r ∈ Finset.range 8192, R.D g (512 * (i 1).val + a) r * R.q g r l) * Real.log 2)⌝ ∗ owns (c : Thread nD τ) arg10 fullShare X)
        ∗ (∃ X, ⌜isH X (fun g a l => ∑ r ∈ Finset.range 8192, R.P g (512 * (i 1).val + a) r * R.d g r l)⌝ ∗ owns (c : Thread nD τ) arg11 fullShare X)
        ∗ (∃ X, ⌜k0_cond2 i = 1#1 → is4 X (fun g r => ∑ j ∈ Finset.range 8192, R.D g j r)⌝ ∗ owns (c : Thread nD τ) arg12 fullShare X)
        ∗ (∃ X, ⌜is4 X (fun g a => - ∑ r ∈ Finset.range 8192, R.D g (512 * (i 1).val + a) r)⌝ ∗ owns (c : Thread nD τ) arg13 fullShare X)
        ∗ (∃ X, ⌜is3 X (dqAt R ((i 1).val + 1))⌝ ∗ owns (c : Thread nD τ) arg14 fullShare X)
        ∗ (∃ X, owns (c : Thread nD τ) arg15 fullShare X)
        ∗ (∃ X, owns (c : Thread nD τ) arg16 fullShare X)
        ∗ (∃ X, ⌜is4 X (drAt R ((i 1).val + 1))⌝ ∗ owns (c : Thread nD τ) arg17 fullShare X)
        ∗ (∃ X, owns (c : Thread nD τ) arg18 fullShare X))) := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩
  subst e2 e3 e4 e5 e6 e7 e8 e9 e10 e11 e12 e13 e14 e15 e16 e17 e18
  by_cases h1 : Body.first i
  · have h2 := Body.not_last_of_first i h1
    have h0 := first_val i h1
    obtain ⟨p10, p11, p13, p14, p17⟩ := ptA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18 R hR hk hv
    refine BIBase.Entails.trans ?_ ((Body.runA (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.2.2.2.2.2.2 E |>.trans (wp_mono _ _ _ fun _ => ?_))
    · iintro ⟨⟨⟨⟨⟨⟨⟨⟨⟨⟨⟨⟨⟨⟨⟨⟨H2, H3⟩, H4⟩, H5⟩, H6⟩, H7⟩, H8⟩, H9⟩, H10⟩, H11⟩, H12⟩, H13⟩, H14⟩, H15⟩, H16⟩, H17⟩, H18⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · iintro ⟨H2, H3, H4, H5, H6, H7, H8, H9, H10, H11, H12, H13, H14, H15, H16, H17, H18⟩
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap
        · iexists _; isplitr; swap; · iexact H9
          ipureintro; rfl
        ipureintro; exact fun h => absurd h h2
      isplitl [H10]
      · iexists _; isplitr; swap
        · iexists _; isplitr; swap; · iexact H10
          ipureintro; rfl
        ipureintro; exact p10
      isplitl [H11]
      · iexists _; isplitr; swap
        · iexists _; isplitr; swap; · iexact H11
          ipureintro; rfl
        ipureintro; exact p11
      isplitl [H12]
      · iexists _; isplitr; swap
        · iexists _; isplitr; swap; · iexact H12
          ipureintro; rfl
        ipureintro; exact fun h => absurd h h2
      isplitl [H13]
      · iexists _; isplitr; swap
        · iexists _; isplitr; swap; · iexact H13
          ipureintro; rfl
        ipureintro; exact p13
      isplitl [H14]
      · iexists _; isplitr; swap
        · iexists _; isplitr; swap; · iexact H14
          ipureintro; rfl
        ipureintro; exact is3_congr p14 fun g r l _ _ _ => dq_first R h0 g r l
      isplitl [H15]
      · iexists _; iexists _; isplitr; swap; · iexact H15
        ipureintro; rfl
      isplitl [H16]
      · iexists _; iexists _; isplitr; swap; · iexact H16
        ipureintro; rfl
      isplitl [H17]
      · iexists _; isplitr; swap
        · iexists _; isplitr; swap; · iexact H17
          ipureintro; rfl
        ipureintro; exact is4_congr p17 fun g a b _ _ _ => dr_first R h0 g _
      iexists _; iexists _; isplitr; swap; · iexact H18
      ipureintro; rfl
  · by_cases h2 : k0_cond2 i = 1#1
    · have h15 := last_val i h2
      obtain ⟨p10, p11, p13, p14, p17, p9, p12⟩ := ptC 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18 R hR hk hv (dqAt R (i 1).val) (drAt R (i 1).val) (h14 h1) (h17 h1)
      refine BIBase.Entails.trans ?_ ((Body.runC (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.2.2.2.2.2.2.2.2 E |>.trans (wp_mono _ _ _ fun _ => ?_))
      · iintro ⟨⟨⟨⟨⟨⟨⟨⟨⟨⟨⟨⟨⟨⟨⟨⟨H2, H3⟩, H4⟩, H5⟩, H6⟩, H7⟩, H8⟩, H9⟩, H10⟩, H11⟩, H12⟩, H13⟩, H14⟩, H15⟩, H16⟩, H17⟩, H18⟩
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        iexact H18
      · iintro ⟨H2, H3, H4, H5, H6, H7, H8, H9, H10, H11, H12, H13, H14, H15, H16, H17, H18⟩
        isplitl [H2]
        · iexists _; isplitr; swap; · iexact H2
          ipureintro; rfl
        isplitl [H3]
        · iexists _; isplitr; swap; · iexact H3
          ipureintro; rfl
        isplitl [H4]
        · iexists _; isplitr; swap; · iexact H4
          ipureintro; rfl
        isplitl [H5]
        · iexists _; isplitr; swap; · iexact H5
          ipureintro; rfl
        isplitl [H6]
        · iexists _; isplitr; swap; · iexact H6
          ipureintro; rfl
        isplitl [H7]
        · iexists _; isplitr; swap; · iexact H7
          ipureintro; rfl
        isplitl [H8]
        · iexists _; isplitr; swap; · iexact H8
          ipureintro; rfl
        isplitl [H9]
        · iexists _; isplitr; swap
          · iexists _; isplitr; swap; · iexact H9
            ipureintro; rfl
          ipureintro; exact fun _ => isH_congr p9 fun g r l _ _ _ => by rw [← dq_all R h15 g r l]
        isplitl [H10]
        · iexists _; isplitr; swap
          · iexists _; isplitr; swap; · iexact H10
            ipureintro; rfl
          ipureintro; exact p10
        isplitl [H11]
        · iexists _; isplitr; swap
          · iexists _; isplitr; swap; · iexact H11
            ipureintro; rfl
          ipureintro; exact p11
        isplitl [H12]
        · iexists _; isplitr; swap
          · iexists _; isplitr; swap; · iexact H12
            ipureintro; rfl
          ipureintro; exact fun _ => is4_congr p12 fun g a b _ _ _ => dr_all R h15 g _
        isplitl [H13]
        · iexists _; isplitr; swap
          · iexists _; isplitr; swap; · iexact H13
            ipureintro; rfl
          ipureintro; exact p13
        isplitl [H14]
        · iexists _; isplitr; swap
          · iexists _; isplitr; swap; · iexact H14
            ipureintro; rfl
          ipureintro; exact is3_congr p14 fun g r l _ _ _ => dq_step R _ g r l
        isplitl [H15]
        · iexists _; iexists _; isplitr; swap; · iexact H15
          ipureintro; rfl
        isplitl [H16]
        · iexists _; iexists _; isplitr; swap; · iexact H16
          ipureintro; rfl
        isplitl [H17]
        · iexists _; isplitr; swap
          · iexists _; isplitr; swap; · iexact H17
            ipureintro; rfl
          ipureintro; exact is4_congr p17 fun g a b _ _ _ => dr_step R _ g _
        iexists _; iexists _; isplitr; swap; · iexact H18
        ipureintro; rfl
    · obtain ⟨p10, p11, p13, p14, p17⟩ := ptB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18 R hR hk hv (dqAt R (i 1).val) (drAt R (i 1).val) (h14 h1) (h17 h1)
      refine BIBase.Entails.trans ?_ ((Body.runB (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 f2 f3 f4 f5 f6 f7 f8 f9 f10 f11 f12 f13 f14 f15 f16 f17 f18).2.2.2.2.2.2.2.2 E |>.trans (wp_mono _ _ _ fun _ => ?_))
      · iintro ⟨⟨⟨⟨⟨⟨⟨⟨⟨⟨⟨⟨⟨⟨⟨⟨H2, H3⟩, H4⟩, H5⟩, H6⟩, H7⟩, H8⟩, H9⟩, H10⟩, H11⟩, H12⟩, H13⟩, H14⟩, H15⟩, H16⟩, H17⟩, H18⟩
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        iexact H18
      · iintro ⟨H2, H3, H4, H5, H6, H7, H8, H9, H10, H11, H12, H13, H14, H15, H16, H17, H18⟩
        isplitl [H2]
        · iexists _; isplitr; swap; · iexact H2
          ipureintro; rfl
        isplitl [H3]
        · iexists _; isplitr; swap; · iexact H3
          ipureintro; rfl
        isplitl [H4]
        · iexists _; isplitr; swap; · iexact H4
          ipureintro; rfl
        isplitl [H5]
        · iexists _; isplitr; swap; · iexact H5
          ipureintro; rfl
        isplitl [H6]
        · iexists _; isplitr; swap; · iexact H6
          ipureintro; rfl
        isplitl [H7]
        · iexists _; isplitr; swap; · iexact H7
          ipureintro; rfl
        isplitl [H8]
        · iexists _; isplitr; swap; · iexact H8
          ipureintro; rfl
        isplitl [H9]
        · iexists _; isplitr; swap
          · iexists _; isplitr; swap; · iexact H9
            ipureintro; rfl
          ipureintro; exact fun h => absurd h h2
        isplitl [H10]
        · iexists _; isplitr; swap
          · iexists _; isplitr; swap; · iexact H10
            ipureintro; rfl
          ipureintro; exact p10
        isplitl [H11]
        · iexists _; isplitr; swap
          · iexists _; isplitr; swap; · iexact H11
            ipureintro; rfl
          ipureintro; exact p11
        isplitl [H12]
        · iexists _; isplitr; swap
          · iexists _; isplitr; swap; · iexact H12
            ipureintro; rfl
          ipureintro; exact fun h => absurd h h2
        isplitl [H13]
        · iexists _; isplitr; swap
          · iexists _; isplitr; swap; · iexact H13
            ipureintro; rfl
          ipureintro; exact p13
        isplitl [H14]
        · iexists _; isplitr; swap
          · iexists _; isplitr; swap; · iexact H14
            ipureintro; rfl
          ipureintro; exact is3_congr p14 fun g r l _ _ _ => dq_step R _ g r l
        isplitl [H15]
        · iexists _; iexists _; isplitr; swap; · iexact H15
          ipureintro; rfl
        isplitl [H16]
        · iexists _; iexists _; isplitr; swap; · iexact H16
          ipureintro; rfl
        isplitl [H17]
        · iexists _; isplitr; swap
          · iexists _; isplitr; swap; · iexact H17
            ipureintro; rfl
          ipureintro; exact is4_congr p17 fun g a b _ _ _ => dr_step R _ g _
        iexists _; iexists _; isplitr; swap; · iexact H18
        ipureintro; rfl
end Cert.KernelIdeal.Tile
-- ==== Proof.V.Track.lean ====
/-
The run of the program with its scratch sums tracked: before a grid point that is not the first of its pair
of heads they hold what the key blocks before it added, and each result's block is written with its real numbers.
-/
module
public import proofs.«01_k».proof.Proof.V.Body
public import Idealize.ShloMosaic.Lib.Pipeline.DatRel
@[expose] public section
set_option maxRecDepth 16384
set_option maxHeartbeats 4000000
noncomputable section
namespace Cert.KernelIdeal.Tile
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- Grid point `t` is key block `t % 16` of the pair of heads `t / 16`. -/
theorem coords_1 (t : Fin cfg0.N) : (grid0.coords t 1).val = t.val % 16 := by
  revert t; decide +kernel
theorem first_ne (i : grid0.Coords) (h : ¬ Body.first i) : (i 1).val ≠ 0 := by
  revert h; revert i; decide
theorem last_cond (i : grid0.Coords) (h : (i 1).val = 15) : k0_cond2 i = 1#1 := by
  revert h; revert i; decide

/-- The operands' blocks at every grid point are those of the real numbers `R`, pair of heads by pair of heads. -/
def Ops (c : Dev nD) (R : ℕ → Rd) : Prop := ∀ t : Fin cfg0.N,
  Reads (R (t.val / 16)) (grid0.coords t) (iblk m c 0 t) (iblk m c 3 t) (iblk m c 4 t) (iblk m c 5 t) (iblk m c 6 t)
    ∧ isH (n := 512) (iblk m c 1 t) (fun g a l => (R (t.val / 16)).k g (512 * (grid0.coords t 1).val + a) l)
    ∧ isH (n := 512) (iblk m c 2 t) (fun g a l => (R (t.val / 16)).v g (512 * (grid0.coords t 1).val + a) l)

/-- The gradient of the queries. -/
def outQ (R : ℕ → Rd) (h g r l : ℕ) : ℝ := (∑ j ∈ Finset.range 8192, (R h).D g j r * (R h).k g j l) * 0.125
/-- The gradient of the keys. -/
def outK (R : ℕ → Rd) (h g j l : ℕ) : ℝ := (∑ r ∈ Finset.range 8192, (R h).D g j r * (R h).q g r l) * Real.log 2
/-- The gradient of the values. -/
def outV (R : ℕ → Rd) (h g j l : ℕ) : ℝ := ∑ r ∈ Finset.range 8192, (R h).P g j r * (R h).d g r l
/-- The gradient of the queries' gates. -/
def outR (R : ℕ → Rd) (h g r : ℕ) : ℝ := ∑ j ∈ Finset.range 8192, (R h).D g j r
/-- The gradient of the keys' gates. -/
def outF (R : ℕ → Rd) (h g j : ℕ) : ℝ := - ∑ r ∈ Finset.range 8192, (R h).D g j r

/-- What the body leaves of the results at a grid point. -/
def rel (R : ℕ → Rd) : (w : Fin cfg0.W) → Fin cfg0.N → ((cfg0.win w).block.Idx → Elt Ideal (cfg0.win w).elt) → Prop
  | 7, t, X => t.val % 16 = 15 → isH (n := 8192) X (outQ R (t.val / 16))
  | 8, t, X => isH (n := 512) X (fun g a l => outK R (t.val / 16) g (512 * (t.val % 16) + a) l)
  | 9, t, X => isH (n := 512) X (fun g a l => outV R (t.val / 16) g (512 * (t.val % 16) + a) l)
  | 10, t, X => t.val % 16 = 15 → is4 (p := 2) (n := 16) (m := 512) X (outR R (t.val / 16))
  | 11, t, X => is4 (p := 2) (n := 1) (m := 512) X (fun g a => outF R (t.val / 16) g (512 * (t.val % 16) + a))
  | _, _, _ => True

/-- The scratch buffers before grid point `n`. -/
def inv (R : ℕ → Rd) (c : Dev nD) (n : ℕ) : sProp 𝕄 :=
  iprop(((∃ f : Buf (Elt Ideal) ((c : Thread nD τ).loc cc0_scratch0), ⌜n % 16 ≠ 0 → is3 (p := 2) (n := 8192) (m := 128) f (dqAt (R (n / 16)) (n % 16))⌝ ∗ ((c : Thread nD τ).loc cc0_scratch0 ↦{fullShare} f)) ∗ (∃ f : Buf (Elt Ideal) ((c : Thread nD τ).loc cc0_scratch1), ((c : Thread nD τ).loc cc0_scratch1 ↦{fullShare} f)) ∗ (∃ f : Buf (Elt Ideal) ((c : Thread nD τ).loc cc0_scratch2), ((c : Thread nD τ).loc cc0_scratch2 ↦{fullShare} f)) ∗ (∃ f : Buf (Elt Ideal) ((c : Thread nD τ).loc cc0_scratch3), ⌜n % 16 ≠ 0 → is4 (p := 2) (n := 16) (m := 512) f (drAt (R (n / 16)) (n % 16))⌝ ∗ ((c : Thread nD τ).loc cc0_scratch3 ↦{fullShare} f)) ∗ (∃ f : Buf (Elt Ideal) ((c : Thread nD τ).loc cc0_scratch4), ((c : Thread nD τ).loc cc0_scratch4 ↦{fullShare} f))) ∗ ∃ r, prngReg c r)

/-- What the run of a core keeps. -/
def datV (R : ℕ → Rd) (c : Dev nD) : Dat τ (Elt Ideal) Unit ℕ (UR sig nD τ) ℕ cfg0 c where
  A w := V m c (Pipeline.arrRef spec0 w)
  after
    | 0, t => iblk m c 0 t
    | 1, t => iblk m c 1 t
    | 2, t => iblk m c 2 t
    | 3, t => iblk m c 3 t
    | 4, t => iblk m c 4 t
    | 5, t => iblk m c 5 t
    | 6, t => iblk m c 6 t
    | 7, t => Pipeline.Dat.unnamed (cfg := cfg0) 7 t
    | 8, t => Pipeline.Dat.unnamed (cfg := cfg0) 8 t
    | 9, t => Pipeline.Dat.unnamed (cfg := cfg0) 9 t
    | 10, t => Pipeline.Dat.unnamed (cfg := cfg0) 10 t
    | 11, t => Pipeline.Dat.unnamed (cfg := cfg0) 11 t
  Φ t := inv R c t.val
  q _ := fullShare
  owed _ := 0

variable (R : ℕ → Rd)

theorem A_eqV (c : Dev nD) (w : Fin cfg0.W) : (datV m R c).A w = V m c (Pipeline.arrRef spec0 w) := by dsimp only [datV]
theorem afterV_0 (c : Dev nD) (t : Fin cfg0.N) : (datV m R c).after 0 t = iblk m c 0 t := by dsimp only [datV]
theorem beforeV_0 (c : Dev nD) (t : Fin cfg0.N) (d) : (datV m R c).before 0 t d = iblk m c 0 t :=
  before0_0_of m (datV m R c) (A_eqV m R c 0) (afterV_0 m R c) t d
theorem afterV_1 (c : Dev nD) (t : Fin cfg0.N) : (datV m R c).after 1 t = iblk m c 1 t := by dsimp only [datV]
theorem beforeV_1 (c : Dev nD) (t : Fin cfg0.N) (d) : (datV m R c).before 1 t d = iblk m c 1 t :=
  before0_1_of m (datV m R c) (A_eqV m R c 1) (afterV_1 m R c) t d
theorem afterV_2 (c : Dev nD) (t : Fin cfg0.N) : (datV m R c).after 2 t = iblk m c 2 t := by dsimp only [datV]
theorem beforeV_2 (c : Dev nD) (t : Fin cfg0.N) (d) : (datV m R c).before 2 t d = iblk m c 2 t :=
  before0_2_of m (datV m R c) (A_eqV m R c 2) (afterV_2 m R c) t d
theorem afterV_3 (c : Dev nD) (t : Fin cfg0.N) : (datV m R c).after 3 t = iblk m c 3 t := by dsimp only [datV]
theorem beforeV_3 (c : Dev nD) (t : Fin cfg0.N) (d) : (datV m R c).before 3 t d = iblk m c 3 t :=
  before0_3_of m (datV m R c) (A_eqV m R c 3) (afterV_3 m R c) t d
theorem afterV_4 (c : Dev nD) (t : Fin cfg0.N) : (datV m R c).after 4 t = iblk m c 4 t := by dsimp only [datV]
theorem beforeV_4 (c : Dev nD) (t : Fin cfg0.N) (d) : (datV m R c).before 4 t d = iblk m c 4 t :=
  before0_4_of m (datV m R c) (A_eqV m R c 4) (afterV_4 m R c) t d
theorem afterV_5 (c : Dev nD) (t : Fin cfg0.N) : (datV m R c).after 5 t = iblk m c 5 t := by dsimp only [datV]
theorem beforeV_5 (c : Dev nD) (t : Fin cfg0.N) (d) : (datV m R c).before 5 t d = iblk m c 5 t :=
  before0_5_of m (datV m R c) (A_eqV m R c 5) (afterV_5 m R c) t d
theorem afterV_6 (c : Dev nD) (t : Fin cfg0.N) : (datV m R c).after 6 t = iblk m c 6 t := by dsimp only [datV]
theorem beforeV_6 (c : Dev nD) (t : Fin cfg0.N) (d) : (datV m R c).before 6 t d = iblk m c 6 t :=
  before0_6_of m (datV m R c) (A_eqV m R c 6) (afterV_6 m R c) t d

/-- What the body is called with at a grid point. -/
def preV (c : Dev nD) (t : Fin cfg0.N) : sProp 𝕄 :=
  iprop((datV m R c).Φ t.castSucc ∗ (datV m R c).owesAt () t.castSucc
    ∗ (∃ d, owns (c : Thread nD τ) (st0_0 t) fullShare ((datV m R c).before 0 t d)) ∗ (∃ d, owns (c : Thread nD τ) (st0_1 t) fullShare ((datV m R c).before 1 t d)) ∗ (∃ d, owns (c : Thread nD τ) (st0_2 t) fullShare ((datV m R c).before 2 t d)) ∗ (∃ d, owns (c : Thread nD τ) (st0_3 t) fullShare ((datV m R c).before 3 t d)) ∗ (∃ d, owns (c : Thread nD τ) (st0_4 t) fullShare ((datV m R c).before 4 t d)) ∗ (∃ d, owns (c : Thread nD τ) (st0_5 t) fullShare ((datV m R c).before 5 t d)) ∗ (∃ d, owns (c : Thread nD τ) (st0_6 t) fullShare ((datV m R c).before 6 t d)) ∗ (∃ Y, ⌜((datV m R c).toRRel Body.forgets0 (rel R)).Finds 7 t Y⌝ ∗ owns (c : Thread nD τ) (st0_7 t) fullShare Y) ∗ (∃ Y, ⌜((datV m R c).toRRel Body.forgets0 (rel R)).Finds 8 t Y⌝ ∗ owns (c : Thread nD τ) (st0_8 t) fullShare Y) ∗ (∃ Y, ⌜((datV m R c).toRRel Body.forgets0 (rel R)).Finds 9 t Y⌝ ∗ owns (c : Thread nD τ) (st0_9 t) fullShare Y) ∗ (∃ Y, ⌜((datV m R c).toRRel Body.forgets0 (rel R)).Finds 10 t Y⌝ ∗ owns (c : Thread nD τ) (st0_10 t) fullShare Y) ∗ (∃ Y, ⌜((datV m R c).toRRel Body.forgets0 (rel R)).Finds 11 t Y⌝ ∗ owns (c : Thread nD τ) (st0_11 t) fullShare Y))
/-- What it gives back. -/
def postV (c : Dev nD) (t : Fin cfg0.N) : sProp 𝕄 :=
  iprop((datV m R c).Φ t.succ ∗ (datV m R c).owesAt () t.succ
    ∗ owns (c : Thread nD τ) (st0_0 t) fullShare ((datV m R c).after 0 t) ∗ owns (c : Thread nD τ) (st0_1 t) fullShare ((datV m R c).after 1 t) ∗ owns (c : Thread nD τ) (st0_2 t) fullShare ((datV m R c).after 2 t) ∗ owns (c : Thread nD τ) (st0_3 t) fullShare ((datV m R c).after 3 t) ∗ owns (c : Thread nD τ) (st0_4 t) fullShare ((datV m R c).after 4 t) ∗ owns (c : Thread nD τ) (st0_5 t) fullShare ((datV m R c).after 5 t) ∗ owns (c : Thread nD τ) (st0_6 t) fullShare ((datV m R c).after 6 t) ∗ (∃ X, ⌜rel R 7 t X⌝ ∗ owns (c : Thread nD τ) (st0_7 t) fullShare X) ∗ (∃ X, ⌜rel R 8 t X⌝ ∗ owns (c : Thread nD τ) (st0_8 t) fullShare X) ∗ (∃ X, ⌜rel R 9 t X⌝ ∗ owns (c : Thread nD τ) (st0_9 t) fullShare X) ∗ (∃ X, ⌜rel R 10 t X⌝ ∗ owns (c : Thread nD τ) (st0_10 t) fullShare X) ∗ (∃ X, ⌜rel R 11 t X⌝ ∗ owns (c : Thread nD τ) (st0_11 t) fullShare X))

/-- The body at a grid point of the run. -/
theorem sound_val (c : Dev nD) (hO : Ops m c R) (t : Fin cfg0.N) :
    preV m R c t ⊢ wp frame (wpE (defs₀ (F := Ideal)) Variants.none c none) Set.univ (bodyAt0 t) (fun _ => postV m R c t) := by
  unfold preV postV bodyAt0
  rw [show (datV m R c).Φ t.succ = inv R c (t.val + 1) from rfl, show (datV m R c).owesAt () t.succ = (datV m R c).owesAt () t.castSucc from rfl,
    show (datV m R c).Φ t.castSucc = inv R c t.val from rfl]
  unfold inv
  simp only [beforeV_0, beforeV_1, beforeV_2, beforeV_3, beforeV_4, beforeV_5, beforeV_6, afterV_0, afterV_1, afterV_2, afterV_3, afterV_4, afterV_5, afterV_6]
  iintro ⟨⟨⟨⟨%f14, %e14, H14⟩, ⟨%f15, H15⟩, ⟨%f16, H16⟩, ⟨%f17, %e17, H17⟩, ⟨%f18, H18⟩⟩, Hg⟩, HO, ⟨%d0, W0⟩, ⟨%d1, W1⟩, ⟨%d2, W2⟩, ⟨%d3, W3⟩, ⟨%d4, W4⟩, ⟨%d5, W5⟩, ⟨%d6, W6⟩, ⟨%d7, -, W7⟩, ⟨%d8, -, W8⟩, ⟨%d9, -, W9⟩, ⟨%d10, -, W10⟩, ⟨%d11, -, W11⟩⟩
  have h := body_val Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) d7 d8 d9 d10 d11 f14 f15 f16 f17 f18 (R (t.val / 16)) (hO t).1 (hO t).2.1 (hO t).2.2 (fun hn => by rw [coords_1]; exact e14 (by rw [← coords_1]; exact first_ne _ hn)) (fun hn => by rw [coords_1]; exact e17 (by rw [← coords_1]; exact first_ne _ hn))
  simp only [owns_whole] at h
  iapply ((sep_mono h .rfl).trans (wp_wand_r _ _ _))
  isplitl [W0 W1 W2 W3 W4 W5 W6 W7 W8 W9 W10 W11 H14 H15 H16 H17 H18]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [H14]; · iexact H14
    isplitl [H15]; · iexact H15
    isplitl [H16]; · iexact H16
    isplitl [H17]; · iexact H17
    iexact H18
  iintro %_ ⟨W0, W1, W2, W3, W4, W5, W6, ⟨%x7, %p7, W7⟩, ⟨%x8, %p8, W8⟩, ⟨%x9, %p9, W9⟩, ⟨%x10, %p10, W10⟩, ⟨%x11, %p11, W11⟩, ⟨%g14, %p14, H14⟩, ⟨%g15, H15⟩, ⟨%g16, H16⟩, ⟨%g17, %p17, H17⟩, ⟨%g18, H18⟩⟩
  have hs : (t.val + 1) % 16 ≠ 0 → (t.val + 1) / 16 = t.val / 16 ∧ (t.val + 1) % 16 = (grid0.coords t 1).val + 1 := fun hne => by rw [coords_1]; omega
  isplitl [H14 H15 H16 H17 H18 Hg]
  · isplitl [H14 H15 H16 H17 H18]
    · isplitl [H14]
      · iexists _; isplitr; swap; · iexact H14
        ipureintro; intro hne; rw [(hs hne).1, (hs hne).2]; exact p14
      isplitl [H15]; · iexists _; iexact H15
      isplitl [H16]; · iexists _; iexact H16
      isplitl [H17]
      · iexists _; isplitr; swap; · iexact H17
        ipureintro; intro hne; rw [(hs hne).1, (hs hne).2]; exact p17
      iexists _; iexact H18
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]
  · iexists _; isplitr; swap; · iexact W7
    ipureintro; exact fun hl => p7 (last_cond _ ((coords_1 t).trans hl))
  isplitl [W8]
  · iexists _; isplitr; swap; · iexact W8
    ipureintro; rw [coords_1] at p8; exact p8
  isplitl [W9]
  · iexists _; isplitr; swap; · iexact W9
    ipureintro; rw [coords_1] at p9; exact p9
  isplitl [W10]
  · iexists _; isplitr; swap; · iexact W10
    ipureintro; exact fun hl => p10 (last_cond _ ((coords_1 t).trans hl))
  iexists _; isplitr; swap; · iexact W11
  ipureintro; rw [coords_1] at p11; exact p11

/-- The body keeps the invariant at every point of the run and leaves the results' blocks as stated. -/
theorem obligation_val (c : Dev nD) (hO : Ops m c R) :
    Pipeline.BodyObligationRel (datV m R c) (defs₀ (F := Ideal)) Variants.none () Set.univ Body.forgets0 (rel R) := fun t => by
  rw [bigSep_W0, bigSep_W0, Body.defs₀_row]
  exact triple_restated (sound_val m R c hO t) rfl .rfl fun _ => .rfl

end Cert.KernelIdeal.Tile
-- ==== Proof.V.Final.lean ====
/-
The run of the program with its results: every result array holds the real numbers the grid points leave in it.
-/
module
public import proofs.«01_k».proof.Proof.V.Track
public import Idealize.ShloMosaic.Lib.Pipeline.ArrRel
public import Idealize.ShloMosaic.Lib.Pipeline.ValueKit.Geometry
@[expose] public section
set_option maxRecDepth 16384
set_option maxHeartbeats 1000000
noncomputable section
namespace Cert.KernelIdeal.Tile
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg) (R : Dev nD → ℕ → Rd)

/-- Before the first grid point the scratch buffers may hold anything. -/
theorem inv_in (S : ℕ → Rd) (c : Dev nD) : Pipeline.ΦA spec0 c ⊢ inv S c 0 := by
  unfold Pipeline.ΦA inv
  rw [scopedRest0_eq]
  iintro ⟨⟨⟨%f0, H0⟩, H1, H2, ⟨%f3, H3⟩, H4⟩, Hg⟩
  isplitr [Hg]
  · isplitl [H0]
    · iexists f0; isplitr; · ipureintro; exact fun h => absurd rfl h
      iexact H0
    isplitl [H1]; · iexact H1
    isplitl [H2]; · iexact H2
    isplitl [H3]
    · iexists f3; isplitr; · ipureintro; exact fun h => absurd rfl h
      iexact H3
    iexact H4
  iexact Hg

/-- After any grid point the scratch buffers may be forgotten. -/
theorem inv_out (S : ℕ → Rd) (c : Dev nD) (n : ℕ) : inv S c n ⊢ Pipeline.ΦA spec0 c := by
  unfold Pipeline.ΦA inv
  rw [scopedRest0_eq]
  iintro ⟨⟨⟨%f0, %h0, H0⟩, H1, H2, ⟨%f3, %h3, H3⟩, H4⟩, Hg⟩
  isplitr [Hg]
  · isplitl [H0]; · iexists f0; iexact H0
    isplitl [H1]; · iexact H1
    isplitl [H2]; · iexact H2
    isplitl [H3]; · iexists f3; iexact H3
    iexact H4
  iexact Hg

set_option backward.isDefEq.respectTransparency.types false in
/-- Every run ends, each result's blocks as the grid points leave them, every unscoped buffer that is no operand
as the host code left it and every semaphore at zero. -/
theorem run_val (hO : ∀ c, Ops m c (R c)) :
    θ_run defs (onTc (τ := τ) (main (F := Ideal))) ⟨m, fun _ => 0, ρ⟩
      (fun r => Pipeline.RDat.FramePost (cfgs 0) (fun c => (datV m (R c) c).toRRel Body.forgets0 (rel (R c))) (V m) r ∧ r.2.sem = fun _ => 0) :=
  Pipeline.RDat.θ_run_frame_track (Q' := _) cfgs (0 : Fin 1) launch0 defs₀ Variants.none (fun c => (datV m (R c) c).toRRel Body.forgets0 (rel (R c))) m ρ main
    (hbody := fun c => (obligation_val m (R c) c (hO c)).toRRel) (hshare := fun c => (datV m (R c) c).share_full fun _ => rfl)
    (howed := fun _ _ => rfl) (V := V m) (hmain := hmain m Variants.none) (hA := fun c w => A_eqV m (R c) c w)
    (hin := fun c => inv_in (R c) c) (hout := fun c => inv_out (R c) c _) (hQ' := fun _ h => h)

/-- Where each result's window stands at a grid point. -/
theorem at_out : ∀ t : Fin cfg0.N,
    ((cfg0.win 7).index t 0 : ℕ) = 0 ∧ ((cfg0.win 7).index t 1 : ℕ) = t.val / 16
    ∧ ((cfg0.win 8).index t 0 : ℕ) = t.val % 16 ∧ ((cfg0.win 8).index t 1 : ℕ) = t.val / 16
    ∧ ((cfg0.win 9).index t 0 : ℕ) = t.val % 16 ∧ ((cfg0.win 9).index t 1 : ℕ) = t.val / 16
    ∧ ((cfg0.win 10).index t 0 : ℕ) = t.val / 16 ∧ ((cfg0.win 10).index t 1 : ℕ) = 0 ∧ ((cfg0.win 10).index t 3 : ℕ) = 0
    ∧ ((cfg0.win 11).index t 0 : ℕ) = t.val / 16 ∧ ((cfg0.win 11).index t 1 : ℕ) = t.val % 16 ∧ ((cfg0.win 11).index t 3 : ℕ) = 0 := by decide +kernel
/-- The queries' gradient is written out at the last key block of a pair of heads, and so are the rows' sums. -/
theorem last_7 : ∀ t : Fin cfg0.N, (cfg0.win 7).flush t = true → t.val % 16 = 15 := by decide +kernel
theorem last_10 : ∀ t : Fin cfg0.N, (cfg0.win 10).flush t = true → t.val % 16 = 15 := by decide +kernel

/-- A block of two heads at an index. -/
theorem isH_at {n : ℕ} {X : (⟨2, ![n, 256]⟩ : Shape).Idx → EReal} {x : ℕ → ℕ → ℕ → ℝ} (h : isH X x) (y : (⟨2, ![n, 256]⟩ : Shape).Idx) :
    X y = ((x ((y 1).val / 128) (y 0).val ((y 1).val % 128) : ℝ) : EReal) := by
  have hy : (y 1).val < 256 := (y 1).isLt
  have e := h ⟨(y 1).val / 128, by omega⟩ (y 0) ⟨(y 1).val % 128, by omega⟩
  have e1 : (⟨128 * ((y 1).val / 128) + (y 1).val % 128, by omega⟩ : Fin 256) = y 1 := Fin.ext (by show 128 * ((y 1).val / 128) + (y 1).val % 128 = (y 1).val; omega)
  rw [e1] at e
  exact (congrArg X (eq_ix2 y)).trans e
/-- A block of rows of tiles at an index. -/
theorem is4_at {p n k : ℕ} {X : (⟨4, ![p, n, 1, k]⟩ : Shape).Idx → EReal} {x : ℕ → ℕ → ℝ} (h : is4 X x) (y : (⟨4, ![p, n, 1, k]⟩ : Shape).Idx) :
    X y = ((x (y 0).val (k * (y 1).val + (y 3).val) : ℝ) : EReal) := by
  have e := h (y 0) (y 1) (y 3)
  have e2 : (0 : Fin 1) = y 2 := Subsingleton.elim _ _
  rw [e2] at e
  exact (congrArg X (eq_ix4 y)).trans e

section arrays
variable {c : Dev nD} (dat : Dat τ (Elt Ideal) Unit ℕ (UR sig nD τ) ℕ cfg0 c)

/-- Result 0 after the run. -/
theorem arr7 (h : ℕ → ℕ → ℕ → ℕ → ℝ) (hL : ∀ t : Fin cfg0.N, (cfg0.win 7).flush t = true → isH (n := 8192) (dat.after 7 t) (h (t.val / 16))) :
    dat.arrAt 7 cfg0.N = fun i : S8192x1024.Idx => (((h ((i 1).val / 256) ((i 1).val % 256 / 128) (i 0).val ((i 1).val % 128) : ℝ)) : EReal) := by
  refine dat.arrAt_eq_of_covers 7 _ (by decide +kernel) fun t hf y => ?_
  have h1 := isH_at (hL t hf) y
  obtain ⟨i0, i1, -⟩ := at_out t
  blk_simp [i0, i1]
  have hy : (y 1).val < 256 := (y 1).isLt
  rw [show (t.val / 16 * 256 + (y 1).val) / 256 = t.val / 16 by omega, show (t.val / 16 * 256 + (y 1).val) % 256 / 128 = (y 1).val / 128 by omega,
    show (t.val / 16 * 256 + (y 1).val) % 128 = (y 1).val % 128 by omega]
  exact h1
/-- Result 1 after the run. -/
theorem arr8 (h : ℕ → ℕ → ℕ → ℕ → ℝ) (hL : ∀ t : Fin cfg0.N, (cfg0.win 8).flush t = true → isH (n := 512) (dat.after 8 t) (fun g a l => h (t.val / 16) g (512 * (t.val % 16) + a) l)) :
    dat.arrAt 8 cfg0.N = fun i : S8192x1024.Idx => (((h ((i 1).val / 256) ((i 1).val % 256 / 128) (i 0).val ((i 1).val % 128) : ℝ)) : EReal) := by
  refine dat.arrAt_eq_of_covers 8 _ (by decide +kernel) fun t hf y => ?_
  have h1 := isH_at (hL t hf) y
  obtain ⟨-, -, i0, i1, -⟩ := at_out t
  blk_simp [i0, i1]
  have hy : (y 1).val < 256 := (y 1).isLt
  rw [show (t.val / 16 * 256 + (y 1).val) / 256 = t.val / 16 by omega, show (t.val / 16 * 256 + (y 1).val) % 256 / 128 = (y 1).val / 128 by omega,
    show (t.val / 16 * 256 + (y 1).val) % 128 = (y 1).val % 128 by omega, show t.val % 16 * 512 + (y 0).val = 512 * (t.val % 16) + (y 0).val by omega]
  exact h1
/-- Result 2 after the run. -/
theorem arr9 (h : ℕ → ℕ → ℕ → ℕ → ℝ) (hL : ∀ t : Fin cfg0.N, (cfg0.win 9).flush t = true → isH (n := 512) (dat.after 9 t) (fun g a l => h (t.val / 16) g (512 * (t.val % 16) + a) l)) :
    dat.arrAt 9 cfg0.N = fun i : S8192x1024.Idx => (((h ((i 1).val / 256) ((i 1).val % 256 / 128) (i 0).val ((i 1).val % 128) : ℝ)) : EReal) := by
  refine dat.arrAt_eq_of_covers 9 _ (by decide +kernel) fun t hf y => ?_
  have h1 := isH_at (hL t hf) y
  obtain ⟨-, -, -, -, i0, i1, -⟩ := at_out t
  blk_simp [i0, i1]
  have hy : (y 1).val < 256 := (y 1).isLt
  rw [show (t.val / 16 * 256 + (y 1).val) / 256 = t.val / 16 by omega, show (t.val / 16 * 256 + (y 1).val) % 256 / 128 = (y 1).val / 128 by omega,
    show (t.val / 16 * 256 + (y 1).val) % 128 = (y 1).val % 128 by omega, show t.val % 16 * 512 + (y 0).val = 512 * (t.val % 16) + (y 0).val by omega]
  exact h1
/-- Result 3 after the run. -/
theorem arr10 (h : ℕ → ℕ → ℕ → ℝ) (hL : ∀ t : Fin cfg0.N, (cfg0.win 10).flush t = true → is4 (p := 2) (n := 16) (m := 512) (dat.after 10 t) (h (t.val / 16))) :
    dat.arrAt 10 cfg0.N = fun i : S8x16x1x512.Idx => (((h ((i 0).val / 2) ((i 0).val % 2) (512 * (i 1).val + (i 3).val) : ℝ)) : EReal) := by
  refine dat.arrAt_eq_of_covers 10 _ (by decide +kernel) fun t hf y => ?_
  have h1 := is4_at (hL t hf) y
  obtain ⟨-, -, -, -, -, -, i0, i1, i3, -⟩ := at_out t
  blk_simp [i0, i1, i3]
  have hy : (y 0).val < 2 := (y 0).isLt
  rw [show (t.val / 16 * 2 + (y 0).val) / 2 = t.val / 16 by omega, show (t.val / 16 * 2 + (y 0).val) % 2 = (y 0).val by omega]
  exact h1
/-- Result 4 after the run. -/
theorem arr11 (h : ℕ → ℕ → ℕ → ℝ) (hL : ∀ t : Fin cfg0.N, (cfg0.win 11).flush t = true → is4 (p := 2) (n := 1) (m := 512) (dat.after 11 t) (fun g a => h (t.val / 16) g (512 * (t.val % 16) + a))) :
    dat.arrAt 11 cfg0.N = fun i : S8x16x1x512.Idx => (((h ((i 0).val / 2) ((i 0).val % 2) (512 * (i 1).val + (i 3).val) : ℝ)) : EReal) := by
  refine dat.arrAt_eq_of_covers 11 _ (by decide +kernel) fun t hf y => ?_
  have h1 := is4_at (hL t hf) y
  obtain ⟨-, -, -, -, -, -, -, -, -, i0, i1, i3⟩ := at_out t
  have hz : (y 1).val < 1 := (y 1).isLt
  blk_simp [i0, i1, i3]
  have hy : (y 0).val < 2 := (y 0).isLt
  rw [show (t.val / 16 * 2 + (y 0).val) / 2 = t.val / 16 by omega, show (t.val / 16 * 2 + (y 0).val) % 2 = (y 0).val by omega]
  refine h1.trans ?_
  congr 3
  omega
end arrays

/-- Every run ends with the five results at the real numbers the grid points leave in them, the arguments unchanged and every semaphore at zero. -/
theorem results (hO : ∀ c, Ops m c (R c)) :
    θ_run defs (onTc (τ := τ) (main (F := Ideal))) ⟨m, fun _ => 0, ρ⟩ (fun r => ∀ c : Dev nD,
      (r.2.mem ((c : Thread nD τ).loc main_v67_0) = (fun i : S8192x1024.Idx => ((outQ (R c) ((i 1).val / 256) ((i 1).val % 256 / 128) (i 0).val ((i 1).val % 128) : ℝ) : EReal))
        ∧ r.2.mem ((c : Thread nD τ).loc main_v67_1) = (fun i : S8192x1024.Idx => ((outK (R c) ((i 1).val / 256) ((i 1).val % 256 / 128) (i 0).val ((i 1).val % 128) : ℝ) : EReal))
        ∧ r.2.mem ((c : Thread nD τ).loc main_v67_2) = (fun i : S8192x1024.Idx => ((outV (R c) ((i 1).val / 256) ((i 1).val % 256 / 128) (i 0).val ((i 1).val % 128) : ℝ) : EReal))
        ∧ r.2.mem ((c : Thread nD τ).loc main_v67_3) = (fun i : S8x16x1x512.Idx => ((outR (R c) ((i 0).val / 2) ((i 0).val % 2) (512 * (i 1).val + (i 3).val) : ℝ) : EReal))
        ∧ r.2.mem ((c : Thread nD τ).loc main_v67_4) = (fun i : S8x16x1x512.Idx => ((outF (R c) ((i 0).val / 2) ((i 0).val % 2) (512 * (i 1).val + (i 3).val) : ℝ) : EReal)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) := by
  refine (θ_run defs _ _).mono (fun r h c => ?_) (run_val m ρ R hO)
  obtain ⟨after, hL, hA⟩ := Pipeline.RDat.FramePost.exists_exact h.1 c
  refine ⟨⟨?_, ?_, ?_, ?_, ?_⟩, ?_⟩
  · exact (hA 7).trans (arr7 _ (outQ (R c)) fun t hf => (datV m (R c) c).toRRel_leaves (w := 7) rfl (hL 7 t hf) (last_7 t hf))
  · exact (hA 8).trans (arr8 _ (outK (R c)) fun t hf => (datV m (R c) c).toRRel_leaves (w := 8) rfl (hL 8 t hf))
  · exact (hA 9).trans (arr9 _ (outV (R c)) fun t hf => (datV m (R c) c).toRRel_leaves (w := 9) rfl (hL 9 t hf))
  · exact (hA 10).trans (arr10 _ (outR (R c)) fun t hf => (datV m (R c) c).toRRel_leaves (w := 10) rfl (hL 10 t hf) (last_10 t hf))
  · exact (hA 11).trans (arr11 _ (outF (R c)) fun t hf => (datV m (R c) c).toRRel_leaves (w := 11) rfl (hL 11 t hf))
  · exact ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩

end Cert.KernelIdeal.Tile
-- ==== Proof.V.Math.lean ====
/-
The step's attention with a forget gate over the real numbers: the scores, the weights, and the gradients.
-/
module
public import Mathlib.Analysis.SpecialFunctions.Log.Basic
public import Mathlib.Analysis.SpecialFunctions.Pow.Real
@[expose] public section
noncomputable section
namespace Cert.Fox

/-- The arguments: queries, keys, values and the cotangent by token, head and lane; the gate by token and head. -/
structure In where
  q : ℕ → ℕ → ℕ → ℝ
  k : ℕ → ℕ → ℕ → ℝ
  v : ℕ → ℕ → ℕ → ℝ
  d : ℕ → ℕ → ℕ → ℝ
  f : ℕ → ℕ → ℝ

namespace In
variable (A : In)
/-- The score of the key at `j` for the query at `i`. -/
def st (h i j : ℕ) : ℝ := (∑ l ∈ Finset.range 64, A.q i h l * A.k j h l) * 0.125 + (A.f i h - A.f j h)
/-- Its exponential, zero for a key after the query. -/
def E (h i j : ℕ) : ℝ := if j ≤ i then Real.exp (A.st h i j) else 0
/-- A row's sum. -/
def L (h i : ℕ) : ℝ := ∑ j ∈ Finset.range 8192, A.E h i j
/-- The weight. -/
def p (h i j : ℕ) : ℝ := A.E h i j / A.L h i
/-- The output. -/
def O (h i l : ℕ) : ℝ := ∑ j ∈ Finset.range 8192, A.v j h l * A.p h i j
/-- The gradient at a weight. -/
def dp (h i j : ℕ) : ℝ := ∑ l ∈ Finset.range 64, A.d i h l * A.v j h l
/-- A row's sum of that gradient times the weight. -/
def dl (h i : ℕ) : ℝ := ∑ j ∈ Finset.range 8192, A.dp h i j * A.p h i j
/-- The gradient at a score. -/
def ds (h i j : ℕ) : ℝ := A.p h i j * (A.dp h i j - A.dl h i)

theorem L_pos {h i : ℕ} (hi : i < 8192) : 0 < A.L h i := by
  refine Finset.sum_pos' (fun j _ => ?_) ⟨i, Finset.mem_range.2 hi, ?_⟩
  · unfold E; split_ifs
    · exact (Real.exp_pos _).le
    · exact le_rfl
  · unfold E; rw [if_pos le_rfl]; exact Real.exp_pos _

/-- The row's sum of the gradient times the weight is the product of the output and the cotangent. -/
theorem dl_eq (h i : ℕ) : ∑ l ∈ Finset.range 64, A.O h i l * A.d i h l = A.dl h i := by
  unfold dl O dp
  simp only [Finset.sum_mul]
  rw [Finset.sum_comm]
  refine Finset.sum_congr rfl fun j _ => Finset.sum_congr rfl fun l _ => by ring

theorem ds_zero {h i j : ℕ} (hj : ¬ j ≤ i) : A.ds h i j = 0 := by simp [ds, p, E, hj]
theorem p_zero {h i j : ℕ} (hj : ¬ j ≤ i) : A.p h i j = 0 := by simp [p, E, hj]
end In
end Cert.Fox
-- ==== Proof.V.Ref.lean ====
/-
The reference's values, read at an index as real numbers.
-/
module
public import proofs.«01_k».proof.Proof.Gen.ReferenceIdeal.Read
public import proofs.«01_k».proof.Proof.V.Math
public import Idealize.ShloMosaic.Lib.Pointwise
@[expose] public section
set_option maxHeartbeats 1000000
noncomputable section
namespace Cert.Fox
open Cert.ReferenceIdeal Cert.ReferenceIdeal.Gen Cert.ReferenceIdeal.Read Idealize.ShloMosaic Idealize.ShloMosaic.TcCoe

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]
theorem coe_sum_fin (n : ℕ) (f : ℕ → ℝ) : (∑ i : Fin n, ((f i.val : ℝ) : EReal)) = ((∑ i ∈ Finset.range n, f i : ℝ) : EReal) := by
  rw [coe_sum, Finset.sum_range]

theorem c_eighth : (FloatOps.ofBits .f32 0x3E000000#32 : Ideal .f32) = ((0.125 : ℝ) : EReal) := by
  simp [Ideal.ofBits, Ideal.ieee, -EReal.coe_mul]; norm_num
theorem c_zero : (FloatOps.ofBits .f32 0x00000000#32 : Ideal .f32) = ((0 : ℝ) : EReal) := by
  simp [Ideal.ofBits, Ideal.ieee, -EReal.coe_mul]
theorem c_one : (FloatOps.ofBits .f32 0x3F800000#32 : Ideal .f32) = ((1 : ℝ) : EReal) := by
  simp [Ideal.ofBits, Ideal.ieee, -EReal.coe_mul]; norm_num
theorem c_bot : (FloatOps.ofBits .f32 0xFF800000#32 : Ideal .f32) = (⊥ : EReal) := by
  simp [Ideal.ofBits, Ideal.ieee, -EReal.coe_mul]

theorem cmp_le {a b : ℕ} (ha : a < 8192) (hb : b < 8192) :
    IntOp.cmpi .sle (BitVec.ofNat 32 a) (BitVec.ofNat 32 b) = if a ≤ b then 1#1 else 0#1 := by
  have h1 : (BitVec.ofNat 32 a).toInt = a := by rw [BitVec.toInt_eq_toNat_of_lt (by simp; omega)]; simp; omega
  have h2 : (BitVec.ofNat 32 b).toInt = b := by rw [BitVec.toInt_eq_toNat_of_lt (by simp; omega)]; simp; omega
  simp only [IntOp.cmpi, BitVec.sle, h1, h2]
  by_cases h : a ≤ b
  · simp [h]
  · simp [h]

/-- The arguments hold real numbers. -/
structure Holds (A : In) (x0 x1 x2 x4 : S8192x8x64.Idx → EReal) (x3 : S8192x8.Idx → EReal) : Prop where
  q : ∀ i, x0 i = ((A.q (i 0).val (i 1).val (i 2).val : ℝ) : EReal)
  k : ∀ i, x1 i = ((A.k (i 0).val (i 1).val (i 2).val : ℝ) : EReal)
  v : ∀ i, x2 i = ((A.v (i 0).val (i 1).val (i 2).val : ℝ) : EReal)
  d : ∀ i, x4 i = ((A.d (i 0).val (i 1).val (i 2).val : ℝ) : EReal)
  f : ∀ i, x3 i = ((A.f (i 0).val (i 1).val : ℝ) : EReal)

variable {A : In} {x0 x1 x2 x4 : S8192x8x64.Idx → EReal} {x3 : S8192x8.Idx → EReal} (H : Holds A x0 x1 x2 x4 x3)
include H

theorem r10 (i) : val_main_v10 (F := Ideal) x0 x1 x3 i = ((A.st (i 0).val (i 1).val (i 2).val : ℝ) : EReal) := by
  rw [val_main_v10_apply, val_main_v2_apply, val_main_v1_apply, val_main_cst_apply, val_main_v0_apply, val_main_v9_apply,
    val_main_v7_apply, val_main_v4_apply, val_main_v3_apply, val_main_v8_apply, val_main_v6_apply, val_main_v5_apply]
  simp only [H.q, H.k, H.f, ← EReal.coe_mul, c_eighth]
  rw [show (∑ x : Fin 64, ((A.q (lidx_main_v0 i x 0).val (lidx_main_v0 i x 1).val (lidx_main_v0 i x 2).val * A.k (ridx_main_v0 i x 0).val (ridx_main_v0 i x 1).val (ridx_main_v0 i x 2).val : ℝ) : EReal))
    = ((∑ l ∈ Finset.range 64, A.q (i 1).val (i 0).val l * A.k (i 2).val (i 0).val l : ℝ) : EReal) from coe_sum_fin 64 fun l => A.q (i 1).val (i 0).val l * A.k (i 2).val (i 0).val l]
  show (_ : EReal) * _ + (_ - _) = _
  rw [← EReal.coe_mul, ← EReal.coe_sub, ← EReal.coe_add]
  rfl

omit H in
theorem r17 (i) : val_main_v18_1 (F := Ideal) i = if (i 2).val ≤ (i 1).val then 1#1 else 0#1 := by
  rw [val_main_v18_1_apply, val_main_v17_apply, val_main_v16_apply, val_main_v14_apply, val_main_v15_apply, val_main_v12_apply, val_main_v13_apply,
    val_main_v11_apply, val_main_v11_apply]
  exact cmp_le (i 2).isLt (i 1).isLt

theorem r18 (i) : val_main_v18_0 (F := Ideal) x0 x1 x3 i
    = if (i 2).val ≤ (i 1).val then ((A.st (i 0).val (i 1).val (i 2).val : ℝ) : EReal) else ⊥ := by
  rw [val_main_v18_0_apply, r17, r10 H, val_main_call0_v2_apply, val_main_call0_v0_apply, val_main_cst_0_apply, c_bot]
  by_cases h : (i 2).val ≤ (i 1).val
  · rw [if_pos h, if_pos h]; rfl
  · rw [if_neg h, if_neg h]; rfl
omit H in
theorem fold_real {n : ℕ} (g : Fin n → EReal) (h1 : ∀ k, g k ≠ ⊤) (h2 : ∃ k, g k ≠ ⊥) :
    (((Finset.univ : Finset (Fin n)).fold max ⊥ g).toReal : EReal) = (Finset.univ : Finset (Fin n)).fold max ⊥ g := by
  refine EReal.coe_toReal (ne_of_lt ?_) (ne_of_gt ?_)
  · rw [Finset.fold_max_lt]
    exact ⟨bot_lt_top, fun k _ => lt_top_iff_ne_top.2 (h1 k)⟩
  · obtain ⟨k, hk⟩ := h2
    exact lt_of_lt_of_le (bot_lt_iff_ne_bot.2 hk) ((Finset.le_fold_max _).2 (Or.inr ⟨k, Finset.mem_univ _, le_rfl⟩))

/-- The greatest score of a row. -/
def top (x0 x1 : S8192x8x64.Idx → EReal) (x3 : S8192x8.Idx → EReal) (h i : ℕ) : ℝ :=
  if hh : h < 8 ∧ i < 8192 then (val_main_v19 (F := Ideal) x0 x1 x3 (ix2 (⟨h, hh.1⟩ : Fin 8) (⟨i, hh.2⟩ : Fin 8192))).toReal else 0

theorem r19 (i) : val_main_v19 (F := Ideal) x0 x1 x3 i = ((top x0 x1 x3 (i 0).val (i 1).val : ℝ) : EReal) := by
  have h0 : (i 0).val < 8 := (i 0).isLt
  have h1 : (i 1).val < 8192 := (i 1).isLt
  have e : (ix2 (⟨(i 0).val, h0⟩ : Fin 8) (⟨(i 1).val, h1⟩ : Fin 8192)) = i := (eq_ix2 i).symm
  unfold top
  rw [dif_pos ⟨h0, h1⟩, e]
  unfold val_main_v19
  have hr : S8x8192x8192.Reduces [2] S8x8192 := by decide
  rw [Host.reduce_eq_fold_single _ _ _ _ hr, val_main_cst_1_apply, c_bot]
  refine (fold_real _ (fun k => ?_) ⟨⟨(i 1).val, h1⟩, ?_⟩).symm
  · show val_main_v18_0 (F := Ideal) x0 x1 x3 _ ≠ ⊤
    rw [r18 H]; split_ifs
    · exact EReal.coe_ne_top _
    · exact bot_ne_top
  · show val_main_v18_0 (F := Ideal) x0 x1 x3 _ ≠ ⊥
    rw [r18 H]; split_ifs with hc
    · exact EReal.coe_ne_bot _
    · exact absurd (show _ ≤ _ from le_of_eq rfl) hc

theorem r26 (i) : val_main_v26 (F := Ideal) x0 x1 x3 i = ((top x0 x1 x3 (i 0).val (i 1).val : ℝ) : EReal) := by
  rw [val_main_v26_apply, val_main_v25_apply, val_main_cst_3_apply, c_bot, r19 H]
  exact max_eq_right bot_le

theorem r39 (i) : val_main_v39 (F := Ideal) x0 x1 x3 i
    = ((A.E (i 0).val (i 1).val (i 2).val * Real.exp (- top x0 x1 x3 (i 0).val (i 1).val) : ℝ) : EReal) := by
  rw [val_main_v39_apply, val_main_v38_apply, r18 H, val_main_v37_apply, val_main_v36_apply, r26 H]
  unfold In.E
  split_ifs with h
  · show Ideal.exp (((A.st (i 0).val (i 1).val (i 2).val : ℝ) : EReal) - ((top x0 x1 x3 (i 0).val (i 1).val : ℝ) : EReal)) = _
    rw [← EReal.coe_sub, Ideal.exp_coe, sub_eq_add_neg, Real.exp_add]
  · show Ideal.exp ((⊥ : EReal) - ((top x0 x1 x3 (i 0).val (i 1).val : ℝ) : EReal)) = _
    rw [EReal.bot_sub, Ideal.exp_bot, zero_mul, EReal.coe_zero]

theorem r40 (i) : val_main_v40 (F := Ideal) x0 x1 x3 i
    = ((A.L (i 0).val (i 1).val * Real.exp (- top x0 x1 x3 (i 0).val (i 1).val) : ℝ) : EReal) := by
  rw [val_main_v40_apply, val_main_cst_9_apply, c_zero]
  simp only [r39 H]
  rw [EReal.coe_zero, zero_add]
  refine (coe_sum_fin 8192 fun j => A.E (i 0).val (i 1).val j * Real.exp (- top x0 x1 x3 (i 0).val (i 1).val)).trans ?_
  rw [← Finset.sum_mul]; rfl

omit H in
theorem div_real {a b : ℝ} (h : b ≠ 0) : Ideal.div ((a : ℝ) : EReal) ((b : ℝ) : EReal) = ((a / b : ℝ) : EReal) := by
  rw [Ideal.div_coe h, ← EReal.coe_mul, mul_one_div]

theorem r43 (i) : val_main_v43 (F := Ideal) x0 x1 x3 i = ((A.p (i 0).val (i 1).val (i 2).val : ℝ) : EReal) := by
  rw [val_main_v43_apply, r39 H, val_main_v42_apply, val_main_v41_apply, r40 H]
  have hL := (A.L_pos (h := (i 0).val) (i := (i 1).val) (i 1).isLt).ne'
  have hx := Real.exp_ne_zero (- top x0 x1 x3 (i 0).val (i 1).val)
  refine (div_real (mul_ne_zero hL hx)).trans ?_
  rw [mul_div_mul_right _ _ hx]; rfl

theorem r48 (i) : val_main_v48 (F := Ideal) x0 x1 x2 x3 i = ((A.O (i 1).val (i 0).val (i 2).val : ℝ) : EReal) := by
  rw [val_main_v48_apply, val_main_v47_apply]
  simp only [H.v, r43 H, ← EReal.coe_mul]
  exact coe_sum_fin 8192 fun j => A.v j (i 1).val (i 2).val * A.p (i 1).val (i 0).val j

theorem r50 (i) : val_main_v50 (F := Ideal) x2 x4 i = ((A.dp (i 0).val (i 1).val (i 2).val : ℝ) : EReal) := by
  rw [val_main_v50_apply]
  simp only [val_main_v49_apply, H.v, H.d, ← EReal.coe_mul]
  exact coe_sum_fin 64 fun l => A.d (i 1).val (i 0).val l * A.v (i 2).val (i 0).val l

theorem r52 (i) : val_main_v52 (F := Ideal) x0 x1 x3 x4 i
    = ((∑ r ∈ Finset.range 8192, A.d r (i 1).val (i 2).val * A.p (i 1).val r (i 0).val : ℝ) : EReal) := by
  rw [val_main_v52_apply, val_main_v51_apply]
  simp only [val_main_v49_apply, r43 H, H.d, ← EReal.coe_mul]
  exact coe_sum_fin 8192 fun r => A.d r (i 1).val (i 2).val * A.p (i 1).val r (i 0).val

theorem r55 (i) : val_main_v55 (F := Ideal) x0 x1 x2 x3 x4 i
    = ((A.dp (i 0).val (i 1).val (i 2).val * A.p (i 0).val (i 1).val (i 2).val
        / (A.L (i 0).val (i 1).val * Real.exp (- top x0 x1 x3 (i 0).val (i 1).val)) : ℝ) : EReal) := by
  rw [val_main_v55_apply, val_main_v54_apply, r50 H, r39 H, val_main_v53_apply, val_main_v46_apply, val_main_v45_apply, val_main_cst_10_apply,
    val_main_v44_apply, val_main_v41_apply, r40 H, c_one]
  have hL := (A.L_pos (h := (i 0).val) (i := (i 1).val) (i 1).isLt).ne'
  have hx := Real.exp_ne_zero (- top x0 x1 x3 (i 0).val (i 1).val)
  have hy := mul_ne_zero hL hx
  show ((A.dp (i 0).val (i 1).val (i 2).val : ℝ) : EReal) * Ideal.div ((1 : ℝ) : EReal)
    (((A.L (i 0).val (i 1).val * Real.exp (- top x0 x1 x3 (i 0).val (i 1).val) : ℝ) : EReal) * ((A.L (i 0).val (i 1).val * Real.exp (- top x0 x1 x3 (i 0).val (i 1).val) : ℝ) : EReal))
    * _ = _
  rw [← EReal.coe_mul, div_real (mul_ne_zero hy hy), ← EReal.coe_mul, ← EReal.coe_mul]
  refine congrArg Real.toEReal ?_
  unfold In.p
  generalize Real.exp (- top x0 x1 x3 (i 0).val (i 1).val) = x at *
  generalize A.L (i 0).val (i 1).val = y at *
  field_simp

theorem r56 (i) : val_main_v56 (F := Ideal) x0 x1 x2 x3 x4 i
    = ((A.dl (i 0).val (i 1).val / (A.L (i 0).val (i 1).val * Real.exp (- top x0 x1 x3 (i 0).val (i 1).val)) : ℝ) : EReal) := by
  rw [val_main_v56_apply, val_main_cst_11_apply, c_zero, EReal.coe_zero, zero_add]
  simp only [r55 H]
  refine (coe_sum_fin 8192 fun j => A.dp (i 0).val (i 1).val j * A.p (i 0).val (i 1).val j
        / (A.L (i 0).val (i 1).val * Real.exp (- top x0 x1 x3 (i 0).val (i 1).val))).trans ?_
  rw [← Finset.sum_div]; rfl

omit H in
theorem e61 (i : S8x8192.Idx) : idx_main_v57 (idx_main_v61 i 0) = i := by
  have h0 : (i 0).val < 8 := (i 0).isLt
  have h1 : (i 1).val < 8192 := (i 1).isLt
  funext a
  match a with
  | ⟨0, _⟩ => exact Fin.ext (show (((i 0).val * 8192 + (i 1).val) * 1 + 0) / 8192 = (i 0).val by omega)
  | ⟨1, _⟩ => exact Fin.ext (show (((i 0).val * 8192 + (i 1).val) * 1 + 0) % 8192 = (i 1).val by omega)

theorem r61 (i) : val_main_v61 (F := Ideal) x0 x1 x2 x3 x4 i
    = ((- (A.dl (i 0).val (i 1).val / (A.L (i 0).val (i 1).val * Real.exp (- top x0 x1 x3 (i 0).val (i 1).val))) : ℝ) : EReal) := by
  rw [val_main_v61_apply, val_main_cst_12_apply, c_zero, EReal.coe_zero, zero_add, Fin.sum_univ_one, val_main_v58_apply, val_main_v57_apply,
    e61, r56 H, EReal.coe_neg]
  rfl

theorem r65 (i) : val_main_v65 (F := Ideal) x0 x1 x2 x3 x4 i = ((A.ds (i 0).val (i 1).val (i 2).val : ℝ) : EReal) := by
  rw [val_main_v65_apply, r17, val_main_call1_v0_apply, val_main_call1_cst_apply, c_zero]
  by_cases h : (i 2).val ≤ (i 1).val
  · rw [if_pos h]
    show val_main_v64 (F := Ideal) x0 x1 x2 x3 x4 i = _
    rw [val_main_v64_apply, val_main_v63_apply, val_main_v60_apply, val_main_v62_apply, val_main_v59_apply, val_main_v41_apply, r61 H, r40 H, r50 H, r39 H]
    have hL := (A.L_pos (h := (i 0).val) (i := (i 1).val) (i 1).isLt).ne'
    have hx := Real.exp_ne_zero (- top x0 x1 x3 (i 0).val (i 1).val)
    have hy := mul_ne_zero hL hx
    show (Ideal.div ((A.dp (i 0).val (i 1).val (i 2).val : ℝ) : EReal) ((A.L (i 0).val (i 1).val * Real.exp (- top x0 x1 x3 (i 0).val (i 1).val) : ℝ) : EReal)
      + ((- (A.dl (i 0).val (i 1).val / (A.L (i 0).val (i 1).val * Real.exp (- top x0 x1 x3 (i 0).val (i 1).val))) : ℝ) : EReal)) * _ = _
    rw [div_real hy, ← EReal.coe_add, ← EReal.coe_mul]
    refine congrArg Real.toEReal ?_
    unfold In.ds In.p
    generalize Real.exp (- top x0 x1 x3 (i 0).val (i 1).val) = x at *
    generalize A.L (i 0).val (i 1).val = y at *
    field_simp
    ring
  · rw [if_neg h, A.ds_zero h]; rfl
/-! ## The results -/

/-- The gradient of the queries. -/
def In.gq (A : In) (h i l : ℕ) : ℝ := ∑ j ∈ Finset.range 8192, A.ds h i j * 0.125 * A.k j h l
/-- The gradient of the keys. -/
def In.gk (A : In) (h j l : ℕ) : ℝ := ∑ i ∈ Finset.range 8192, A.ds h i j * 0.125 * A.q i h l
/-- The gradient of the values. -/
def In.gv (A : In) (h j l : ℕ) : ℝ := ∑ i ∈ Finset.range 8192, A.d i h l * A.p h i j
/-- The gradient of the gates of the queries. -/
def In.gr (A : In) (h i : ℕ) : ℝ := ∑ j ∈ Finset.range 8192, A.ds h i j
/-- The gradient of the gates of the keys. -/
def In.gf (A : In) (h j : ℕ) : ℝ := ∑ i ∈ Finset.range 8192, - A.ds h i j

theorem r80 (i) : val_main_v80 (F := Ideal) x0 x1 x2 x3 x4 i = ((A.gq (i 1).val (i 0).val (i 2).val : ℝ) : EReal) := by
  rw [val_main_v80_apply, val_main_v79_apply]
  simp only [val_main_v76_apply, val_main_v75_apply, val_main_cst_17_apply, c_eighth, r65 H, H.k, Ideal.mulf_def, ← EReal.coe_mul]
  exact coe_sum_fin 8192 fun j => A.ds (i 1).val (i 0).val j * 0.125 * A.k j (i 1).val (i 2).val

theorem r78 (i) : val_main_v78 (F := Ideal) x0 x1 x2 x3 x4 i = ((A.gk (i 1).val (i 0).val (i 2).val : ℝ) : EReal) := by
  rw [val_main_v78_apply, val_main_v77_apply]
  simp only [val_main_v76_apply, val_main_v75_apply, val_main_cst_17_apply, c_eighth, r65 H, H.q, Ideal.mulf_def, ← EReal.coe_mul]
  exact coe_sum_fin 8192 fun j => A.ds (i 1).val j (i 0).val * 0.125 * A.q j (i 1).val (i 2).val

theorem r66 (i) : val_main_v66 (F := Ideal) x0 x1 x2 x3 x4 i = ((A.gr (i 0).val (i 1).val : ℝ) : EReal) := by
  rw [val_main_v66_apply, val_main_cst_13_apply, c_zero, EReal.coe_zero, zero_add]
  simp only [r65 H]
  exact coe_sum_fin 8192 fun j => A.ds (i 0).val (i 1).val j

omit H in
theorem e73 (i : S8x8192.Idx) : idx_main_v67 (idx_main_v73 i 0) = i := by
  have h0 : (i 0).val < 8 := (i 0).isLt
  have h1 : (i 1).val < 8192 := (i 1).isLt
  funext a
  match a with
  | ⟨0, _⟩ => exact Fin.ext (show (((i 0).val * 8192 + (i 1).val) * 1 + 0) / 8192 = (i 0).val by omega)
  | ⟨1, _⟩ => exact Fin.ext (show (((i 0).val * 8192 + (i 1).val) * 1 + 0) % 8192 = (i 1).val by omega)

theorem r74 (i) : val_main_v74 (F := Ideal) x0 x1 x2 x3 x4 i = ((A.gr (i 1).val (i 0).val : ℝ) : EReal) := by
  rw [val_main_v74_apply, val_main_v73_apply, val_main_cst_16_apply, c_zero, EReal.coe_zero, zero_add, Fin.sum_univ_one, val_main_v67_apply,
    e73, r66 H]

theorem r69 (i) : val_main_v69 (F := Ideal) x0 x1 x2 x3 x4 i = ((A.gf (i 0).val (i 1).val : ℝ) : EReal) := by
  rw [val_main_v69_apply, val_main_cst_14_apply, c_zero, EReal.coe_zero, zero_add]
  simp only [val_main_v68_apply, r65 H, Ideal.hostNegf_def, Ideal.negf_def, ← EReal.coe_neg]
  exact coe_sum_fin 8192 fun j => - A.ds (i 0).val j (i 1).val

omit H in
theorem e71 (i : S8x8192.Idx) : idx_main_v70 (idx_main_v71 i 0) = i := by
  have h0 : (i 0).val < 8 := (i 0).isLt
  have h1 : (i 1).val < 8192 := (i 1).isLt
  funext a
  match a with
  | ⟨0, _⟩ => exact Fin.ext (show (((i 0).val * 1 + 0) * 8192 + (i 1).val) / 8192 = (i 0).val by omega)
  | ⟨1, _⟩ => exact Fin.ext (show (((i 0).val * 1 + 0) * 8192 + (i 1).val) % 8192 = (i 1).val by omega)

theorem r72 (i) : val_main_v72 (F := Ideal) x0 x1 x2 x3 x4 i = ((A.gf (i 1).val (i 0).val : ℝ) : EReal) := by
  rw [val_main_v72_apply, val_main_v71_apply, val_main_cst_15_apply, c_zero, EReal.coe_zero, zero_add, Fin.sum_univ_one, val_main_v70_apply,
    e71, r69 H]
end Cert.Fox
-- ==== Proof.V.Lay.lean ====
/-
Heads of 64 lanes padded to 128 and laid side by side, and rows cut into tiles, read at an index.
-/
module
public import proofs.«01_k».proof.Proof.V.Ref
@[expose] public section
set_option maxHeartbeats 1000000
noncomputable section
namespace Cert.Fox
open Cert.ReferenceIdeal Cert.ReferenceIdeal.Gen Cert.ReferenceIdeal.Read Idealize.ShloMosaic Idealize.ShloMosaic.TcCoe

/-- A head of 64 lanes with zeros up to 128. -/
def wide (g : ℕ → ℕ → ℕ → ℝ) (t h l : ℕ) : ℝ := if l < 64 then g t h l else 0

theorem pad_wide {g : ℕ → ℕ → ℕ → ℝ} {x : S8192x8x64.Idx → EReal} (hx : ∀ i, x i = ((g (i 0).val (i 1).val (i 2).val : ℝ) : EReal))
    {v : S_.Idx → EReal} (hv : ∀ i, v i = 0) (P : S8192x8x64.Pads ![0, 0, 0] ![0, 0, 64] ![0, 0, 0] S8192x8x128) (hu : 0 < S_.numel) (j) :
    pad S8192x8x128 ![0, 0, 0] ![0, 0, 64] ![0, 0, 0] x v P hu j = ((wide g (j 0).val (j 1).val (j 2).val : ℝ) : EReal) := by
  rw [pad_apply]
  have h0 : (j 0).val < 8192 := (j 0).isLt
  have h1 : (j 1).val < 8 := (j 1).isLt
  by_cases hl : (j 2).val < 64
  · have hc : ∀ a : Fin S8192x8x64.rank, (![0, 0, 0] : Fin 3 → ℕ) a ≤ (j (a.cast P.1)).val ∧ ((j (a.cast P.1)).val - (![0, 0, 0] : Fin 3 → ℕ) a) % ((![0, 0, 0] : Fin 3 → ℕ) a + 1) = 0
        ∧ ((j (a.cast P.1)).val - (![0, 0, 0] : Fin 3 → ℕ) a) / ((![0, 0, 0] : Fin 3 → ℕ) a + 1) < S8192x8x64.size a := by
      intro a
      match a with
      | ⟨0, _⟩ => exact ⟨Nat.zero_le _, Nat.mod_one _, by show ((j 0).val - 0) / 1 < 8192; omega⟩
      | ⟨1, _⟩ => exact ⟨Nat.zero_le _, Nat.mod_one _, by show ((j 1).val - 0) / 1 < 8; omega⟩
      | ⟨2, _⟩ => exact ⟨Nat.zero_le _, Nat.mod_one _, by show ((j 2).val - 0) / 1 < 64; omega⟩
    rw [dif_pos hc, hx, wide, if_pos hl]
    have k0 : (j 0).val / 1 = (j 0).val := Nat.div_one _
    have k1 : (j 1).val / 1 = (j 1).val := Nat.div_one _
    have k2 : (j 2).val / 1 = (j 2).val := Nat.div_one _
    show ((g ((j 0).val / 1) ((j 1).val / 1) ((j 2).val / 1) : ℝ) : EReal) = _
    rw [k0, k1, k2]
  · rw [dif_neg (fun hc => hl (by have := (hc ⟨2, by decide⟩).2.2; change ((j 2).val - 0) / 1 < 64 at this; omega)), hv, wide, if_neg hl, EReal.coe_zero]

/-- Eight heads of 128 lanes side by side. -/
theorem cast_flat {g : ℕ → ℕ → ℕ → ℝ} {x : S8192x8x128.Idx → EReal} (hx : ∀ i, x i = ((g (i 0).val (i 1).val (i 2).val : ℝ) : EReal))
    (C : S8192x8x128.ShapeCasts S8192x1024) (i) :
    shapeCast S8192x1024 x C i = ((g (i 0).val ((i 1).val / 128) ((i 1).val % 128) : ℝ) : EReal) := by
  have h0 : (i 0).val < 8192 := (i 0).isLt
  have h1 : (i 1).val < 1024 := (i 1).isLt
  rw [shapeCast_apply x C i (ix3 (⟨(i 0).val, h0⟩ : Fin 8192) (⟨(i 1).val / 128, by omega⟩ : Fin 8) (⟨(i 1).val % 128, by omega⟩ : Fin 128)) (by
    rewrite [Shape.rowMajor_val_three, Shape.rowMajor_val_two]
    show ((i 0).val * 8 + (i 1).val / 128) * 128 + (i 1).val % 128 = (i 0).val * 1024 + (i 1).val
    omega), hx]
  rfl

/-- A row of 8192 cut into 16 tiles. -/
theorem cast_rows {g : ℕ → ℕ → ℝ} {x : S8x8192.Idx → EReal} (hx : ∀ i, x i = ((g (i 0).val (i 1).val : ℝ) : EReal))
    (C : S8x8192.ShapeCasts S8x16x1x512) (i) :
    shapeCast S8x16x1x512 x C i = ((g (i 0).val (512 * (i 1).val + (i 3).val) : ℝ) : EReal) := by
  have h0 : (i 0).val < 8 := (i 0).isLt
  have h1 : (i 1).val < 16 := (i 1).isLt
  have h2 : (i 2).val < 1 := (i 2).isLt
  have h3 : (i 3).val < 512 := (i 3).isLt
  rw [shapeCast_apply x C i (ix2 (⟨(i 0).val, h0⟩ : Fin 8) (⟨512 * (i 1).val + (i 3).val, by omega⟩ : Fin 8192)) (by
    rewrite [Shape.rowMajor_val_two, Shape.rowMajor_val_four]
    show (i 0).val * 8192 + (512 * (i 1).val + (i 3).val) = (((i 0).val * 16 + (i 1).val) * 1 + (i 2).val) * 512 + (i 3).val
    omega), hx]
  rfl

theorem flat_wide {g : ℕ → ℕ → ℕ → ℝ} {x : S8192x8x64.Idx → EReal} (hx : ∀ i, x i = ((g (i 0).val (i 1).val (i 2).val : ℝ) : EReal))
    {v : S_.Idx → EReal} (hv : ∀ i, v i = 0) (P : S8192x8x64.Pads ![0, 0, 0] ![0, 0, 64] ![0, 0, 0] S8192x8x128) (hu : 0 < S_.numel)
    (C : S8192x8x128.ShapeCasts S8192x1024) (i) :
    shapeCast S8192x1024 (pad S8192x8x128 ![0, 0, 0] ![0, 0, 64] ![0, 0, 0] x v P hu) C i
      = ((wide g (i 0).val ((i 1).val / 128) ((i 1).val % 128) : ℝ) : EReal) := cast_flat (pad_wide hx hv P hu) C i

theorem zero_word (i : S_.Idx) : (sitofp (F := Ideal) .f32 (constantI S_ 32 0#32)) i = (0 : EReal) := by
  show (((BitVec.toInt (0#32 : BitVec 32) : ℤ) : ℝ) : EReal) = (0 : EReal)
  simp

variable {A : In} {x0 x1 x2 x4 : S8192x8x64.Idx → EReal} {x3 : S8192x8.Idx → EReal} (H : Holds A x0 x1 x2 x4 x3)
include H

theorem r83 (i) : val_main_v83 (F := Ideal) x0 x1 x2 x3 x4 i
    = ((wide (fun t h l => A.gq h t l) (i 0).val ((i 1).val / 128) ((i 1).val % 128) : ℝ) : EReal) :=
  flat_wide (g := fun t h l => A.gq h t l) (r80 H) zero_word pads_S8192x8x64_S8192x8x128_000_000_0640 h_S_ shapeCasts_S8192x8x128_S8192x1024 i
theorem r86 (i) : val_main_v86 (F := Ideal) x0 x1 x2 x3 x4 i
    = ((wide (fun t h l => A.gk h t l) (i 0).val ((i 1).val / 128) ((i 1).val % 128) : ℝ) : EReal) :=
  flat_wide (g := fun t h l => A.gk h t l) (r78 H) zero_word pads_S8192x8x64_S8192x8x128_000_000_0640 h_S_ shapeCasts_S8192x8x128_S8192x1024 i
theorem r89 (i) : val_main_v89 (F := Ideal) x0 x1 x3 x4 i
    = ((wide (fun t h l => A.gv h t l) (i 0).val ((i 1).val / 128) ((i 1).val % 128) : ℝ) : EReal) :=
  flat_wide (g := fun t h l => A.gv h t l) (r52 H) zero_word pads_S8192x8x64_S8192x8x128_000_000_0640 h_S_ shapeCasts_S8192x8x128_S8192x1024 i
theorem r91 (i) : val_main_v91 (F := Ideal) x0 x1 x2 x3 x4 i = ((A.gr (i 0).val (512 * (i 1).val + (i 3).val) : ℝ) : EReal) :=
  cast_rows (g := A.gr) (fun j => by rw [val_main_v90_apply, r74 H]) shapeCasts_S8x8192_S8x16x1x512 i
theorem r93 (i) : val_main_v93 (F := Ideal) x0 x1 x2 x3 x4 i = ((A.gf (i 0).val (512 * (i 1).val + (i 3).val) : ℝ) : EReal) :=
  cast_rows (g := A.gf) (fun j => by rw [val_main_v92_apply, r72 H]) shapeCasts_S8x8192_S8x16x1x512 i
end Cert.Fox
-- ==== Proof.V.Alg.lean ====
/-
The call's operands as real numbers, pair of heads by pair of heads, and its results: they are the gradients.
-/
module
public import proofs.«01_k».proof.Proof.V.Track
public import proofs.«01_k».proof.Proof.V.Lay
@[expose] public section
set_option maxHeartbeats 1000000
noncomputable section
namespace Cert.KernelIdeal.Tile
open Cert.Fox

variable (A : In)

/-- What the operands hold for the pair of heads `h`. -/
def ofIn (h : ℕ) : Rd where
  q g t l := wide (fun t h l => A.q t h l * 0.125 / Real.log 2) t (2 * h + g) l
  k g t l := wide A.k t (2 * h + g) l
  v g t l := wide A.v t (2 * h + g) l + (if l = 64 then 1 else 0)
  d g t l := wide A.d t (2 * h + g) l
  f g t := A.f t (2 * h + g) / Real.log 2
  l g t := Real.log (A.L (2 * h + g) t) / Real.log 2
  e g t := A.dl (2 * h + g) t

theorem sum_wide (x y : ℕ → ℝ) : ∑ l ∈ Finset.range 128, (if l < 64 then x l else 0) * (if l < 64 then y l else 0) = ∑ l ∈ Finset.range 64, x l * y l := by
  rw [show (128 : ℕ) = 64 + 64 from rfl, Finset.sum_range_add, Finset.sum_eq_zero (s := Finset.range 64) (f := fun l => (if 64 + l < 64 then x (64 + l) else 0) * (if 64 + l < 64 then y (64 + l) else 0))
    (fun l _ => by rw [if_neg (by omega), zero_mul]), add_zero]
  exact Finset.sum_congr rfl fun l hl => by rw [if_pos (Finset.mem_range.1 hl), if_pos (Finset.mem_range.1 hl)]

theorem log2_ne : Real.log 2 ≠ 0 := (Real.log_pos (by norm_num)).ne'

/-- The call's weight is the softmax's. -/
theorem P_eq {h g j r : ℕ} (hr : r < 8192) : (ofIn A h).P g j r = A.p (2 * h + g) r j := by
  unfold Rd.P
  by_cases hj : j ≤ r
  · rw [if_pos hj]
    unfold sc In.p In.E
    rw [if_pos hj]
    have hs : ∑ l ∈ Finset.range 128, (ofIn A h).k g j l * (ofIn A h).q g r l
        = (∑ l ∈ Finset.range 64, A.q r (2 * h + g) l * A.k j (2 * h + g) l) * 0.125 / Real.log 2 := by
      refine (sum_wide (fun l => A.k j (2 * h + g) l) (fun l => A.q r (2 * h + g) l * 0.125 / Real.log 2)).trans ?_
      rw [Finset.sum_mul, Finset.sum_div]
      exact Finset.sum_congr rfl fun l _ => by ring
    rw [hs]
    have hL := A.L_pos (h := 2 * h + g) hr
    have he : (∑ l ∈ Finset.range 64, A.q r (2 * h + g) l * A.k j (2 * h + g) l) * 0.125 / Real.log 2 + ((ofIn A h).f g r - (ofIn A h).f g j) - (ofIn A h).l g r
        = (A.st (2 * h + g) r j - Real.log (A.L (2 * h + g) r)) / Real.log 2 := by
      show _ + (A.f r (2 * h + g) / Real.log 2 - A.f j (2 * h + g) / Real.log 2) - Real.log (A.L (2 * h + g) r) / Real.log 2 = _
      unfold In.st; ring
    rw [he, Real.rpow_eq_pow, Real.rpow_def_of_pos (by norm_num), mul_div_cancel₀ _ log2_ne, Real.exp_sub, Real.exp_log hL]
  · rw [if_neg hj, A.p_zero hj]

theorem vd_eq (h g j r : ℕ) : ∑ l ∈ Finset.range 128, (ofIn A h).v g j l * (ofIn A h).d g r l = A.dp (2 * h + g) r j := by
  have e : ∀ l ∈ Finset.range 128, (ofIn A h).v g j l * (ofIn A h).d g r l
      = (if l < 64 then A.v j (2 * h + g) l else 0) * (if l < 64 then A.d r (2 * h + g) l else 0) := fun l _ => by
    show ((if l < 64 then A.v j (2 * h + g) l else 0) + (if l = 64 then 1 else 0)) * (if l < 64 then A.d r (2 * h + g) l else 0) = _
    by_cases hl : l < 64
    · rw [if_neg (show ¬ l = 64 by omega), add_zero]
    · simp [hl]
  rw [Finset.sum_congr rfl e, sum_wide (fun l => A.v j (2 * h + g) l) (fun l => A.d r (2 * h + g) l)]
  exact Finset.sum_congr rfl fun l _ => mul_comm _ _

/-- The call's gradient at a score is the softmax's. -/
theorem D_eq {h g j r : ℕ} (hr : r < 8192) : (ofIn A h).D g j r = A.ds (2 * h + g) r j := by
  unfold Rd.D In.ds
  rw [P_eq A hr, vd_eq, show (ofIn A h).e g r = A.dl (2 * h + g) r by simp only [ofIn]]

theorem outQ_eq {h g r l : ℕ} (hr : r < 8192) : outQ (ofIn A) h g r l = wide (fun t h l => A.gq h t l) r (2 * h + g) l := by
  unfold outQ wide In.gq
  simp only [D_eq A hr]
  show (∑ j ∈ Finset.range 8192, A.ds (2 * h + g) r j * (if l < 64 then A.k j (2 * h + g) l else 0)) * 0.125 = _
  split_ifs
  · rw [Finset.sum_mul]; exact Finset.sum_congr rfl fun j _ => by ring
  · simp
theorem outK_eq {h g j l : ℕ} : outK (ofIn A) h g j l = wide (fun t h l => A.gk h t l) j (2 * h + g) l := by
  unfold outK wide In.gk
  rw [Finset.sum_congr rfl fun r hr => by rw [D_eq A (Finset.mem_range.1 hr)]]
  show (∑ r ∈ Finset.range 8192, A.ds (2 * h + g) r j * (if l < 64 then A.q r (2 * h + g) l * 0.125 / Real.log 2 else 0)) * Real.log 2 = _
  have := log2_ne
  split_ifs
  · rw [Finset.sum_mul]; exact Finset.sum_congr rfl fun j _ => by field_simp
  · simp
theorem outV_eq {h g j l : ℕ} : outV (ofIn A) h g j l = wide (fun t h l => A.gv h t l) j (2 * h + g) l := by
  unfold outV wide In.gv
  rw [Finset.sum_congr rfl fun r hr => by rw [P_eq A (Finset.mem_range.1 hr)]]
  show (∑ r ∈ Finset.range 8192, A.p (2 * h + g) r j * (if l < 64 then A.d r (2 * h + g) l else 0)) = _
  split_ifs
  · exact Finset.sum_congr rfl fun j _ => mul_comm _ _
  · simp
theorem outR_eq {h g r : ℕ} (hr : r < 8192) : outR (ofIn A) h g r = A.gr (2 * h + g) r := by
  unfold outR In.gr
  simp only [D_eq A hr]
theorem outF_eq {h g j : ℕ} : outF (ofIn A) h g j = A.gf (2 * h + g) j := by
  unfold outF In.gf
  rw [Finset.sum_congr rfl fun r hr => by rw [D_eq A (Finset.mem_range.1 hr)], Finset.sum_neg_distrib]
end Cert.KernelIdeal.Tile
-- ==== Proof.V.HostK.lean ====
/-
What the host operations leave in the operands of the call, as functions of the arguments.
-/
module
public import proofs.«01_k».proof.Proof.Gen.KernelIdeal.Frame
public import proofs.«01_k».proof.Proof.V.Lay
public import Idealize.ShloMosaic.Lib.StableHlo.RunRead
@[expose] public section
set_option maxRecDepth 16384
set_option maxHeartbeats 1000000
noncomputable section
namespace Cert.KernelIdeal.HostK
open Cert.KernelIdeal Cert.KernelIdeal.Gen
open Idealize.ShloMosaic Idealize.ShloMosaic.TcCoe Idealize.ShloMosaic.Tactic Idealize.ShloMosaic.StableHlo
open Cert.ReferenceIdeal.Read

variable (m : (ℓ : Loc nD τ sig) → Buf (Elt Ideal) ℓ) (c : Dev nD)

/-- The arguments as a core holds them. -/
abbrev a0 : S8192x8x64.Idx → EReal := m ((c : Thread nD τ).loc main_arg0)
abbrev a1 : S8192x8x64.Idx → EReal := m ((c : Thread nD τ).loc main_arg1)
abbrev a2 : S8192x8x64.Idx → EReal := m ((c : Thread nD τ).loc main_arg2)
abbrev a3 : S8192x8.Idx → EReal := m ((c : Thread nD τ).loc main_arg3)
abbrev a4 : S8192x8x64.Idx → EReal := m ((c : Thread nD τ).loc main_arg4)

abbrev H64 := FVec Ideal S8192x8x64 .f32

/-- Heads padded to 128 lanes and laid side by side. -/
def flat (x : H64) : FVec Ideal S8192x1024 .f32 :=
  shapeCast S8192x1024 (pad S8192x8x128 ![0, 0, 0] ![0, 0, 64] ![0, 0, 0] x (sitofp .f32 (constantI S_ 32 0#32)) pads_S8192x8x64_S8192x8x128_000_000_0640 h_S_)
    shapeCasts_S8192x8x128_S8192x1024
/-- The logarithm of two. -/
def ln2 : FVec Ideal S_ .f32 := Host.log (constant S_ .f32 0x40000000#32)
/-- The operand of the queries. -/
def opQ (x : H64) : FVec Ideal S8192x1024 .bf16 :=
  truncf .bf16 (flat (Host.divf (mulf x (broadcastInDim S8192x8x64 ![] bcast_S_S8192x8x64 (constant S_ .f32 0x3E000000#32)))
    (broadcastInDim S8192x8x64 ![] bcast_S_S8192x8x64 ln2))) bitsLt_bf16_f32
/-- The operand of the keys, and that of the cotangent. -/
def opK (x : H64) : FVec Ideal S8192x1024 .bf16 := truncf .bf16 (flat x) bitsLt_bf16_f32
/-- One in lane 64 of every head. -/
def lane : FVec Ideal S8192x8x128 .f32 :=
  uitofp .f32 (cmpi .eq (iotaInDim S8192x8x128 32 2) (broadcastInDim S8192x8x128 ![] bcast_S_S8192x8x128 (constantI S_ 32 64#32)))
/-- The operand of the values. -/
def opV (x : H64) : FVec Ideal S8192x1024 .bf16 :=
  truncf .bf16 (addf (flat x) (shapeCast S8192x1024 lane shapeCasts_S8192x8x128_S8192x1024)) bitsLt_bf16_f32
/-- The scores' exponentials, the greatest of the row taken away. -/
def expo (x0 x1 : H64) (x3 : FVec Ideal S8192x8 .f32) : FVec Ideal S8x8192x8192 .f32 :=
  Host.exp (subf (val_main_v18_0 (F := Ideal) x0 x1 x3) (broadcastInDim S8x8192x8192 ![0, 1, 2] bcast_S8x8192x1_S8x8192x8192_0_1_2
    (broadcastInDim S8x8192x1 ![0, 1] bcast_S8x8192_S8x8192x1_0_1 (val_main_v19 (F := Ideal) x0 x1 x3))))
/-- The rows' sums. -/
def total (x0 x1 : H64) (x3 : FVec Ideal S8192x8 .f32) : FVec Ideal S8x8192x1 .f32 :=
  broadcastInDim S8x8192x1 ![0, 1] bcast_S8x8192_S8x8192x1_0_1 (Host.reduceAdd (expo x0 x1 x3) (constant S_ .f32 0x00000000#32) reducesTo_S8x8192x8192_S8x8192_d2 h_S_)
/-- The operand of the rows' logarithms. -/
def opL (x0 x1 : H64) (x3 : FVec Ideal S8192x8 .f32) : FVec Ideal S8x16x1x512 .f32 :=
  shapeCast S8x16x1x512 (Host.divf (shapeCast S8x8192 (addf (broadcastInDim S8x8192x1 ![0, 1] bcast_S8x8192_S8x8192x1_0_1 (val_main_v19 (F := Ideal) x0 x1 x3))
    (Host.log (total x0 x1 x3))) shapeCasts_S8x8192x1_S8x8192) (broadcastInDim S8x8192 ![] bcast_S_S8x8192 ln2)) shapeCasts_S8x8192_S8x16x1x512
/-- The output. -/
def outp (x0 x1 x2 : H64) (x3 : FVec Ideal S8192x8 .f32) : FVec Ideal S8192x8x64 .f32 :=
  transpose S8192x8x64 [2, 0, 1] (Host.dotGeneral dot_S8192x8x64_S8x8192x8192_S8x64x8192_0_2_2_1_1_0 none x2
    (Host.divf (expo x0 x1 x3) (broadcastInDim S8x8192x8192 ![0, 1, 2] bcast_S8x8192x1_S8x8192x8192_0_1_2 (total x0 x1 x3)))) transposes_S8x64x8192_S8192x8x64_2_0_1
/-- The operand of the rows' products of output and cotangent. -/
def opE (x0 x1 x2 : H64) (x3 : FVec Ideal S8192x8 .f32) (x4 : H64) : FVec Ideal S8x16x1x512 .f32 :=
  shapeCast S8x16x1x512 (transpose S8x8192 [1, 0] (Host.reduceAdd (mulf (outp x0 x1 x2 x3) x4) (constant S_ .f32 0x00000000#32) reducesTo_S8192x8x64_S8192x8_d2 h_S_)
    transposes_S8192x8_S8x8192_1_0) shapeCasts_S8x8192_S8x16x1x512
/-- The operand of the gate. -/
def opF (x3 : FVec Ideal S8192x8 .f32) : FVec Ideal S8x16x1x512 .f32 :=
  shapeCast S8x16x1x512 (Host.divf (transpose S8x8192 [1, 0] x3 transposes_S8192x8_S8x8192_1_0) (broadcastInDim S8x8192 ![] bcast_S_S8x8192 ln2)) shapeCasts_S8x8192_S8x16x1x512

theorem V47 : V m c main_v47 = opQ (a0 m c) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_simp
  rfl
theorem V50 : V m c main_v50 = opK (a1 m c) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_simp
  rfl
theorem V55 : V m c main_v55 = opV (a2 m c) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_simp
  rfl
theorem V58 : V m c main_v58 = opK (a4 m c) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_simp
  rfl
theorem V61 : V m c main_v61 = opL (a0 m c) (a1 m c) (a3 m c) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_simp
  rfl
theorem V62 : V m c main_v62 = opE (a0 m c) (a1 m c) (a2 m c) (a3 m c) (a4 m c) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_simp
  rfl
theorem V66 : V m c main_v66 = opF (a3 m c) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_simp
  rfl
end Cert.KernelIdeal.HostK
-- ==== Proof.V.HostR.lean ====
/-
The operands of the call, read at an index as real numbers.
-/
module
public import proofs.«01_k».proof.Proof.V.HostK
@[expose] public section
set_option maxHeartbeats 1000000
noncomputable section
namespace Cert.KernelIdeal.HostK
open Cert.KernelIdeal Cert.KernelIdeal.Gen Cert.Fox
open Idealize.ShloMosaic Idealize.ShloMosaic.TcCoe
open Cert.ReferenceIdeal.Read

theorem ln2_ne : Real.log 2 ≠ 0 := (Real.log_pos (by norm_num)).ne'
theorem c_two : (FloatOps.ofBits .f32 0x40000000#32 : Ideal .f32) = ((2 : ℝ) : EReal) := by
  simp [Ideal.ofBits, Ideal.ieee, -EReal.coe_mul]; norm_num
theorem ln2_apply (i) : ln2 i = ((Real.log 2 : ℝ) : EReal) := by
  show Ideal.log (FloatOps.ofBits .f32 0x40000000#32 : Ideal .f32) = _
  rw [c_two, Ideal.log_coe, if_neg (by norm_num)]

theorem flat_apply {g : ℕ → ℕ → ℕ → ℝ} {x : S8192x8x64.Idx → EReal} (hx : ∀ i, x i = ((g (i 0).val (i 1).val (i 2).val : ℝ) : EReal)) (i) :
    flat x i = ((wide g (i 0).val ((i 1).val / 128) ((i 1).val % 128) : ℝ) : EReal) :=
  flat_wide hx zero_word pads_S8192x8x64_S8192x8x128_000_000_0640 h_S_ shapeCasts_S8192x8x128_S8192x1024 i

theorem add_log {s : Shape} (Y Z : FVec Ideal s .f32) (J) : addf Y (Host.log Z) J = Y J + Ideal.log (Z J) := rfl

theorem lane_apply (i) : lane i = ((if (i 2).val = 64 then 1 else 0 : ℝ) : EReal) := by
  have h2 : (i 2).val < 128 := (i 2).isLt
  show FloatOps.uitofp (F := Ideal) .f32 (IntOp.cmpi .eq (BitVec.ofNat 32 (i 2).val) 64#32) = _
  by_cases h : (i 2).val = 64
  · rw [h, if_pos rfl]
    show (((BitVec.toNat (1#1 : BitVec 1) : ℕ) : ℝ) : EReal) = _
    simp
  · rw [if_neg h]
    have hn : BitVec.ofNat 32 (i 2).val ≠ 64#32 := fun e => h (by
      have := congrArg BitVec.toNat e
      rw [BitVec.toNat_ofNat, BitVec.toNat_ofNat] at this; omega)
    have hc : IntOp.cmpi .eq (BitVec.ofNat 32 (i 2).val) 64#32 = 0#1 := by
      simp only [IntOp.cmpi]; rw [beq_eq_false_iff_ne.2 hn]; rfl
    rw [hc]
    show (((BitVec.toNat (0#1 : BitVec 1) : ℕ) : ℝ) : EReal) = _
    simp

variable {A : In} {x0 x1 x2 x4 : S8192x8x64.Idx → EReal} {x3 : S8192x8.Idx → EReal} (H : Holds A x0 x1 x2 x4 x3)
include H

theorem opQ_apply (i) : opQ x0 i = ((wide (fun t h l => A.q t h l * 0.125 / Real.log 2) (i 0).val ((i 1).val / 128) ((i 1).val % 128) : ℝ) : EReal) := by
  refine flat_apply (g := fun t h l => A.q t h l * 0.125 / Real.log 2) (fun i => ?_) i
  show Ideal.div (x0 i * (FloatOps.ofBits .f32 0x3E000000#32 : Ideal .f32)) (ln2 _) = _
  rw [H.q, c_eighth, ln2_apply, ← EReal.coe_mul, div_real ln2_ne]
theorem opK_apply (i) : opK x1 i = ((wide A.k (i 0).val ((i 1).val / 128) ((i 1).val % 128) : ℝ) : EReal) := flat_apply H.k i
theorem opD_apply (i) : opK x4 i = ((wide A.d (i 0).val ((i 1).val / 128) ((i 1).val % 128) : ℝ) : EReal) := flat_apply H.d i
theorem opV_apply (i) : opV x2 i
    = ((wide A.v (i 0).val ((i 1).val / 128) ((i 1).val % 128) + (if (i 1).val % 128 = 64 then 1 else 0) : ℝ) : EReal) := by
  show flat x2 i + shapeCast S8192x1024 lane shapeCasts_S8192x8x128_S8192x1024 i = _
  rw [flat_apply H.v, cast_flat (g := fun _ _ l => if l = 64 then 1 else 0) lane_apply, ← EReal.coe_add]

theorem expo_eq : expo x0 x1 x3 = val_main_v39 (F := Ideal) x0 x1 x3 := by
  have e : val_main_v26 (F := Ideal) x0 x1 x3 = val_main_v19 (F := Ideal) x0 x1 x3 := funext fun i => by rw [r26 H, r19 H]
  unfold val_main_v39 val_main_v38 val_main_v37 val_main_v36
  rw [e]; rfl
theorem total_eq : total x0 x1 x3 = val_main_v41 (F := Ideal) x0 x1 x3 := by
  unfold val_main_v41 val_main_v40 total
  rw [expo_eq H]; rfl
theorem outp_eq : outp x0 x1 x2 x3 = val_main_v48 (F := Ideal) x0 x1 x2 x3 := by
  unfold val_main_v48 val_main_v47 val_main_v43 val_main_v42 outp
  rw [expo_eq H, total_eq H]; rfl

theorem opF_apply (i) : opF x3 i = ((A.f (512 * (i 1).val + (i 3).val) (i 0).val / Real.log 2 : ℝ) : EReal) := by
  refine cast_rows (g := fun h t => A.f t h / Real.log 2) (fun j => ?_) shapeCasts_S8x8192_S8x16x1x512 i
  have et : transpose S8x8192 [1, 0] x3 transposes_S8192x8_S8x8192_1_0 j = val_main_v3 (F := Ideal) x3 j := rfl
  show Ideal.div (transpose S8x8192 [1, 0] x3 transposes_S8192x8_S8x8192_1_0 j) (ln2 _) = _
  rw [et, val_main_v3_apply, H.f, ln2_apply, div_real ln2_ne]

theorem opL_apply (i) : opL x0 x1 x3 i = ((Real.log (A.L (i 0).val (512 * (i 1).val + (i 3).val)) / Real.log 2 : ℝ) : EReal) := by
  refine cast_rows (g := fun h t => Real.log (A.L h t) / Real.log 2) (fun j => ?_) shapeCasts_S8x8192_S8x16x1x512 i
  have h0 : (j 0).val < 8 := (j 0).isLt
  have h1 : (j 1).val < 8192 := (j 1).isLt
  show Ideal.div (shapeCast S8x8192 (addf (broadcastInDim S8x8192x1 ![0, 1] bcast_S8x8192_S8x8192x1_0_1 (val_main_v19 (F := Ideal) x0 x1 x3))
    (Host.log (total x0 x1 x3))) shapeCasts_S8x8192x1_S8x8192 j) (ln2 _) = _
  rw [shapeCast_apply _ shapeCasts_S8x8192x1_S8x8192 j (ix3 (⟨(j 0).val, h0⟩ : Fin 8) (⟨(j 1).val, h1⟩ : Fin 8192) (0 : Fin 1)) (by
    rewrite [Shape.rowMajor_val_three, Shape.rowMajor_val_two]
    show ((j 0).val * 8192 + (j 1).val) * 1 + 0 = (j 0).val * 8192 + (j 1).val
    omega), total_eq H, ln2_apply]
  have e1 : broadcastInDim S8x8192x1 ![0, 1] bcast_S8x8192_S8x8192x1_0_1 (val_main_v19 (F := Ideal) x0 x1 x3) (ix3 (⟨(j 0).val, h0⟩ : Fin 8) (⟨(j 1).val, h1⟩ : Fin 8192) (0 : Fin 1))
      = ((top x0 x1 x3 (j 0).val (j 1).val : ℝ) : EReal) := by
    rw [broadcastInDim_apply _ bcast_S8x8192_S8x8192x1_0_1 _ _ (ix2 (⟨(j 0).val, h0⟩ : Fin 8) (⟨(j 1).val, h1⟩ : Fin 8192)) (fun a => match a with
      | ⟨0, _⟩ => by show (j 0).val = if (8 : ℕ) = 1 then 0 else (j 0).val; rw [if_neg (by decide)]
      | ⟨1, _⟩ => by show (j 1).val = if (8192 : ℕ) = 1 then 0 else (j 1).val; rw [if_neg (by decide)]), r19 H]
    rfl
  have e2 : val_main_v41 (F := Ideal) x0 x1 x3 (ix3 (⟨(j 0).val, h0⟩ : Fin 8) (⟨(j 1).val, h1⟩ : Fin 8192) (0 : Fin 1))
      = ((A.L (j 0).val (j 1).val * Real.exp (- top x0 x1 x3 (j 0).val (j 1).val) : ℝ) : EReal) := by
    rw [val_main_v41_apply, r40 H]; rfl
  have hL := A.L_pos (h := (j 0).val) h1
  have hp : 0 < A.L (j 0).val (j 1).val * Real.exp (- top x0 x1 x3 (j 0).val (j 1).val) := mul_pos hL (Real.exp_pos _)
  rw [add_log, e1, e2, Ideal.log_coe, if_neg (not_le.2 hp), ← EReal.coe_add, div_real ln2_ne, Real.log_mul hL.ne' (Real.exp_ne_zero _), Real.log_exp]
  refine congrArg Real.toEReal ?_
  ring

theorem opE_apply (i) : opE x0 x1 x2 x3 x4 i = ((A.dl (i 0).val (512 * (i 1).val + (i 3).val) : ℝ) : EReal) := by
  refine cast_rows (g := A.dl) (fun j => ?_) shapeCasts_S8x8192_S8x16x1x512 i
  have h0 : (j 0).val < 8 := (j 0).isLt
  have h1 : (j 1).val < 8192 := (j 1).isLt
  rw [outp_eq H]
  have et : ∀ y : FVec Ideal S8192x8 .f32, transpose S8x8192 [1, 0] y transposes_S8192x8_S8x8192_1_0 j = y (idx_main_v3 j) := fun y => by
    rw [show transpose S8x8192 [1, 0] y transposes_S8192x8_S8x8192_1_0 j = val_main_v3 (F := Ideal) y j from rfl, val_main_v3_apply]
  rw [et]
  simp only [Host.reduceAdd, Ideal.hostReduceAdd_def]
  have hr : S8192x8x64.Reduces [2] S8192x8 := by decide
  rw [Ideal.hostReduceAdd_single reducesTo_S8192x8x64_S8192x8_d2 hr]
  show (FloatOps.ofBits .f32 0x00000000#32 : Ideal .f32) + ∑ l : Fin 64, (val_main_v48 (F := Ideal) x0 x1 x2 x3 _ * x4 _) = _
  simp only [r48 H, H.d, ← EReal.coe_mul]
  rw [c_zero, EReal.coe_zero, zero_add, ← A.dl_eq]
  exact coe_sum_fin 64 fun l => A.O (j 0).val (j 1).val l * A.d (j 1).val (j 0).val l
end Cert.KernelIdeal.HostK
-- ==== Proof.V.Ops.lean ====
/-
The blocks the call reads hold the operands' real numbers.
-/
module
public import proofs.«01_k».proof.Proof.V.Alg
public import proofs.«01_k».proof.Proof.V.HostR
public import Idealize.ShloMosaic.Lib.Pipeline.ValueKit.Geometry
@[expose] public section
set_option maxHeartbeats 1000000
set_option maxRecDepth 16384
noncomputable section
namespace Cert.KernelIdeal.Tile
open Cert.KernelIdeal Cert.KernelIdeal.Gen
open Idealize.ShloMosaic Idealize.ShloMosaic.TcCoe Idealize.ShloMosaic.Tactic Idealize.ShloMosaic.StableHlo
open Cert.Fox Cert.KernelIdeal.HostK

variable {A : In} (m : (ℓ : Loc nD τ sig) → Buf (Elt Ideal) ℓ) (c : Dev nD)

/-- Where each window of the call stands at a grid point. -/
theorem at_in : ∀ t : Fin cfg0.N,
    ((cfg0.win 0).index t 0 : ℕ) = 0 ∧ ((cfg0.win 0).index t 1 : ℕ) = t.val / 16
    ∧ ((cfg0.win 1).index t 0 : ℕ) = t.val % 16 ∧ ((cfg0.win 1).index t 1 : ℕ) = t.val / 16
    ∧ ((cfg0.win 2).index t 0 : ℕ) = t.val % 16 ∧ ((cfg0.win 2).index t 1 : ℕ) = t.val / 16
    ∧ ((cfg0.win 3).index t 0 : ℕ) = 0 ∧ ((cfg0.win 3).index t 1 : ℕ) = t.val / 16
    ∧ ((cfg0.win 4).index t 0 : ℕ) = t.val / 16 ∧ ((cfg0.win 4).index t 1 : ℕ) = 0 ∧ ((cfg0.win 4).index t 3 : ℕ) = 0
    ∧ ((cfg0.win 5).index t 0 : ℕ) = t.val / 16 ∧ ((cfg0.win 5).index t 1 : ℕ) = 0 ∧ ((cfg0.win 5).index t 3 : ℕ) = 0
    ∧ ((cfg0.win 6).index t 0 : ℕ) = t.val / 16 ∧ ((cfg0.win 6).index t 1 : ℕ) = 0 ∧ ((cfg0.win 6).index t 3 : ℕ) = 0 := by decide +kernel

/-- The block of queries. -/
theorem blk0 (H : Holds A (a0 m c) (a1 m c) (a2 m c) (a4 m c) (a3 m c)) (t : Fin cfg0.N) :
    isH (n := 8192) (iblk m c 0 t) (ofIn A (t.val / 16)).q := fun g a l => by
  have h : iblk m c 0 t (ix2 a (⟨128 * g.val + l.val, by omega⟩ : Fin 256)) = opQ (a0 m c) (((cfg0.win 0).blk t).view.emb (ix2 a (⟨128 * g.val + l.val, by omega⟩ : Fin 256))) :=
    congrFun (V47 m c) _
  obtain ⟨i0, i1, -⟩ := at_in t
  have e0 : (((cfg0.win 0).blk t).view.emb (ix2 a (⟨128 * g.val + l.val, by omega⟩ : Fin 256)) 0).val = a.val := by blk_simp [i0]
  have e1 : (((cfg0.win 0).blk t).view.emb (ix2 a (⟨128 * g.val + l.val, by omega⟩ : Fin 256)) 1).val = t.val / 16 * 256 + (128 * g.val + l.val) := by blk_simp [i1]
  rw [h, opQ_apply H, e0, e1, show (t.val / 16 * 256 + (128 * g.val + l.val)) / 128 = 2 * (t.val / 16) + g.val by omega, show (t.val / 16 * 256 + (128 * g.val + l.val)) % 128 = l.val by omega]
  rfl
/-- The block of keys. -/
theorem blk1 (H : Holds A (a0 m c) (a1 m c) (a2 m c) (a4 m c) (a3 m c)) (t : Fin cfg0.N) :
    isH (n := 512) (iblk m c 1 t) (fun g a l => (ofIn A (t.val / 16)).k g (512 * (grid0.coords t 1).val + a) l) := fun g a l => by
  have h : iblk m c 1 t (ix2 a (⟨128 * g.val + l.val, by omega⟩ : Fin 256)) = opK (a1 m c) (((cfg0.win 1).blk t).view.emb (ix2 a (⟨128 * g.val + l.val, by omega⟩ : Fin 256))) :=
    congrFun (V50 m c) _
  obtain ⟨-, -, i0, i1, -⟩ := at_in t
  have e0 : (((cfg0.win 1).blk t).view.emb (ix2 a (⟨128 * g.val + l.val, by omega⟩ : Fin 256)) 0).val = 512 * (t.val % 16) + a.val := by blk_simp [i0]; exact congrArg (· + a.val) (Nat.mul_comm _ _)
  have e1 : (((cfg0.win 1).blk t).view.emb (ix2 a (⟨128 * g.val + l.val, by omega⟩ : Fin 256)) 1).val = t.val / 16 * 256 + (128 * g.val + l.val) := by blk_simp [i1]
  rw [h, opK_apply H, coords_1, e0, e1, show (t.val / 16 * 256 + (128 * g.val + l.val)) / 128 = 2 * (t.val / 16) + g.val by omega, show (t.val / 16 * 256 + (128 * g.val + l.val)) % 128 = l.val by omega]
  rfl
/-- The block of values. -/
theorem blk2 (H : Holds A (a0 m c) (a1 m c) (a2 m c) (a4 m c) (a3 m c)) (t : Fin cfg0.N) :
    isH (n := 512) (iblk m c 2 t) (fun g a l => (ofIn A (t.val / 16)).v g (512 * (grid0.coords t 1).val + a) l) := fun g a l => by
  have h : iblk m c 2 t (ix2 a (⟨128 * g.val + l.val, by omega⟩ : Fin 256)) = opV (a2 m c) (((cfg0.win 2).blk t).view.emb (ix2 a (⟨128 * g.val + l.val, by omega⟩ : Fin 256))) :=
    congrFun (V55 m c) _
  obtain ⟨-, -, -, -, i0, i1, -⟩ := at_in t
  have e0 : (((cfg0.win 2).blk t).view.emb (ix2 a (⟨128 * g.val + l.val, by omega⟩ : Fin 256)) 0).val = 512 * (t.val % 16) + a.val := by blk_simp [i0]; exact congrArg (· + a.val) (Nat.mul_comm _ _)
  have e1 : (((cfg0.win 2).blk t).view.emb (ix2 a (⟨128 * g.val + l.val, by omega⟩ : Fin 256)) 1).val = t.val / 16 * 256 + (128 * g.val + l.val) := by blk_simp [i1]
  rw [h, opV_apply H, coords_1, e0, e1, show (t.val / 16 * 256 + (128 * g.val + l.val)) / 128 = 2 * (t.val / 16) + g.val by omega, show (t.val / 16 * 256 + (128 * g.val + l.val)) % 128 = l.val by omega]
  rfl
/-- The block of the cotangent. -/
theorem blk3 (H : Holds A (a0 m c) (a1 m c) (a2 m c) (a4 m c) (a3 m c)) (t : Fin cfg0.N) :
    isH (n := 8192) (iblk m c 3 t) (ofIn A (t.val / 16)).d := fun g a l => by
  have h : iblk m c 3 t (ix2 a (⟨128 * g.val + l.val, by omega⟩ : Fin 256)) = opK (a4 m c) (((cfg0.win 3).blk t).view.emb (ix2 a (⟨128 * g.val + l.val, by omega⟩ : Fin 256))) :=
    congrFun (V58 m c) _
  obtain ⟨-, -, -, -, -, -, i0, i1, -⟩ := at_in t
  have e0 : (((cfg0.win 3).blk t).view.emb (ix2 a (⟨128 * g.val + l.val, by omega⟩ : Fin 256)) 0).val = a.val := by blk_simp [i0]
  have e1 : (((cfg0.win 3).blk t).view.emb (ix2 a (⟨128 * g.val + l.val, by omega⟩ : Fin 256)) 1).val = t.val / 16 * 256 + (128 * g.val + l.val) := by blk_simp [i1]
  rw [h, opD_apply H, e0, e1, show (t.val / 16 * 256 + (128 * g.val + l.val)) / 128 = 2 * (t.val / 16) + g.val by omega, show (t.val / 16 * 256 + (128 * g.val + l.val)) % 128 = l.val by omega]
  rfl
/-- The rows' logarithms. -/
theorem blk4 (H : Holds A (a0 m c) (a1 m c) (a2 m c) (a4 m c) (a3 m c)) (t : Fin cfg0.N) :
    is4 (p := 2) (n := 16) (m := 512) (iblk m c 4 t) (ofIn A (t.val / 16)).l := fun g a b => by
  have h : iblk m c 4 t (ix4 g a (0 : Fin 1) b) = opL (a0 m c) (a1 m c) (a3 m c) (((cfg0.win 4).blk t).view.emb (ix4 g a (0 : Fin 1) b)) :=
    congrFun (V61 m c) _
  obtain ⟨-, -, -, -, -, -, -, -, i0, i1, i3, -⟩ := at_in t
  have e0 : (((cfg0.win 4).blk t).view.emb (ix4 g a (0 : Fin 1) b) 0).val = 2 * (t.val / 16) + g.val := by blk_simp [i0]; exact congrArg (· + g.val) (Nat.mul_comm _ _)
  have e1 : (((cfg0.win 4).blk t).view.emb (ix4 g a (0 : Fin 1) b) 1).val = a.val := by blk_simp [i1]
  have e3 : (((cfg0.win 4).blk t).view.emb (ix4 g a (0 : Fin 1) b) 3).val = b.val := by blk_simp [i3]
  rw [h, opL_apply H, e0, e1, e3]
  simp only [ofIn]
/-- The rows' weighted sums. -/
theorem blk5 (H : Holds A (a0 m c) (a1 m c) (a2 m c) (a4 m c) (a3 m c)) (t : Fin cfg0.N) :
    is4 (p := 2) (n := 16) (m := 512) (iblk m c 5 t) (ofIn A (t.val / 16)).e := fun g a b => by
  have h : iblk m c 5 t (ix4 g a (0 : Fin 1) b) = opE (a0 m c) (a1 m c) (a2 m c) (a3 m c) (a4 m c) (((cfg0.win 5).blk t).view.emb (ix4 g a (0 : Fin 1) b)) :=
    congrFun (V62 m c) _
  obtain ⟨-, -, -, -, -, -, -, -, -, -, -, i0, i1, i3, -⟩ := at_in t
  have e0 : (((cfg0.win 5).blk t).view.emb (ix4 g a (0 : Fin 1) b) 0).val = 2 * (t.val / 16) + g.val := by blk_simp [i0]; exact congrArg (· + g.val) (Nat.mul_comm _ _)
  have e1 : (((cfg0.win 5).blk t).view.emb (ix4 g a (0 : Fin 1) b) 1).val = a.val := by blk_simp [i1]
  have e3 : (((cfg0.win 5).blk t).view.emb (ix4 g a (0 : Fin 1) b) 3).val = b.val := by blk_simp [i3]
  rw [h, opE_apply H, e0, e1, e3]
  simp only [ofIn]
/-- The gate. -/
theorem blk6 (H : Holds A (a0 m c) (a1 m c) (a2 m c) (a4 m c) (a3 m c)) (t : Fin cfg0.N) :
    is4 (p := 2) (n := 16) (m := 512) (iblk m c 6 t) (ofIn A (t.val / 16)).f := fun g a b => by
  have h : iblk m c 6 t (ix4 g a (0 : Fin 1) b) = opF (a3 m c) (((cfg0.win 6).blk t).view.emb (ix4 g a (0 : Fin 1) b)) :=
    congrFun (V66 m c) _
  obtain ⟨-, -, -, -, -, -, -, -, -, -, -, -, -, -, i0, i1, i3⟩ := at_in t
  have e0 : (((cfg0.win 6).blk t).view.emb (ix4 g a (0 : Fin 1) b) 0).val = 2 * (t.val / 16) + g.val := by blk_simp [i0]; exact congrArg (· + g.val) (Nat.mul_comm _ _)
  have e1 : (((cfg0.win 6).blk t).view.emb (ix4 g a (0 : Fin 1) b) 1).val = a.val := by blk_simp [i1]
  have e3 : (((cfg0.win 6).blk t).view.emb (ix4 g a (0 : Fin 1) b) 3).val = b.val := by blk_simp [i3]
  rw [h, opF_apply H, e0, e1, e3]
  simp only [ofIn]

/-- The operands hold the arguments' real numbers. -/
theorem ops_holds (H : Holds A (a0 m c) (a1 m c) (a2 m c) (a4 m c) (a3 m c)) : Ops m c (ofIn A) := fun t =>
  ⟨⟨blk0 m c H t, blk3 m c H t, blk4 m c H t, blk5 m c H t, blk6 m c H t⟩, blk1 m c H t, blk2 m c H t⟩
end Cert.KernelIdeal.Tile
-- ==== Proof.V.Fin.lean ====
/-
The precondition read: every element of the five arguments is a real number.
-/
module
public import proofs.«01_k».proof.Defs
public import proofs.«01_k».proof.Proof.V.Ref
public import Idealize.ShloMosaic.Lib.ReduceAll
@[expose] public section
set_option maxRecDepth 16384
set_option maxHeartbeats 1000000
noncomputable section
namespace Cert.Fox
open Idealize.ShloMosaic Cert.ReferenceIdeal

/-- An element whose magnitude is below infinity is a real number. -/
theorem real_of_lt {x : EReal} (h : FloatOps.cmpf (F := Ideal) (φ := .f32) .olt (FloatOps.hostAbsf (F := Ideal) (φ := .f32) x) (FloatOps.ofBits .f32 0x7F800000#32) = 1#1) :
    x = ((x.toReal : ℝ) : EReal) := by
  have ht : (FloatOps.ofBits .f32 0x7F800000#32 : Ideal .f32) = (⊤ : EReal) := by simp [FloatOps.ofBits, Ideal.ofBits, Ideal.ieee]
  rw [ht, Ideal.cmpf_def] at h
  have hl : max x (-x) < (⊤ : EReal) := by
    by_contra hn
    have : Ideal.cmp .olt (max x (-x)) (⊤ : EReal) = 0#1 := by simp [Ideal.cmp, hn]
    exact absurd (this.symm.trans h) (by decide)
  refine (EReal.coe_toReal (fun e => ?_) (fun e => ?_)).symm
  · subst e; simp at hl
  · subst e; simp at hl

/-- The arguments' real numbers: nothing out of range. -/
def inOf (x0 x1 x2 x4 : S8192x8x64.Idx → EReal) (x3 : S8192x8.Idx → EReal) : In where
  q t h l := if k : t < 8192 ∧ h < 8 ∧ l < 64 then (x0 (ix3 ⟨t, k.1⟩ ⟨h, k.2.1⟩ ⟨l, k.2.2⟩)).toReal else 0
  k t h l := if k : t < 8192 ∧ h < 8 ∧ l < 64 then (x1 (ix3 ⟨t, k.1⟩ ⟨h, k.2.1⟩ ⟨l, k.2.2⟩)).toReal else 0
  v t h l := if k : t < 8192 ∧ h < 8 ∧ l < 64 then (x2 (ix3 ⟨t, k.1⟩ ⟨h, k.2.1⟩ ⟨l, k.2.2⟩)).toReal else 0
  d t h l := if k : t < 8192 ∧ h < 8 ∧ l < 64 then (x4 (ix3 ⟨t, k.1⟩ ⟨h, k.2.1⟩ ⟨l, k.2.2⟩)).toReal else 0
  f t h := if k : t < 8192 ∧ h < 8 then (x3 (ix2 ⟨t, k.1⟩ ⟨h, k.2⟩)).toReal else 0

theorem at3 (x : S8192x8x64.Idx → EReal) (hx : ∀ i, x i = ((x i).toReal : EReal)) (i : S8192x8x64.Idx) :
    x i = (((if k : (i 0).val < 8192 ∧ (i 1).val < 8 ∧ (i 2).val < 64 then (x (ix3 ⟨(i 0).val, k.1⟩ ⟨(i 1).val, k.2.1⟩ ⟨(i 2).val, k.2.2⟩)).toReal else 0 : ℝ)) : EReal) := by
  rw [dif_pos ⟨(i 0).isLt, (i 1).isLt, (i 2).isLt⟩]
  have e : (ix3 (⟨(i 0).val, (i 0).isLt⟩ : Fin 8192) (⟨(i 1).val, (i 1).isLt⟩ : Fin 8) (⟨(i 2).val, (i 2).isLt⟩ : Fin 64) : S8192x8x64.Idx) = i := (eq_ix3 i).symm
  exact (hx i).trans (by rw [← e]; rfl)

theorem at2 (x : S8192x8.Idx → EReal) (hx : ∀ i, x i = ((x i).toReal : EReal)) (i : S8192x8.Idx) :
    x i = (((if k : (i 0).val < 8192 ∧ (i 1).val < 8 then (x (ix2 ⟨(i 0).val, k.1⟩ ⟨(i 1).val, k.2⟩)).toReal else 0 : ℝ)) : EReal) := by
  rw [dif_pos ⟨(i 0).isLt, (i 1).isLt⟩]
  have e : (ix2 (⟨(i 0).val, (i 0).isLt⟩ : Fin 8192) (⟨(i 1).val, (i 1).isLt⟩ : Fin 8) : S8192x8.Idx) = i := (eq_ix2 i).symm
  exact (hx i).trans (by rw [← e]; rfl)

/-- Under the precondition the arguments are real numbers. -/
theorem holds_of_finite [Cert.Pre_finite.Facts] (x0 x1 x2 : S8192x8x64.Idx → EReal) (x3 : S8192x8.Idx → EReal) (x4 : S8192x8x64.Idx → EReal)
    (h : Cert.Pre_finite.fn (F := Ideal) x0 x1 x2 x3 x4 = fun _ => 1#1) : Holds (inOf x0 x1 x2 x4 x3) x0 x1 x2 x4 x3 := by
  have e := congrFun h (fun a => a.elim0)
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  haveI : Subsingleton Cert.Pre_finite.S_.Idx := ⟨fun a b => funext fun k => k.elim0⟩
  exact ⟨at3 _ fun i => real_of_lt (Host.reduce_andi_all _ _ _ _ _ h0 i), at3 _ fun i => real_of_lt (Host.reduce_andi_all _ _ _ _ _ h1 i),
    at3 _ fun i => real_of_lt (Host.reduce_andi_all _ _ _ _ _ h2 i), at3 _ fun i => real_of_lt (Host.reduce_andi_all _ _ _ _ _ h4 i),
    at2 _ fun i => real_of_lt (Host.reduce_andi_all _ _ _ _ _ h3 i)⟩
end Cert.Fox
-- ==== Proof.Claims.lean ====
/-
The claims: every run of each of the three programs ends, leaves its arguments as it found them and every semaphore at
zero; the two named constants of the exact program are what the ledger says they are; and from real arguments the exact
program's five results are the reference's.
-/
module
public import proofs.«01_k».proof.Defs
public import proofs.«01_k».proof.Proof.Frame
public import proofs.«01_k».proof.Proof.K.Frame
public import proofs.«01_k».proof.Proof.V.Final
public import proofs.«01_k».proof.Proof.V.Ops
public import proofs.«01_k».proof.Proof.V.Fin
public import proofs.«01_k».proof.Proof.Gen.ReferenceIdeal.Run
public import proofs.«01_k».proof.Proof.Gen.ReferenceIdeal.Read
@[expose] public section
set_option maxRecDepth 16384
noncomputable section
namespace Cert.Claims
open Idealize.ShloMosaic Idealize.SL.Sem
open Cert.KernelIdeal.HostK Cert.KernelIdeal.Tile Cert.Fox

theorem frame_p : Cert.quiescent_Kernel := fun m ρ _ => Cert.Kernel.Body.quiet m ρ

theorem frame_pi : Cert.quiescent_KernelIdeal := fun m ρ _ => Cert.KernelIdeal.Body.quiet m ρ

theorem frame_pi_finite [Cert.Pre_finite.Facts] : Cert.quiescent_KernelIdeal_pre_finite := fun m ρ _ => Cert.KernelIdeal.Body.quiet m ρ

theorem frame_ri : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem frame_ri_finite [Cert.Pre_finite.Facts] : Cert.quiescent_ReferenceIdeal_pre_finite := fun m ρ _ => frame_ri m ρ trivial

/-- The value of the masked exponent is the least extended real, and that of the natural logarithm of two is it. -/
theorem preserves : Cert.preserves_Kernel_KernelIdeal :=
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

/-! What the call leaves in each result is what the reference computes. -/
section meet
variable {A : In} {x0 x1 x2 x4 : Cert.ReferenceIdeal.S8192x8x64.Idx → EReal} {x3 : Cert.ReferenceIdeal.S8192x8.Idx → EReal} (H : Holds A x0 x1 x2 x4 x3)
include H

theorem meet_q : (fun i : Cert.KernelIdeal.S8192x1024.Idx => ((outQ (ofIn A) ((i 1).val / 256) ((i 1).val % 256 / 128) (i 0).val ((i 1).val % 128) : ℝ) : EReal))
    = Cert.ReferenceIdeal.Read.val_main_v83 (F := Ideal) x0 x1 x2 x3 x4 := funext fun i => by
  rw [r83 H i, outQ_eq A (i 0).isLt, show 2 * ((i 1).val / 256) + (i 1).val % 256 / 128 = (i 1).val / 128 by omega]
theorem meet_k : (fun i : Cert.KernelIdeal.S8192x1024.Idx => ((outK (ofIn A) ((i 1).val / 256) ((i 1).val % 256 / 128) (i 0).val ((i 1).val % 128) : ℝ) : EReal))
    = Cert.ReferenceIdeal.Read.val_main_v86 (F := Ideal) x0 x1 x2 x3 x4 := funext fun i => by
  rw [r86 H i, outK_eq A, show 2 * ((i 1).val / 256) + (i 1).val % 256 / 128 = (i 1).val / 128 by omega]
theorem meet_v : (fun i : Cert.KernelIdeal.S8192x1024.Idx => ((outV (ofIn A) ((i 1).val / 256) ((i 1).val % 256 / 128) (i 0).val ((i 1).val % 128) : ℝ) : EReal))
    = Cert.ReferenceIdeal.Read.val_main_v89 (F := Ideal) x0 x1 x3 x4 := funext fun i => by
  rw [r89 H i, outV_eq A, show 2 * ((i 1).val / 256) + (i 1).val % 256 / 128 = (i 1).val / 128 by omega]
theorem meet_r : (fun i : Cert.KernelIdeal.S8x16x1x512.Idx => ((outR (ofIn A) ((i 0).val / 2) ((i 0).val % 2) (512 * (i 1).val + (i 3).val) : ℝ) : EReal))
    = Cert.ReferenceIdeal.Read.val_main_v91 (F := Ideal) x0 x1 x2 x3 x4 := funext fun i => by
  have h1 : (i 1).val < 16 := (i 1).isLt
  have h3 : (i 3).val < 512 := (i 3).isLt
  rw [r91 H i, outR_eq A (by omega), show 2 * ((i 0).val / 2) + (i 0).val % 2 = (i 0).val by omega]
theorem meet_f : (fun i : Cert.KernelIdeal.S8x16x1x512.Idx => ((outF (ofIn A) ((i 0).val / 2) ((i 0).val % 2) (512 * (i 1).val + (i 3).val) : ℝ) : EReal))
    = Cert.ReferenceIdeal.Read.val_main_v93 (F := Ideal) x0 x1 x2 x3 x4 := funext fun i => by
  rw [r93 H i, outF_eq A, show 2 * ((i 0).val / 2) + (i 0).val % 2 = (i 0).val by omega]
end meet

/-- From arguments that are real numbers the exact program and the reference end with the same five results: the
gradients of the attention's queries, keys and values and of the two copies of its gate. -/
theorem algebraic [Cert.Pre_finite.Facts] : Cert.algebraic_KernelIdeal_ReferenceIdeal_pre_finite := fun m g m' g' hp hm => by
  have hH : ∀ c, Holds (inOf (a0 m c) (a1 m c) (a2 m c) (a4 m c) (a3 m c)) (a0 m c) (a1 m c) (a2 m c) (a4 m c) (a3 m c) :=
    fun c => holds_of_finite _ _ _ _ _ (hp c)
  refine ⟨fun c => Cert.ReferenceIdeal.Read.val_main_v83 (F := Ideal) (a0 m c) (a1 m c) (a2 m c) (a3 m c) (a4 m c),
    fun c => Cert.ReferenceIdeal.Read.val_main_v86 (F := Ideal) (a0 m c) (a1 m c) (a2 m c) (a3 m c) (a4 m c),
    fun c => Cert.ReferenceIdeal.Read.val_main_v89 (F := Ideal) (a0 m c) (a1 m c) (a3 m c) (a4 m c),
    fun c => Cert.ReferenceIdeal.Read.val_main_v91 (F := Ideal) (a0 m c) (a1 m c) (a2 m c) (a3 m c) (a4 m c),
    fun c => Cert.ReferenceIdeal.Read.val_main_v93 (F := Ideal) (a0 m c) (a1 m c) (a2 m c) (a3 m c) (a4 m c), ?_, ?_⟩
  · refine (θ_run Cert.KernelIdeal.defs _ _).mono (fun r h c => ?_) (results m g (fun c => ofIn (inOf (a0 m c) (a1 m c) (a2 m c) (a4 m c) (a3 m c))) fun c => ops_holds m c (hH c))
    obtain ⟨⟨h0, h1, h2, h3, h4⟩, ha⟩ := h c
    exact ⟨h0.trans (meet_q (hH c)), h1.trans (meet_k (hH c)), h2.trans (meet_v (hH c)), h3.trans (meet_r (hH c)), h4.trans (meet_f (hH c)), ha⟩
  · refine (θ_run Cert.ReferenceIdeal.defs _ _).mono (fun r h c => ?_) (Cert.ReferenceIdeal.Value.run (F := Ideal) m' g')
    obtain ⟨h0, h1, h2, h3, h4, ha⟩ := h c
    obtain ⟨e0, e1, e2, e3, e4⟩ := hm c
    rw [Cert.ReferenceIdeal.Read.val_main_v83_eq, e0, e1, e2, e3, e4] at h0
    rw [Cert.ReferenceIdeal.Read.val_main_v86_eq, e0, e1, e2, e3, e4] at h1
    rw [Cert.ReferenceIdeal.Read.val_main_v89_eq, e0, e1, e3, e4] at h2
    rw [Cert.ReferenceIdeal.Read.val_main_v91_eq, e0, e1, e2, e3, e4] at h3
    rw [Cert.ReferenceIdeal.Read.val_main_v93_eq, e0, e1, e2, e3, e4] at h4
    exact ⟨h0, h1, h2, h3, h4, ha⟩

end Cert.Claims
-- ==== Proof.lean ====
/- The certificate's claim: of each call the frames of its three programs, what its exact program is, and the values. -/
module

public import proofs.«01_k».proof.Proof.Gen.ReferenceIdeal.Run
public import proofs.«01_k».proof.Proof.Gen.ReferenceIdeal.Read
public import proofs.«01_k».proof.Defs
public import proofs.«01_k».proof.Proof.M.UpDx
public import proofs.«01_k».proof.Proof.M.UpDw
public import proofs.«01_k».proof.Proof.M.Up
public import proofs.«01_k».proof.Proof.M.DownDx
public import proofs.«01_k».proof.Proof.M.DownDw
public import proofs.«01_k».proof.Proof.M.OutDx
public import proofs.«01_k».proof.Proof.M.OutDw
public import proofs.«01_k».proof.Proof.M.InDw
public import proofs.«01_k».proof.Proof.M.Gates
public import proofs.«01_k».proof.Proof.M.Down
public import proofs.«01_k».proof.Proof.M.Mix
public import proofs.«01_k».proof.Proof.M.OMla
public import proofs.«01_k».proof.Proof.M.OFox
public import proofs.«01_k».proof.Proof.M.Fk
public import proofs.«01_k».proof.Proof.M.Lat
public import proofs.«01_k».proof.Proof.M.OMlaDx
public import proofs.«01_k».proof.Proof.M.OFoxDx
public import proofs.«01_k».proof.Proof.M.OMlaDw
public import proofs.«01_k».proof.Proof.M.OFoxDw
public import proofs.«01_k».proof.Proof.M.QUpDx
public import proofs.«01_k».proof.Proof.M.QUpDw
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.Pre_finite

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.UpDx.Gen.facts, Cert.UpDxIdeal.Gen.facts, Cert.UpDxReferenceIdeal.Gen.facts,
    Cert.UpDw.Gen.facts, Cert.UpDwIdeal.Gen.facts, Cert.UpDwReferenceIdeal.Gen.facts,
    Cert.Up.Gen.facts, Cert.UpIdeal.Gen.facts, Cert.UpReferenceIdeal.Gen.facts,
    Cert.DownDx.Gen.facts, Cert.DownDxIdeal.Gen.facts, Cert.DownDxReferenceIdeal.Gen.facts,
    Cert.DownDw.Gen.facts, Cert.DownDwIdeal.Gen.facts, Cert.DownDwReferenceIdeal.Gen.facts,
    Cert.OutDx.Gen.facts, Cert.OutDxIdeal.Gen.facts, Cert.OutDxReferenceIdeal.Gen.facts,
    Cert.OutDw.Gen.facts, Cert.OutDwIdeal.Gen.facts, Cert.OutDwReferenceIdeal.Gen.facts,
    Cert.InDw.Gen.facts, Cert.InDwIdeal.Gen.facts, Cert.InDwReferenceIdeal.Gen.facts,
    Cert.Gates.Gen.facts, Cert.GatesIdeal.Gen.facts, Cert.GatesReferenceIdeal.Gen.facts,
    Cert.Down.Gen.facts, Cert.DownIdeal.Gen.facts, Cert.DownReferenceIdeal.Gen.facts,
    Cert.Mix.Gen.facts, Cert.MixIdeal.Gen.facts, Cert.MixReferenceIdeal.Gen.facts,
    Cert.OMla.Gen.facts, Cert.OMlaIdeal.Gen.facts, Cert.OMlaReferenceIdeal.Gen.facts,
    Cert.OFox.Gen.facts, Cert.OFoxIdeal.Gen.facts, Cert.OFoxReferenceIdeal.Gen.facts,
    Cert.Fk.Gen.facts, Cert.FkIdeal.Gen.facts, Cert.FkReferenceIdeal.Gen.facts,
    Cert.Lat.Gen.facts, Cert.LatIdeal.Gen.facts, Cert.LatReferenceIdeal.Gen.facts,
    Cert.OMlaDx.Gen.facts, Cert.OMlaDxIdeal.Gen.facts, Cert.OMlaDxReferenceIdeal.Gen.facts,
    Cert.OFoxDx.Gen.facts, Cert.OFoxDxIdeal.Gen.facts, Cert.OFoxDxReferenceIdeal.Gen.facts,
    Cert.OMlaDw.Gen.facts, Cert.OMlaDwIdeal.Gen.facts, Cert.OMlaDwReferenceIdeal.Gen.facts,
    Cert.OFoxDw.Gen.facts, Cert.OFoxDwIdeal.Gen.facts, Cert.OFoxDwReferenceIdeal.Gen.facts,
    Cert.QUpDx.Gen.facts, Cert.QUpDxIdeal.Gen.facts, Cert.QUpDxReferenceIdeal.Gen.facts,
    Cert.QUpDw.Gen.facts, Cert.QUpDwIdeal.Gen.facts, Cert.QUpDwReferenceIdeal.Gen.facts,
    Cert.Pre_finite.Gen.facts,
    Claims.frame_p, Claims.frame_pi, Claims.frame_pi_finite, Claims.frame_ri, Claims.frame_ri_finite,
    Cert.UpDxIdeal.Prod.frame_p, Cert.UpDxIdeal.Prod.frame_pi, Cert.UpDxIdeal.Prod.frame_ri,
    Cert.UpDwIdeal.Prod.frame_p, Cert.UpDwIdeal.Prod.frame_pi, Cert.UpDwIdeal.Prod.frame_ri,
    Cert.UpIdeal.Prod.frame_p, Cert.UpIdeal.Prod.frame_pi, Cert.UpIdeal.Prod.frame_ri,
    Cert.DownDxIdeal.Prod.frame_p, Cert.DownDxIdeal.Prod.frame_pi, Cert.DownDxIdeal.Prod.frame_ri,
    Cert.DownDwIdeal.Prod.frame_p, Cert.DownDwIdeal.Prod.frame_pi, Cert.DownDwIdeal.Prod.frame_ri,
    Cert.OutDxIdeal.Prod.frame_p, Cert.OutDxIdeal.Prod.frame_pi, Cert.OutDxIdeal.Prod.frame_ri,
    Cert.OutDwIdeal.Prod.frame_p, Cert.OutDwIdeal.Prod.frame_pi, Cert.OutDwIdeal.Prod.frame_ri,
    Cert.InDwIdeal.Prod.frame_p, Cert.InDwIdeal.Prod.frame_pi, Cert.InDwIdeal.Prod.frame_ri,
    Cert.GatesIdeal.Prod.frame_p, Cert.GatesIdeal.Prod.frame_pi, Cert.GatesIdeal.Prod.frame_ri,
    Cert.DownIdeal.Prod.frame_p, Cert.DownIdeal.Prod.frame_pi, Cert.DownIdeal.Prod.frame_ri,
    Cert.MixIdeal.Prod.frame_p, Cert.MixIdeal.Prod.frame_pi, Cert.MixIdeal.Prod.frame_ri,
    Cert.OMlaIdeal.Prod.frame_p, Cert.OMlaIdeal.Prod.frame_pi, Cert.OMlaIdeal.Prod.frame_ri,
    Cert.OFoxIdeal.Prod.frame_p, Cert.OFoxIdeal.Prod.frame_pi, Cert.OFoxIdeal.Prod.frame_ri,
    Cert.FkIdeal.Prod.frame_p, Cert.FkIdeal.Prod.frame_pi, Cert.FkIdeal.Prod.frame_ri,
    Cert.LatIdeal.Prod.frame_p, Cert.LatIdeal.Prod.frame_pi, Cert.LatIdeal.Prod.frame_ri,
    Cert.OMlaDxIdeal.Prod.frame_p, Cert.OMlaDxIdeal.Prod.frame_pi, Cert.OMlaDxIdeal.Prod.frame_ri,
    Cert.OFoxDxIdeal.Prod.frame_p, Cert.OFoxDxIdeal.Prod.frame_pi, Cert.OFoxDxIdeal.Prod.frame_ri,
    Cert.OMlaDwIdeal.Prod.frame_p, Cert.OMlaDwIdeal.Prod.frame_pi, Cert.OMlaDwIdeal.Prod.frame_ri,
    Cert.OFoxDwIdeal.Prod.frame_p, Cert.OFoxDwIdeal.Prod.frame_pi, Cert.OFoxDwIdeal.Prod.frame_ri,
    Cert.QUpDxIdeal.Prod.frame_p, Cert.QUpDxIdeal.Prod.frame_pi, Cert.QUpDxIdeal.Prod.frame_ri,
    Cert.QUpDwIdeal.Prod.frame_p, Cert.QUpDwIdeal.Prod.frame_pi, Cert.QUpDwIdeal.Prod.frame_ri,
    Claims.preserves, Claims.algebraic,
    trivial, Cert.UpDxIdeal.Prod.algebraic,
    trivial, Cert.UpDwIdeal.Prod.algebraic,
    trivial, Cert.UpIdeal.Prod.algebraic,
    trivial, Cert.DownDxIdeal.Prod.algebraic,
    trivial, Cert.DownDwIdeal.Prod.algebraic,
    trivial, Cert.OutDxIdeal.Prod.algebraic,
    trivial, Cert.OutDwIdeal.Prod.algebraic,
    trivial, Cert.InDwIdeal.Prod.algebraic,
    trivial, Cert.GatesIdeal.Prod.algebraic,
    trivial, Cert.DownIdeal.Prod.algebraic,
    trivial, Cert.MixIdeal.Prod.algebraic,
    trivial, Cert.OMlaIdeal.Prod.algebraic,
    trivial, Cert.OFoxIdeal.Prod.algebraic,
    trivial, Cert.FkIdeal.Prod.algebraic,
    trivial, Cert.LatIdeal.Prod.algebraic,
    trivial, Cert.OMlaDxIdeal.Prod.algebraic,
    trivial, Cert.OFoxDxIdeal.Prod.algebraic,
    trivial, Cert.OMlaDwIdeal.Prod.algebraic,
    trivial, Cert.OFoxDwIdeal.Prod.algebraic,
    trivial, Cert.QUpDxIdeal.Prod.algebraic,
    trivial, Cert.QUpDwIdeal.Prod.algebraic⟩

end Cert.Proof

end
